-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)) (v2 : (c : Dev Cert.KernelIdeal.nD) → Buf (Elt Ideal) ((c.tc : Thread Cert.KernelIdeal.nD Cert.KernelIdeal.τ).loc Cert.KernelIdeal.main_v31_2)) (v3 : (c : Dev Cert.KernelIdeal.nD) → Buf (Elt Ideal) ((c.tc : Thread Cert.KernelIdeal.nD Cert.KernelIdeal.τ).loc Cert.KernelIdeal.main_v31_3)) (v4 : (c : Dev Cert.KernelIdeal.nD) → Buf (Elt Ideal) ((c.tc : Thread Cert.KernelIdeal.nD Cert.KernelIdeal.τ).loc Cert.KernelIdeal.main_v31_4)) (v5 : (c : Dev Cert.KernelIdeal.nD) → Buf (Elt Ideal) ((c.tc : Thread Cert.KernelIdeal.nD Cert.KernelIdeal.τ).loc Cert.KernelIdeal.main_v31_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_v31_2) = v2 c
          ∧ r.2.mem ((c.tc : Thread Cert.KernelIdeal.nD Cert.KernelIdeal.τ).loc Cert.KernelIdeal.main_v31_3) = v3 c
          ∧ r.2.mem ((c.tc : Thread Cert.KernelIdeal.nD Cert.KernelIdeal.τ).loc Cert.KernelIdeal.main_v31_4) = v4 c
          ∧ r.2.mem ((c.tc : Thread Cert.KernelIdeal.nD Cert.KernelIdeal.τ).loc Cert.KernelIdeal.main_v31_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_v85) = v3 c
          ∧ r.2.mem ((c.tc : Thread Cert.ReferenceIdeal.nD Cert.ReferenceIdeal.τ).loc Cert.ReferenceIdeal.main_v88) = v4 c
          ∧ r.2.mem ((c.tc : Thread Cert.ReferenceIdeal.nD Cert.ReferenceIdeal.τ).loc Cert.ReferenceIdeal.main_v91) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v50_0)) (v1 : (c : Dev Cert.Kernel2Ideal.nD) → Buf (Elt Ideal) ((c.tc : Thread Cert.Kernel2Ideal.nD Cert.Kernel2Ideal.τ).loc Cert.Kernel2Ideal.main_v50_1)) (v2 : (c : Dev Cert.Kernel2Ideal.nD) → Buf (Elt Ideal) ((c.tc : Thread Cert.Kernel2Ideal.nD Cert.Kernel2Ideal.τ).loc Cert.Kernel2Ideal.main_v50_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v50_0) = v0 c
          ∧ r.2.mem ((c.tc : Thread Cert.Kernel2Ideal.nD Cert.Kernel2Ideal.τ).loc Cert.Kernel2Ideal.main_v50_1) = v1 c
          ∧ r.2.mem ((c.tc : Thread Cert.Kernel2Ideal.nD Cert.Kernel2Ideal.τ).loc Cert.Kernel2Ideal.main_v50_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_v38) = v1 c
          ∧ r.2.mem ((c.tc : Thread Cert.Reference2Ideal.nD Cert.Reference2Ideal.τ).loc Cert.Reference2Ideal.main_v40) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)) (v2 : (c : Dev Cert.Kernel3Ideal.nD) → Buf (Elt Ideal) ((c.tc : Thread Cert.Kernel3Ideal.nD Cert.Kernel3Ideal.τ).loc Cert.Kernel3Ideal.main_v9_2)) (v3 : (c : Dev Cert.Kernel3Ideal.nD) → Buf (Elt Ideal) ((c.tc : Thread Cert.Kernel3Ideal.nD Cert.Kernel3Ideal.τ).loc Cert.Kernel3Ideal.main_v9_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_v9_2) = v2 c
          ∧ r.2.mem ((c.tc : Thread Cert.Kernel3Ideal.nD Cert.Kernel3Ideal.τ).loc Cert.Kernel3Ideal.main_v9_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_v34) = v1 c
          ∧ r.2.mem ((c.tc : Thread Cert.Reference3Ideal.nD Cert.Reference3Ideal.τ).loc Cert.Reference3Ideal.main_v38) = v2 c
          ∧ r.2.mem ((c.tc : Thread Cert.Reference3Ideal.nD Cert.Reference3Ideal.τ).loc Cert.Reference3Ideal.main_v42) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_v40) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)) (v3 : (c : Dev Cert.Kernel5Ideal.nD) → Buf (Elt Ideal) ((c.tc : Thread Cert.Kernel5Ideal.nD Cert.Kernel5Ideal.τ).loc Cert.Kernel5Ideal.main_v4_3)) (v4 : (c : Dev Cert.Kernel5Ideal.nD) → Buf (Elt Ideal) ((c.tc : Thread Cert.Kernel5Ideal.nD Cert.Kernel5Ideal.τ).loc Cert.Kernel5Ideal.main_v4_4)) (v5 : (c : Dev Cert.Kernel5Ideal.nD) → Buf (Elt Ideal) ((c.tc : Thread Cert.Kernel5Ideal.nD Cert.Kernel5Ideal.τ).loc Cert.Kernel5Ideal.main_v4_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_v4_3) = v3 c
          ∧ r.2.mem ((c.tc : Thread Cert.Kernel5Ideal.nD Cert.Kernel5Ideal.τ).loc Cert.Kernel5Ideal.main_v4_4) = v4 c
          ∧ r.2.mem ((c.tc : Thread Cert.Kernel5Ideal.nD Cert.Kernel5Ideal.τ).loc Cert.Kernel5Ideal.main_v4_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v76) = v0 c
          ∧ r.2.mem ((c.tc : Thread Cert.Reference5Ideal.nD Cert.Reference5Ideal.τ).loc Cert.Reference5Ideal.main_v77) = v1 c
          ∧ r.2.mem ((c.tc : Thread Cert.Reference5Ideal.nD Cert.Reference5Ideal.τ).loc Cert.Reference5Ideal.main_v78) = v2 c
          ∧ r.2.mem ((c.tc : Thread Cert.Reference5Ideal.nD Cert.Reference5Ideal.τ).loc Cert.Reference5Ideal.main_v56) = v3 c
          ∧ r.2.mem ((c.tc : Thread Cert.Reference5Ideal.nD Cert.Reference5Ideal.τ).loc Cert.Reference5Ideal.main_v79) = v4 c
          ∧ r.2.mem ((c.tc : Thread Cert.Reference5Ideal.nD Cert.Reference5Ideal.τ).loc Cert.Reference5Ideal.main_v80) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v17)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v17) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v31)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v31) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v31) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_v14) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v28) = v0 c
          ∧ r.2.mem ((c.tc : Thread Cert.Reference9Ideal.nD Cert.Reference9Ideal.τ).loc Cert.Reference9Ideal.main_v29) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)) (v2 : (c : Dev Cert.Kernel10Ideal.nD) → Buf (Elt Ideal) ((c.tc : Thread Cert.Kernel10Ideal.nD Cert.Kernel10Ideal.τ).loc Cert.Kernel10Ideal.main_v1_2)) (v3 : (c : Dev Cert.Kernel10Ideal.nD) → Buf (Elt Ideal) ((c.tc : Thread Cert.Kernel10Ideal.nD Cert.Kernel10Ideal.τ).loc Cert.Kernel10Ideal.main_v1_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_v1_2) = v2 c
          ∧ r.2.mem ((c.tc : Thread Cert.Kernel10Ideal.nD Cert.Kernel10Ideal.τ).loc Cert.Kernel10Ideal.main_v1_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v51) = v0 c
          ∧ r.2.mem ((c.tc : Thread Cert.Reference10Ideal.nD Cert.Reference10Ideal.τ).loc Cert.Reference10Ideal.main_v50) = v1 c
          ∧ r.2.mem ((c.tc : Thread Cert.Reference10Ideal.nD Cert.Reference10Ideal.τ).loc Cert.Reference10Ideal.main_v52) = v2 c
          ∧ r.2.mem ((c.tc : Thread Cert.Reference10Ideal.nD Cert.Reference10Ideal.τ).loc Cert.Reference10Ideal.main_v53) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)) (v2 : (c : Dev Cert.Kernel11Ideal.nD) → Buf (Elt Ideal) ((c.tc : Thread Cert.Kernel11Ideal.nD Cert.Kernel11Ideal.τ).loc Cert.Kernel11Ideal.main_v3_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_v3_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v29) = v0 c
          ∧ r.2.mem ((c.tc : Thread Cert.Reference11Ideal.nD Cert.Reference11Ideal.τ).loc Cert.Reference11Ideal.main_v5) = v1 c
          ∧ r.2.mem ((c.tc : Thread Cert.Reference11Ideal.nD Cert.Reference11Ideal.τ).loc Cert.Reference11Ideal.main_v22) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v25_1)) (v1 : (c : Dev Cert.Kernel12Ideal.nD) → Buf (Elt Ideal) ((c.tc : Thread Cert.Kernel12Ideal.nD Cert.Kernel12Ideal.τ).loc Cert.Kernel12Ideal.main_v25_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v25_1) = v0 c
          ∧ r.2.mem ((c.tc : Thread Cert.Kernel12Ideal.nD Cert.Kernel12Ideal.τ).loc Cert.Kernel12Ideal.main_v25_2) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v39) = v0 c
          ∧ r.2.mem ((c.tc : Thread Cert.Reference12Ideal.nD Cert.Reference12Ideal.τ).loc Cert.Reference12Ideal.main_v40) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S2048x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  main_v28

def fn {F : FTy → Type} [FloatOps F] (main_arg0 : FVec F S2048x1024 .f32) (main_arg1 : FVec F S1024 .f32) (main_arg2 : FVec F S1024x2816 .f32) (main_arg3 : FVec F S1024x2816 .f32) (main_arg4 : FVec F S2816x1024 .f32) (main_arg5 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Kernel.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2816 : Shape := ⟨2, ![2048, 2816]⟩
abbrev S2048x4x704 : Shape := ⟨3, ![2048, 4, 704]⟩
abbrev S4x2048x704 : Shape := ⟨3, ![4, 2048, 704]⟩
abbrev S4x704x1024 : Shape := ⟨3, ![4, 704, 1024]⟩
abbrev S512x1024 : Shape := ⟨2, ![512, 1024]⟩
abbrev S1x512x704 : Shape := ⟨3, ![1, 512, 704]⟩
abbrev S1x704x1024 : Shape := ⟨3, ![1, 704, 1024]⟩
abbrev S256x1024 : Shape := ⟨2, ![256, 1024]⟩
abbrev S704x1024 : Shape := ⟨2, ![704, 1024]⟩
abbrev S256x704 : Shape := ⟨2, ![256, 704]⟩
abbrev S1x256x704 : Shape := ⟨3, ![1, 256, 704]⟩
abbrev S512 : Shape := ⟨1, ![512]⟩
abbrev S512x1 : Shape := ⟨2, ![512, 1]⟩

abbrev nBuf : Space → Nat
  | .hbm => 46
  | .vmem => 29
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x2816, .f32⟩
  | .hbm, ⟨23, _⟩ => ⟨S2048x2816, .f32⟩
  | .hbm, ⟨24, _⟩ => ⟨S2048x1024, .bf16⟩
  | .hbm, ⟨25, _⟩ => ⟨S1x1024, .f32⟩
  | .hbm, ⟨26, _⟩ => ⟨S2048x4x704, .f32⟩
  | .hbm, ⟨27, _⟩ => ⟨S4x2048x704, .f32⟩
  | .hbm, ⟨28, _⟩ => ⟨S4x2048x704, .bf16⟩
  | .hbm, ⟨29, _⟩ => ⟨S2048x4x704, .f32⟩
  | .hbm, ⟨30, _⟩ => ⟨S4x2048x704, .f32⟩
  | .hbm, ⟨31, _⟩ => ⟨S4x2048x704, .bf16⟩
  | .hbm, ⟨32, _⟩ => ⟨S2816x1024, .f32⟩
  | .hbm, ⟨33, _⟩ => ⟨S4x704x1024, .f32⟩
  | .hbm, ⟨34, _⟩ => ⟨S4x704x1024, .bf16⟩
  | .hbm, ⟨35, _⟩ => ⟨S2816x1024, .f32⟩
  | .hbm, ⟨36, _⟩ => ⟨S4x704x1024, .f32⟩
  | .hbm, ⟨37, _⟩ => ⟨S4x704x1024, .bf16⟩
  | .hbm, ⟨38, _⟩ => ⟨S4x704x1024, .f32⟩
  | .hbm, ⟨39, _⟩ => ⟨S4x704x1024, .bf16⟩
  | .hbm, ⟨40, _⟩ => ⟨S2048x1024, .f32⟩
  | .hbm, ⟨41, _⟩ => ⟨S2048x1024, .bf16⟩
  | .hbm, ⟨42, _⟩ => ⟨S1x1024, .f32⟩
  | .hbm, ⟨43, _⟩ => ⟨S4x2048x704, .bf16⟩
  | .hbm, ⟨44, _⟩ => ⟨S4x2048x704, .bf16⟩
  | .hbm, ⟨45, _⟩ => ⟨S4x2048x704, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x704x1024, .bf16⟩
  | .local _ .vmem, ⟨12, _⟩ => ⟨S1x704x1024, .bf16⟩
  | .local _ .vmem, ⟨13, _⟩ => ⟨S1x704x1024, .bf16⟩
  | .local _ .vmem, ⟨14, _⟩ => ⟨S1x704x1024, .bf16⟩
  | .local _ .vmem, ⟨15, _⟩ => ⟨S1x704x1024, .bf16⟩
  | .local _ .vmem, ⟨16, _⟩ => ⟨S1x704x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S1x1024, .f32⟩
  | .local _ .vmem, ⟨22, _⟩ => ⟨S1x512x704, .bf16⟩
  | .local _ .vmem, ⟨23, _⟩ => ⟨S1x512x704, .bf16⟩
  | .local _ .vmem, ⟨24, _⟩ => ⟨S1x512x704, .bf16⟩
  | .local _ .vmem, ⟨25, _⟩ => ⟨S1x512x704, .bf16⟩
  | .local _ .vmem, ⟨26, _⟩ => ⟨S1x512x704, .bf16⟩
  | .local _ .vmem, ⟨27, _⟩ => ⟨S1x512x704, .bf16⟩
  | .local _ .vmem, ⟨28, _⟩ => ⟨S2048x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31_0 : Ref sig .tc := ⟨.hbm, 40, rfl⟩
abbrev main_v31_1 : Ref sig .tc := ⟨.hbm, 41, rfl⟩
abbrev main_v31_2 : Ref sig .tc := ⟨.hbm, 42, rfl⟩
abbrev main_v31_3 : Ref sig .tc := ⟨.hbm, 43, rfl⟩
abbrev main_v31_4 : Ref sig .tc := ⟨.hbm, 44, rfl⟩
abbrev main_v31_5 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) (c0_i32 : BitVec 32) : Fin 2 → Nat :=
  let arg1 : BitVec 32 := BitVec.ofNat 32 (i 1).val
  let c512_i32 : BitVec 32 := 512#32
  let v0 : BitVec 32 := Scalar.muli arg1 c512_i32
  let v1 : BitVec 32 := v0
  let v2 : BitVec 32 := Scalar.addi v1 c0_i32
  let v54 : Index := Scalar.indexCast v2
  let c0_34 : Index := 0#32
  ![v54.toNat, 0]
def k0_cond2 (i : grid0.Coords) : BitVec 1 :=
  let arg0 : BitVec 32 := BitVec.ofNat 32 (i 0).val
  let c3_i32 : BitVec 32 := 3#32
  let v129 : BitVec 1 := Scalar.cmpi .eq arg0 c3_i32
  let v130 : BitVec 32 := Scalar.extui v129
  let c0_i32_78 : BitVec 32 := 0#32
  let v131 : BitVec 1 := Scalar.cmpi .ne v130 c0_i32_78
  v131

def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v135 : Index := Scalar.indexCast v1
  let c0_83 : Index := 0#32
  ![v135.toNat, 0]
def k0_cond1 (i : grid0.Coords) : BitVec 1 :=
  let arg1 : BitVec 32 := BitVec.ofNat 32 (i 1).val
  let c0_i32_75 : BitVec 32 := 0#32
  let v124 : BitVec 1 := Scalar.cmpi .eq arg1 c0_i32_75
  let arg0 : BitVec 32 := BitVec.ofNat 32 (i 0).val
  let c0_i32_76 : BitVec 32 := 0#32
  let v125 : BitVec 1 := Scalar.cmpi .eq arg0 c0_i32_76
  let v126 : BitVec 1 := Scalar.andi v124 v125
  let v127 : BitVec 32 := Scalar.extui v126
  let c0_i32_77 : BitVec 32 := 0#32
  let v128 : BitVec 1 := Scalar.cmpi .ne v127 c0_i32_77
  v128

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x704x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x704 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2816 : Shape := ⟨2, ![2048, 2816]⟩
abbrev S2048x4x704 : Shape := ⟨3, ![2048, 4, 704]⟩
abbrev S4x2048x704 : Shape := ⟨3, ![4, 2048, 704]⟩

abbrev nBuf : Space → Nat
  | .hbm => 144
  | .vmem => 0
  | .smem => 0
  | _ => 0

abbrev hbmTy0_0 (i : Nat) : BufTy := match i % 128 with
  | 0 => ⟨S2048x1024, .f32⟩
  | 1 => ⟨S1024, .f32⟩
  | 2 => ⟨S1024x2816, .f32⟩
  | 3 => ⟨S1024x2816, .f32⟩
  | 4 => ⟨S2816x1024, .f32⟩
  | 5 => ⟨S2048x1024, .f32⟩
  | 6 => ⟨S2048x1024, .f32⟩
  | 7 => ⟨S_, .f32⟩
  | 8 => ⟨S2048, .f32⟩
  | 9 => ⟨S2048x1, .f32⟩
  | 10 => ⟨S_, .f32⟩
  | 11 => ⟨S2048x1, .f32⟩
  | 12 => ⟨S2048x1, .f32⟩
  | 13 => ⟨S_, .f32⟩
  | 14 => ⟨S2048x1, .f32⟩
  | 15 => ⟨S2048x1, .f32⟩
  | 16 => ⟨S2048x1, .f32⟩
  | 17 => ⟨S2048x1, .f32⟩
  | 18 => ⟨S_, .f32⟩
  | 19 => ⟨S2048x1, .f32⟩
  | 20 => ⟨S2048x1, .f32⟩
  | 21 => ⟨S2048x1024, .f32⟩
  | 22 => ⟨S2048x1024, .f32⟩
  | 23 => ⟨S1x1024, .f32⟩
  | 24 => ⟨S2048x1024, .f32⟩
  | 25 => ⟨S2048x1024, .f32⟩
  | 26 => ⟨S2048x2816, .f32⟩
  | 27 => ⟨S2048x2816, .f32⟩
  | 28 => ⟨S2048x2816, .f32⟩
  | 29 => ⟨S_, .f32⟩
  | 30 => ⟨S2048x2816, .f32⟩
  | 31 => ⟨S2048x2816, .f32⟩
  | 32 => ⟨S_, .f32⟩
  | 33 => ⟨S2048x2816, .f32⟩
  | 34 => ⟨S2048x2816, .f32⟩
  | 35 => ⟨S_, .f32⟩
  | 36 => ⟨S2048x2816, .f32⟩
  | 37 => ⟨S2048x2816, .f32⟩
  | 38 => ⟨S2048x2816, .f32⟩
  | 39 => ⟨S2048x2816, .f32⟩
  | 40 => ⟨S2048x2816, .f32⟩
  | 41 => ⟨S2048x2816, .f32⟩
  | 42 => ⟨S2048x1024, .f32⟩
  | 43 => ⟨S_, .f32⟩
  | 44 => ⟨S2048x1024, .f32⟩
  | 45 => ⟨S2048x1024, .f32⟩
  | 46 => ⟨S2048x1024, .f32⟩
  | 47 => ⟨S2048x1024, .f32⟩
  | 48 => ⟨S_, .f32⟩
  | 49 => ⟨S2048x1024, .f32⟩
  | 50 => ⟨S2048x1024, .f32⟩
  | 51 => ⟨S2048x2816, .f32⟩
  | 52 => ⟨S2048x2816, .f32⟩
  | 53 => ⟨S2048x2816, .f32⟩
  | 54 => ⟨S2048x1024, .f32⟩
  | 55 => ⟨S2048x2816, .f32⟩
  | 56 => ⟨S2048x2816, .f32⟩
  | 57 => ⟨S2048x2816, .f32⟩
  | 58 => ⟨S2048x2816, .f32⟩
  | 59 => ⟨S2048x1024, .f32⟩
  | 60 => ⟨S2048x1024, .f32⟩
  | 61 => ⟨S2048x1024, .f32⟩
  | 62 => ⟨S_, .f32⟩
  | 63 => ⟨S1024, .f32⟩
  | 64 => ⟨S1x1024, .f32⟩
  | 65 => ⟨S2048x1024, .f32⟩
  | 66 => ⟨S2048x1024, .f32⟩
  | 67 => ⟨S_, .f32⟩
  | 68 => ⟨S1024, .f32⟩
  | 69 => ⟨S2048x1024, .f32⟩
  | 70 => ⟨S_, .f32⟩
  | 71 => ⟨S2048, .f32⟩
  | 72 => ⟨S2048x1, .f32⟩
  | 73 => ⟨S2048x1024, .f32⟩
  | 74 => ⟨S2048x1024, .f32⟩
  | 75 => ⟨S2048x1024, .f32⟩
  | 76 => ⟨S2048x1, .f32⟩
  | 77 => ⟨S_, .f32⟩
  | 78 => ⟨S2048x1, .f32⟩
  | 79 => ⟨S2048x1, .f32⟩
  | 80 => ⟨S_, .f32⟩
  | 81 => ⟨S2048, .f32⟩
  | 82 => ⟨S2048x1024, .f32⟩
  | 83 => ⟨S2048x1024, .f32⟩
  | 84 => ⟨S2048x1024, .f32⟩
  | 85 => ⟨S2048x1024, .f32⟩
  | 86 => ⟨S2048x1024, .f32⟩
  | 87 => ⟨S2048x1024, .f32⟩
  | 88 => ⟨S_, .f32⟩
  | 89 => ⟨S2048, .f32⟩
  | 90 => ⟨S2048x1, .f32⟩
  | 91 => ⟨S_, .f32⟩
  | 92 => ⟨S2048x1, .f32⟩
  | 93 => ⟨S2048x1, .f32⟩
  | 94 => ⟨S_, .f32⟩
  | 95 => ⟨S2048x1, .f32⟩
  | 96 => ⟨S2048x1, .f32⟩
  | 97 => ⟨S2048x1, .f32⟩
  | 98 => ⟨S2048x1024, .f32⟩
  | 99 => ⟨S2048x1024, .f32⟩
  | 100 => ⟨S1x1024, .f32⟩
  | 101 => ⟨S2048x1024, .f32⟩
  | 102 => ⟨S2048x1024, .f32⟩
  | 103 => ⟨S2048x2816, .f32⟩
  | 104 => ⟨S2048x2816, .f32⟩
  | 105 => ⟨S2048x2816, .f32⟩
  | 106 => ⟨S2048x2816, .f32⟩
  | 107 => ⟨S_, .f32⟩
  | 108 => ⟨S2048x2816, .f32⟩
  | 109 => ⟨S2048x2816, .f32⟩
  | 110 => ⟨S_, .f32⟩
  | 111 => ⟨S2048x2816, .f32⟩
  | 112 => ⟨S2048x2816, .f32⟩
  | 113 => ⟨S_, .f32⟩
  | 114 => ⟨S2048x2816, .f32⟩
  | 115 => ⟨S2048x2816, .f32⟩
  | 116 => ⟨S2048x2816, .f32⟩
  | 117 => ⟨S2048x2816, .f32⟩
  | 118 => ⟨S2048x2816, .f32⟩
  | 119 => ⟨S2048x1024, .f32⟩
  | 120 => ⟨S_, .f32⟩
  | 121 => ⟨S2048x1024, .f32⟩
  | 122 => ⟨S2048x1024, .f32⟩
  | 123 => ⟨S_, .f32⟩
  | 124 => ⟨S2048x1024, .f32⟩
  | 125 => ⟨S2048x1024, .f32⟩
  | 126 => ⟨S2048x2816, .f32⟩
  | 127 => ⟨S2048x2816, .f32⟩
  | _ => ⟨S2048x1024, .f32⟩

abbrev hbmTy0_1 (i : Nat) : BufTy := match i % 128 with
  | 0 => ⟨S2048x2816, .f32⟩
  | 1 => ⟨S2048x2816, .f32⟩
  | 2 => ⟨S2048x2816, .f32⟩
  | 3 => ⟨S2048x2816, .f32⟩
  | 4 => ⟨S2048x2816, .f32⟩
  | 5 => ⟨S2048x1024, .bf16⟩
  | 6 => ⟨S1x1024, .f32⟩
  | 7 => ⟨S2048x4x704, .f32⟩
  | 8 => ⟨S4x2048x704, .f32⟩
  | 9 => ⟨S4x2048x704, .bf16⟩
  | 10 => ⟨S2048x4x704, .f32⟩
  | 11 => ⟨S4x2048x704, .f32⟩
  | 12 => ⟨S4x2048x704, .bf16⟩
  | 13 => ⟨S2048x4x704, .f32⟩
  | 14 => ⟨S4x2048x704, .f32⟩
  | 15 => ⟨S4x2048x704, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_cst_9 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call2_v0 : Ref sig .tc := ⟨.hbm, 105, rfl⟩
abbrev main_call2_v1 : Ref sig .tc := ⟨.hbm, 106, rfl⟩
abbrev main_call2_cst : Ref sig .tc := ⟨.hbm, 107, rfl⟩
abbrev main_call2_v2 : Ref sig .tc := ⟨.hbm, 108, rfl⟩
abbrev main_call2_v3 : Ref sig .tc := ⟨.hbm, 109, rfl⟩
abbrev main_call2_cst_0 : Ref sig .tc := ⟨.hbm, 110, rfl⟩
abbrev main_call2_v4 : Ref sig .tc := ⟨.hbm, 111, rfl⟩
abbrev main_v70_2 : Ref sig .tc := ⟨.hbm, 112, rfl⟩
abbrev main_call2_cst_1 : Ref sig .tc := ⟨.hbm, 113, rfl⟩
abbrev main_call2_v6 : Ref sig .tc := ⟨.hbm, 114, rfl⟩
abbrev main_call2_v7 : Ref sig .tc := ⟨.hbm, 115, rfl⟩
abbrev main_v70_1 : Ref sig .tc := ⟨.hbm, 116, rfl⟩
abbrev main_v70_0 : Ref sig .tc := ⟨.hbm, 117, rfl⟩
abbrev main_v71 : Ref sig .tc := ⟨.hbm, 118, rfl⟩
abbrev main_v72 : Ref sig .tc := ⟨.hbm, 119, rfl⟩
abbrev main_cst_13 : Ref sig .tc := ⟨.hbm, 120, rfl⟩
abbrev main_v73 : Ref sig .tc := ⟨.hbm, 121, rfl⟩
abbrev main_v74 : Ref sig .tc := ⟨.hbm, 122, rfl⟩
abbrev main_cst_14 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩

abbrev nD : Nat := 1
abbrev τ : Topo := Topo.v7x

variable {F : FTy → Type} [FloatOps F]
-- ==== Kernel2.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2816 : Shape := ⟨2, ![2048, 2816]⟩
abbrev S2048x4x704 : Shape := ⟨3, ![2048, 4, 704]⟩
abbrev S4x2048x704 : Shape := ⟨3, ![4, 2048, 704]⟩
abbrev S4x704x1024 : Shape := ⟨3, ![4, 704, 1024]⟩
abbrev S1024x1024 : Shape := ⟨2, ![1024, 1024]⟩
abbrev S1x1024x704 : Shape := ⟨3, ![1, 1024, 704]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 82
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S_, .f32⟩
  | .hbm, ⟨27, _⟩ => ⟨S2048x2816, .f32⟩
  | .hbm, ⟨28, _⟩ => ⟨S2048x2816, .f32⟩
  | .hbm, ⟨29, _⟩ => ⟨S_, .f32⟩
  | .hbm, ⟨30, _⟩ => ⟨S2048x2816, .f32⟩
  | .hbm, ⟨31, _⟩ => ⟨S2048x2816, .f32⟩
  | .hbm, ⟨32, _⟩ => ⟨S_, .f32⟩
  | .hbm, ⟨33, _⟩ => ⟨S2048x2816, .f32⟩
  | .hbm, ⟨34, _⟩ => ⟨S2048x2816, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S2048x2816, .f32⟩
  | .hbm, ⟨46, _⟩ => ⟨S2048x2816, .f32⟩
  | .hbm, ⟨47, _⟩ => ⟨S2048x2816, .f32⟩
  | .hbm, ⟨48, _⟩ => ⟨S2048x2816, .f32⟩
  | .hbm, ⟨49, _⟩ => ⟨S2048x2816, .f32⟩
  | .hbm, ⟨50, _⟩ => ⟨S2048x2816, .f32⟩
  | .hbm, ⟨51, _⟩ => ⟨S2048x2816, .f32⟩
  | .hbm, ⟨52, _⟩ => ⟨S2048x1024, .f32⟩
  | .hbm, ⟨53, _⟩ => ⟨S_, .f32⟩
  | .hbm, ⟨54, _⟩ => ⟨S2048, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S2048x1, .f32⟩
  | .hbm, ⟨63, _⟩ => ⟨S2048x1024, .f32⟩
  | .hbm, ⟨64, _⟩ => ⟨S2048x1024, .f32⟩
  | .hbm, ⟨65, _⟩ => ⟨S1x1024, .f32⟩
  | .hbm, ⟨66, _⟩ => ⟨S2048x1024, .f32⟩
  | .hbm, ⟨67, _⟩ => ⟨S2048x1024, .f32⟩
  | .hbm, ⟨68, _⟩ => ⟨S2048x1024, .bf16⟩
  | .hbm, ⟨69, _⟩ => ⟨S2048x1024, .bf16⟩
  | .hbm, ⟨70, _⟩ => ⟨S2048x4x704, .f32⟩
  | .hbm, ⟨71, _⟩ => ⟨S4x2048x704, .f32⟩
  | .hbm, ⟨72, _⟩ => ⟨S4x2048x704, .bf16⟩
  | .hbm, ⟨73, _⟩ => ⟨S2048x4x704, .f32⟩
  | .hbm, ⟨74, _⟩ => ⟨S4x2048x704, .f32⟩
  | .hbm, ⟨75, _⟩ => ⟨S4x2048x704, .bf16⟩
  | .hbm, ⟨76, _⟩ => ⟨S2048x4x704, .f32⟩
  | .hbm, ⟨77, _⟩ => ⟨S4x2048x704, .f32⟩
  | .hbm, ⟨78, _⟩ => ⟨S4x2048x704, .bf16⟩
  | .hbm, ⟨79, _⟩ => ⟨S4x704x1024, .bf16⟩
  | .hbm, ⟨80, _⟩ => ⟨S4x704x1024, .bf16⟩
  | .hbm, ⟨81, _⟩ => ⟨S4x704x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x704x1024, .bf16⟩
  | .local _ .vmem, ⟨11, _⟩ => ⟨S1x704x1024, .bf16⟩
  | .local _ .vmem, ⟨12, _⟩ => ⟨S1x704x1024, .bf16⟩
  | .local _ .vmem, ⟨13, _⟩ => ⟨S1x704x1024, .bf16⟩
  | .local _ .vmem, ⟨14, _⟩ => ⟨S1x704x1024, .bf16⟩
  | .local _ .vmem, ⟨15, _⟩ => ⟨S1x704x1024, .bf16⟩
  | .local _ .vmem, ⟨16, _⟩ => ⟨S704x1024, .f32⟩
  | .local _ .vmem, ⟨17, _⟩ => ⟨S704x1024, .f32⟩
  | .local _ .vmem, ⟨18, _⟩ => ⟨S704x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v15_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v15_1 : Ref sig .tc := ⟨.hbm, 35, rfl⟩
abbrev main_v15_0 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v25 : Ref sig .tc := ⟨.hbm, 51, rfl⟩
abbrev main_v26 : Ref sig .tc := ⟨.hbm, 52, rfl⟩
abbrev main_cst_4 : Ref sig .tc := ⟨.hbm, 53, rfl⟩
abbrev main_v27 : Ref sig .tc := ⟨.hbm, 54, rfl⟩
abbrev main_v28 : Ref sig .tc := ⟨.hbm, 55, rfl⟩
abbrev main_cst_5 : Ref sig .tc := ⟨.hbm, 56, rfl⟩
abbrev main_v29 : Ref sig .tc := ⟨.hbm, 57, rfl⟩
abbrev main_v30 : Ref sig .tc := ⟨.hbm, 58, rfl⟩
abbrev main_cst_6 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50_0 : Ref sig .tc := ⟨.hbm, 79, rfl⟩
abbrev main_v50_1 : Ref sig .tc := ⟨.hbm, 80, rfl⟩
abbrev main_v50_2 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c1_i32 : BitVec 32 := 1#32
  let v37 : BitVec 1 := Scalar.cmpi .eq arg1 c1_i32
  let v38 : BitVec 32 := Scalar.extui v37
  let c0_i32_31 : BitVec 32 := 0#32
  let v39 : BitVec 1 := Scalar.cmpi .ne v38 c0_i32_31
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2816 : Shape := ⟨2, ![2048, 2816]⟩
abbrev S4x704x1024 : Shape := ⟨3, ![4, 704, 1024]⟩

abbrev nBuf : Space → Nat
  | .hbm => 67
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S_, .f32⟩
  | .hbm, ⟨26, _⟩ => ⟨S2048x2816, .f32⟩
  | .hbm, ⟨27, _⟩ => ⟨S2048x2816, .f32⟩
  | .hbm, ⟨28, _⟩ => ⟨S_, .f32⟩
  | .hbm, ⟨29, _⟩ => ⟨S2048x2816, .f32⟩
  | .hbm, ⟨30, _⟩ => ⟨S2048x2816, .f32⟩
  | .hbm, ⟨31, _⟩ => ⟨S_, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S1024x2816, .f32⟩
  | .hbm, ⟨47, _⟩ => ⟨S2816x1024, .f32⟩
  | .hbm, ⟨48, _⟩ => ⟨S2048x2816, .f32⟩
  | .hbm, ⟨49, _⟩ => ⟨S2048x2816, .f32⟩
  | .hbm, ⟨50, _⟩ => ⟨S2048x2816, .f32⟩
  | .hbm, ⟨51, _⟩ => ⟨S2816x1024, .f32⟩
  | .hbm, ⟨52, _⟩ => ⟨S1024x2816, .f32⟩
  | .hbm, ⟨53, _⟩ => ⟨S2048x2816, .f32⟩
  | .hbm, ⟨54, _⟩ => ⟨S2048x2816, .f32⟩
  | .hbm, ⟨55, _⟩ => ⟨S2048x2816, .f32⟩
  | .hbm, ⟨56, _⟩ => ⟨S2048x2816, .f32⟩
  | .hbm, ⟨57, _⟩ => ⟨S2816x1024, .f32⟩
  | .hbm, ⟨58, _⟩ => ⟨S1024x2816, .f32⟩
  | .hbm, ⟨59, _⟩ => ⟨S2816x1024, .f32⟩
  | .hbm, ⟨60, _⟩ => ⟨S4x704x1024, .f32⟩
  | .hbm, ⟨61, _⟩ => ⟨S4x704x1024, .bf16⟩
  | .hbm, ⟨62, _⟩ => ⟨S2816x1024, .f32⟩
  | .hbm, ⟨63, _⟩ => ⟨S4x704x1024, .f32⟩
  | .hbm, ⟨64, _⟩ => ⟨S4x704x1024, .bf16⟩
  | .hbm, ⟨65, _⟩ => ⟨S4x704x1024, .f32⟩
  | .hbm, ⟨66, _⟩ => ⟨S4x704x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v14_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v14_1 : Ref sig .tc := ⟨.hbm, 34, rfl⟩
abbrev main_v14_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩

abbrev nD : Nat := 1
abbrev τ : Topo := Topo.v7x

variable {F : FTy → Type} [FloatOps F]
-- ==== Kernel3.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S4x704x1024 : Shape := ⟨3, ![4, 704, 1024]⟩
abbrev S4x2048x704 : Shape := ⟨3, ![4, 2048, 704]⟩
abbrev S1024x1024 : Shape := ⟨2, ![1024, 1024]⟩
abbrev S1x704x1024 : Shape := ⟨3, ![1, 704, 1024]⟩
abbrev S1x1024x704 : Shape := ⟨3, ![1, 1024, 704]⟩
abbrev S1024x1 : Shape := ⟨2, ![1024, 1]⟩
abbrev S512x1024 : Shape := ⟨2, ![512, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 18
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S2816x1024, .f32⟩
  | .hbm, ⟨7, _⟩ => ⟨S4x704x1024, .f32⟩
  | .hbm, ⟨8, _⟩ => ⟨S4x704x1024, .bf16⟩
  | .hbm, ⟨9, _⟩ => ⟨S2816x1024, .f32⟩
  | .hbm, ⟨10, _⟩ => ⟨S4x704x1024, .f32⟩
  | .hbm, ⟨11, _⟩ => ⟨S4x704x1024, .bf16⟩
  | .hbm, ⟨12, _⟩ => ⟨S4x704x1024, .f32⟩
  | .hbm, ⟨13, _⟩ => ⟨S4x704x1024, .bf16⟩
  | .hbm, ⟨14, _⟩ => ⟨S2048x1024, .f32⟩
  | .hbm, ⟨15, _⟩ => ⟨S2048x1024, .bf16⟩
  | .hbm, ⟨16, _⟩ => ⟨S4x2048x704, .bf16⟩
  | .hbm, ⟨17, _⟩ => ⟨S4x2048x704, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024x704, .bf16⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1024x1024, .bf16⟩
  | .local _ .vmem, ⟨18, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v75 : BitVec 1 := Scalar.cmpi .eq arg1 c3_i32
  let v76 : BitVec 32 := Scalar.extui v75
  let c0_i32_56 : BitVec 32 := 0#32
  let v77 : BitVec 1 := Scalar.cmpi .ne v76 c0_i32_56
  v77

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2816 : Shape := ⟨2, ![2048, 2816]⟩
abbrev S2048x4x704 : Shape := ⟨3, ![2048, 4, 704]⟩
abbrev S4x2048x704 : Shape := ⟨3, ![4, 2048, 704]⟩

abbrev nBuf : Space → Nat
  | .hbm => 63
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S2048x1024, .f32⟩
  | .hbm, ⟨33, _⟩ => ⟨S2048x1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S_, .f32⟩
  | .hbm, ⟨41, _⟩ => ⟨S2048x2816, .f32⟩
  | .hbm, ⟨42, _⟩ => ⟨S2048x2816, .f32⟩
  | .hbm, ⟨43, _⟩ => ⟨S_, .f32⟩
  | .hbm, ⟨44, _⟩ => ⟨S2048x2816, .f32⟩
  | .hbm, ⟨45, _⟩ => ⟨S2048x2816, .f32⟩
  | .hbm, ⟨46, _⟩ => ⟨S2048x2816, .f32⟩
  | .hbm, ⟨47, _⟩ => ⟨S2048x2816, .f32⟩
  | .hbm, ⟨48, _⟩ => ⟨S2048x2816, .f32⟩
  | .hbm, ⟨49, _⟩ => ⟨S2048x1024, .f32⟩
  | .hbm, ⟨50, _⟩ => ⟨S_, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .bf16⟩
  | .hbm, ⟨55, _⟩ => ⟨S2048x2816, .f32⟩
  | .hbm, ⟨56, _⟩ => ⟨S2048x4x704, .f32⟩
  | .hbm, ⟨57, _⟩ => ⟨S4x2048x704, .f32⟩
  | .hbm, ⟨58, _⟩ => ⟨S4x2048x704, .bf16⟩
  | .hbm, ⟨59, _⟩ => ⟨S2048x2816, .f32⟩
  | .hbm, ⟨60, _⟩ => ⟨S2048x4x704, .f32⟩
  | .hbm, ⟨61, _⟩ => ⟨S4x2048x704, .f32⟩
  | .hbm, ⟨62, _⟩ => ⟨S4x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== Kernel4.lean ====
abbrev S2048x1024 : Shape := ⟨2, ![2048, 1024]⟩
abbrev S1024 : Shape := ⟨1, ![1024]⟩
abbrev S1024x1280 : Shape := ⟨2, ![1024, 1280]⟩
abbrev S2048x1280 : Shape := ⟨2, ![2048, 1280]⟩
abbrev S1280x1024 : Shape := ⟨2, ![1280, 1024]⟩
abbrev S1x1024 : Shape := ⟨2, ![1, 1024]⟩
abbrev S512x1280 : Shape := ⟨2, ![512, 1280]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1280, .f32⟩
  | .hbm, ⟨3, _⟩ => ⟨S2048x1280, .f32⟩
  | .hbm, ⟨4, _⟩ => ⟨S2048x1024, .f32⟩
  | .hbm, ⟨5, _⟩ => ⟨S2048x1280, .bf16⟩
  | .hbm, ⟨6, _⟩ => ⟨S1280x1024, .f32⟩
  | .hbm, ⟨7, _⟩ => ⟨S1280x1024, .bf16⟩
  | .hbm, ⟨8, _⟩ => ⟨S1x1024, .f32⟩
  | .hbm, ⟨9, _⟩ => ⟨S2048x1024, .f32⟩
  | .hbm, ⟨10, _⟩ => ⟨S2048x1024, .bf16⟩
  | .hbm, ⟨11, _⟩ => ⟨S1x1024, .f32⟩
  | .local _ .vmem, ⟨0, _⟩ => ⟨S512x1280, .bf16⟩
  | .local _ .vmem, ⟨1, _⟩ => ⟨S512x1280, .bf16⟩
  | .local _ .vmem, ⟨2, _⟩ => ⟨S1280x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference4Ideal.lean ====
abbrev S2048x1024 : Shape := ⟨2, ![2048, 1024]⟩
abbrev S1024 : Shape := ⟨1, ![1024]⟩
abbrev S1024x1280 : Shape := ⟨2, ![1024, 1280]⟩
abbrev S2048x1280 : Shape := ⟨2, ![2048, 1280]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1280, .f32⟩
  | .hbm, ⟨3, _⟩ => ⟨S2048x1280, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1280, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .bf16⟩
  | .hbm, ⟨54, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel5.lean ====
abbrev S2048x512 : Shape := ⟨2, ![2048, 512]⟩
abbrev S512 : Shape := ⟨1, ![512]⟩
abbrev S1024x1024 : Shape := ⟨2, ![1024, 1024]⟩
abbrev S2048x1024 : Shape := ⟨2, ![2048, 1024]⟩
abbrev S1x512 : Shape := ⟨2, ![1, 512]⟩
abbrev S512x1024 : Shape := ⟨2, ![512, 1024]⟩
abbrev S512x512 : Shape := ⟨2, ![512, 512]⟩
abbrev S512x1 : Shape := ⟨2, ![512, 1]⟩

abbrev nBuf : Space → Nat
  | .hbm => 16
  | .vmem => 19
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S2048x1024, .f32⟩
  | .hbm, ⟨6, _⟩ => ⟨S2048x1024, .bf16⟩
  | .hbm, ⟨7, _⟩ => ⟨S1024x1024, .bf16⟩
  | .hbm, ⟨8, _⟩ => ⟨S1x512, .f32⟩
  | .hbm, ⟨9, _⟩ => ⟨S1x512, .f32⟩
  | .hbm, ⟨10, _⟩ => ⟨S2048x512, .f32⟩
  | .hbm, ⟨11, _⟩ => ⟨S2048x512, .bf16⟩
  | .hbm, ⟨12, _⟩ => ⟨S1x512, .f32⟩
  | .hbm, ⟨13, _⟩ => ⟨S2048x512, .f32⟩
  | .hbm, ⟨14, _⟩ => ⟨S2048x512, .bf16⟩
  | .hbm, ⟨15, _⟩ => ⟨S1x512, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S512x512, .f32⟩
  | .local _ .vmem, ⟨10, _⟩ => ⟨S512x512, .f32⟩
  | .local _ .vmem, ⟨11, _⟩ => ⟨S512x512, .bf16⟩
  | .local _ .vmem, ⟨12, _⟩ => ⟨S512x512, .bf16⟩
  | .local _ .vmem, ⟨13, _⟩ => ⟨S1x512, .f32⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | .local _ .vmem, ⟨18, _⟩ => ⟨S1x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference5Ideal.lean ====
abbrev S2048x512 : Shape := ⟨2, ![2048, 512]⟩
abbrev S512 : Shape := ⟨1, ![512]⟩
abbrev S1024x1024 : Shape := ⟨2, ![1024, 1024]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S1x512 : Shape := ⟨2, ![1, 512]⟩

abbrev nBuf : Space → Nat
  | .hbm => 105
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S2048x1024, .f32⟩
  | .hbm, ⟨6, _⟩ => ⟨S2048x512, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x512, .f32⟩
  | .hbm, ⟨22, _⟩ => ⟨S2048x512, .f32⟩
  | .hbm, ⟨23, _⟩ => ⟨S1x512, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x512, .f32⟩
  | .hbm, ⟨42, _⟩ => ⟨S2048x512, .f32⟩
  | .hbm, ⟨43, _⟩ => ⟨S1x512, .f32⟩
  | .hbm, ⟨44, _⟩ => ⟨S2048x512, .f32⟩
  | .hbm, ⟨45, _⟩ => ⟨S2048x512, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x512, .f32⟩
  | .hbm, ⟨50, _⟩ => ⟨S2048x512, .f32⟩
  | .hbm, ⟨51, _⟩ => ⟨S2048x512, .f32⟩
  | .hbm, ⟨52, _⟩ => ⟨S_, .f32⟩
  | .hbm, ⟨53, _⟩ => ⟨S512, .f32⟩
  | .hbm, ⟨54, _⟩ => ⟨S1x512, .f32⟩
  | .hbm, ⟨55, _⟩ => ⟨S2048x512, .f32⟩
  | .hbm, ⟨56, _⟩ => ⟨S2048x512, .f32⟩
  | .hbm, ⟨57, _⟩ => ⟨S_, .f32⟩
  | .hbm, ⟨58, _⟩ => ⟨S512, .f32⟩
  | .hbm, ⟨59, _⟩ => ⟨S2048x512, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S2048x512, .f32⟩
  | .hbm, ⟨64, _⟩ => ⟨S2048x512, .f32⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S_, .f32⟩
  | .hbm, ⟨70, _⟩ => ⟨S2048, .f32⟩
  | .hbm, ⟨71, _⟩ => ⟨S2048x512, .f32⟩
  | .hbm, ⟨72, _⟩ => ⟨S2048x512, .f32⟩
  | .hbm, ⟨73, _⟩ => ⟨S2048x512, .f32⟩
  | .hbm, ⟨74, _⟩ => ⟨S2048x512, .f32⟩
  | .hbm, ⟨75, _⟩ => ⟨S2048x512, .f32⟩
  | .hbm, ⟨76, _⟩ => ⟨S2048x512, .f32⟩
  | .hbm, ⟨77, _⟩ => ⟨S_, .f32⟩
  | .hbm, ⟨78, _⟩ => ⟨S512, .f32⟩
  | .hbm, ⟨79, _⟩ => ⟨S1x512, .f32⟩
  | .hbm, ⟨80, _⟩ => ⟨S2048x512, .f32⟩
  | .hbm, ⟨81, _⟩ => ⟨S2048x512, .f32⟩
  | .hbm, ⟨82, _⟩ => ⟨S_, .f32⟩
  | .hbm, ⟨83, _⟩ => ⟨S512, .f32⟩
  | .hbm, ⟨84, _⟩ => ⟨S2048x512, .f32⟩
  | .hbm, ⟨85, _⟩ => ⟨S_, .f32⟩
  | .hbm, ⟨86, _⟩ => ⟨S2048, .f32⟩
  | .hbm, ⟨87, _⟩ => ⟨S2048x1, .f32⟩
  | .hbm, ⟨88, _⟩ => ⟨S2048x512, .f32⟩
  | .hbm, ⟨89, _⟩ => ⟨S2048x512, .f32⟩
  | .hbm, ⟨90, _⟩ => ⟨S2048x1, .f32⟩
  | .hbm, ⟨91, _⟩ => ⟨S_, .f32⟩
  | .hbm, ⟨92, _⟩ => ⟨S2048x1, .f32⟩
  | .hbm, ⟨93, _⟩ => ⟨S2048x1, .f32⟩
  | .hbm, ⟨94, _⟩ => ⟨S_, .f32⟩
  | .hbm, ⟨95, _⟩ => ⟨S2048, .f32⟩
  | .hbm, ⟨96, _⟩ => ⟨S2048x512, .f32⟩
  | .hbm, ⟨97, _⟩ => ⟨S2048x512, .f32⟩
  | .hbm, ⟨98, _⟩ => ⟨S2048x512, .f32⟩
  | .hbm, ⟨99, _⟩ => ⟨S2048x512, .f32⟩
  | .hbm, ⟨100, _⟩ => ⟨S2048x512, .f32⟩
  | .hbm, ⟨101, _⟩ => ⟨S2048x512, .bf16⟩
  | .hbm, ⟨102, _⟩ => ⟨S1x512, .f32⟩
  | .hbm, ⟨103, _⟩ => ⟨S2048x512, .bf16⟩
  | .hbm, ⟨104, _⟩ => ⟨S1x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_15 : Ref sig .tc := ⟨.hbm, 91, rfl⟩
abbrev main_v69 : Ref sig .tc := ⟨.hbm, 92, rfl⟩
abbrev main_v70 : Ref sig .tc := ⟨.hbm, 93, rfl⟩
abbrev main_cst_16 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩

abbrev nD : Nat := 1
abbrev τ : Topo := Topo.v7x

variable {F : FTy → Type} [FloatOps F]
-- ==== Kernel6.lean ====
abbrev S2048x1024 : Shape := ⟨2, ![2048, 1024]⟩
abbrev S1024 : Shape := ⟨1, ![1024]⟩
abbrev S1024x1280 : Shape := ⟨2, ![1024, 1280]⟩
abbrev S2048x1280 : Shape := ⟨2, ![2048, 1280]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x2048x1280 : Shape := ⟨3, ![1, 2048, 1280]⟩
abbrev S1x2048x1024 : Shape := ⟨3, ![1, 2048, 1024]⟩
abbrev S1x1280x1024 : Shape := ⟨3, ![1, 1280, 1024]⟩
abbrev S1x2048x256 : Shape := ⟨3, ![1, 2048, 256]⟩
abbrev S1x256x1024 : Shape := ⟨3, ![1, 256, 1024]⟩
abbrev S2048x256 : Shape := ⟨2, ![2048, 256]⟩
abbrev S256x1024 : Shape := ⟨2, ![256, 1024]⟩

abbrev nBuf : Space → Nat
  | .hbm => 25
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1280, .f32⟩
  | .hbm, ⟨3, _⟩ => ⟨S2048x1280, .f32⟩
  | .hbm, ⟨4, _⟩ => ⟨S2048x1280, .bf16⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1024, .bf16⟩
  | .hbm, ⟨22, _⟩ => ⟨S1x2048x1280, .bf16⟩
  | .hbm, ⟨23, _⟩ => ⟨S1x2048x1024, .bf16⟩
  | .hbm, ⟨24, _⟩ => ⟨S1x1280x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x1024, .bf16⟩
  | .local _ .vmem, ⟨3, _⟩ => ⟨S1x256x1024, .bf16⟩
  | .local _ .vmem, ⟨4, _⟩ => ⟨S1x256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 5, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference6Ideal.lean ====
abbrev S2048x1024 : Shape := ⟨2, ![2048, 1024]⟩
abbrev S1024 : Shape := ⟨1, ![1024]⟩
abbrev S1024x1280 : Shape := ⟨2, ![1024, 1280]⟩
abbrev S2048x1280 : Shape := ⟨2, ![2048, 1280]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1280x1024 : Shape := ⟨2, ![1280, 1024]⟩
abbrev S1x1280x1024 : Shape := ⟨3, ![1, 1280, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1280, .f32⟩
  | .hbm, ⟨3, _⟩ => ⟨S2048x1280, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x1280, .f32⟩
  | .hbm, ⟨21, _⟩ => ⟨S1280x1024, .f32⟩
  | .hbm, ⟨22, _⟩ => ⟨S1024x1280, .f32⟩
  | .hbm, ⟨23, _⟩ => ⟨S1280x1024, .f32⟩
  | .hbm, ⟨24, _⟩ => ⟨S1x1280x1024, .f32⟩
  | .hbm, ⟨25, _⟩ => ⟨S1x1280x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel7.lean ====
abbrev S2048x512 : Shape := ⟨2, ![2048, 512]⟩
abbrev S512 : Shape := ⟨1, ![512]⟩
abbrev S1024x1024 : Shape := ⟨2, ![1024, 1024]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S1x512 : Shape := ⟨2, ![1, 512]⟩
abbrev S1x2048x1024 : Shape := ⟨3, ![1, 2048, 1024]⟩
abbrev S1x1024x1024 : Shape := ⟨3, ![1, 1024, 1024]⟩

abbrev nBuf : Space → Nat
  | .hbm => 44
  | .vmem => 3
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S2048x1024, .f32⟩
  | .hbm, ⟨6, _⟩ => ⟨S2048x512, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x512, .f32⟩
  | .hbm, ⟨18, _⟩ => ⟨S2048x512, .f32⟩
  | .hbm, ⟨19, _⟩ => ⟨S1x512, .f32⟩
  | .hbm, ⟨20, _⟩ => ⟨S2048x512, .f32⟩
  | .hbm, ⟨21, _⟩ => ⟨S2048x512, .f32⟩
  | .hbm, ⟨22, _⟩ => ⟨S2048x512, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x512, .f32⟩
  | .hbm, ⟨34, _⟩ => ⟨S2048x512, .f32⟩
  | .hbm, ⟨35, _⟩ => ⟨S1x512, .f32⟩
  | .hbm, ⟨36, _⟩ => ⟨S2048x512, .f32⟩
  | .hbm, ⟨37, _⟩ => ⟨S2048x512, .f32⟩
  | .hbm, ⟨38, _⟩ => ⟨S2048x1024, .f32⟩
  | .hbm, ⟨39, _⟩ => ⟨S2048x1024, .bf16⟩
  | .hbm, ⟨40, _⟩ => ⟨S2048x1024, .bf16⟩
  | .hbm, ⟨41, _⟩ => ⟨S1x2048x1024, .bf16⟩
  | .hbm, ⟨42, _⟩ => ⟨S1x2048x1024, .bf16⟩
  | .hbm, ⟨43, _⟩ => ⟨S1x1024x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨4, ![1, 1, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== Reference7Ideal.lean ====
abbrev S2048x512 : Shape := ⟨2, ![2048, 512]⟩
abbrev S512 : Shape := ⟨1, ![512]⟩
abbrev S1024x1024 : Shape := ⟨2, ![1024, 1024]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S1x512 : Shape := ⟨2, ![1, 512]⟩
abbrev S1x1024x1024 : Shape := ⟨3, ![1, 1024, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S2048x1024, .f32⟩
  | .hbm, ⟨6, _⟩ => ⟨S2048x512, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x512, .f32⟩
  | .hbm, ⟨18, _⟩ => ⟨S2048x512, .f32⟩
  | .hbm, ⟨19, _⟩ => ⟨S1x512, .f32⟩
  | .hbm, ⟨20, _⟩ => ⟨S2048x512, .f32⟩
  | .hbm, ⟨21, _⟩ => ⟨S2048x512, .f32⟩
  | .hbm, ⟨22, _⟩ => ⟨S2048x512, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x512, .f32⟩
  | .hbm, ⟨34, _⟩ => ⟨S2048x512, .f32⟩
  | .hbm, ⟨35, _⟩ => ⟨S1x512, .f32⟩
  | .hbm, ⟨36, _⟩ => ⟨S2048x512, .f32⟩
  | .hbm, ⟨37, _⟩ => ⟨S2048x512, .f32⟩
  | .hbm, ⟨38, _⟩ => ⟨S2048x1024, .f32⟩
  | .hbm, ⟨39, _⟩ => ⟨S2048x1024, .f32⟩
  | .hbm, ⟨40, _⟩ => ⟨S1024x1024, .f32⟩
  | .hbm, ⟨41, _⟩ => ⟨S1024x1024, .f32⟩
  | .hbm, ⟨42, _⟩ => ⟨S1x1024x1024, .f32⟩
  | .hbm, ⟨43, _⟩ => ⟨S1x1024x1024, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel8.lean ====
abbrev S2048x1024 : Shape := ⟨2, ![2048, 1024]⟩
abbrev S1024 : Shape := ⟨1, ![1024]⟩
abbrev S1024x1280 : Shape := ⟨2, ![1024, 1280]⟩
abbrev S1x1024 : Shape := ⟨2, ![1, 1024]⟩
abbrev S1280x1024 : Shape := ⟨2, ![1280, 1024]⟩
abbrev S2048x1280 : Shape := ⟨2, ![2048, 1280]⟩
abbrev S512x1024 : Shape := ⟨2, ![512, 1024]⟩
abbrev S512x1280 : Shape := ⟨2, ![512, 1280]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1280, .f32⟩
  | .hbm, ⟨3, _⟩ => ⟨S1x1024, .f32⟩
  | .hbm, ⟨4, _⟩ => ⟨S1280x1024, .f32⟩
  | .hbm, ⟨5, _⟩ => ⟨S1280x1024, .bf16⟩
  | .hbm, ⟨6, _⟩ => ⟨S2048x1280, .f32⟩
  | .hbm, ⟨7, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1280x1024, .bf16⟩
  | .local _ .vmem, ⟨4, _⟩ => ⟨S512x1280, .f32⟩
  | .local _ .vmem, ⟨5, _⟩ => ⟨S512x1280, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference8Ideal.lean ====
abbrev S2048x1024 : Shape := ⟨2, ![2048, 1024]⟩
abbrev S1024 : Shape := ⟨1, ![1024]⟩
abbrev S1024x1280 : Shape := ⟨2, ![1024, 1280]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x1280 : Shape := ⟨2, ![2048, 1280]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1280, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1280, .f32⟩
  | .hbm, ⟨20, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel9.lean ====
abbrev S2048x512 : Shape := ⟨2, ![2048, 512]⟩
abbrev S512 : Shape := ⟨1, ![512]⟩
abbrev S1024x1024 : Shape := ⟨2, ![1024, 1024]⟩
abbrev S2048x1024 : Shape := ⟨2, ![2048, 1024]⟩
abbrev S1x512 : Shape := ⟨2, ![1, 512]⟩
abbrev S512x512 : Shape := ⟨2, ![512, 512]⟩
abbrev S512x1024 : Shape := ⟨2, ![512, 1024]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S2048x1024, .f32⟩
  | .hbm, ⟨6, _⟩ => ⟨S1x512, .f32⟩
  | .hbm, ⟨7, _⟩ => ⟨S1x512, .f32⟩
  | .hbm, ⟨8, _⟩ => ⟨S1024x1024, .bf16⟩
  | .hbm, ⟨9, _⟩ => ⟨S2048x1024, .f32⟩
  | .hbm, ⟨10, _⟩ => ⟨S2048x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference9Ideal.lean ====
abbrev S2048x512 : Shape := ⟨2, ![2048, 512]⟩
abbrev S512 : Shape := ⟨1, ![512]⟩
abbrev S1024x1024 : Shape := ⟨2, ![1024, 1024]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S1x512 : Shape := ⟨2, ![1, 512]⟩

abbrev nBuf : Space → Nat
  | .hbm => 42
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S2048x1024, .f32⟩
  | .hbm, ⟨6, _⟩ => ⟨S2048x512, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x512, .f32⟩
  | .hbm, ⟨18, _⟩ => ⟨S2048x512, .f32⟩
  | .hbm, ⟨19, _⟩ => ⟨S1x512, .f32⟩
  | .hbm, ⟨20, _⟩ => ⟨S2048x512, .f32⟩
  | .hbm, ⟨21, _⟩ => ⟨S2048x512, .f32⟩
  | .hbm, ⟨22, _⟩ => ⟨S2048x512, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x512, .f32⟩
  | .hbm, ⟨34, _⟩ => ⟨S2048x512, .f32⟩
  | .hbm, ⟨35, _⟩ => ⟨S1x512, .f32⟩
  | .hbm, ⟨36, _⟩ => ⟨S2048x512, .f32⟩
  | .hbm, ⟨37, _⟩ => ⟨S2048x512, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel10.lean ====
abbrev S2048x1024 : Shape := ⟨2, ![2048, 1024]⟩
abbrev S1024 : Shape := ⟨1, ![1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S1x1024, .f32⟩
  | .hbm, ⟨4, _⟩ => ⟨S1x128, .f32⟩
  | .hbm, ⟨5, _⟩ => ⟨S2048x1024, .f32⟩
  | .hbm, ⟨6, _⟩ => ⟨S2048x1024, .bf16⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S1x128, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference10Ideal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S1x128, .f32⟩
  | .hbm, ⟨72, _⟩ => ⟨S2048x1024, .bf16⟩
  | .hbm, ⟨73, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Kernel11.lean ====
abbrev S2048x1280 : Shape := ⟨2, ![2048, 1280]⟩
abbrev S2048x512 : Shape := ⟨2, ![2048, 512]⟩
abbrev S512 : Shape := ⟨1, ![512]⟩
abbrev S512x512 : Shape := ⟨2, ![512, 512]⟩
abbrev S1x512 : Shape := ⟨2, ![1, 512]⟩
abbrev S256x256 : Shape := ⟨2, ![256, 256]⟩
abbrev S256x512 : Shape := ⟨2, ![256, 512]⟩

abbrev nBuf : Space → Nat
  | .hbm => 12
  | .vmem => 17
  | .smem => 0
  | _ => 0

abbrev bufTy : (tb : Table) → Fin (tcTables nBuf tb) → BufTy
  | .hbm, ⟨0, _⟩ => ⟨S2048x1280, .f32⟩
  | .hbm, ⟨1, _⟩ => ⟨S2048x512, .f32⟩
  | .hbm, ⟨2, _⟩ => ⟨S2048x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1x512, .f32⟩
  | .hbm, ⟨7, _⟩ => ⟨S512x512, .bf16⟩
  | .hbm, ⟨8, _⟩ => ⟨S1x512, .f32⟩
  | .hbm, ⟨9, _⟩ => ⟨S2048x512, .f32⟩
  | .hbm, ⟨10, _⟩ => ⟨S2048x512, .f32⟩
  | .hbm, ⟨11, _⟩ => ⟨S2048x512, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S512x512, .bf16⟩
  | .local _ .vmem, ⟨10, _⟩ => ⟨S1x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | _, _ => ⟨S2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference11Ideal.lean ====
abbrev S2048x1280 : Shape := ⟨2, ![2048, 1280]⟩
abbrev S2048x512 : Shape := ⟨2, ![2048, 512]⟩
abbrev S512 : Shape := ⟨1, ![512]⟩
abbrev S512x512 : Shape := ⟨2, ![512, 512]⟩
abbrev S1x512 : Shape := ⟨2, ![1, 512]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2048x1280, .f32⟩
  | .hbm, ⟨1, _⟩ => ⟨S2048x512, .f32⟩
  | .hbm, ⟨2, _⟩ => ⟨S2048x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S2048x512, .f32⟩
  | .hbm, ⟨7, _⟩ => ⟨S1x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S1x512, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S2048x512, .f32⟩
  | .hbm, ⟨35, _⟩ => ⟨S_, .f32⟩
  | .hbm, ⟨36, _⟩ => ⟨S2048x512, .f32⟩
  | .hbm, ⟨37, _⟩ => ⟨S2048x512, .f32⟩
  | .hbm, ⟨38, _⟩ => ⟨S_, .f32⟩
  | .hbm, ⟨39, _⟩ => ⟨S2048x512, .f32⟩
  | .hbm, ⟨40, _⟩ => ⟨S2048x512, .f32⟩
  | .hbm, ⟨41, _⟩ => ⟨S2048x512, .f32⟩
  | _, _ => ⟨S2048x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel12.lean ====
abbrev S2048x1280 : Shape := ⟨2, ![2048, 1280]⟩
abbrev S2048x512 : Shape := ⟨2, ![2048, 512]⟩
abbrev S512 : Shape := ⟨1, ![512]⟩
abbrev S512x512 : Shape := ⟨2, ![512, 512]⟩
abbrev S1x512 : Shape := ⟨2, ![1, 512]⟩
abbrev S_ : Shape := ⟨0, ![]⟩
abbrev S256x512 : Shape := ⟨2, ![256, 512]⟩
abbrev S256x256 : Shape := ⟨2, ![256, 256]⟩

abbrev nBuf : Space → Nat
  | .hbm => 40
  | .vmem => 17
  | .smem => 0
  | _ => 0

abbrev bufTy : (tb : Table) → Fin (tcTables nBuf tb) → BufTy
  | .hbm, ⟨0, _⟩ => ⟨S2048x1280, .f32⟩
  | .hbm, ⟨1, _⟩ => ⟨S2048x512, .f32⟩
  | .hbm, ⟨2, _⟩ => ⟨S2048x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S2048x512, .f32⟩
  | .hbm, ⟨7, _⟩ => ⟨S2048x512, .f32⟩
  | .hbm, ⟨8, _⟩ => ⟨S1x512, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S2048x512, .f32⟩
  | .hbm, ⟨23, _⟩ => ⟨S_, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S1x512, .f32⟩
  | .hbm, ⟨32, _⟩ => ⟨S2048x512, .f32⟩
  | .hbm, ⟨33, _⟩ => ⟨S2048x512, .f32⟩
  | .hbm, ⟨34, _⟩ => ⟨S1x512, .f32⟩
  | .hbm, ⟨35, _⟩ => ⟨S512x512, .bf16⟩
  | .hbm, ⟨36, _⟩ => ⟨S2048x512, .f32⟩
  | .hbm, ⟨37, _⟩ => ⟨S512x512, .f32⟩
  | .hbm, ⟨38, _⟩ => ⟨S1x512, .f32⟩
  | .hbm, ⟨39, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S1x512, .f32⟩
  | .local _ .vmem, ⟨11, _⟩ => ⟨S512x512, .bf16⟩
  | .local _ .vmem, ⟨12, _⟩ => ⟨S256x512, .f32⟩
  | .local _ .vmem, ⟨13, _⟩ => ⟨S256x512, .f32⟩
  | .local _ .vmem, ⟨14, _⟩ => ⟨S512x512, .f32⟩
  | .local _ .vmem, ⟨15, _⟩ => ⟨S1x512, .f32⟩
  | .local _ .vmem, ⟨16, _⟩ => ⟨S1x512, .f32⟩
  | _, _ => ⟨S2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25_0 : Ref sig .tc := ⟨.hbm, 36, rfl⟩
abbrev main_v25_1 : Ref sig .tc := ⟨.hbm, 37, rfl⟩
abbrev main_v25_2 : Ref sig .tc := ⟨.hbm, 38, rfl⟩
abbrev main_v25_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference12Ideal.lean ====
abbrev S2048x1280 : Shape := ⟨2, ![2048, 1280]⟩
abbrev S2048x512 : Shape := ⟨2, ![2048, 512]⟩
abbrev S512 : Shape := ⟨1, ![512]⟩
abbrev S512x512 : Shape := ⟨2, ![512, 512]⟩
abbrev S1x512 : Shape := ⟨2, ![1, 512]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S2048x1280, .f32⟩
  | .hbm, ⟨1, _⟩ => ⟨S2048x512, .f32⟩
  | .hbm, ⟨2, _⟩ => ⟨S2048x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S2048x512, .f32⟩
  | .hbm, ⟨7, _⟩ => ⟨S2048x512, .f32⟩
  | .hbm, ⟨8, _⟩ => ⟨S1x512, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S2048x512, .f32⟩
  | .hbm, ⟨23, _⟩ => ⟨S_, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S1x512, .f32⟩
  | .hbm, ⟨32, _⟩ => ⟨S2048x512, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S_, .f32⟩
  | .hbm, ⟨37, _⟩ => ⟨S2048x512, .f32⟩
  | .hbm, ⟨38, _⟩ => ⟨S2048x512, .f32⟩
  | .hbm, ⟨39, _⟩ => ⟨S_, .f32⟩
  | .hbm, ⟨40, _⟩ => ⟨S2048x512, .f32⟩
  | .hbm, ⟨41, _⟩ => ⟨S2048x512, .f32⟩
  | .hbm, ⟨42, _⟩ => ⟨S_, .f32⟩
  | .hbm, ⟨43, _⟩ => ⟨S2048x512, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S2048x512, .f32⟩
  | .hbm, ⟨48, _⟩ => ⟨S2048x512, .f32⟩
  | .hbm, ⟨49, _⟩ => ⟨S_, .f32⟩
  | .hbm, ⟨50, _⟩ => ⟨S512, .f32⟩
  | .hbm, ⟨51, _⟩ => ⟨S1x512, .f32⟩
  | .hbm, ⟨52, _⟩ => ⟨S_, .f32⟩
  | .hbm, ⟨53, _⟩ => ⟨S512, .f32⟩
  | .hbm, ⟨54, _⟩ => ⟨S512x512, .f32⟩
  | .hbm, ⟨55, _⟩ => ⟨S512x512, .f32⟩
  | .hbm, ⟨56, _⟩ => ⟨S1x512, .f32⟩
  | _, _ => ⟨S2048x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.VecWindow

/-! The body of the FFN backward kernel at one grid point: what it leaves in every buffer, named over the kernel's
own payloads, in the three cases of its two conditions. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one point computes, half tile by half tile -/

section Values

variable (b : Vec F S512x1024 .bf16) (g u : Vec F S1x512x704 .bf16) (wg wu wd : Vec F S1x704x1024 .bf16)

/-- Rows 0–255 of a block of the cotangent. -/
def bLo : Vec F S256x1024 .bf16 := VecWindow.window b ![0, 0] S256x1024.size inb_S512x1024_S256x1024_0_0
/-- Rows 256–511 of a block of the cotangent. -/
def bHi : Vec F S256x1024 .bf16 := VecWindow.window b ![256, 0] S256x1024.size inb_S512x1024_S256x1024_256_0
/-- Rows 0–255 of a block of a hidden array. -/
def hLo (h : Vec F S1x512x704 .bf16) : Vec F S1x256x704 .bf16 :=
  VecWindow.window h ![0, 0, 0] S1x256x704.size inb_S1x512x704_S1x256x704_0_0_0
/-- Rows 256–511 of a block of a hidden array. -/
def hHi (h : Vec F S1x512x704 .bf16) : Vec F S1x256x704 .bf16 :=
  VecWindow.window h ![0, 256, 0] S1x256x704.size inb_S1x512x704_S1x256x704_0_256_0

/-- A block of a weight, as the body loads it: whole. -/
def full3 (w : Vec F S1x704x1024 .bf16) : Vec F S1x704x1024 .bf16 :=
  VecWindow.window w ![0, 0, 0] S1x704x1024.size inb_S1x704x1024_S1x704x1024_0_0_0

theorem full3_eq (w : Vec F S1x704x1024 .bf16) : full3 w = w := by
  funext y; exact congrArg w (funext fun a => Fin.ext (by
    show (![0, 0, 0] : Fin 3 → ℕ) a + 1 * (y a).val = (y a).val
    have : (![0, 0, 0] : Fin 3 → ℕ) a = 0 := by revert a; decide
    omega))

/-- A block of a hidden array made of its two halves. -/
def halves (lo hi : Vec F S1x256x704 .bf16) : Vec F S1x512x704 .bf16 :=
  View.canon [⟨Rect.unit (s := S1x512x704) ![0, 256, 0] S1x256x704.size inb_S1x512x704_S1x256x704_0_256_0, hi⟩,
    ⟨Rect.unit (s := S1x512x704) ![0, 0, 0] S1x256x704.size inb_S1x512x704_S1x256x704_0_0_0, lo⟩]

def dgateV : Vec F S1x512x704 .bf16 :=
  halves (k0_pay20 (k0_pay10 (hLo g)) (k0_pay16 (bLo b) (full3 wd) (hLo g) (hLo u)) (k0_pay17 (hLo g)))
    (k0_pay1 (k0_pay30 (k0_pay22 (bHi b)) (full3 wd) (hHi g) (hHi u)))
def dupV : Vec F S1x512x704 .bf16 :=
  halves (k0_pay19 (k0_pay15 (bLo b) (full3 wd) (hLo g))) (k0_pay31 (k0_pay22 (bHi b)) (full3 wd) (hHi g))
def actV : Vec F S1x512x704 .bf16 := halves (k0_pay14 (hLo g) (hLo u)) (k0_pay28 (hHi g) (hHi u))

/-- The rows of the lower half's running sum, from what stood there. -/
def sumLo (i : grid0.Coords) (old : Vec F S256x1024 .f32) : Vec F S256x1024 .f32 :=
  k0_pay21 (BitVec.ofNat 32 (i 0).val) (k0_pay10 (hLo g)) (k0_pay15 (bLo b) (full3 wd) (hLo g))
    (k0_pay16 (bLo b) (full3 wd) (hLo g) (hLo u)) (k0_pay17 (hLo g)) (full3 wg) (full3 wu) old
/-- The rows of the upper half's running sum, from what stood there. -/
def sumHi (i : grid0.Coords) (old : Vec F S256x1024 .f32) : Vec F S256x1024 .f32 :=
  k0_pay2 (BitVec.ofNat 32 (i 0).val) (k0_pay29 (k0_pay22 (bHi b)) (full3 wd) (hHi g))
    (k0_pay30 (k0_pay22 (bHi b)) (full3 wd) (hHi g) (hHi u)) (full3 wg) (full3 wu) old

/-- The scratch after the point: the two halves' running sums put over what it held. -/
def sumX (i : grid0.Coords) (X : Vec F S2048x1024 .f32) : Vec F S2048x1024 .f32 :=
  VecWindow.put (α := F .f32) (s := S2048x1024)
    (VecWindow.put (α := F .f32) (s := S2048x1024) X (k0_off1 i 0#32) S256x1024.size
      (sumLo b g u wg wu wd i (VecWindow.window (s := S2048x1024) X (k0_off1 i 0#32) S256x1024.size (k0_off1_inb i 0))))
    (k0_off1 i 256#32) S256x1024.size
    (sumHi b g u wg wu wd i (VecWindow.window (s := S2048x1024) X (k0_off1 i 256#32) S256x1024.size (k0_off1_inb i 1)))

end Values

/-- The rows of the scratch the last pass over the row tile reads. -/
def tileX (i : grid0.Coords) (hc1 : k0_cond2 i = 1#1) (X : Vec F S2048x1024 .f32) : Vec F S512x1024 .f32 :=
  VecWindow.window (s := S2048x1024) X (k0_off2 i) S512x1024.size (k0_off2_inb i hc1)

theorem read_halves {sp : Space} (v : View sig .tc sp S1x512x704 .bf16) (f : v.ty.Contents (Elt F)) (lo hi : Vec F S1x256x704 .bf16) :
    v.read (Elt F) (v.writes (Elt F) f [⟨Rect.unit (s := S1x512x704) ![0, 256, 0] S1x256x704.size inb_S1x512x704_S1x256x704_0_256_0, hi⟩,
      ⟨Rect.unit (s := S1x512x704) ![0, 0, 0] S1x256x704.size inb_S1x512x704_S1x256x704_0_0_0, lo⟩]) = halves lo hi :=
  View.read_writes_eq_canon _ _ _ (View.cover_of_tiledL _ S1x256x704.size (by sl_kernel_rfl))

theorem readAt_window {s : Shape} {e : EltTy} {sp : Space} (v : View sig .tc sp s e) (f : v.ty.Contents (Elt F)) {off size : Fin s.rank → ℕ}
    (inb : ∀ a, off a + size a ≤ s.size a) :
    v.readAt (Elt F) (Rect.unit off size inb).toLoadRect f = VecWindow.window (v.read (Elt F) f) off size inb := rfl

theorem off1_lo (i : grid0.Coords) : k0_off1 i 0#32 = ![512 * (i 1).val, 0] := by
  have h : ∀ j : Fin 4, (Scalar.indexCast (Scalar.addi (Scalar.muli (BitVec.ofNat 32 j.val) 512#32) 0#32)).toNat = 512 * j.val := by decide
  exact congrArg (fun n => ![n, 0]) (h (i 1))
theorem off1_hi (i : grid0.Coords) : k0_off1 i 256#32 = ![512 * (i 1).val + 256, 0] := by
  have h : ∀ j : Fin 4, (Scalar.indexCast (Scalar.addi (Scalar.muli (BitVec.ofNat 32 j.val) 512#32) 256#32)).toNat = 512 * j.val + 256 := by decide
  exact congrArg (fun n => ![n, 0]) (h (i 1))
theorem off2_eq (i : grid0.Coords) : k0_off2 i = ![512 * (i 1).val, 0] := by
  have h : ∀ j : Fin 4, (Scalar.indexCast (Scalar.muli (BitVec.ofNat 32 j.val) 512#32)).toNat = 512 * j.val := by decide
  exact congrArg (fun n => ![n, 0]) (h (i 1))

/-- A row below 2048 lies in the 256 rows at `o`, of every column, just when its number does. -/
theorem rows_iff (y : S2048x1024.Idx) (o : ℕ) :
    (∀ a, (![o, 0] : Fin 2 → ℕ) a ≤ (y a).val ∧ (y a).val < (![o, 0] : Fin 2 → ℕ) a + S256x1024.size a) ↔
      o ≤ (y 0).val ∧ (y 0).val < o + 256 := by
  constructor
  · intro h; exact h 0
  · intro h a; fin_cases a
    · exact h
    · have := (y 1).isLt; exact ⟨Nat.zero_le _, by show (y 1).val < 0 + 1024; rw [Nat.zero_add]; exact this⟩

/-- The row tile read back after its two halves were stored: what was under them no longer matters. -/
theorem cov_tile {sp : Space} (v : View sig .tc sp S2048x1024 .f32) (i : grid0.Coords) (hc1 : k0_cond2 i = 1#1) (X : Vec F S2048x1024 .f32)
    (lo hi : Vec F S256x1024 .f32) :
    v.readCov [⟨Rect.unit (s := S2048x1024) (k0_off1 i 256#32) S256x1024.size (k0_off1_inb i 1), hi⟩,
        ⟨Rect.unit (s := S2048x1024) (k0_off1 i 0#32) S256x1024.size (k0_off1_inb i 0), lo⟩]
        (Rect.unit (s := S2048x1024) (k0_off2 i) S512x1024.size (k0_off2_inb i hc1)).toLoadRect
      = tileX i hc1 (VecWindow.put (α := F .f32) (s := S2048x1024)
          (VecWindow.put (α := F .f32) (s := S2048x1024) X (k0_off1 i 0#32) S256x1024.size lo) (k0_off1 i 256#32) S256x1024.size hi) := by
  show v.readAt (Elt F) _ (v.writes (Elt F) v.junk _) = _
  rw [readAt_window, View.read_writes_cons_put _ _ _ _ _ rfl, View.read_writes_cons_put _ _ _ _ _ rfl]
  funext y
  unfold tileX VecWindow.window
  have hy : 512 * (i 1).val ≤ ((Rect.unit (s := S2048x1024) (k0_off2 i) S512x1024.size (k0_off2_inb i hc1)).emb y 0).val
      ∧ ((Rect.unit (s := S2048x1024) (k0_off2 i) S512x1024.size (k0_off2_inb i hc1)).emb y 0).val < 512 * (i 1).val + 512 := by
    have e : ((Rect.unit (s := S2048x1024) (k0_off2 i) S512x1024.size (k0_off2_inb i hc1)).emb y 0).val = k0_off2 i 0 + 1 * (y 0).val := rfl
    have e' : k0_off2 i 0 = 512 * (i 1).val := congrFun (off2_eq i) 0
    have := (y 0).isLt
    have h5 : (y 0).val < 512 := this
    omega
  generalize (Rect.unit (s := S2048x1024) (k0_off2 i) S512x1024.size (k0_off2_inb i hc1)).emb y = z at hy
  unfold VecWindow.put
  by_cases h1 : ∀ a, k0_off1 i 256#32 a ≤ (z a).val ∧ (z a).val < k0_off1 i 256#32 a + S256x1024.size a
  · rw [dif_pos h1, dif_pos h1]
  · have h2 : ∀ a, k0_off1 i 0#32 a ≤ (z a).val ∧ (z a).val < k0_off1 i 0#32 a + S256x1024.size a := by
      rw [off1_lo, rows_iff]; rw [off1_hi, rows_iff] at h1; omega
    rw [dif_neg h1, dif_neg h1, dif_pos h2, dif_pos h2]

theorem congr3 {α β γ δ : Sort*} (f : α → β → γ → δ) {a a' : α} {b b' : β} {c c' : γ} (ha : a = a') (hb : b = b') (hc : c = c') :
    f a b c = f a' b' c' := by rw [ha, hb, hc]

theorem congr4 {α β γ δ ε : Sort*} (f : α → β → γ → δ → ε) {a a' : α} {b b' : β} {c c' : γ} {d d' : δ} (ha : a = a') (hb : b = b')
    (hc : c = c') (hd : d = d') : f a b c d = f a' b' c' d' := by rw [ha, hb, hc, hd]

theorem window_full2 (x : Vec F S512x1024 .f32) (inb) :
    VecWindow.window (s := S512x1024) x ![0, 0] ![512, 1024] inb = x := by
  funext y; exact congrArg x (funext fun a => Fin.ext (by
    show (![0, 0] : Fin 2 → ℕ) a + 1 * (y a).val = (y a).val
    have : (![0, 0] : Fin 2 → ℕ) a = 0 := by revert a; decide
    omega))

theorem window_full1 (x : Vec F S1x1024 .f32) (inb) :
    VecWindow.window (s := S1x1024) x ![0, 0] ![1, 1024] inb = x := by
  funext y; exact congrArg x (funext fun a => Fin.ext (by
    show (![0, 0] : Fin 2 → ℕ) a + 1 * (y a).val = (y a).val
    have : (![0, 0] : Fin 2 → ℕ) a = 0 := by revert a; decide
    omega))

/-! ## The body in its three cases -/

set_option maxHeartbeats 1600000 in
/-- A later point of the first three shards: only the hidden arrays and the running sums are written. -/
theorem bodyB (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x512x704 .bf16) (harg6 : arg6.IsWhole) (arg7 : Memref sig .tc .vmem S1x512x704 .bf16) (harg7 : arg7.IsWhole) (arg8 : Memref sig .tc .vmem S1x704x1024 .bf16) (harg8 : arg8.IsWhole) (arg9 : Memref sig .tc .vmem S1x704x1024 .bf16) (harg9 : arg9.IsWhole) (arg10 : Memref sig .tc .vmem S1x704x1024 .bf16) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S1x1024 .f32) (harg13 : arg13.IsWhole) (arg14 : Memref sig .tc .vmem S1x512x704 .bf16) (harg14 : arg14.IsWhole) (arg15 : Memref sig .tc .vmem S1x512x704 .bf16) (harg15 : arg15.IsWhole) (arg16 : Memref sig .tc .vmem S1x512x704 .bf16) (harg16 : arg16.IsWhole) (arg17 : Memref sig .tc .vmem S2048x1024 .f32) (harg17 : arg17.IsWhole) (hc0 : ¬k0_cond1 i = 1#1) (hc1 : ¬k0_cond2 i = 1#1)
    (x0 : Vec F S512x1024 .f32) (x1 : Vec F S512x1024 .bf16) (x2 : Vec F S512x1024 .f32) (x3 : Vec F S1x1024 .f32) (x4 x5 : Vec F S1x512x704 .bf16) (x6 x7 x8 : Vec F S1x704x1024 .bf16)
    (y9 : Vec F S512x1024 .f32) (y10 : Vec F S512x1024 .bf16) (y11 : Vec F S1x1024 .f32) (X : Vec F S2048x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y9 ∗ owns (c : Thread nD τ) arg12 fullShare y10 ∗ owns (c : Thread nD τ) arg13 fullShare y11 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare X
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y9 ∗ owns (c : Thread nD τ) arg12 fullShare y10 ∗ owns (c : Thread nD τ) arg13 fullShare y11 ∗ owns (c : Thread nD τ) arg14 fullShare (dgateV x1 x4 x5 x8) ∗ owns (c : Thread nD τ) arg15 fullShare (dupV x1 x4 x8) ∗ owns (c : Thread nD τ) arg16 fullShare (actV x4 x5) ∗ owns (c : Thread nD τ) arg17 fullShare (sumX x1 x4 x5 x6 x7 x8 i X)) -∗ K ⟨⟩))
      ⊢ wp frame (wpE (defs₀ (F := F)) Variants.none c none) E (cc0_ffn_bwd_x i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_ffn_bwd_x_eq_skeleton]; unfold cc0_ffn_bwd_x_skel
  simp only [k0_part1_eq_skeleton, k0_part2_eq_skeleton, k0_part3_eq_skeleton, k0_part4_eq_skeleton]
  unfold k0_part1_skel k0_part2_skel k0_part3_skel k0_part4_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%f17, %hf17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg17.eq_unread hf17
  sl_exec (disch := first | sl_exact hc0 | sl_exact hc1)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; exact harg13.read_unread _
  isplitl [H14]
  · iexists _; isplitr; swap; · iexact H14
    ipureintro; refine (read_halves _ _ _ _).trans ?_; simp only [readAt_window, harg2.read_unread, harg3.read_unread, harg4.read_unread, harg5.read_unread, harg6.read_unread, harg7.read_unread, harg8.read_unread, harg9.read_unread, harg10.read_unread, harg11.read_unread, harg12.read_unread, harg13.read_unread, harg17.read_unread]; rfl
  isplitl [H15]
  · iexists _; isplitr; swap; · iexact H15
    ipureintro; refine (read_halves _ _ _ _).trans ?_; simp only [readAt_window, harg2.read_unread, harg3.read_unread, harg4.read_unread, harg5.read_unread, harg6.read_unread, harg7.read_unread, harg8.read_unread, harg9.read_unread, harg10.read_unread, harg11.read_unread, harg12.read_unread, harg13.read_unread, harg17.read_unread]; rfl
  isplitl [H16]
  · iexists _; isplitr; swap; · iexact H16
    ipureintro; refine (read_halves _ _ _ _).trans ?_; simp only [readAt_window, harg2.read_unread, harg3.read_unread, harg4.read_unread, harg5.read_unread, harg6.read_unread, harg7.read_unread, harg8.read_unread, harg9.read_unread, harg10.read_unread, harg11.read_unread, harg12.read_unread, harg13.read_unread, harg17.read_unread]; rfl
  iexists _; isplitr; swap; · iexact H17
  ipureintro; delta bodyB.sl.v116; simp only [readAt_window, View.read_writes_cons_put _ _ _ _ _ rfl, View.writes_nil, harg2.read_unread, harg3.read_unread, harg4.read_unread, harg5.read_unread, harg6.read_unread, harg7.read_unread, harg8.read_unread, harg9.read_unread, harg10.read_unread, harg11.read_unread, harg12.read_unread, harg13.read_unread, harg17.read_unread]; rfl

set_option maxHeartbeats 1600000 in
/-- The first point: the sum of the norm gradient is cleared. -/
theorem bodyA (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x512x704 .bf16) (harg6 : arg6.IsWhole) (arg7 : Memref sig .tc .vmem S1x512x704 .bf16) (harg7 : arg7.IsWhole) (arg8 : Memref sig .tc .vmem S1x704x1024 .bf16) (harg8 : arg8.IsWhole) (arg9 : Memref sig .tc .vmem S1x704x1024 .bf16) (harg9 : arg9.IsWhole) (arg10 : Memref sig .tc .vmem S1x704x1024 .bf16) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S1x1024 .f32) (harg13 : arg13.IsWhole) (arg14 : Memref sig .tc .vmem S1x512x704 .bf16) (harg14 : arg14.IsWhole) (arg15 : Memref sig .tc .vmem S1x512x704 .bf16) (harg15 : arg15.IsWhole) (arg16 : Memref sig .tc .vmem S1x512x704 .bf16) (harg16 : arg16.IsWhole) (arg17 : Memref sig .tc .vmem S2048x1024 .f32) (harg17 : arg17.IsWhole) (hc0 : k0_cond1 i = 1#1) (hc1 : ¬k0_cond2 i = 1#1)
    (x0 : Vec F S512x1024 .f32) (x1 : Vec F S512x1024 .bf16) (x2 : Vec F S512x1024 .f32) (x3 : Vec F S1x1024 .f32) (x4 x5 : Vec F S1x512x704 .bf16) (x6 x7 x8 : Vec F S1x704x1024 .bf16)
    (y9 : Vec F S512x1024 .f32) (y10 : Vec F S512x1024 .bf16) (X : Vec F S2048x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y9 ∗ owns (c : Thread nD τ) arg12 fullShare y10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare X
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y9 ∗ owns (c : Thread nD τ) arg12 fullShare y10 ∗ owns (c : Thread nD τ) arg13 fullShare (k0_pay3 (F := F)) ∗ owns (c : Thread nD τ) arg14 fullShare (dgateV x1 x4 x5 x8) ∗ owns (c : Thread nD τ) arg15 fullShare (dupV x1 x4 x8) ∗ owns (c : Thread nD τ) arg16 fullShare (actV x4 x5) ∗ owns (c : Thread nD τ) arg17 fullShare (sumX x1 x4 x5 x6 x7 x8 i X)) -∗ K ⟨⟩))
      ⊢ wp frame (wpE (defs₀ (F := F)) Variants.none c none) E (cc0_ffn_bwd_x i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_ffn_bwd_x_eq_skeleton]; unfold cc0_ffn_bwd_x_skel
  simp only [k0_part1_eq_skeleton, k0_part2_eq_skeleton, k0_part3_eq_skeleton, k0_part4_eq_skeleton]
  unfold k0_part1_skel k0_part2_skel k0_part3_skel k0_part4_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%f17, %hf17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg17.eq_unread hf17
  sl_exec (disch := first | sl_exact hc0 | sl_exact hc1)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; rw [View.read_writes_full]
  isplitl [H14]
  · iexists _; isplitr; swap; · iexact H14
    ipureintro; refine (read_halves _ _ _ _).trans ?_; simp only [readAt_window, harg2.read_unread, harg3.read_unread, harg4.read_unread, harg5.read_unread, harg6.read_unread, harg7.read_unread, harg8.read_unread, harg9.read_unread, harg10.read_unread, harg11.read_unread, harg12.read_unread, harg17.read_unread]; rfl
  isplitl [H15]
  · iexists _; isplitr; swap; · iexact H15
    ipureintro; refine (read_halves _ _ _ _).trans ?_; simp only [readAt_window, harg2.read_unread, harg3.read_unread, harg4.read_unread, harg5.read_unread, harg6.read_unread, harg7.read_unread, harg8.read_unread, harg9.read_unread, harg10.read_unread, harg11.read_unread, harg12.read_unread, harg17.read_unread]; rfl
  isplitl [H16]
  · iexists _; isplitr; swap; · iexact H16
    ipureintro; refine (read_halves _ _ _ _).trans ?_; simp only [readAt_window, harg2.read_unread, harg3.read_unread, harg4.read_unread, harg5.read_unread, harg6.read_unread, harg7.read_unread, harg8.read_unread, harg9.read_unread, harg10.read_unread, harg11.read_unread, harg12.read_unread, harg17.read_unread]; rfl
  iexists _; isplitr; swap; · iexact H17
  ipureintro; delta bodyA.sl.v116; simp only [readAt_window, View.read_writes_cons_put _ _ _ _ _ rfl, View.writes_nil, harg2.read_unread, harg3.read_unread, harg4.read_unread, harg5.read_unread, harg6.read_unread, harg7.read_unread, harg8.read_unread, harg9.read_unread, harg10.read_unread, harg11.read_unread, harg12.read_unread, harg17.read_unread]; rfl

set_option maxHeartbeats 1600000 in
/-- A point of the last shard: the row tile is finished. -/
theorem bodyC (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x512x704 .bf16) (harg6 : arg6.IsWhole) (arg7 : Memref sig .tc .vmem S1x512x704 .bf16) (harg7 : arg7.IsWhole) (arg8 : Memref sig .tc .vmem S1x704x1024 .bf16) (harg8 : arg8.IsWhole) (arg9 : Memref sig .tc .vmem S1x704x1024 .bf16) (harg9 : arg9.IsWhole) (arg10 : Memref sig .tc .vmem S1x704x1024 .bf16) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S1x1024 .f32) (harg13 : arg13.IsWhole) (arg14 : Memref sig .tc .vmem S1x512x704 .bf16) (harg14 : arg14.IsWhole) (arg15 : Memref sig .tc .vmem S1x512x704 .bf16) (harg15 : arg15.IsWhole) (arg16 : Memref sig .tc .vmem S1x512x704 .bf16) (harg16 : arg16.IsWhole) (arg17 : Memref sig .tc .vmem S2048x1024 .f32) (harg17 : arg17.IsWhole) (hc0 : ¬k0_cond1 i = 1#1) (hc1 : k0_cond2 i = 1#1)
    (x0 : Vec F S512x1024 .f32) (x1 : Vec F S512x1024 .bf16) (x2 : Vec F S512x1024 .f32) (x3 : Vec F S1x1024 .f32) (x4 x5 : Vec F S1x512x704 .bf16) (x6 x7 x8 : Vec F S1x704x1024 .bf16)
    (y11 : Vec F S1x1024 .f32) (X : Vec F S2048x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg13 fullShare y11 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare X
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k0_pay6 x2 x3 (tileX i hc1 (sumX x1 x4 x5 x6 x7 x8 i X)) x0) ∗ owns (c : Thread nD τ) arg12 fullShare (k0_pay7 x2 x3 (tileX i hc1 (sumX x1 x4 x5 x6 x7 x8 i X)) x0) ∗ owns (c : Thread nD τ) arg13 fullShare (k0_pay8 x2 (tileX i hc1 (sumX x1 x4 x5 x6 x7 x8 i X)) y11) ∗ owns (c : Thread nD τ) arg14 fullShare (dgateV x1 x4 x5 x8) ∗ owns (c : Thread nD τ) arg15 fullShare (dupV x1 x4 x8) ∗ owns (c : Thread nD τ) arg16 fullShare (actV x4 x5) ∗ owns (c : Thread nD τ) arg17 fullShare (sumX x1 x4 x5 x6 x7 x8 i X)) -∗ K ⟨⟩))
      ⊢ wp frame (wpE (defs₀ (F := F)) Variants.none c none) E (cc0_ffn_bwd_x i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_ffn_bwd_x_eq_skeleton]; unfold cc0_ffn_bwd_x_skel
  simp only [k0_part1_eq_skeleton, k0_part2_eq_skeleton, k0_part3_eq_skeleton, k0_part4_eq_skeleton]
  unfold k0_part1_skel k0_part2_skel k0_part3_skel k0_part4_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%d14, %f14, -, H14⟩, ⟨%d15, %f15, -, H15⟩, ⟨%d16, %f16, -, H16⟩, ⟨%f17, %hf17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg13.eq_unread hf13; obtain rfl := harg17.eq_unread hf17
  sl_exec (disch := first | sl_exact hc0 | sl_exact hc1)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; (rw [View.read_writes_full]; refine congr4 k0_pay6 ?_ ?_ ?_ ?_; all_goals (try delta bodyC.sl.v136 bodyC.sl.H17_2 bodyC.sl.v116); all_goals (try refine (cov_tile _ i hc1 X _ _).trans ?_); all_goals (simp only [readAt_window, View.read_writes_cons_put _ _ _ _ _ rfl, View.writes_nil, harg2.read_unread, harg3.read_unread, harg4.read_unread, harg5.read_unread, harg6.read_unread, harg7.read_unread, harg8.read_unread, harg9.read_unread, harg10.read_unread, harg13.read_unread, harg17.read_unread]; first | exact window_full2 _ _ | exact window_full1 _ _ | rfl))
  isplitl [H12]
  · iexists _; isplitr; swap; · iexact H12
    ipureintro; (rw [View.read_writes_full]; refine congr4 k0_pay7 ?_ ?_ ?_ ?_; all_goals (try delta bodyC.sl.v136 bodyC.sl.H17_2 bodyC.sl.v116); all_goals (try refine (cov_tile _ i hc1 X _ _).trans ?_); all_goals (simp only [readAt_window, View.read_writes_cons_put _ _ _ _ _ rfl, View.writes_nil, harg2.read_unread, harg3.read_unread, harg4.read_unread, harg5.read_unread, harg6.read_unread, harg7.read_unread, harg8.read_unread, harg9.read_unread, harg10.read_unread, harg13.read_unread, harg17.read_unread]; first | exact window_full2 _ _ | exact window_full1 _ _ | rfl))
  isplitl [H13]
  · iexists _; isplitr; swap; · iexact H13
    ipureintro; (rw [View.read_writes_full]; refine congr3 k0_pay8 ?_ ?_ ?_; all_goals (try delta bodyC.sl.v136 bodyC.sl.H17_2 bodyC.sl.v116); all_goals (try refine (cov_tile _ i hc1 X _ _).trans ?_); all_goals (simp only [readAt_window, View.read_writes_cons_put _ _ _ _ _ rfl, View.writes_nil, harg2.read_unread, harg3.read_unread, harg4.read_unread, harg5.read_unread, harg6.read_unread, harg7.read_unread, harg8.read_unread, harg9.read_unread, harg10.read_unread, harg13.read_unread, harg17.read_unread]; first | exact window_full2 _ _ | exact window_full1 _ _ | rfl))
  isplitl [H14]
  · iexists _; isplitr; swap; · iexact H14
    ipureintro; refine (read_halves _ _ _ _).trans ?_; simp only [readAt_window, harg2.read_unread, harg3.read_unread, harg4.read_unread, harg5.read_unread, harg6.read_unread, harg7.read_unread, harg8.read_unread, harg9.read_unread, harg10.read_unread, harg13.read_unread, harg17.read_unread]; rfl
  isplitl [H15]
  · iexists _; isplitr; swap; · iexact H15
    ipureintro; refine (read_halves _ _ _ _).trans ?_; simp only [readAt_window, harg2.read_unread, harg3.read_unread, harg4.read_unread, harg5.read_unread, harg6.read_unread, harg7.read_unread, harg8.read_unread, harg9.read_unread, harg10.read_unread, harg13.read_unread, harg17.read_unread]; rfl
  isplitl [H16]
  · iexists _; isplitr; swap; · iexact H16
    ipureintro; refine (read_halves _ _ _ _).trans ?_; simp only [readAt_window, harg2.read_unread, harg3.read_unread, harg4.read_unread, harg5.read_unread, harg6.read_unread, harg7.read_unread, harg8.read_unread, harg9.read_unread, harg10.read_unread, harg13.read_unread, harg17.read_unread]; rfl
  iexists _; isplitr; swap; · iexact H17
  ipureintro; delta bodyC.sl.H17_2 bodyC.sl.v116; simp only [readAt_window, View.read_writes_cons_put _ _ _ _ _ rfl, View.writes_nil, harg2.read_unread, harg3.read_unread, harg4.read_unread, harg5.read_unread, harg6.read_unread, harg7.read_unread, harg8.read_unread, harg9.read_unread, harg10.read_unread, harg13.read_unread, harg17.read_unread]; rfl

end Cert.KernelIdeal.Hand

end
-- ==== Proof.Run.lean ====
module

public import proofs.«01_k».proof.Proof.Body

/-! The run of the FFN backward kernel: what its scratch and its results hold after each grid point, and the launch. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem N16 (t : Fin cfg0.N) : t.val < 16 := lt_of_lt_of_eq t.isLt (show cfg0.N = 16 from N_0)
theorem coord0 (t : Fin cfg0.N) : (grid0.coords t 0).val = t.val / 4 := by
  have e : (grid0.coords t 0).val = t.val / 4 % 4 := Pipeline.Grid.coords_val t 0 (by decide) rfl
  have := N16 t; omega
theorem coord1 (t : Fin cfg0.N) : (grid0.coords t 1).val = t.val % 4 := by
  have e : (grid0.coords t 1).val = t.val / 1 % 4 := Pipeline.Grid.coords_val t 1 (by decide) rfl
  have := N16 t; omega

theorem cond1_iff (t : Fin cfg0.N) : k0_cond1 (grid0.coords t) = 1#1 ↔ t.val = 0 := by
  have h : ∀ s i : Fin 4, Scalar.cmpi .ne (Scalar.extui (Scalar.andi (Scalar.cmpi .eq (BitVec.ofNat 32 i.val) 0#32) (Scalar.cmpi .eq (BitVec.ofNat 32 s.val) 0#32)) : BitVec 32) 0#32 = 1#1 ↔ s.val = 0 ∧ i.val = 0 := by decide
  refine (h (grid0.coords t 0) (grid0.coords t 1)).trans ?_
  rw [coord0, coord1]; have := N16 t; omega
theorem cond2_iff (t : Fin cfg0.N) : k0_cond2 (grid0.coords t) = 1#1 ↔ 12 ≤ t.val := by
  have h : ∀ s : Fin 4, Scalar.cmpi .ne (Scalar.extui (Scalar.cmpi .eq (BitVec.ofNat 32 s.val) 3#32) : BitVec 32) 0#32 = 1#1 ↔ s.val = 3 := by decide
  refine (h (grid0.coords t 0)).trans ?_
  rw [coord0]; have := N16 t; omega

theorem flush9 : ∀ t : Fin cfg0.N, (cfg0.win 9).flush t = true ↔ 12 ≤ t.val :=
  (by decide : ∀ t : Fin grid0.N, win0_9.flush t = true ↔ 12 ≤ t.val)
theorem flush10 : ∀ t : Fin cfg0.N, (cfg0.win 10).flush t = true ↔ 12 ≤ t.val :=
  (by decide : ∀ t : Fin grid0.N, win0_10.flush t = true ↔ 12 ≤ t.val)

/-! ## The running sums do not see what the scratch held at the start -/

theorem first_select {α : Type} (n : ℕ) (hn : n = 0) (a b : α) : Scalar.select (Scalar.cmpi .sgt (BitVec.ofNat 32 n) 0#32) a b = b := by
  subst hn; rfl

theorem sumLo_first (b : Vec F S512x1024 .bf16) (g u : Vec F S1x512x704 .bf16) (wg wu wd : Vec F S1x704x1024 .bf16) (i : grid0.Coords)
    (h : (i 0).val = 0) (X Y : Vec F S256x1024 .f32) : sumLo b g u wg wu wd i X = sumLo b g u wg wu wd i Y := by
  unfold sumLo k0_pay21; dsimp only; rw [first_select _ h, first_select _ h]
theorem sumHi_first (b : Vec F S512x1024 .bf16) (g u : Vec F S1x512x704 .bf16) (wg wu wd : Vec F S1x704x1024 .bf16) (i : grid0.Coords)
    (h : (i 0).val = 0) (X Y : Vec F S256x1024 .f32) : sumHi b g u wg wu wd i X = sumHi b g u wg wu wd i Y := by
  unfold sumHi k0_pay2; dsimp only; rw [first_select _ h, first_select _ h]

theorem window_rows (X Y : Vec F S2048x1024 .f32) (off : Fin 2 → ℕ) (o : ℕ) (ho : off = ![o, 0]) (inb : ∀ a, off a + S256x1024.size a ≤ S2048x1024.size a)
    (h : ∀ z : S2048x1024.Idx, o ≤ (z 0).val → (z 0).val < o + 256 → X z = Y z) :
    VecWindow.window (s := S2048x1024) X off S256x1024.size inb = VecWindow.window (s := S2048x1024) Y off S256x1024.size inb := by
  funext y
  have e : off 0 = o := by rw [ho]; rfl
  refine h _ ?_ ?_
  · show o ≤ off 0 + 1 * (y 0).val
    omega
  · show off 0 + 1 * (y 0).val < o + 256
    have : (y 0).val < 256 := (y 0).isLt
    omega

theorem sumX_congr (b : Vec F S512x1024 .bf16) (g u : Vec F S1x512x704 .bf16) (wg wu wd : Vec F S1x704x1024 .bf16) (i : grid0.Coords)
    (X Y : Vec F S2048x1024 .f32)
    (h : (i 0).val = 0 ∨ ∀ z : S2048x1024.Idx, 512 * (i 1).val ≤ (z 0).val → (z 0).val < 512 * (i 1).val + 512 → X z = Y z) (y : S2048x1024.Idx)
    (hy : (512 * (i 1).val ≤ (y 0).val ∧ (y 0).val < 512 * (i 1).val + 512) ∨ X y = Y y) :
    sumX b g u wg wu wd i X y = sumX b g u wg wu wd i Y y := by
  have e1 : sumLo b g u wg wu wd i (VecWindow.window (s := S2048x1024) X (k0_off1 i 0#32) S256x1024.size (k0_off1_inb i 0))
      = sumLo b g u wg wu wd i (VecWindow.window (s := S2048x1024) Y (k0_off1 i 0#32) S256x1024.size (k0_off1_inb i 0)) := by
    rcases h with h | h
    · exact sumLo_first _ _ _ _ _ _ _ h _ _
    · exact congrArg _ (window_rows X Y _ _ (off1_lo i) _ fun z h1 h2 => h z h1 (by omega))
  have e2 : sumHi b g u wg wu wd i (VecWindow.window (s := S2048x1024) X (k0_off1 i 256#32) S256x1024.size (k0_off1_inb i 1))
      = sumHi b g u wg wu wd i (VecWindow.window (s := S2048x1024) Y (k0_off1 i 256#32) S256x1024.size (k0_off1_inb i 1)) := by
    rcases h with h | h
    · exact sumHi_first _ _ _ _ _ _ _ h _ _
    · exact congrArg _ (window_rows X Y _ _ (off1_hi i) _ fun z h1 h2 => h z (by omega) (by omega))
  unfold sumX
  rw [e1, e2]
  unfold VecWindow.put
  by_cases h1 : ∀ a, k0_off1 i 256#32 a ≤ (y a).val ∧ (y a).val < k0_off1 i 256#32 a + S256x1024.size a
  · rw [dif_pos h1, dif_pos h1]
  rw [dif_neg h1, dif_neg h1]
  by_cases h2 : ∀ a, k0_off1 i 0#32 a ≤ (y a).val ∧ (y a).val < k0_off1 i 0#32 a + S256x1024.size a
  · rw [dif_pos h2, dif_pos h2]
  rw [dif_neg h2, dif_neg h2]
  rcases hy with hy | hy
  · exfalso; rw [off1_lo, rows_iff] at h2; rw [off1_hi, rows_iff] at h1; omega
  · exact hy

/-! ## The scratch and the results after each point -/

/-- The scratch after point `t`, from what it held before. -/
def step (c : Dev nD) (t : Fin cfg0.N) (X : Vec F S2048x1024 .f32) : Vec F S2048x1024 .f32 :=
  sumX (iblk m c 1 t) (iblk m c 4 t) (iblk m c 5 t) (iblk m c 6 t) (iblk m c 7 t) (iblk m c 8 t) (grid0.coords t) X

/-- The scratch after the first `n` points, from what it held at the start. -/
def scr (c : Dev nD) : ℕ → Vec F S2048x1024 .f32 → Vec F S2048x1024 .f32
  | 0, X => X
  | n + 1, X => if h : n < cfg0.N then step m c ⟨n, h⟩ (scr c n X) else scr c n X

theorem scr_succ (c : Dev nD) (t : Fin cfg0.N) (X : Vec F S2048x1024 .f32) :
    scr m c (t.val + 1) X = step m c t (scr m c t.val X) := dif_pos t.isLt

theorem scr_congr (c : Dev nD) (X Y : Vec F S2048x1024 .f32) (n : ℕ) (hn : n ≤ 16) :
    ∀ y : S2048x1024.Idx, (y 0).val < 512 * n → scr m c n X y = scr m c n Y y := by
  induction n with
  | zero => intro y hy; omega
  | succ n ih =>
    intro y hy
    have ht : n < cfg0.N := lt_of_lt_of_eq (by omega : n < 16) (show cfg0.N = 16 from N_0).symm
    rw [show n + 1 = (⟨n, ht⟩ : Fin cfg0.N).val + 1 from rfl, scr_succ, scr_succ]
    have e0 := coord0 ⟨n, ht⟩; have e1 := coord1 ⟨n, ht⟩
    have hy' : (y 0).val < 2048 := (y 0).isLt
    dsimp only at e0 e1 ⊢
    refine sumX_congr _ _ _ _ _ _ _ _ _ ?_ y ?_
    · by_cases h4 : n < 4
      · left; omega
      · right; intro z _ _
        have hz : (z 0).val < 2048 := (z 0).isLt
        exact ih (by omega) z (by omega)
    · by_cases h : (y 0).val < 512 * n
      · right; exact ih (by omega) y h
      · left; omega

/-- A scratch of zeros. -/
def zeroX : Vec F S2048x1024 .f32 := fun _ => Scalar.ofBits .f32 0x00000000#32

theorem scr_full (c : Dev nD) (X Y : Vec F S2048x1024 .f32) (n : ℕ) (h4 : 4 ≤ n) (hn : n ≤ 16) : scr m c n X = scr m c n Y := by
  funext y; have hy : (y 0).val < 2048 := (y 0).isLt
  exact scr_congr m c X Y n hn y (by omega)

/-- The row tile of the finished sums the last pass reads at point `t`. -/
def tile (c : Dev nD) (t : Fin cfg0.N) : Vec F S512x1024 .f32 :=
  if h : k0_cond2 (grid0.coords t) = 1#1 then tileX (grid0.coords t) h (scr m c (t.val + 1) zeroX) else fun _ => Scalar.ofBits .f32 0x00000000#32

theorem tile_eq (c : Dev nD) (t : Fin cfg0.N) (h : k0_cond2 (grid0.coords t) = 1#1) (X : Vec F S2048x1024 .f32) :
    tileX (grid0.coords t) h (step m c t (scr m c t.val X)) = tile m c t := by
  have ht := (cond2_iff t).mp h; have := N16 t
  unfold tile; rw [dif_pos h, ← scr_succ, scr_full m c X zeroX _ (by omega) (by omega)]

/-- The norm gradient after the first `n` points. -/
def dgn (c : Dev nD) : ℕ → Vec F S1x1024 .f32
  | 0 => k0_pay3
  | n + 1 => if h : n < cfg0.N then (if 12 ≤ n then k0_pay8 (iblk m c 2 ⟨n, h⟩) (tile m c ⟨n, h⟩) (dgn c n) else dgn c n) else dgn c n

theorem dgn_late (c : Dev nD) (t : Fin cfg0.N) (h : 12 ≤ t.val) :
    dgn m c (t.val + 1) = k0_pay8 (iblk m c 2 t) (tile m c t) (dgn m c t.val) := (dif_pos t.isLt).trans (if_pos h)
theorem dgn_early (c : Dev nD) (n : ℕ) (h : n < 12) : dgn m c (n + 1) = dgn m c n := by
  have hn : n < cfg0.N := lt_of_lt_of_eq (by omega : n < 16) (show cfg0.N = 16 from N_0).symm
  exact (dif_pos hn).trans (if_neg (by omega))

/-! ## The pipeline's proof data -/

/-- The scratch before position `n`: what the first `n` points make of some contents. -/
def PhiS (c : Dev nD) (n : ℕ) (_ : n ≤ cfg0.N) : sProp 𝕄 :=
  iprop((∃ X, owns (c : Thread nD τ) (Memref.whole cc0_scratch0 : Memref sig .tc .vmem S2048x1024 .f32) fullShare (scr m c n X)) ∗ (∃ r, prngReg c r))

theorem PhiA0_eq (c : Dev nD) : (Pipeline.ΦA spec0 c : sProp 𝕄)
    = iprop((∃ d, owns (c : Thread nD τ) (Memref.whole cc0_scratch0 : Memref sig .tc .vmem S2048x1024 .f32) fullShare d) ∗ (∃ r, prngReg c r)) := by
  unfold Pipeline.ΦA; rw [scopedRest0_eq]; simp only [owns_whole]; try rfl

/-- Each window's staging buffer after the body at `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => k0_pay6 (iblk m c 2 t) (iblk m c 3 t) (tile m c t) (iblk m c 0 t)
    | ⟨10, _⟩ => k0_pay7 (iblk m c 2 t) (iblk m c 3 t) (tile m c t) (iblk m c 0 t)
    | ⟨11, _⟩ => dgn m c (t.val + 1)
    | ⟨12, _⟩ => dgateV (iblk m c 1 t) (iblk m c 4 t) (iblk m c 5 t) (iblk m c 8 t)
    | ⟨13, _⟩ => dupV (iblk m c 1 t) (iblk m c 4 t) (iblk m c 8 t)
    | ⟨14, _⟩ => actV (iblk m c 4 t) (iblk m c 5 t)
    | ⟨_ + 15, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]
theorem Phi_castSucc (c : Dev nD) (t : Fin cfg0.N) : (dats m 0 c).Φ t.castSucc = PhiS m c t.val (Nat.le_of_lt t.isLt) := by
  dsimp only [dats]; exact Pipeline.Dat.Φ_castSucc (PhiS m c) t
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = k0_pay6 (iblk m c 2 t) (iblk m c 3 t) (tile m c t) (iblk m c 0 t) := by dsimp only [dats]
theorem after10 (c : Dev nD) (t : Fin cfg0.N) : (dats m 0 c).after 10 t = k0_pay7 (iblk m c 2 t) (iblk m c 3 t) (tile m c t) (iblk m c 0 t) := by dsimp only [dats]
theorem after11 (c : Dev nD) (t : Fin cfg0.N) : (dats m 0 c).after 11 t = dgn m c (t.val + 1) := by dsimp only [dats]
theorem after12 (c : Dev nD) (t : Fin cfg0.N) : (dats m 0 c).after 12 t = dgateV (iblk m c 1 t) (iblk m c 4 t) (iblk m c 5 t) (iblk m c 8 t) := by dsimp only [dats]
theorem after13 (c : Dev nD) (t : Fin cfg0.N) : (dats m 0 c).after 13 t = dupV (iblk m c 1 t) (iblk m c 4 t) (iblk m c 8 t) := by dsimp only [dats]
theorem after14 (c : Dev nD) (t : Fin cfg0.N) : (dats m 0 c).after 14 t = actV (iblk m c 4 t) (iblk m c 5 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

theorem idle9 (t : Fin cfg0.N) : cfg0.idle 9 (cfg0.grid.coords t) = decide (t.val < 12) := by
  show (!(k0_cond2 (grid0.coords t) == 1#1)) = _
  have h := cond2_iff t
  by_cases hc : k0_cond2 (grid0.coords t) = 1#1
  · rw [hc]; have := h.mp hc; simp only [BEq.rfl, Bool.not_true]; exact (decide_eq_false (by omega)).symm
  · have : ¬12 ≤ t.val := fun hh => hc (h.mpr hh)
    rw [beq_eq_false_iff_ne.mpr hc]; exact (decide_eq_true (by omega)).symm
theorem idle10 (t : Fin cfg0.N) : cfg0.idle 10 (cfg0.grid.coords t) = decide (t.val < 12) := idle9 t
theorem idle11 (t : Fin cfg0.N) : cfg0.idle 11 (cfg0.grid.coords t) = decide (0 < t.val ∧ t.val < 12) := by
  show (!(k0_cond1 (grid0.coords t) == 1#1) && !(k0_cond2 (grid0.coords t) == 1#1)) = _
  rw [show (!(k0_cond2 (grid0.coords t) == 1#1)) = decide (t.val < 12) from idle9 t]
  have h := cond1_iff t
  by_cases hc : k0_cond1 (grid0.coords t) = 1#1
  · rw [hc]; have := h.mp hc; simp only [BEq.rfl, Bool.not_true, Bool.false_and]; exact (decide_eq_false (by omega)).symm
  · have h0 : ¬t.val = 0 := fun hh => hc (h.mpr hh)
    rw [beq_eq_false_iff_ne.mpr hc, Bool.not_false, Bool.true_and]
    exact decide_eq_decide.mpr ⟨fun h => ⟨by omega, h⟩, fun h => h.2⟩

/-- The norm gradient's buffer after the first point holds what the points before left. -/
theorem before11 (c : Dev nD) (n : ℕ) : ∀ (hn : n < cfg0.N) (_ : n ≠ 0) (d), (dats m 0 c).before 11 ⟨n, hn⟩ d = dgn m c n := by
  induction n with
  | zero => intro _ h; exact absurd rfl h
  | succ n ih =>
    intro hn _ d
    have hn' : n < cfg0.N := Nat.lt_of_succ_lt hn
    have h16 : n + 1 < 16 := N16 ⟨n + 1, hn⟩
    rw [(dats m 0 c).before_of_pos 11 ⟨n + 1, hn⟩ (Nat.succ_ne_zero n) rfl d]
    have hf : ¬(cfg0.win 11).flush ⟨n, hn'⟩ = true := fun h => by have := (flush0_11 ⟨n, hn'⟩).mp h; dsimp only at this; omega
    rw [if_neg (by exact hf)]
    show (dats m 0 c).left 11 ⟨n, hn'⟩ d = _
    unfold Dat.left
    by_cases hi : 0 < n ∧ n < 12
    · rw [show cfg0.idle 11 (cfg0.grid.coords ⟨n, hn'⟩) = true from (idle11 ⟨n, hn'⟩).trans (decide_eq_true hi)]
      exact (ih hn' (by omega) d).trans (dgn_early m c n hi.2).symm
    · rw [show cfg0.idle 11 (cfg0.grid.coords ⟨n, hn'⟩) = false from (idle11 ⟨n, hn'⟩).trans (decide_eq_false hi)]
      exact after11 m c ⟨n, hn'⟩

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

theorem leaves_live (c : Dev nD) (w : Fin cfg0.W) (t : Fin cfg0.N) (hl : cfg0.loose w = false) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).owesAt () t.succ = (dats m 0 c).owesAt () t.castSucc from rfl, show (dats m 0 c).Φ t.succ = PhiS m c (t.val + 1) t.isLt from rfl, Phi_castSucc]
  rw [leaves_live m c 0 t rfl rfl, after0, leaves_live m c 1 t rfl rfl, after1, leaves_live m c 2 t rfl rfl, after2, leaves_live m c 3 t rfl rfl, after3, leaves_live m c 4 t rfl rfl, after4, leaves_live m c 5 t rfl rfl, after5, leaves_live m c 6 t rfl rfl, after6, leaves_live m c 7 t rfl rfl, after7, leaves_live m c 8 t rfl rfl, after8, leaves_live m c 12 t rfl rfl, after12, leaves_live m c 13 t rfl rfl, after13, leaves_live m c 14 t rfl rfl, after14]
  have hN := N16 t
  unfold PhiS
  by_cases h12 : 12 ≤ t.val
  · have hz : ¬t.val = 0 := by omega
    rw [leaves_live m c 9 t rfl ((idle9 t).trans (decide_eq_false (by omega))), after9, leaves_live m c 10 t rfl ((idle10 t).trans (decide_eq_false (by omega))), after10, leaves_live m c 11 t rfl ((idle11 t).trans (decide_eq_false (by omega))), after11]
    rw [dgn_late m c t h12]
    simp only [before11 m c t.val t.isLt hz]
    iintro ⟨⟨⟨%X, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (bodyC c (grid0.coords t) _ _ _ _ _ _ _ _ _ _ _ _ _ _ _ _ _ _ _ _ _ _ _ _ _ _ _ _ _ _ _ _ (fun h => hz ((cond1_iff t).mp h)) ((cond2_iff t).mpr h12) (iblk m c 0 t) (iblk m c 1 t) (iblk m c 2 t) (iblk m c 3 t) (iblk m c 4 t) (iblk m c 5 t) (iblk m c 6 t) (iblk m c 7 t) (iblk m c 8 t) (dgn m c t.val) (scr m c t.val X) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexact H11
    isplitl [H12]; · iexists _; iexact H12
    isplitl [H13]; · iexists _; iexact H13
    isplitl [H14]; · iexists _; iexact H14
    isplitl [HS]; · iexact HS
    iintro ⟨H0, H1, H2, H3, H4, H5, H6, H7, H8, H9, H10, H11, H12, H13, H14, HS⟩
    isplitl [HS Hg]
    · isplitl [HS]
      · iexists X; rw [scr_succ m c t X]; iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · rw [← tile_eq m c t ((cond2_iff t).mpr h12) X]; iexact H9
    isplitl [H10]; · rw [← tile_eq m c t ((cond2_iff t).mpr h12) X]; iexact H10
    isplitl [H11]; · rw [← tile_eq m c t ((cond2_iff t).mpr h12) X]; iexact H11
    isplitl [H12]; · iexact H12
    isplitl [H13]; · iexact H13
    iexact H14
  by_cases hz : t.val = 0
  · rw [(dats m 0 c).leavesExact_idle 9 t ((idle9 t).trans (decide_eq_true (by omega))) (Bool.eq_false_iff.mpr fun h => h12 ((flush9 t).mp h)), (dats m 0 c).leavesExact_idle 10 t ((idle10 t).trans (decide_eq_true (by omega))) (Bool.eq_false_iff.mpr fun h => h12 ((flush10 t).mp h))]
    rw [leaves_live m c 11 t rfl ((idle11 t).trans (decide_eq_false (by omega))), after11]
    rw [show dgn m c (t.val + 1) = k0_pay3 from by rw [hz]; exact dgn_early m c 0 (by omega)]
    iintro ⟨⟨⟨%X, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (bodyA c (grid0.coords t) _ _ _ _ _ _ _ _ _ _ _ _ _ _ _ _ _ _ _ _ _ _ _ _ _ _ _ _ _ _ _ _ ((cond1_iff t).mpr hz) (fun h => h12 ((cond2_iff t).mp h)) (iblk m c 0 t) (iblk m c 1 t) (iblk m c 2 t) (iblk m c 3 t) (iblk m c 4 t) (iblk m c 5 t) (iblk m c 6 t) (iblk m c 7 t) (iblk m c 8 t) ((dats m 0 c).before 9 t d9) ((dats m 0 c).before 10 t d10) (scr m c t.val X) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [HS]; · iexact HS
    iintro ⟨H0, H1, H2, H3, H4, H5, H6, H7, H8, H9, H10, H11, H12, H13, H14, HS⟩
    isplitl [HS Hg]
    · isplitl [HS]
      · iexists X; rw [scr_succ m c t X]; iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists d9; iexact H9
    isplitl [H10]; · iexists d10; iexact H10
    isplitl [H11]; · iexact H11
    isplitl [H12]; · iexact H12
    isplitl [H13]; · iexact H13
    iexact H14
  · rw [(dats m 0 c).leavesExact_idle 9 t ((idle9 t).trans (decide_eq_true (by omega))) (Bool.eq_false_iff.mpr fun h => h12 ((flush9 t).mp h)), (dats m 0 c).leavesExact_idle 10 t ((idle10 t).trans (decide_eq_true (by omega))) (Bool.eq_false_iff.mpr fun h => h12 ((flush10 t).mp h))]
    rw [(dats m 0 c).leavesExact_idle 11 t ((idle11 t).trans (decide_eq_true (by omega))) (Bool.eq_false_iff.mpr fun h => by have := (flush0_11 t).mp h; omega)]
    iintro ⟨⟨⟨%X, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (bodyB c (grid0.coords t) _ _ _ _ _ _ _ _ _ _ _ _ _ _ _ _ _ _ _ _ _ _ _ _ _ _ _ _ _ _ _ _ (fun h => hz ((cond1_iff t).mp h)) (fun h => h12 ((cond2_iff t).mp h)) (iblk m c 0 t) (iblk m c 1 t) (iblk m c 2 t) (iblk m c 3 t) (iblk m c 4 t) (iblk m c 5 t) (iblk m c 6 t) (iblk m c 7 t) (iblk m c 8 t) ((dats m 0 c).before 9 t d9) ((dats m 0 c).before 10 t d10) ((dats m 0 c).before 11 t d11) (scr m c t.val X) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [HS]; · iexact HS
    iintro ⟨H0, H1, H2, H3, H4, H5, H6, H7, H8, H9, H10, H11, H12, H13, H14, HS⟩
    isplitl [HS Hg]
    · isplitl [HS]
      · iexists X; rw [scr_succ m c t X]; iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists d9; iexact H9
    isplitl [H10]; · iexists d10; iexact H10
    isplitl [H11]; · iexists d11; iexact H11
    isplitl [H12]; · iexact H12
    isplitl [H13]; · iexact H13
    iexact H14

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiA0_eq]
  exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiA0_eq]
  unfold PhiS
  iintro ⟨⟨%X, HS⟩, Hg⟩
  isplitl [HS]
  · iexists _; iexact HS
  iexact Hg

/-! ## The run and the frame -/

set_option backward.isDefEq.respectTransparency.types false in
/-- The launch: every array of the pipeline ends at what the proof data says, every counter at zero. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch0.to₀ defs₀ Variants.none m ρ main
    (hbody := fun c => (body_obligation m c).loose) (hq := fun _ _ _ => rfl)
    (howed := fun _ _ => rfl) (V := V m) (hmain := hmain m Variants.none) (hA := A_eq m) (hin := hin m) (hout := hout m)

end Cert.KernelIdeal.Hand

end
-- ==== Proof.Frames.lean ====
module

public import proofs.«01_k».proof.Defs
public import proofs.«01_k».proof.Proof.Run
public import proofs.«01_k».proof.Proof.Gen.Kernel
public import proofs.«01_k».proof.Proof.Gen.ReferenceIdeal
public import proofs.«01_k».proof.Proof.Gen.Pre_finite
public import Idealize.ShloMosaic.Lib.Tactic
public import Idealize.ShloMosaic.Lib.Claim
public import proofs.«01_k».proof.Proof.Gen.ReferenceIdeal.Run

/-! The frame claims: the kernel's, from its one run over any float operations, and the reference's. -/

@[expose] public section

set_option maxRecDepth 100000

noncomputable section

namespace Cert.Proof

open Idealize.ShloMosaic Idealize.ShloMosaic.Tactic Idealize.SL.Sem

/-- The kernel's frame, at any float operations. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0) :=
  θ_run_and (Cert.KernelIdeal.Gen.frame_of m ρ (Cert.KernelIdeal.Hand.dats m) (Cert.KernelIdeal.Hand.A_eq m)
    ((θ_run Cert.KernelIdeal.defs _ _).mono (fun _ h => h.1) (Cert.KernelIdeal.Hand.run_main m ρ)))
    ((θ_run Cert.KernelIdeal.defs _ _).mono (fun _ h => h.2) (Cert.KernelIdeal.Hand.run_main m ρ))

set_option maxHeartbeats 4000000 in
/-- The two programs have one body table. -/
theorem body_table {F : FTy → Type} [FloatOps F] : Cert.Kernel.defs₀ (F := F) = Cert.KernelIdeal.defs₀ (F := F) := by
  unfold Cert.Kernel.defs₀ Cert.KernelIdeal.defs₀
  refine congrArg Defs.onTc ?_
  funext ℓ x
  match ℓ, x with
  | 0, (t, s) => rfl
  | ⟨_ + 1, h⟩, _ => exact absurd h (Nat.not_lt.2 (Nat.le_add_left _ _))

set_option maxHeartbeats 4000000 in
theorem table {F : FTy → Type} [FloatOps F] : Cert.Kernel.defs (F := F) = Cert.KernelIdeal.defs (F := F) :=
  congrArg (Pipeline.defs (Cert.KernelIdeal.pcfgs (F := F))) body_table

set_option maxHeartbeats 4000000 in
theorem frame_kernel : Cert.quiescent_Kernel := by
  intro m ρ _
  rw [table]
  exact frame_any (F := Bits) m ρ

theorem frame_ideal : Cert.quiescent_KernelIdeal := fun m ρ _ => frame_any (F := Ideal) m ρ
theorem frame_ideal_finite : Cert.quiescent_KernelIdeal_pre_finite := fun m ρ _ => frame_any (F := Ideal) m ρ

/-- The reference's run leaves its arguments, and it declares no semaphore. -/
theorem frame_reference : Cert.quiescent_ReferenceIdeal := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)
theorem frame_reference_finite : Cert.quiescent_ReferenceIdeal_pre_finite := fun m ρ _ => frame_reference m ρ trivial

end Cert.Proof

end
-- ==== Proof.Spec.lean ====
/-
  The half-step's backward pass over the real numbers: every quantity both programs compute, as a function of
  the six argument arrays, and the arithmetic facts that let either program's terms be read as those reals.
-/
module

public import Idealize.ShloMosaic.Lib.Pointwise
public import Idealize.ShloMosaic.PureOps

@[expose] public section

noncomputable section

namespace Cert.Spec

open Idealize.ShloMosaic

/-- The six argument arrays, as real arrays. -/
structure Data where
  x : Fin 2048 → Fin 1024 → ℝ
  n : Fin 1024 → ℝ
  wg : Fin 1024 → Fin 2816 → ℝ
  wu : Fin 1024 → Fin 2816 → ℝ
  wd : Fin 2816 → Fin 1024 → ℝ
  c : Fin 2048 → Fin 1024 → ℝ

/-- The small number added to the mean of the squares. -/
def eps : ℝ := 8796093 / 2 ^ 43

/-- The logistic function. -/
def sg (x : ℝ) : ℝ := 1 / (1 + Real.exp (-x))

namespace Data
variable (D : Data)

/-- The mean of a row's squares, plus `eps`. -/
def ms (r : Fin 2048) : ℝ := (∑ k, D.x r k * D.x r k) / 1024 + eps
/-- The row's reciprocal root. -/
def rr (r : Fin 2048) : ℝ := (√(D.ms r))⁻¹
/-- The row divided by its root. -/
def nx (r : Fin 2048) (k : Fin 1024) : ℝ := D.x r k * D.rr r
/-- The normalised row. -/
def h (r : Fin 2048) (k : Fin 1024) : ℝ := D.nx r k * D.n k
/-- The gate product. -/
def G (r : Fin 2048) (j : Fin 2816) : ℝ := ∑ k, D.h r k * D.wg k j
/-- The up product. -/
def U (r : Fin 2048) (j : Fin 2816) : ℝ := ∑ k, D.h r k * D.wu k j
/-- The activation. -/
def act (r : Fin 2048) (j : Fin 2816) : ℝ := D.G r j * sg (D.G r j) * D.U r j
/-- The cotangent of the activation. -/
def da (r : Fin 2048) (j : Fin 2816) : ℝ := ∑ k, (1 / 2 * D.c r k) * D.wd j k
/-- The cotangent of the up product. -/
def dup (r : Fin 2048) (j : Fin 2816) : ℝ := D.G r j * sg (D.G r j) * D.da r j
/-- The cotangent of the gate product. -/
def dgate (r : Fin 2048) (j : Fin 2816) : ℝ :=
  D.da r j * D.U r j * sg (D.G r j) + D.G r j * (D.da r j * D.U r j) * (sg (D.G r j) * (1 - sg (D.G r j)))
/-- The cotangent of the normalised row. -/
def dh (r : Fin 2048) (k : Fin 1024) : ℝ := (∑ j, D.dup r j * D.wu k j) + ∑ j, D.dgate r j * D.wg k j
/-- The cotangent of the scale. -/
def dn (k : Fin 1024) : ℝ := ∑ r, D.nx r k * D.dh r k
/-- The cotangent of the divided row. -/
def dnx (r : Fin 2048) (k : Fin 1024) : ℝ := D.dh r k * D.n k
/-- The cotangent of the half-step's input. -/
def dx (r : Fin 2048) (k : Fin 1024) : ℝ :=
  D.rr r * (D.dnx r k - D.nx r k * ((∑ l, D.dnx r l * D.nx r l) / 1024)) + D.c r k

theorem ms_pos (r : Fin 2048) : 0 < D.ms r := by
  have : 0 ≤ ∑ k, D.x r k * D.x r k := Finset.sum_nonneg fun k _ => mul_self_nonneg _
  unfold ms eps
  positivity

theorem rr_sq (r : Fin 2048) : D.rr r * D.rr r * D.ms r = 1 := by
  have h := D.ms_pos r
  have h2 := Real.mul_self_sqrt h.le
  have h3 : √(D.ms r) ≠ 0 := (Real.sqrt_pos.2 h).ne'
  unfold rr
  field_simp
  nlinarith

/-- The input's cotangent in the order the differentiated program adds it up. -/
theorem dx_ref (r : Fin 2048) (k : Fin 1024) :
    D.c r k + D.dnx r k * D.rr r
        + D.x r k * ((∑ l, D.x r l * D.dnx r l) * (-(1 / 2) * (D.rr r / D.ms r)) / 1024)
        + (∑ l, D.x r l * D.dnx r l) * (-(1 / 2) * (D.rr r / D.ms r)) / 1024 * D.x r k = D.dx r k := by
  have h : D.rr r / D.ms r = D.rr r * (D.rr r * D.rr r) := by
    have h0 := (D.ms_pos r).ne'
    rw [div_eq_iff h0, mul_assoc, D.rr_sq r, mul_one]
  have hs : ∑ l, D.dnx r l * D.nx r l = (∑ l, D.x r l * D.dnx r l) * D.rr r := by
    rw [Finset.sum_mul]
    exact Finset.sum_congr rfl fun l _ => by unfold nx; ring
  rw [h, dx, hs, nx]
  ring

end Data

/-- The logistic function through the hyperbolic tangent of half the argument. -/
theorem sg_tanh (x : ℝ) : 1 / 2 * Real.tanh (1 / 2 * x) + 1 / 2 = sg x := by
  have he : Real.exp (-x) = Real.exp (-(1 / 2 * x)) * Real.exp (-(1 / 2 * x)) := by
    rw [← Real.exp_add]; congr 1; ring
  have hp := Real.exp_pos (1 / 2 * x)
  have hm : Real.exp (-(1 / 2 * x)) = (Real.exp (1 / 2 * x))⁻¹ := Real.exp_neg _
  rw [Real.tanh_eq_sinh_div_cosh, Real.sinh_eq, Real.cosh_eq, sg, he, hm]
  set e := Real.exp (1 / 2 * x)
  have : e ^ 2 + 1 ≠ 0 := by positivity
  field_simp
  ring

/-- A sum of reals, read among the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_div (a b : ℝ) (h : b ≠ 0) : Ideal.div (a : EReal) (b : EReal) = ((a / b : ℝ) : EReal) := by
  rw [Ideal.div_coe h, ← EReal.coe_mul, mul_one_div]

theorem coe_rsqrt (a : ℝ) (h : 0 < a) : Ideal.rsqrt (a : EReal) = (((√a)⁻¹ : ℝ) : EReal) := by
  rw [Ideal.rsqrt_coe, if_neg h.le.not_gt, if_neg h.ne']

theorem one_add_exp (x : ℝ) : (1 + Real.exp (-x)) ≠ 0 := by positivity

theorem c1024 : Ideal.ofBits .f32 0x44800000#32 = ((1024 : ℝ) : EReal) := by
  simp [Ideal.ofBits, Ideal.ieee, -EReal.coe_mul]; norm_num
theorem cEps : Ideal.ofBits .f32 0x358637BD#32 = ((eps : ℝ) : EReal) := by
  simp [Ideal.ofBits, Ideal.ieee, eps, -EReal.coe_mul]; norm_num
theorem cHalf : Ideal.ofBits .f32 0x3F000000#32 = ((1 / 2 : ℝ) : EReal) := by
  simp [Ideal.ofBits, Ideal.ieee, -EReal.coe_mul]; norm_num
theorem cNegHalf : Ideal.ofBits .f32 0xBF000000#32 = ((-(1 / 2) : ℝ) : EReal) := by
  simp [Ideal.ofBits, Ideal.ieee, -EReal.coe_mul]; norm_num
theorem cTop : Ideal.ofBits .f32 0x7F800000#32 = (⊤ : EReal) := by
  simp [Ideal.ofBits, Ideal.ieee]

/-- Six argument arrays read as `D`. -/
structure Args (D : Data) (x : FVec Ideal ⟨2, ![2048, 1024]⟩ .f32) (n : FVec Ideal ⟨1, ![1024]⟩ .f32)
    (wg wu : FVec Ideal ⟨2, ![1024, 2816]⟩ .f32) (wd : FVec Ideal ⟨2, ![2816, 1024]⟩ .f32)
    (c : FVec Ideal ⟨2, ![2048, 1024]⟩ .f32) : Prop where
  hx : ∀ (r : Fin 2048) (k : Fin 1024), x (ix2 r k) = ((D.x r k : ℝ) : EReal)
  hn : ∀ k : Fin 1024, n (ix1 k) = ((D.n k : ℝ) : EReal)
  hwg : ∀ (k : Fin 1024) (j : Fin 2816), wg (ix2 k j) = ((D.wg k j : ℝ) : EReal)
  hwu : ∀ (k : Fin 1024) (j : Fin 2816), wu (ix2 k j) = ((D.wu k j : ℝ) : EReal)
  hwd : ∀ (j : Fin 2816) (k : Fin 1024), wd (ix2 j k) = ((D.wd j k : ℝ) : EReal)
  hc : ∀ (r : Fin 2048) (k : Fin 1024), c (ix2 r k) = ((D.c r k : ℝ) : EReal)

end Cert.Spec

end
-- ==== Proof.Pay.lean ====
/-
  What the kernel's body computes at one grid point, read over the reals: each half tile's payloads, the blocks
  the two halves make, the running sums, the last pass.
-/
module

public import proofs.«01_k».proof.Proof.Body
public import proofs.«01_k».proof.Proof.Spec
public import Idealize.ShloMosaic.Lib.Pointwise
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Cert.Spec

/-- The cotangent of the activation at one row and column, from the row of the output's cotangent and the column's weights. -/
def la (b w : Fin 1024 → ℝ) : ℝ := (∑ k, b k * w k) * (1 / 2)
/-- The up product's cotangent from `a`, the activation's, and the gate product. -/
def lu (a g : ℝ) : ℝ := a * (g * sg g)
/-- The gate product's cotangent from `a`, the activation's, and the two products. -/
def lg (a g u : ℝ) : ℝ := a * u * sg g * (1 + g * (1 - sg g))

section half
variable {b : FVec Ideal S256x1024 .bf16} {g u : FVec Ideal S1x256x704 .bf16} {wg wu wd : FVec Ideal S1x704x1024 .bf16}
  {B : Fin 256 → Fin 1024 → ℝ} {G U : Fin 256 → Fin 704 → ℝ} {Wg Wu Wd : Fin 704 → Fin 1024 → ℝ}
variable (hb : ∀ (r : Fin 256) (k : Fin 1024), b (ix2 r k) = ((B r k : ℝ) : EReal))
  (hg : ∀ (r : Fin 256) (j : Fin 704), g (ix3 0 r j) = ((G r j : ℝ) : EReal))
  (hu : ∀ (r : Fin 256) (j : Fin 704), u (ix3 0 r j) = ((U r j : ℝ) : EReal))
  (hwg : ∀ (j : Fin 704) (k : Fin 1024), wg (ix3 0 j k) = ((Wg j k : ℝ) : EReal))
  (hwu : ∀ (j : Fin 704) (k : Fin 1024), wu (ix3 0 j k) = ((Wu j k : ℝ) : EReal))
  (hwd : ∀ (j : Fin 704) (k : Fin 1024), wd (ix3 0 j k) = ((Wd j k : ℝ) : EReal))

include hb hwd in
theorem pay9_eq (r : Fin 256) (j : Fin 704) : k0_pay9 (F := Ideal) b wd (ix2 r j) = ((la (B r) (Wd j) : ℝ) : EReal) := by
  pointwise [k0_pay9, hb, hwd, cHalf]
  simp only [← EReal.coe_mul, coe_sum, zero_add]
  rfl
include hg in
theorem pay10_eq (r : Fin 256) (j : Fin 704) : k0_pay10 (F := Ideal) g (ix2 r j) = ((G r j : ℝ) : EReal) := by
  pointwise [k0_pay10, hg]
include hu in
theorem pay11_eq (r : Fin 256) (j : Fin 704) : k0_pay11 (F := Ideal) u (ix2 r j) = ((U r j : ℝ) : EReal) := by
  pointwise [k0_pay11, hu]
include hg in
theorem pay12_eq (r : Fin 256) (j : Fin 704) : k0_pay12 (F := Ideal) g (ix2 r j) = ((sg (G r j) : ℝ) : EReal) := by
  pointwise [k0_pay12, pay10_eq hg, cHalf]
  rw [← EReal.coe_mul, Ideal.tanh_coe, ← EReal.coe_mul, ← EReal.coe_add, sg_tanh]
include hg in
theorem pay13_eq (r : Fin 256) (j : Fin 704) : k0_pay13 (F := Ideal) g (ix2 r j) = ((G r j * sg (G r j) : ℝ) : EReal) := by
  pointwise [k0_pay13, pay10_eq hg, pay12_eq hg]
  rw [← EReal.coe_mul]
include hg hu in
theorem pay14_eq (r : Fin 256) (j : Fin 704) : k0_pay14 (F := Ideal) g u (ix3 0 r j) = ((G r j * sg (G r j) * U r j : ℝ) : EReal) := by
  pointwise [k0_pay14, pay13_eq hg, pay11_eq hu]
  rw [← EReal.coe_mul]
include hb hg hwd in
theorem pay15_eq (r : Fin 256) (j : Fin 704) :
    k0_pay15 (F := Ideal) b wd g (ix2 r j) = ((lu (la (B r) (Wd j)) (G r j) : ℝ) : EReal) := by
  pointwise [k0_pay15, pay9_eq hb hwd, pay13_eq hg]
  rw [← EReal.coe_mul]; rfl
include hb hg hwd in
theorem pay19_eq (r : Fin 256) (j : Fin 704) :
    k0_pay19 (F := Ideal) (k0_pay15 b wd g) (ix3 0 r j) = ((lu (la (B r) (Wd j)) (G r j) : ℝ) : EReal) := by
  pointwise [k0_pay19, pay15_eq hb hg hwd]
include hb hg hu hwd in
theorem pay18_eq (r : Fin 256) (j : Fin 704) :
    k0_pay18 (F := Ideal) (k0_pay10 g) (k0_pay16 b wd g u) (k0_pay17 g) (ix2 r j)
      = ((lg (la (B r) (Wd j)) (G r j) (U r j) : ℝ) : EReal) := by
  pointwise [k0_pay18, k0_pay16, k0_pay17, pay9_eq hb hwd, pay10_eq hg, pay11_eq hu, pay12_eq hg]
  simp only [← EReal.coe_one, ← EReal.coe_sub, ← EReal.coe_mul, ← EReal.coe_add]
  rfl
include hb hg hu hwd in
theorem pay20_eq (r : Fin 256) (j : Fin 704) :
    k0_pay20 (F := Ideal) (k0_pay10 g) (k0_pay16 b wd g u) (k0_pay17 g) (ix3 0 r j)
      = ((lg (la (B r) (Wd j)) (G r j) (U r j) : ℝ) : EReal) := by
  pointwise [k0_pay20, pay18_eq hb hg hu hwd]

theorem later_select {α : Type} (n : Fin 4) (hn : n.val ≠ 0) (a b : α) :
    Scalar.select (Scalar.cmpi .sgt (BitVec.ofNat 32 n.val) 0#32) a b = a := by
  have h : ∀ n : Fin 4, n.val ≠ 0 → Scalar.cmpi .sgt (BitVec.ofNat 32 n.val) 0#32 = 1#1 := by decide
  rw [h n hn]; rfl

/-- One shard's contribution to the cotangent of the normalised row. -/
def part (B : Fin 1024 → ℝ) (G U : Fin 704 → ℝ) (Wg Wu Wd : Fin 704 → Fin 1024 → ℝ) (k : Fin 1024) : ℝ :=
  (∑ j, lg (la B (Wd j)) (G j) (U j) * Wg j k) + ∑ j, lu (la B (Wd j)) (G j) * Wu j k

include hb hg hu hwg hwu hwd in
theorem pay21_eq (n : Fin 4) (old : FVec Ideal S256x1024 .f32) (O : Fin 256 → Fin 1024 → ℝ)
    (hO : ∀ (r : Fin 256) (k : Fin 1024), n.val ≠ 0 → old (ix2 r k) = ((O r k : ℝ) : EReal)) (r : Fin 256) (k : Fin 1024) :
    k0_pay21 (F := Ideal) (BitVec.ofNat 32 n.val) (k0_pay10 g) (k0_pay15 b wd g) (k0_pay16 b wd g u) (k0_pay17 g) wg wu old (ix2 r k)
      = ((part (B r) (G r) (U r) Wg Wu Wd k + (if n.val = 0 then 0 else O r k) : ℝ) : EReal) := by
  by_cases hn : n.val = 0
  · rw [if_pos hn]
    unfold k0_pay21
    have e : ∀ X Y : Vec Ideal S256x1024 .f32, Scalar.select (Scalar.cmpi .sgt (BitVec.ofNat 32 n.val) 0#32) X Y = Y := fun X Y => by
      rw [hn]; rfl
    rw [e]
    pointwise [pay18_eq hb hg hu hwd, pay15_eq hb hg hwd, hwg, hwu]
    simp only [← EReal.coe_mul, coe_sum, zero_add, ← EReal.coe_add, add_zero]
    rfl
  · rw [if_neg hn]
    have hO' : ∀ (r : Fin 256) (k : Fin 1024), old (ix2 r k) = ((O r k : ℝ) : EReal) := fun r k => hO r k hn
    unfold k0_pay21
    rw [later_select n hn]
    pointwise [pay18_eq hb hg hu hwd, pay15_eq hb hg hwd, hwg, hwu, hO']
    simp only [← EReal.coe_mul, coe_sum, zero_add, ← EReal.coe_add]
    rfl

end half

/-! ## Halves of a block -/

section halves

theorem bLo_at (b : FVec Ideal S512x1024 .bf16) (r : Fin 256) (k : Fin 1024) : bLo (F := Ideal) b (ix2 r k) = b (ix2 ⟨r.val, by omega⟩ k) := by
  refine congrArg b (funext fun a => Fin.ext ?_)
  fin_cases a
  · show 0 + 1 * r.val = r.val; omega
  · show 0 + 1 * k.val = k.val; omega
theorem bHi_at (b : FVec Ideal S512x1024 .bf16) (r : Fin 256) (k : Fin 1024) : bHi (F := Ideal) b (ix2 r k) = b (ix2 ⟨256 + r.val, by omega⟩ k) := by
  refine congrArg b (funext fun a => Fin.ext ?_)
  fin_cases a
  · show 256 + 1 * r.val = 256 + r.val; omega
  · show 0 + 1 * k.val = k.val; omega
theorem hLo_at (h : FVec Ideal S1x512x704 .bf16) (r : Fin 256) (j : Fin 704) : hLo (F := Ideal) h (ix3 0 r j) = h (ix3 0 ⟨r.val, by omega⟩ j) := by
  refine congrArg h (funext fun a => Fin.ext ?_)
  fin_cases a
  · rfl
  · show 0 + 1 * r.val = r.val; omega
  · show 0 + 1 * j.val = j.val; omega
theorem hHi_at (h : FVec Ideal S1x512x704 .bf16) (r : Fin 256) (j : Fin 704) : hHi (F := Ideal) h (ix3 0 r j) = h (ix3 0 ⟨256 + r.val, by omega⟩ j) := by
  refine congrArg h (funext fun a => Fin.ext ?_)
  fin_cases a
  · rfl
  · show 256 + 1 * r.val = 256 + r.val; omega
  · show 0 + 1 * j.val = j.val; omega

theorem halves_eq (lo hi : FVec Ideal S1x256x704 .bf16) (f : Fin 512 → Fin 704 → EReal)
    (h1 : ∀ (r : Fin 256) (j : Fin 704), lo (ix3 0 r j) = f ⟨r.val, by omega⟩ j)
    (h2 : ∀ (r : Fin 256) (j : Fin 704), hi (ix3 0 r j) = f ⟨256 + r.val, by omega⟩ j) (r : Fin 512) (j : Fin 704) :
    halves (F := Ideal) lo hi (ix3 0 r j) = f r j := by
  unfold halves
  by_cases hr : r.val < 256
  · rw [View.canon_cons_of_not_mem _ _ (by
      rw [Rect.mem_set_unit]; intro h
      have : 256 ≤ r.val := (h 1).1
      omega)]
    have e : (ix3 0 r j : S1x512x704.Idx)
        = (Rect.unit (s := S1x512x704) ![0, 0, 0] S1x256x704.size inb_S1x512x704_S1x256x704_0_0_0).emb (ix3 0 ⟨r.val, hr⟩ j : S1x256x704.Idx) := by
      funext a; refine Fin.ext ?_
      fin_cases a
      · rfl
      · show r.val = 0 + 1 * r.val; omega
      · show j.val = 0 + 1 * j.val; omega
    rw [e]
    exact (View.canon_cons_emb _ _ _ _).trans (h1 ⟨r.val, hr⟩ j)
  · have e : (ix3 0 r j : S1x512x704.Idx)
        = (Rect.unit (s := S1x512x704) ![0, 256, 0] S1x256x704.size inb_S1x512x704_S1x256x704_0_256_0).emb (ix3 0 ⟨r.val - 256, by omega⟩ j : S1x256x704.Idx) := by
      funext a; refine Fin.ext ?_
      fin_cases a
      · rfl
      · show r.val = 256 + 1 * (r.val - 256); omega
      · show j.val = 0 + 1 * j.val; omega
    rw [e]
    refine (View.canon_cons_emb _ _ _ _).trans ((h2 ⟨r.val - 256, by omega⟩ j).trans ?_)
    congr 1; exact Fin.ext (by show 256 + (r.val - 256) = r.val; omega)

end halves

/-! ## Blocks -/

theorem hi_act (g u : FVec Ideal S1x256x704 .bf16) : k0_pay28 (F := Ideal) g u = k0_pay14 g u := rfl
theorem hi_dup (b : FVec Ideal S256x1024 .bf16) (wd : FVec Ideal S1x704x1024 .bf16) (g : FVec Ideal S1x256x704 .bf16) :
    k0_pay31 (F := Ideal) (k0_pay22 b) wd g = k0_pay19 (k0_pay15 b wd g) := rfl
theorem hi_dgate (b : FVec Ideal S256x1024 .bf16) (wd : FVec Ideal S1x704x1024 .bf16) (g u : FVec Ideal S1x256x704 .bf16) :
    k0_pay1 (F := Ideal) (k0_pay30 (k0_pay22 b) wd g u) = k0_pay20 (k0_pay10 g) (k0_pay16 b wd g u) (k0_pay17 g) := rfl
theorem hi_sum (n : BitVec 32) (b : FVec Ideal S256x1024 .bf16) (wg wu wd : FVec Ideal S1x704x1024 .bf16) (g u : FVec Ideal S1x256x704 .bf16)
    (old : FVec Ideal S256x1024 .f32) :
    k0_pay2 (F := Ideal) n (k0_pay29 (k0_pay22 b) wd g) (k0_pay30 (k0_pay22 b) wd g u) wg wu old
      = k0_pay21 n (k0_pay10 g) (k0_pay15 b wd g) (k0_pay16 b wd g u) (k0_pay17 g) wg wu old := rfl

section block
variable {b : FVec Ideal S512x1024 .bf16} {g u : FVec Ideal S1x512x704 .bf16} {wg wu wd : FVec Ideal S1x704x1024 .bf16}
  {B : Fin 512 → Fin 1024 → ℝ} {G U : Fin 512 → Fin 704 → ℝ} {Wg Wu Wd : Fin 704 → Fin 1024 → ℝ}
variable (hb : ∀ (r : Fin 512) (k : Fin 1024), b (ix2 r k) = ((B r k : ℝ) : EReal))
  (hg : ∀ (r : Fin 512) (j : Fin 704), g (ix3 0 r j) = ((G r j : ℝ) : EReal))
  (hu : ∀ (r : Fin 512) (j : Fin 704), u (ix3 0 r j) = ((U r j : ℝ) : EReal))
  (hwg : ∀ (j : Fin 704) (k : Fin 1024), wg (ix3 0 j k) = ((Wg j k : ℝ) : EReal))
  (hwu : ∀ (j : Fin 704) (k : Fin 1024), wu (ix3 0 j k) = ((Wu j k : ℝ) : EReal))
  (hwd : ∀ (j : Fin 704) (k : Fin 1024), wd (ix3 0 j k) = ((Wd j k : ℝ) : EReal))

include hg hu in
theorem actV_eq (r : Fin 512) (j : Fin 704) : actV (F := Ideal) g u (ix3 0 r j) = ((G r j * sg (G r j) * U r j : ℝ) : EReal) := by
  unfold actV
  rw [hi_act]
  refine halves_eq _ _ (fun r j => ((G r j * sg (G r j) * U r j : ℝ) : EReal)) (fun r j => ?_) (fun r j => ?_) r j
  · exact pay14_eq (fun r j => (hLo_at g r j).trans (hg _ _)) (fun r j => (hLo_at u r j).trans (hu _ _)) r j
  · exact pay14_eq (fun r j => (hHi_at g r j).trans (hg _ _)) (fun r j => (hHi_at u r j).trans (hu _ _)) r j

include hb hg hwd in
theorem dupV_eq (r : Fin 512) (j : Fin 704) :
    dupV (F := Ideal) b g wd (ix3 0 r j) = ((lu (la (B r) (Wd j)) (G r j) : ℝ) : EReal) := by
  unfold dupV
  rw [full3_eq, hi_dup]
  refine halves_eq _ _ (fun r j => ((lu (la (B r) (Wd j)) (G r j) : ℝ) : EReal)) (fun r j => ?_) (fun r j => ?_) r j
  · exact pay19_eq (fun r k => (bLo_at b r k).trans (hb _ _)) (fun r j => (hLo_at g r j).trans (hg _ _)) hwd r j
  · exact pay19_eq (fun r k => (bHi_at b r k).trans (hb _ _)) (fun r j => (hHi_at g r j).trans (hg _ _)) hwd r j

include hb hg hu hwd in
theorem dgateV_eq (r : Fin 512) (j : Fin 704) :
    dgateV (F := Ideal) b g u wd (ix3 0 r j) = ((lg (la (B r) (Wd j)) (G r j) (U r j) : ℝ) : EReal) := by
  unfold dgateV
  rw [full3_eq, hi_dgate]
  refine halves_eq _ _ (fun r j => ((lg (la (B r) (Wd j)) (G r j) (U r j) : ℝ) : EReal)) (fun r j => ?_) (fun r j => ?_) r j
  · exact pay20_eq (fun r k => (bLo_at b r k).trans (hb _ _)) (fun r j => (hLo_at g r j).trans (hg _ _))
      (fun r j => (hLo_at u r j).trans (hu _ _)) hwd r j
  · exact pay20_eq (fun r k => (bHi_at b r k).trans (hb _ _)) (fun r j => (hHi_at g r j).trans (hg _ _))
      (fun r j => (hHi_at u r j).trans (hu _ _)) hwd r j

include hb hg hu hwg hwu hwd in
theorem sumLo_eq (i : grid0.Coords) (n : Fin 4) (hn : n.val = (i 0).val) (old : FVec Ideal S256x1024 .f32) (O : Fin 512 → Fin 1024 → ℝ)
    (hO : ∀ (r : Fin 256) (k : Fin 1024), n.val ≠ 0 → old (ix2 r k) = ((O ⟨r.val, by omega⟩ k : ℝ) : EReal)) (r : Fin 256) (k : Fin 1024) :
    sumLo (F := Ideal) b g u wg wu wd i old (ix2 r k)
      = ((part (B ⟨r.val, by omega⟩) (G ⟨r.val, by omega⟩) (U ⟨r.val, by omega⟩) Wg Wu Wd k
          + (if n.val = 0 then 0 else O ⟨r.val, by omega⟩ k) : ℝ) : EReal) := by
  unfold sumLo
  rw [full3_eq, full3_eq, full3_eq, ← hn]
  exact pay21_eq (B := fun r => B ⟨r.val, by omega⟩) (G := fun r => G ⟨r.val, by omega⟩) (U := fun r => U ⟨r.val, by omega⟩)
    (fun r k => (bLo_at b r k).trans (hb _ _)) (fun r j => (hLo_at g r j).trans (hg _ _))
      (fun r j => (hLo_at u r j).trans (hu _ _)) hwg hwu hwd n old (fun r => O ⟨r.val, by omega⟩) hO r k

include hb hg hu hwg hwu hwd in
theorem sumHi_eq (i : grid0.Coords) (n : Fin 4) (hn : n.val = (i 0).val) (old : FVec Ideal S256x1024 .f32) (O : Fin 512 → Fin 1024 → ℝ)
    (hO : ∀ (r : Fin 256) (k : Fin 1024), n.val ≠ 0 → old (ix2 r k) = ((O ⟨256 + r.val, by omega⟩ k : ℝ) : EReal)) (r : Fin 256) (k : Fin 1024) :
    sumHi (F := Ideal) b g u wg wu wd i old (ix2 r k)
      = ((part (B ⟨256 + r.val, by omega⟩) (G ⟨256 + r.val, by omega⟩) (U ⟨256 + r.val, by omega⟩) Wg Wu Wd k
          + (if n.val = 0 then 0 else O ⟨256 + r.val, by omega⟩ k) : ℝ) : EReal) := by
  unfold sumHi
  rw [full3_eq, full3_eq, full3_eq, ← hn, hi_sum]
  exact pay21_eq (B := fun r => B ⟨256 + r.val, by omega⟩) (G := fun r => G ⟨256 + r.val, by omega⟩) (U := fun r => U ⟨256 + r.val, by omega⟩)
    (fun r k => (bHi_at b r k).trans (hb _ _)) (fun r j => (hHi_at g r j).trans (hg _ _))
      (fun r j => (hHi_at u r j).trans (hu _ _)) hwg hwu hwd n old (fun r => O ⟨256 + r.val, by omega⟩) hO r k

/-- The rows of the scratch's row tile after the point: their contribution, over what stood there unless this is the first shard. -/
theorem sumX_in (i : grid0.Coords) (n p : Fin 4) (hn : n.val = (i 0).val) (hp : p.val = (i 1).val) (X : FVec Ideal S2048x1024 .f32)
    (O : Fin 512 → Fin 1024 → ℝ)
    (hb : ∀ (r : Fin 512) (k : Fin 1024), b (ix2 r k) = ((B r k : ℝ) : EReal))
    (hg : ∀ (r : Fin 512) (j : Fin 704), g (ix3 0 r j) = ((G r j : ℝ) : EReal))
    (hu : ∀ (r : Fin 512) (j : Fin 704), u (ix3 0 r j) = ((U r j : ℝ) : EReal))
    (hwg : ∀ (j : Fin 704) (k : Fin 1024), wg (ix3 0 j k) = ((Wg j k : ℝ) : EReal))
    (hwu : ∀ (j : Fin 704) (k : Fin 1024), wu (ix3 0 j k) = ((Wu j k : ℝ) : EReal))
    (hwd : ∀ (j : Fin 704) (k : Fin 1024), wd (ix3 0 j k) = ((Wd j k : ℝ) : EReal))
    (hO : ∀ (r : Fin 512) (k : Fin 1024), n.val ≠ 0 → X (ix2 ⟨512 * p.val + r.val, by omega⟩ k) = ((O r k : ℝ) : EReal))
    (r : Fin 512) (k : Fin 1024) :
    sumX (F := Ideal) b g u wg wu wd i X (ix2 ⟨512 * p.val + r.val, by omega⟩ k)
      = ((part (B r) (G r) (U r) Wg Wu Wd k + (if n.val = 0 then 0 else O r k) : ℝ) : EReal) := by
  have e1 : ∀ (r' : Fin 256) (k : Fin 1024), n.val ≠ 0 →
      VecWindow.window (s := S2048x1024) X (k0_off1 i 0#32) S256x1024.size (k0_off1_inb i 0) (ix2 r' k) = ((O ⟨r'.val, by omega⟩ k : ℝ) : EReal) := by
    intro r' k h
    rw [← hO ⟨r'.val, by omega⟩ k h]
    refine congrArg X (funext fun a => Fin.ext ?_)
    have ho := off1_lo i
    have h0 : k0_off1 i 0#32 0 = 512 * (i 1).val := congrFun ho 0
    have h1 : k0_off1 i 0#32 1 = 0 := congrFun ho 1
    fin_cases a
    · show k0_off1 i 0#32 0 + 1 * r'.val = 512 * p.val + r'.val; omega
    · show k0_off1 i 0#32 1 + 1 * k.val = k.val; omega
  have e2 : ∀ (r' : Fin 256) (k : Fin 1024), n.val ≠ 0 →
      VecWindow.window (s := S2048x1024) X (k0_off1 i 256#32) S256x1024.size (k0_off1_inb i 1) (ix2 r' k) = ((O ⟨256 + r'.val, by omega⟩ k : ℝ) : EReal) := by
    intro r' k h
    rw [← hO ⟨256 + r'.val, by omega⟩ k h]
    refine congrArg X (funext fun a => Fin.ext ?_)
    have ho := off1_hi i
    have h0 : k0_off1 i 256#32 0 = 512 * (i 1).val + 256 := congrFun ho 0
    have h1 : k0_off1 i 256#32 1 = 0 := congrFun ho 1
    fin_cases a
    · show k0_off1 i 256#32 0 + 1 * r'.val = 512 * p.val + (256 + r'.val); omega
    · show k0_off1 i 256#32 1 + 1 * k.val = k.val; omega
  unfold sumX VecWindow.put
  have ho1 := off1_lo i; have ho2 := off1_hi i
  have h10 : k0_off1 i 0#32 0 = 512 * (i 1).val := congrFun ho1 0
  have h11 : k0_off1 i 0#32 1 = 0 := congrFun ho1 1
  have h20 : k0_off1 i 256#32 0 = 512 * (i 1).val + 256 := congrFun ho2 0
  have h21 : k0_off1 i 256#32 1 = 0 := congrFun ho2 1
  by_cases hr : r.val < 256
  · have n1 : ¬ ∀ a, k0_off1 i 256#32 a ≤ ((ix2 (⟨512 * p.val + r.val, by omega⟩ : Fin 2048) k : S2048x1024.Idx) a).val
        ∧ ((ix2 (⟨512 * p.val + r.val, by omega⟩ : Fin 2048) k : S2048x1024.Idx) a).val < k0_off1 i 256#32 a + S256x1024.size a := fun h => by
      have : k0_off1 i 256#32 0 ≤ 512 * p.val + r.val := (h 0).1
      omega
    have y1 : ∀ a, k0_off1 i 0#32 a ≤ ((ix2 (⟨512 * p.val + r.val, by omega⟩ : Fin 2048) k : S2048x1024.Idx) a).val
        ∧ ((ix2 (⟨512 * p.val + r.val, by omega⟩ : Fin 2048) k : S2048x1024.Idx) a).val < k0_off1 i 0#32 a + S256x1024.size a := by
      rw [ho1, rows_iff]
      show 512 * (i 1).val ≤ 512 * p.val + r.val ∧ 512 * p.val + r.val < 512 * (i 1).val + 256
      omega
    rw [dif_neg n1, dif_pos y1]
    rw [← sumLo_eq hb hg hu hwg hwu hwd i n hn _ O e1 ⟨r.val, hr⟩ k]
    refine congrArg _ (funext fun a => Fin.ext ?_)
    fin_cases a
    · show 512 * p.val + r.val - k0_off1 i 0#32 0 = r.val; omega
    · show k.val - k0_off1 i 0#32 1 = k.val; omega
  · have y1 : ∀ a, k0_off1 i 256#32 a ≤ ((ix2 (⟨512 * p.val + r.val, by omega⟩ : Fin 2048) k : S2048x1024.Idx) a).val
        ∧ ((ix2 (⟨512 * p.val + r.val, by omega⟩ : Fin 2048) k : S2048x1024.Idx) a).val < k0_off1 i 256#32 a + S256x1024.size a := by
      rw [ho2, rows_iff]
      show 512 * (i 1).val + 256 ≤ 512 * p.val + r.val ∧ 512 * p.val + r.val < 512 * (i 1).val + 256 + 256
      omega
    rw [dif_pos y1]
    have er : (⟨256 + (r.val - 256), by omega⟩ : Fin 512) = r := Fin.ext (by show 256 + (r.val - 256) = r.val; omega)
    have := sumHi_eq hb hg hu hwg hwu hwd i n hn _ O e2 ⟨r.val - 256, by omega⟩ k
    rw [show (⟨256 + (⟨r.val - 256, by omega⟩ : Fin 256).val, by omega⟩ : Fin 512) = r from er] at this
    rw [← this]
    refine congrArg _ (funext fun a => Fin.ext ?_)
    fin_cases a
    · show 512 * p.val + r.val - k0_off1 i 256#32 0 = r.val - 256; omega
    · show k.val - k0_off1 i 256#32 1 = k.val; omega

/-- Off the row tile the point leaves the scratch as it was. -/
theorem sumX_out (i : grid0.Coords) (p : Fin 4) (hp : p.val = (i 1).val) (X : FVec Ideal S2048x1024 .f32) (r : Fin 2048) (k : Fin 1024)
    (h : r.val / 512 ≠ p.val) : sumX (F := Ideal) b g u wg wu wd i X (ix2 r k) = X (ix2 r k) := by
  have n1 : ¬ ∀ a, k0_off1 i 256#32 a ≤ ((ix2 r k : S2048x1024.Idx) a).val
      ∧ ((ix2 r k : S2048x1024.Idx) a).val < k0_off1 i 256#32 a + S256x1024.size a := by
    rw [off1_hi, rows_iff]
    show ¬(512 * (i 1).val + 256 ≤ r.val ∧ r.val < 512 * (i 1).val + 256 + 256)
    omega
  have n2 : ¬ ∀ a, k0_off1 i 0#32 a ≤ ((ix2 r k : S2048x1024.Idx) a).val
      ∧ ((ix2 r k : S2048x1024.Idx) a).val < k0_off1 i 0#32 a + S256x1024.size a := by
    rw [off1_lo, rows_iff]
    show ¬(512 * (i 1).val ≤ r.val ∧ r.val < 512 * (i 1).val + 256)
    omega
  unfold sumX VecWindow.put
  rw [dif_neg n1, dif_neg n2]

end block

/-! ## The last pass over a row tile -/

section last
variable {x dh ct : FVec Ideal S512x1024 .f32} {n : FVec Ideal S1x1024 .f32} (D : Data) (p : Fin 4)

/-- Row `r` of row tile `p`. -/
def row (p : Fin 4) (r : Fin 512) : Fin 2048 := ⟨512 * p.val + r.val, by omega⟩

variable (hx : ∀ (r : Fin 512) (k : Fin 1024), x (ix2 r k) = ((D.x (row p r) k : ℝ) : EReal))
  (hd : ∀ (r : Fin 512) (k : Fin 1024), dh (ix2 r k) = ((D.dh (row p r) k : ℝ) : EReal))
  (hc : ∀ (r : Fin 512) (k : Fin 1024), ct (ix2 r k) = ((D.c (row p r) k : ℝ) : EReal))
  (hn : ∀ k : Fin 1024, n (ix2 0 k) = ((D.n k : ℝ) : EReal))

include hx in
theorem pay4_eq (r : Fin 512) : k0_pay4 (F := Ideal) x (ix2 r 0) = ((D.rr (row p r) : ℝ) : EReal) := by
  pointwise [k0_pay4, hx, c1024, cEps]
  simp only [← EReal.coe_mul, coe_sum, zero_add]
  rw [coe_div _ _ (by norm_num), ← EReal.coe_add]
  exact coe_rsqrt _ (D.ms_pos _)
include hx in
theorem pay5_eq (r : Fin 512) (k : Fin 1024) : k0_pay5 (F := Ideal) x (ix2 r k) = ((D.nx (row p r) k : ℝ) : EReal) := by
  pointwise [k0_pay5, hx, pay4_eq D p hx]
  rw [← EReal.coe_mul]; rfl
include hx hd hc hn in
theorem pay6_eq (r : Fin 512) (k : Fin 1024) : k0_pay6 (F := Ideal) x n dh ct (ix2 r k) = ((D.dx (row p r) k : ℝ) : EReal) := by
  pointwise [k0_pay6, hx, hd, hc, hn, pay4_eq D p hx, pay5_eq D p hx, c1024]
  simp only [← EReal.coe_mul, coe_sum, zero_add]
  rw [coe_div _ _ (by norm_num)]
  simp only [← EReal.coe_mul, ← EReal.coe_add, ← EReal.coe_sub]
  rfl
include hx hd in
theorem pay8_eq (old : FVec Ideal S1x1024 .f32) (O : Fin 1024 → ℝ) (hO : ∀ k : Fin 1024, old (ix2 0 k) = ((O k : ℝ) : EReal)) (k : Fin 1024) :
    k0_pay8 (F := Ideal) x dh old (ix2 0 k) = ((O k + ∑ r, D.nx (row p r) k * D.dh (row p r) k : ℝ) : EReal) := by
  pointwise [k0_pay8, hd, pay5_eq D p hx, hO]
  simp only [← EReal.coe_mul, coe_sum, zero_add, ← EReal.coe_add]
  simp only [mul_comm]

end last

end Cert.KernelIdeal.Hand

end
-- ==== Proof.Ref.lean ====
/-
  What the reference returns, read over the reals: its composed terms cut into stages, each stage equal to the
  real quantity of the same name.
-/
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Hand

open Cert.ReferenceIdeal Cert.ReferenceIdeal.Gen Idealize.ShloMosaic Idealize.ShloMosaic.TcCoe Cert.Spec

abbrev X2 := FVec Ideal S2048x1024 .f32
abbrev J2 := FVec Ideal S2048x2816 .f32
abbrev W2 := FVec Ideal S1024x2816 .f32
abbrev V2 := FVec Ideal S2816x1024 .f32

def rMs (x : X2) : FVec Ideal S2048x1 .f32 :=
  addf (Host.divf (broadcastInDim S2048x1 ![0] bcast_S2048_S2048x1_0
      (Host.reduceAdd (mulf x x) (constant S_ .f32 0x00000000#32) reducesTo_S2048x1024_S2048_d1 h_S_))
    (broadcastInDim S2048x1 ![] bcast_S_S2048x1 (constant S_ .f32 0x44800000#32)))
    (broadcastInDim S2048x1 ![] bcast_S_S2048x1 (constant S_ .f32 0x358637BD#32))
def rR (x : X2) : FVec Ideal S2048x1 .f32 := Host.rsqrt (rMs x)
def rNx (x : X2) : X2 := mulf x (broadcastInDim S2048x1024 ![0, 1] bcast_S2048x1_S2048x1024_0_1 (rR x))
def rN (n : FVec Ideal S1024 .f32) : X2 :=
  broadcastInDim S2048x1024 ![0, 1] bcast_S1x1024_S2048x1024_0_1 (broadcastInDim S1x1024 ![1] bcast_S1024_S1x1024_1 n)
def rH (x : X2) (n : FVec Ideal S1024 .f32) : X2 := mulf (rNx x) (rN n)
def rDot (h : X2) (w : W2) : J2 := Host.dotGeneral dot_S2048x1024_S1024x2816_S2048x2816_1_0_0_1_n_n none h w
def rOne : J2 := broadcastInDim S2048x2816 ![] bcast_S_S2048x2816 (constant S_ .f32 0x3F800000#32)
def rSig (g : J2) : J2 := Host.divf rOne (addf rOne (Host.exp (Host.negf g)))
def rDa (c : X2) (wd : V2) : J2 :=
  Host.dotGeneral dot_S2048x1024_S2816x1024_S2048x2816_1_1_0_0_n_n none
    (mulf (broadcastInDim S2048x1024 ![] bcast_S_S2048x1024 (constant S_ .f32 0x3F000000#32)) c) wd
def rMid (g u : J2) : J2 := mulf (mulf g (rSig g)) u
def rDgate (g da u : J2) : J2 :=
  addf (mulf (mulf da u) (rSig g)) (mulf (mulf g (mulf da u)) (mulf (rSig g) (subf rOne (rSig g))))
def rBack (d : J2) (w : W2) : X2 := Host.dotGeneral dot_S2048x2816_S1024x2816_S2048x1024_1_1_0_0_n_n none d w
def rDh (dup dgate : J2) (wg wu : W2) : X2 := addf (rBack dup wu) (rBack dgate wg)
def rDn (x dh : X2) : FVec Ideal S1x1024 .f32 :=
  shapeCast _ (Host.reduceAdd (shapeCast _ (Host.reduceAdd (mulf (rNx x) dh) (constant S_ .f32 0x00000000#32)
      reducesTo_S2048x1024_S1024_d0 h_S_) shapeCasts_S1024_S1x1024)
    (constant S_ .f32 0x00000000#32) reducesTo_S1x1024_S1024_d0 h_S_) shapeCasts_S1024_S1x1024
def rDnx (n : FVec Ideal S1024 .f32) (dh : X2) : X2 := mulf dh (rN n)
def rS (x d : X2) : FVec Ideal S2048x1 .f32 :=
  shapeCast _ (Host.reduceAdd (mulf x d) (constant S_ .f32 0x00000000#32) reducesTo_S2048x1024_S2048_d1 h_S_) shapeCasts_S2048_S2048x1
def rQ (x d : X2) : X2 :=
  broadcastInDim S2048x1024 ![0] bcast_S2048_S2048x1024_0
    (Host.reduceAdd (Host.divf (mulf (rS x d)
        (mulf (broadcastInDim S2048x1 ![] bcast_S_S2048x1 (constant S_ .f32 0xBF000000#32)) (Host.divf (rR x) (rMs x))))
      (broadcastInDim S2048x1 ![] bcast_S_S2048x1 (constant S_ .f32 0x44800000#32)))
    (constant S_ .f32 0x00000000#32) reducesTo_S2048x1_S2048_d1 h_S_)
def rDx (x d c : X2) : X2 :=
  addf (addf (addf c (mulf d (broadcastInDim S2048x1024 ![0, 1] bcast_S2048x1_S2048x1024_0_1 (rR x)))) (mulf x (rQ x d)))
    (mulf (rQ x d) x)
/-- The rows of an array of 2816 columns, cut into four blocks of 704. -/
def rRows (j : J2) : FVec Ideal S4x2048x704 .bf16 :=
  truncf .bf16 (transpose S4x2048x704 [1, 0, 2] (shapeCast _ j shapeCasts_S2048x2816_S2048x4x704)
    transposes_S2048x4x704_S4x2048x704_1_0_2) bitsLt_bf16_f32

section
variable {D : Data}

theorem rMs_eq {x : X2} (hx : ∀ (r : Fin 2048) (k : Fin 1024), x (ix2 r k) = ((D.x r k : ℝ) : EReal)) (r : Fin 2048) :
    rMs x (ix2 r 0) = ((D.ms r : ℝ) : EReal) := by
  pointwise [rMs, hx, c1024, cEps]
  simp only [← EReal.coe_mul, coe_sum, zero_add]
  rw [coe_div _ _ (by norm_num), ← EReal.coe_add]
  rfl

theorem rR_eq {x : X2} (hx : ∀ (r : Fin 2048) (k : Fin 1024), x (ix2 r k) = ((D.x r k : ℝ) : EReal)) (r : Fin 2048) :
    rR x (ix2 r 0) = ((D.rr r : ℝ) : EReal) := by
  pointwise [rR, rMs_eq hx]
  exact coe_rsqrt _ (D.ms_pos r)

theorem rNx_eq {x : X2} (hx : ∀ (r : Fin 2048) (k : Fin 1024), x (ix2 r k) = ((D.x r k : ℝ) : EReal)) (r : Fin 2048) (k : Fin 1024) :
    rNx x (ix2 r k) = ((D.nx r k : ℝ) : EReal) := by
  pointwise [rNx, rR_eq hx, hx]
  rw [← EReal.coe_mul]; rfl

theorem rH_eq {x : X2} {n : FVec Ideal S1024 .f32} (hx : ∀ (r : Fin 2048) (k : Fin 1024), x (ix2 r k) = ((D.x r k : ℝ) : EReal))
    (hn : ∀ k : Fin 1024, n (ix1 k) = ((D.n k : ℝ) : EReal)) (r : Fin 2048) (k : Fin 1024) :
    rH x n (ix2 r k) = ((D.h r k : ℝ) : EReal) := by
  pointwise [rH, rN, rNx_eq hx, hn]
  rw [← EReal.coe_mul]; rfl

theorem rDot_eq {h : X2} {w : W2} {H : Fin 2048 → Fin 1024 → ℝ} {W : Fin 1024 → Fin 2816 → ℝ}
    (hh : ∀ (r : Fin 2048) (k : Fin 1024), h (ix2 r k) = ((H r k : ℝ) : EReal))
    (hw : ∀ (k : Fin 1024) (j : Fin 2816), w (ix2 k j) = ((W k j : ℝ) : EReal)) (r : Fin 2048) (j : Fin 2816) :
    rDot h w (ix2 r j) = ((∑ k, H r k * W k j : ℝ) : EReal) := by
  pointwise [rDot, hh, hw]
  simp only [← EReal.coe_mul, coe_sum]

theorem rSig_eq {g : J2} {G : Fin 2048 → Fin 2816 → ℝ}
    (hg : ∀ (r : Fin 2048) (j : Fin 2816), g (ix2 r j) = ((G r j : ℝ) : EReal)) (r : Fin 2048) (j : Fin 2816) :
    rSig g (ix2 r j) = ((sg (G r j) : ℝ) : EReal) := by
  pointwise [rSig, rOne, hg]
  rw [← EReal.coe_neg, Ideal.exp_coe, ← EReal.coe_one, ← EReal.coe_add, coe_div _ _ (one_add_exp _)]
  rfl

theorem rDa_eq {c : X2} {wd : V2} (hc : ∀ (r : Fin 2048) (k : Fin 1024), c (ix2 r k) = ((D.c r k : ℝ) : EReal))
    (hwd : ∀ (j : Fin 2816) (k : Fin 1024), wd (ix2 j k) = ((D.wd j k : ℝ) : EReal)) (r : Fin 2048) (j : Fin 2816) :
    rDa c wd (ix2 r j) = ((D.da r j : ℝ) : EReal) := by
  pointwise [rDa, hc, hwd, cHalf]
  simp only [← EReal.coe_mul, coe_sum]
  rfl

theorem rMid_eq {g u : J2} {G V : Fin 2048 → Fin 2816 → ℝ}
    (hg : ∀ (r : Fin 2048) (j : Fin 2816), g (ix2 r j) = ((G r j : ℝ) : EReal))
    (hu : ∀ (r : Fin 2048) (j : Fin 2816), u (ix2 r j) = ((V r j : ℝ) : EReal)) (r : Fin 2048) (j : Fin 2816) :
    rMid g u (ix2 r j) = ((G r j * sg (G r j) * V r j : ℝ) : EReal) := by
  pointwise [rMid, hg, hu, rSig_eq hg]
  simp only [← EReal.coe_mul]

theorem rDgate_eq {g da u : J2} {G A V : Fin 2048 → Fin 2816 → ℝ}
    (hg : ∀ (r : Fin 2048) (j : Fin 2816), g (ix2 r j) = ((G r j : ℝ) : EReal))
    (ha : ∀ (r : Fin 2048) (j : Fin 2816), da (ix2 r j) = ((A r j : ℝ) : EReal))
    (hu : ∀ (r : Fin 2048) (j : Fin 2816), u (ix2 r j) = ((V r j : ℝ) : EReal)) (r : Fin 2048) (j : Fin 2816) :
    rDgate g da u (ix2 r j)
      = ((A r j * V r j * sg (G r j) + G r j * (A r j * V r j) * (sg (G r j) * (1 - sg (G r j))) : ℝ) : EReal) := by
  pointwise [rDgate, rOne, hg, hu, ha, rSig_eq hg]
  simp only [← EReal.coe_mul, ← EReal.coe_one, ← EReal.coe_sub, ← EReal.coe_add]

theorem rDh_eq {dup dgate : J2} {wg wu : W2}
    (h1 : ∀ (r : Fin 2048) (j : Fin 2816), dup (ix2 r j) = ((D.dup r j : ℝ) : EReal))
    (h2 : ∀ (r : Fin 2048) (j : Fin 2816), dgate (ix2 r j) = ((D.dgate r j : ℝ) : EReal))
    (hwg : ∀ (k : Fin 1024) (j : Fin 2816), wg (ix2 k j) = ((D.wg k j : ℝ) : EReal))
    (hwu : ∀ (k : Fin 1024) (j : Fin 2816), wu (ix2 k j) = ((D.wu k j : ℝ) : EReal)) (r : Fin 2048) (k : Fin 1024) :
    rDh dup dgate wg wu (ix2 r k) = ((D.dh r k : ℝ) : EReal) := by
  pointwise [rDh, rBack, h1, h2, hwg, hwu]
  simp only [← EReal.coe_mul, coe_sum, ← EReal.coe_add]
  rfl

theorem rDn_eq {x dh : X2} (hx : ∀ (r : Fin 2048) (k : Fin 1024), x (ix2 r k) = ((D.x r k : ℝ) : EReal))
    (hd : ∀ (r : Fin 2048) (k : Fin 1024), dh (ix2 r k) = ((D.dh r k : ℝ) : EReal)) (k : Fin 1024) :
    rDn x dh (ix2 0 k) = ((D.dn k : ℝ) : EReal) := by
  pointwise [rDn, rNx_eq hx, hd]
  simp only [← EReal.coe_mul, coe_sum, zero_add, Finset.univ_unique, Finset.sum_singleton]
  rfl

theorem rDx_eq {x c dh : X2} {n : FVec Ideal S1024 .f32}
    (hx : ∀ (r : Fin 2048) (k : Fin 1024), x (ix2 r k) = ((D.x r k : ℝ) : EReal))
    (hn : ∀ k : Fin 1024, n (ix1 k) = ((D.n k : ℝ) : EReal))
    (hc : ∀ (r : Fin 2048) (k : Fin 1024), c (ix2 r k) = ((D.c r k : ℝ) : EReal))
    (hd : ∀ (r : Fin 2048) (k : Fin 1024), dh (ix2 r k) = ((D.dh r k : ℝ) : EReal)) (r : Fin 2048) (k : Fin 1024) :
    rDx x (rDnx n dh) c (ix2 r k) = ((D.dx r k : ℝ) : EReal) := by
  have hq : ∀ (r : Fin 2048) (k : Fin 1024), rDnx n dh (ix2 r k) = ((D.dnx r k : ℝ) : EReal) := fun r k => by
    pointwise [rDnx, rN, hd, hn]
    rw [← EReal.coe_mul]; rfl
  rw [← D.dx_ref r k]
  pointwise [rDx, rQ, rS, rMs_eq hx, rR_eq hx, hx, hc, hq, c1024, cNegHalf]
  simp only [← EReal.coe_mul, coe_sum, zero_add, Finset.univ_unique, Finset.sum_singleton]
  have e1 : rR x (ix2 r default) = ((D.rr r : ℝ) : EReal) := rR_eq hx r
  have e2 : rMs x (ix2 r default) = ((D.ms r : ℝ) : EReal) := rMs_eq hx r
  rw [e1, e2, coe_div _ _ (D.ms_pos r).ne', ← EReal.coe_mul, ← EReal.coe_mul, coe_div _ _ (by norm_num)]
  simp only [← EReal.coe_mul, ← EReal.coe_add]

theorem rRows_eq {j : J2} {V : Fin 2048 → Fin 2816 → ℝ}
    (hj : ∀ (r : Fin 2048) (k : Fin 2816), j (ix2 r k) = ((V r k : ℝ) : EReal)) (s : Fin 4) (r : Fin 2048) (k : Fin 704) :
    rRows j (ix3 s r k) = ((V r ⟨s * 704 + k, by omega⟩ : ℝ) : EReal) := by
  pointwise [rRows, hj]

end

variable (m : (ℓ : Loc nD τ sig) → Buf (Elt Ideal) ℓ) (c : Dev nD)

def aX : X2 := m ((c.tc : Thread nD τ).loc main_arg0)
def aN : FVec Ideal S1024 .f32 := m ((c.tc : Thread nD τ).loc main_arg1)
def aG : W2 := m ((c.tc : Thread nD τ).loc main_arg2)
def aU : W2 := m ((c.tc : Thread nD τ).loc main_arg3)
def aD : V2 := m ((c.tc : Thread nD τ).loc main_arg4)
def aC : X2 := m ((c.tc : Thread nD τ).loc main_arg5)

/-- The cotangent, cast to its own shape. -/
def aC' : X2 := shapeCast _ (aC m c) shapeCasts_S2048x1024_S2048x1024

def tG : J2 := rDot (rH (aX m c) (aN m c)) (aG m c)
def tU : J2 := rDot (rH (aX m c) (aN m c)) (aU m c)
def tDup (ct : X2) : J2 := rMid (tG m c) (rDa ct (aD m c))
def tAct : J2 := rMid (tG m c) (tU m c)
def tDgate (ct : X2) : J2 := rDgate (tG m c) (rDa ct (aD m c)) (tU m c)
def tDh : X2 := rDh (tDup m c (aC' m c)) (tDgate m c (aC' m c)) (aG m c) (aU m c)

theorem res0 : Value.res_main_v54 m c = rDx (aX m c) (rDnx (aN m c) (tDh m c)) (aC m c) := by
  unfold Value.res_main_v54; rfl
theorem res1 : Value.res_main_v81 m c = truncf .bf16 (rDx (aX m c) (rDnx (aN m c) (tDh m c)) (aC m c)) bitsLt_bf16_f32 := by
  unfold Value.res_main_v81; rfl
theorem res2 : Value.res_main_v82 m c = rDn (aX m c) (tDh m c) := by
  unfold Value.res_main_v82; rfl
theorem res3 : Value.res_main_v85 m c = rRows (tDgate m c (aC m c)) := by
  unfold Value.res_main_v85; rfl

variable {D : Data} {m c}
variable (A : Args D (aX m c) (aN m c) (aG m c) (aU m c) (aD m c) (aC m c))
include A

theorem tG_eq : ∀ (r : Fin 2048) (j : Fin 2816), tG m c (ix2 r j) = ((D.G r j : ℝ) : EReal) :=
  rDot_eq (rH_eq A.hx A.hn) A.hwg
theorem tU_eq : ∀ (r : Fin 2048) (j : Fin 2816), tU m c (ix2 r j) = ((D.U r j : ℝ) : EReal) :=
  rDot_eq (rH_eq A.hx A.hn) A.hwu
theorem tAct_eq : ∀ (r : Fin 2048) (j : Fin 2816), tAct m c (ix2 r j) = ((D.act r j : ℝ) : EReal) :=
  rMid_eq (tG_eq A) (tU_eq A)
theorem aC'_eq (r : Fin 2048) (k : Fin 1024) : aC' m c (ix2 r k) = ((D.c r k : ℝ) : EReal) := by
  pointwise [aC', A.hc]
theorem tDup_eq : ∀ (r : Fin 2048) (j : Fin 2816), tDup m c (aC m c) (ix2 r j) = ((D.dup r j : ℝ) : EReal) :=
  rMid_eq (tG_eq A) (rDa_eq A.hc A.hwd)
theorem tDgate_eq : ∀ (r : Fin 2048) (j : Fin 2816), tDgate m c (aC m c) (ix2 r j) = ((D.dgate r j : ℝ) : EReal) :=
  rDgate_eq (tG_eq A) (rDa_eq A.hc A.hwd) (tU_eq A)
theorem tDh_eq : ∀ (r : Fin 2048) (k : Fin 1024), tDh m c (ix2 r k) = ((D.dh r k : ℝ) : EReal) :=
  rDh_eq (rMid_eq (tG_eq A) (rDa_eq (aC'_eq A) A.hwd)) (rDgate_eq (tG_eq A) (rDa_eq (aC'_eq A) A.hwd) (tU_eq A)) A.hwg A.hwu

/-- The input's cotangent. -/
theorem out0 (r : Fin 2048) (k : Fin 1024) : Value.res_main_v54 m c (ix2 r k) = ((D.dx r k : ℝ) : EReal) := by
  rw [res0]; exact rDx_eq A.hx A.hn A.hc (tDh_eq A) r k
theorem out1 (r : Fin 2048) (k : Fin 1024) : Value.res_main_v81 m c (ix2 r k) = ((D.dx r k : ℝ) : EReal) := by
  rw [res1]; exact rDx_eq A.hx A.hn A.hc (tDh_eq A) r k
/-- The scale's cotangent. -/
theorem out2 (k : Fin 1024) : Value.res_main_v82 m c (ix2 0 k) = ((D.dn k : ℝ) : EReal) := by
  rw [res2]; exact rDn_eq A.hx (tDh_eq A) k
/-- The gate product's cotangent, in four blocks. -/
theorem out3 (s : Fin 4) (r : Fin 2048) (k : Fin 704) :
    Value.res_main_v85 m c (ix3 s r k) = ((D.dgate r ⟨s * 704 + k, by omega⟩ : ℝ) : EReal) := by
  rw [res3]; exact rRows_eq (tDgate_eq A) s r k
/-- The up product's cotangent, in four blocks. -/
theorem out4 (s : Fin 4) (r : Fin 2048) (k : Fin 704) :
    rRows (tDup m c (aC m c)) (ix3 s r k) = ((D.dup r ⟨s * 704 + k, by omega⟩ : ℝ) : EReal) :=
  rRows_eq (tDup_eq A) s r k
/-- The activation, in four blocks. -/
theorem out5 (s : Fin 4) (r : Fin 2048) (k : Fin 704) :
    rRows (tAct m c) (ix3 s r k) = ((D.act r ⟨s * 704 + k, by omega⟩ : ℝ) : EReal) :=
  rRows_eq (tAct_eq A) s r k

end Cert.ReferenceIdeal.Hand

end
-- ==== Proof.KBlocks.lean ====
/-
  The blocks the kernel's windows stage, read over the reals.
-/
module

public import proofs.«01_k».proof.Proof.Run
public import proofs.«01_k».proof.Proof.Pay
public import proofs.«01_k».proof.Proof.Ref
public import Idealize.ShloMosaic.Lib.Pipeline.ValueKit
public import Idealize.ShloMosaic.Lib.Claim

@[expose] public section

set_option maxRecDepth 16384

noncomputable section

namespace Cert.KernelIdeal.Hand

open Cert.KernelIdeal.Gen
open Idealize.ShloMosaic Idealize.ShloMosaic.TcCoe Cert.Spec
open Idealize.ShloMosaic.Pipeline (Dat)
open Cert.ReferenceIdeal.Hand (rRows rDot rH rRows_eq rDot_eq rH_eq)

variable (m : (ℓ : Loc nD τ sig) → Buf (Elt Ideal) ℓ) (c : Dev nD)

def kX : FVec Ideal S2048x1024 .f32 := m ((c.tc : Thread nD τ).loc main_arg0)
def kN : FVec Ideal S1024 .f32 := m ((c.tc : Thread nD τ).loc main_arg1)
def kG : FVec Ideal S1024x2816 .f32 := m ((c.tc : Thread nD τ).loc main_arg2)
def kU : FVec Ideal S1024x2816 .f32 := m ((c.tc : Thread nD τ).loc main_arg3)
def kD : FVec Ideal S2816x1024 .f32 := m ((c.tc : Thread nD τ).loc main_arg4)
def kC : FVec Ideal S2048x1024 .f32 := m ((c.tc : Thread nD τ).loc main_arg5)

/-- A weight of 2816 rows, cut into four blocks of 704. -/
def shards (w : FVec Ideal S2816x1024 .f32) : FVec Ideal S4x704x1024 .bf16 :=
  truncf .bf16 (shapeCast _ w shapeCasts_S2816x1024_S4x704x1024) bitsLt_bf16_f32

theorem V15 : V m c main_v15 = truncf .bf16 (kC m c) bitsLt_bf16_f32 := by entry_read; rfl
theorem V16 : V m c main_v16 = shapeCast S1x1024 (kN m c) shapeCasts_S1024_S1x1024 := by entry_read; rfl
theorem V19 : V m c main_v19 = rRows (rDot (rH (kX m c) (kN m c)) (kG m c)) := by entry_read; rfl
theorem V22 : V m c main_v22 = rRows (rDot (rH (kX m c) (kN m c)) (kU m c)) := by entry_read; rfl
theorem V25 : V m c main_v25 = shards (transpose S2816x1024 [1, 0] (kG m c) transposes_S1024x2816_S2816x1024_1_0) := by entry_read; rfl
theorem V28 : V m c main_v28 = shards (transpose S2816x1024 [1, 0] (kU m c) transposes_S1024x2816_S2816x1024_1_0) := by entry_read; rfl
theorem V30 : V m c main_v30 = shards (kD m c) := by entry_read; rfl

theorem idx : ∀ t : Fin cfg0.N, (12 ≤ t.val → win0_0.index t = ![t.val % 4, 0] ∧ win0_2.index t = ![t.val % 4, 0])
    ∧ win0_1.index t = ![t.val % 4, 0] ∧ win0_3.index t = ![0, 0]
    ∧ win0_4.index t = ![t.val / 4, t.val % 4, 0] ∧ win0_5.index t = ![t.val / 4, t.val % 4, 0]
    ∧ win0_6.index t = ![t.val / 4, 0, 0] ∧ win0_7.index t = ![t.val / 4, 0, 0] ∧ win0_8.index t = ![t.val / 4, 0, 0] :=
  (by decide +kernel : ∀ t : Fin grid0.N, _)

/-- The shard of a grid point, and its row tile. -/
def sh (t : Fin cfg0.N) : Fin 4 := ⟨t.val / 4, by have := N16 t; omega⟩
def pt (t : Fin cfg0.N) : Fin 4 := ⟨t.val % 4, by omega⟩
/-- Column `j` of shard `s`. -/
def col (s : Fin 4) (j : Fin 704) : Fin 2816 := ⟨s.val * 704 + j.val, by omega⟩

theorem b1 (t : Fin cfg0.N) (r : Fin 512) (k : Fin 1024) :
    (show FVec Ideal S512x1024 .bf16 from iblk m c 1 t) (ix2 r k) = (show FVec Ideal S2048x1024 .bf16 from V m c main_v15) (ix2 (row (pt t) r) k) := by
  blk_ext [iblk, idx t]
  all_goals (simp only [row, pt]; omega)
theorem b0 (t : Fin cfg0.N) (h : 12 ≤ t.val) (r : Fin 512) (k : Fin 1024) :
    (show FVec Ideal S512x1024 .f32 from iblk m c 0 t) (ix2 r k) = (show FVec Ideal S2048x1024 .f32 from V m c main_arg5) (ix2 (row (pt t) r) k) := by
  blk_ext [iblk, (idx t).1 h]
  all_goals (simp only [row, pt]; omega)
theorem b2 (t : Fin cfg0.N) (h : 12 ≤ t.val) (r : Fin 512) (k : Fin 1024) :
    (show FVec Ideal S512x1024 .f32 from iblk m c 2 t) (ix2 r k) = (show FVec Ideal S2048x1024 .f32 from V m c main_arg0) (ix2 (row (pt t) r) k) := by
  blk_ext [iblk, (idx t).1 h]
  all_goals (simp only [row, pt]; omega)
theorem b3 (t : Fin cfg0.N) (k : Fin 1024) :
    (show FVec Ideal S1x1024 .f32 from iblk m c 3 t) (ix2 0 k) = (show FVec Ideal S1x1024 .f32 from V m c main_v16) (ix2 0 k) := by
  blk_ext [iblk, idx t]
theorem b4 (t : Fin cfg0.N) (r : Fin 512) (j : Fin 704) :
    (show FVec Ideal S1x512x704 .bf16 from iblk m c 4 t) (ix3 0 r j) = (show FVec Ideal S4x2048x704 .bf16 from V m c main_v19) (ix3 (sh t) (row (pt t) r) j) := by
  blk_ext [iblk, idx t]
  all_goals (simp only [row, pt, sh]; omega)
theorem b5 (t : Fin cfg0.N) (r : Fin 512) (j : Fin 704) :
    (show FVec Ideal S1x512x704 .bf16 from iblk m c 5 t) (ix3 0 r j) = (show FVec Ideal S4x2048x704 .bf16 from V m c main_v22) (ix3 (sh t) (row (pt t) r) j) := by
  blk_ext [iblk, idx t]
  all_goals (simp only [row, pt, sh]; omega)
theorem b6 (t : Fin cfg0.N) (j : Fin 704) (k : Fin 1024) :
    (show FVec Ideal S1x704x1024 .bf16 from iblk m c 6 t) (ix3 0 j k) = (show FVec Ideal S4x704x1024 .bf16 from V m c main_v25) (ix3 (sh t) j k) := by
  blk_ext [iblk, idx t]
  all_goals (simp only [sh]; omega)
theorem b7 (t : Fin cfg0.N) (j : Fin 704) (k : Fin 1024) :
    (show FVec Ideal S1x704x1024 .bf16 from iblk m c 7 t) (ix3 0 j k) = (show FVec Ideal S4x704x1024 .bf16 from V m c main_v28) (ix3 (sh t) j k) := by
  blk_ext [iblk, idx t]
  all_goals (simp only [sh]; omega)
theorem b8 (t : Fin cfg0.N) (j : Fin 704) (k : Fin 1024) :
    (show FVec Ideal S1x704x1024 .bf16 from iblk m c 8 t) (ix3 0 j k) = (show FVec Ideal S4x704x1024 .bf16 from V m c main_v30) (ix3 (sh t) j k) := by
  blk_ext [iblk, idx t]
  all_goals (simp only [sh]; omega)

variable {m c} {D : Data} (A : Args D (kX m c) (kN m c) (kG m c) (kU m c) (kD m c) (kC m c))
include A

theorem B0 (t : Fin cfg0.N) (h : 12 ≤ t.val) (r : Fin 512) (k : Fin 1024) :
    (show FVec Ideal S512x1024 .f32 from iblk m c 0 t) (ix2 r k) = ((D.c (row (pt t) r) k : ℝ) : EReal) := by
  rw [b0 m c t h, V_main_arg5]; exact A.hc _ _
theorem B1 (t : Fin cfg0.N) (r : Fin 512) (k : Fin 1024) :
    (show FVec Ideal S512x1024 .bf16 from iblk m c 1 t) (ix2 r k) = ((D.c (row (pt t) r) k : ℝ) : EReal) := by
  rw [b1, V15]; exact A.hc _ _
theorem B2 (t : Fin cfg0.N) (h : 12 ≤ t.val) (r : Fin 512) (k : Fin 1024) :
    (show FVec Ideal S512x1024 .f32 from iblk m c 2 t) (ix2 r k) = ((D.x (row (pt t) r) k : ℝ) : EReal) := by
  rw [b2 m c t h, V_main_arg0]; exact A.hx _ _
theorem B3 (t : Fin cfg0.N) (k : Fin 1024) :
    (show FVec Ideal S1x1024 .f32 from iblk m c 3 t) (ix2 0 k) = ((D.n k : ℝ) : EReal) := by
  rw [b3, V16]
  have : shapeCast S1x1024 (kN m c) shapeCasts_S1024_S1x1024 (ix2 0 k) = kN m c (ix1 k) := by pointwise
  exact this.trans (A.hn k)
theorem B4 (t : Fin cfg0.N) (r : Fin 512) (j : Fin 704) :
    (show FVec Ideal S1x512x704 .bf16 from iblk m c 4 t) (ix3 0 r j) = ((D.G (row (pt t) r) (col (sh t) j) : ℝ) : EReal) := by
  rw [b4, V19]; exact rRows_eq (rDot_eq (rH_eq A.hx A.hn) A.hwg) _ _ _
theorem B5 (t : Fin cfg0.N) (r : Fin 512) (j : Fin 704) :
    (show FVec Ideal S1x512x704 .bf16 from iblk m c 5 t) (ix3 0 r j) = ((D.U (row (pt t) r) (col (sh t) j) : ℝ) : EReal) := by
  rw [b5, V22]; exact rRows_eq (rDot_eq (rH_eq A.hx A.hn) A.hwu) _ _ _

omit A in
theorem shards_at (w : FVec Ideal S2816x1024 .f32) (s : Fin 4) (j : Fin 704) (k : Fin 1024) : shards w (ix3 s j k) = w (ix2 (col s j) k) := by
  pointwise [shards]
  rfl
omit A in
theorem shardsT_at (w : FVec Ideal S1024x2816 .f32) (s : Fin 4) (j : Fin 704) (k : Fin 1024) :
    shards (transpose S2816x1024 [1, 0] w transposes_S1024x2816_S2816x1024_1_0) (ix3 s j k) = w (ix2 k (col s j)) := by
  rw [shards_at]; pointwise
theorem B6 (t : Fin cfg0.N) (j : Fin 704) (k : Fin 1024) :
    (show FVec Ideal S1x704x1024 .bf16 from iblk m c 6 t) (ix3 0 j k) = ((D.wg k (col (sh t) j) : ℝ) : EReal) := by
  rw [b6, V25]; exact (shardsT_at _ _ _ _).trans (A.hwg _ _)
theorem B7 (t : Fin cfg0.N) (j : Fin 704) (k : Fin 1024) :
    (show FVec Ideal S1x704x1024 .bf16 from iblk m c 7 t) (ix3 0 j k) = ((D.wu k (col (sh t) j) : ℝ) : EReal) := by
  rw [b7, V28]; exact (shardsT_at _ _ _ _).trans (A.hwu _ _)
theorem B8 (t : Fin cfg0.N) (j : Fin 704) (k : Fin 1024) :
    (show FVec Ideal S1x704x1024 .bf16 from iblk m c 8 t) (ix3 0 j k) = ((D.wd (col (sh t) j) k : ℝ) : EReal) := by
  rw [b8, V30]; exact (shards_at _ _ _ _).trans (A.hwd _ _)

end Cert.KernelIdeal.Hand

end
-- ==== Proof.KValue.lean ====
/-
  What the kernel's result arrays hold after the run, over the reals.
-/
module

public import proofs.«01_k».proof.Proof.KBlocks

@[expose] public section

set_option maxRecDepth 16384

noncomputable section

namespace Cert.KernelIdeal.Hand

open Cert.KernelIdeal.Gen
open Idealize.ShloMosaic Idealize.ShloMosaic.TcCoe Cert.Spec
open Idealize.ShloMosaic.Pipeline (Dat)

section real
variable (D : Data)

theorem la_eq (r : Fin 2048) (j : Fin 2816) : la (D.c r) (fun k => D.wd j k) = D.da r j := by
  unfold la Data.da
  rw [Finset.sum_mul]
  exact Finset.sum_congr rfl fun k _ => by ring
theorem lu_eq (r : Fin 2048) (j : Fin 2816) : lu (D.da r j) (D.G r j) = D.dup r j := by
  unfold lu Data.dup; ring
theorem lg_eq (r : Fin 2048) (j : Fin 2816) : lg (D.da r j) (D.G r j) (D.U r j) = D.dgate r j := by
  unfold lg Data.dgate; ring

/-- What shard `s` adds to the cotangent of the normalised row. -/
def share (s : Fin 4) (r : Fin 2048) (k : Fin 1024) : ℝ :=
  part (D.c r) (fun j => D.G r (col s j)) (fun j => D.U r (col s j)) (fun j k => D.wg k (col s j)) (fun j k => D.wu k (col s j))
    (fun j k => D.wd (col s j) k) k

theorem share_eq (s : Fin 4) (r : Fin 2048) (k : Fin 1024) :
    share D s r k = (∑ j, D.dgate r (col s j) * D.wg k (col s j)) + ∑ j, D.dup r (col s j) * D.wu k (col s j) := by
  unfold share part
  simp only [la_eq, lu_eq, lg_eq]

theorem sum_share (r : Fin 2048) (k : Fin 1024) : ∑ s, share D s r k = D.dh r k := by
  simp only [share_eq]
  rw [Finset.sum_add_distrib, Data.dh, add_comm]
  refine congrArg₂ (· + ·) ?_ ?_
  · exact (Fin.sum_univ_tiles 4 704 rfl fun j : Fin 2816 => D.dup r j * D.wu k j).symm
  · exact (Fin.sum_univ_tiles 4 704 rfl fun j : Fin 2816 => D.dgate r j * D.wg k j).symm

/-- What the scratch holds of row `r` after `n` points. -/
def upto (n : ℕ) (r : Fin 2048) (k : Fin 1024) : ℝ := ∑ s : Fin 4, if 4 * s.val + r.val / 512 < n then share D s r k else 0

theorem upto_in (t : ℕ) (s : Fin 4) (hs : s.val = t / 4) (r : Fin 2048) (hr : r.val / 512 = t % 4) (k : Fin 1024) :
    upto D (t + 1) r k = share D s r k + (if s.val = 0 then 0 else upto D t r k) := by
  have e : ∀ s' : Fin 4, (if 4 * s'.val + r.val / 512 < t + 1 then share D s' r k else 0)
      = (if s = s' then share D s' r k else 0) + (if 4 * s'.val + r.val / 512 < t then share D s' r k else 0) := by
    intro s'
    by_cases h : s = s'
    · subst h
      rw [if_pos (by omega), if_pos rfl, if_neg (by omega), add_zero]
    · have h' : s.val ≠ s'.val := fun hh => h (Fin.ext hh)
      rw [if_neg h, zero_add]
      by_cases h2 : 4 * s'.val + r.val / 512 < t
      · rw [if_pos h2, if_pos (by omega)]
      · rw [if_neg h2, if_neg (by omega)]
  unfold upto
  rw [Finset.sum_congr rfl fun s' _ => e s', Finset.sum_add_distrib, Finset.sum_ite_eq, if_pos (Finset.mem_univ _)]
  congr 1
  by_cases h0 : s.val = 0
  · rw [if_pos h0]
    exact Finset.sum_eq_zero fun s' _ => if_neg (by omega)
  · rw [if_neg h0]

theorem upto_out (t : ℕ) (r : Fin 2048) (hr : r.val / 512 ≠ t % 4) (k : Fin 1024) : upto D (t + 1) r k = upto D t r k := by
  unfold upto
  refine Finset.sum_congr rfl fun s _ => ?_
  by_cases h2 : 4 * s.val + r.val / 512 < t
  · rw [if_pos h2, if_pos (by omega)]
  · rw [if_neg h2, if_neg (by omega)]

theorem upto_all (n : ℕ) (r : Fin 2048) (k : Fin 1024) (h : 12 + r.val / 512 < n) : upto D n r k = D.dh r k := by
  rw [← sum_share]
  exact Finset.sum_congr rfl fun s _ => if_pos (by omega)

/-- The scale's cotangent, the first `n` row tiles of it. -/
def dnUpto (n : ℕ) (k : Fin 1024) : ℝ := ∑ p : Fin 4, if p.val < n then ∑ r, D.nx (row p r) k * D.dh (row p r) k else 0

theorem dnUpto_succ (p : Fin 4) (k : Fin 1024) :
    dnUpto D (p.val + 1) k = dnUpto D p.val k + ∑ r, D.nx (row p r) k * D.dh (row p r) k := by
  have e : ∀ q : Fin 4, (if q.val < p.val + 1 then ∑ r, D.nx (row q r) k * D.dh (row q r) k else 0)
      = (if q.val < p.val then ∑ r, D.nx (row q r) k * D.dh (row q r) k else 0)
        + (if p = q then ∑ r, D.nx (row q r) k * D.dh (row q r) k else 0) := by
    intro q
    by_cases h : p = q
    · subst h
      rw [if_pos (by omega), if_pos rfl, if_neg (by omega), zero_add]
    · have h' : p.val ≠ q.val := fun hh => h (Fin.ext hh)
      rw [if_neg h, add_zero]
      by_cases h2 : q.val < p.val
      · rw [if_pos h2, if_pos (by omega)]
      · rw [if_neg h2, if_neg (by omega)]
  unfold dnUpto
  rw [Finset.sum_congr rfl fun q _ => e q, Finset.sum_add_distrib, Finset.sum_ite_eq, if_pos (Finset.mem_univ _)]

theorem dnUpto_zero (k : Fin 1024) : dnUpto D 0 k = 0 := Finset.sum_eq_zero fun p _ => if_neg (by omega)
theorem dnUpto_all (k : Fin 1024) : dnUpto D 4 k = D.dn k := by
  unfold dnUpto Data.dn
  rw [Fin.sum_univ_tiles 4 512 rfl fun r : Fin 2048 => D.nx r k * D.dh r k]
  refine Finset.sum_congr rfl fun p _ => ?_
  rw [if_pos p.isLt]
  refine Finset.sum_congr rfl fun r _ => ?_
  rw [show row p r = ⟨p.val * 512 + r.val, by omega⟩ from Fin.ext (by show 512 * p.val + r.val = p.val * 512 + r.val; omega)]

end real

variable (m : (ℓ : Loc nD τ sig) → Buf (Elt Ideal) ℓ) (c : Dev nD)
variable {m c} {D : Data} (A : Args D (kX m c) (kN m c) (kG m c) (kU m c) (kD m c) (kC m c))
include A

theorem scr_eq (n : ℕ) (hn : n ≤ 16) (r : Fin 2048) (k : Fin 1024) :
    (show FVec Ideal S2048x1024 .f32 from scr m c n zeroX) (ix2 r k) = ((upto D n r k : ℝ) : EReal) := by
  induction n generalizing r k with
  | zero =>
    have e : upto D 0 r k = 0 := Finset.sum_eq_zero fun s _ => if_neg (by omega)
    rw [e]
    exact Ideal.ofBits_zero_f32
  | succ n ih =>
    have ht : n < cfg0.N := lt_of_lt_of_eq (by omega : n < 16) (show cfg0.N = 16 from N_0).symm
    rw [show n + 1 = (⟨n, ht⟩ : Fin cfg0.N).val + 1 from rfl, scr_succ]
    have e0 := coord0 ⟨n, ht⟩; have e1 := coord1 ⟨n, ht⟩
    dsimp only at e0 e1
    by_cases hr : r.val / 512 = n % 4
    · rw [show (⟨n, ht⟩ : Fin cfg0.N).val = n from rfl, upto_in D n (sh ⟨n, ht⟩) rfl r hr k]
      have er : r = row (pt ⟨n, ht⟩) ⟨r.val - 512 * (n % 4), by omega⟩ := Fin.ext (by
        show r.val = 512 * (n % 4) + (r.val - 512 * (n % 4)); omega)
      have h := sumX_in (grid0.coords ⟨n, ht⟩) (sh ⟨n, ht⟩) (pt ⟨n, ht⟩) e0.symm e1.symm (scr m c n zeroX)
        (fun r k => upto D n (row (pt ⟨n, ht⟩) r) k) (B1 A ⟨n, ht⟩) (B4 A ⟨n, ht⟩) (B5 A ⟨n, ht⟩) (B6 A ⟨n, ht⟩) (B7 A ⟨n, ht⟩) (B8 A ⟨n, ht⟩)
        (fun r k _ => ih (by omega) (row (pt ⟨n, ht⟩) r) k) ⟨r.val - 512 * (n % 4), by omega⟩ k
      have h' := h
      rw [show (⟨512 * (pt ⟨n, ht⟩).val + (⟨r.val - 512 * (n % 4), by omega⟩ : Fin 512).val, by
        have := (pt ⟨n, ht⟩).isLt; show 512 * (pt ⟨n, ht⟩).val + (r.val - 512 * (n % 4)) < 2048; omega⟩ : Fin 2048) = r from er.symm] at h'
      dsimp only at h'
      rw [← er] at h'
      exact h'
    · rw [show (⟨n, ht⟩ : Fin cfg0.N).val = n from rfl, upto_out D n r hr k, ← ih (by omega) r k]
      exact sumX_out (grid0.coords ⟨n, ht⟩) (pt ⟨n, ht⟩) e1.symm _ r k hr

/-- The row tile the last pass reads is the finished cotangent of the normalised row. -/
theorem tile_at (t : Fin cfg0.N) (h : 12 ≤ t.val) (r : Fin 512) (k : Fin 1024) :
    (show FVec Ideal S512x1024 .f32 from tile m c t) (ix2 r k) = ((D.dh (row (pt t) r) k : ℝ) : EReal) := by
  have h2 := (cond2_iff t).mpr h
  have hN := N16 t
  unfold tile
  rw [dif_pos h2]
  have e := scr_eq A (t.val + 1) (by omega) (row (pt t) r) k
  rw [upto_all D _ _ _ (by show 12 + (512 * (t.val % 4) + r.val) / 512 < t.val + 1; omega)] at e
  rw [← e]
  refine congrArg (scr m c (t.val + 1) zeroX) (funext fun a => Fin.ext ?_)
  have ho := off2_eq (grid0.coords t)
  have h0 : k0_off2 (grid0.coords t) 0 = 512 * (t.val % 4) := (congrFun ho 0).trans (congrArg (512 * ·) (coord1 t))
  have h1 : k0_off2 (grid0.coords t) 1 = 0 := congrFun ho 1
  fin_cases a
  · show k0_off2 (grid0.coords t) 0 + 1 * r.val = 512 * (t.val % 4) + r.val; omega
  · show k0_off2 (grid0.coords t) 1 + 1 * k.val = k.val; omega

theorem dgn_at (p : ℕ) (hp : p ≤ 4) (k : Fin 1024) :
    (show FVec Ideal S1x1024 .f32 from dgn m c (12 + p)) (ix2 0 k) = ((dnUpto D p k : ℝ) : EReal) := by
  induction p generalizing k with
  | zero =>
    rw [dnUpto_zero]
    have e : ∀ n ≤ 12, dgn m c n = (k0_pay3 (F := Ideal) : FVec Ideal S1x1024 .f32) := by
      intro n
      induction n with
      | zero => intro _; rfl
      | succ n ih => intro hn; rw [dgn_early m c n (by omega), ih (by omega)]
    rw [e 12 (by omega)]
    exact Ideal.ofBits_zero_f32
  | succ p ih =>
    have ht : 12 + p < cfg0.N := lt_of_lt_of_eq (by omega : 12 + p < 16) (show cfg0.N = 16 from N_0).symm
    have hq : pt ⟨12 + p, ht⟩ = ⟨p, by omega⟩ := Fin.ext (by show (12 + p) % 4 = p; omega)
    rw [show 12 + (p + 1) = (⟨12 + p, ht⟩ : Fin cfg0.N).val + 1 from rfl, dgn_late m c ⟨12 + p, ht⟩ (by show 12 ≤ 12 + p; omega)]
    rw [show p + 1 = (⟨p, by omega⟩ : Fin 4).val + 1 from rfl, dnUpto_succ, ← hq]
    have h12 : 12 ≤ (⟨12 + p, ht⟩ : Fin cfg0.N).val := by show 12 ≤ 12 + p; omega
    have := pay8_eq D (pt ⟨12 + p, ht⟩) (B2 A ⟨12 + p, ht⟩ h12) (tile_at A ⟨12 + p, ht⟩ h12) (dgn m c (12 + p)) (dnUpto D p) (ih (by omega)) k
    rw [hq] at this ⊢
    exact this

/-! ## The result arrays -/

omit A in
/-- Where each result's window lies at a grid point. -/
theorem oidx (t : Fin cfg0.N) : (12 ≤ t.val → win0_9.index t = ![t.val % 4, 0] ∧ win0_10.index t = ![t.val % 4, 0])
    ∧ win0_11.index t = ![0, 0] ∧ win0_12.index t = ![t.val / 4, t.val % 4, 0] ∧ win0_13.index t = ![t.val / 4, t.val % 4, 0]
    ∧ win0_14.index t = ![t.val / 4, t.val % 4, 0] :=
  (by decide +kernel : ∀ t : Fin grid0.N, (12 ≤ t.val → win0_9.index t = ![t.val % 4, 0] ∧ win0_10.index t = ![t.val % 4, 0])
    ∧ win0_11.index t = ![0, 0] ∧ win0_12.index t = ![t.val / 4, t.val % 4, 0] ∧ win0_13.index t = ![t.val / 4, t.val % 4, 0]
    ∧ win0_14.index t = ![t.val / 4, t.val % 4, 0]) t

omit A in
theorem emb9 (t : Fin cfg0.N) (h : 12 ≤ t.val) (r : Fin 512) (k : Fin 1024) :
    (win0_9.blk t).view.emb (ix2 r k) = (ix2 (row (pt t) r) k : S2048x1024.Idx) := by
  blk_ext [((oidx t).1 h).1]
  all_goals (simp only [row, pt]; omega)
theorem blk9 (t : Fin cfg0.N) (h : 12 ≤ t.val) (r : Fin 512) (k : Fin 1024) :
    k0_pay6 (F := Ideal) (iblk m c 2 t) (iblk m c 3 t) (tile m c t) (iblk m c 0 t) (ix2 r k)
      = ((D.dx ((win0_9.blk t).view.emb (ix2 r k) 0) ((win0_9.blk t).view.emb (ix2 r k) 1) : ℝ) : EReal) := by
  rw [emb9 t h r k]
  exact pay6_eq D (pt t) (B2 A t h) (tile_at A t h) (B0 A t h) (B3 A t) r k
theorem at9 (t : Fin cfg0.N) (h : 12 ≤ t.val) (y : S512x1024.Idx) :
    k0_pay6 (F := Ideal) (iblk m c 2 t) (iblk m c 3 t) (tile m c t) (iblk m c 0 t) y
      = ((D.dx ((win0_9.blk t).view.emb y 0) ((win0_9.blk t).view.emb y 1) : ℝ) : EReal) := by
  rw [eq_ix2 (n0 := 512) (n1 := 1024) y]
  exact blk9 A t h (y 0) (y 1)
theorem final9 : (dats m 0 c).arrAt 9 cfg0.N = (fun z : S2048x1024.Idx => ((D.dx (z 0) (z 1) : ℝ) : EReal)) := by
  refine (dats m 0 c).arrAt_eq_of_covers 9 _ (by decide +kernel) fun t hf y => ?_
  have h := (flush9 t).mp hf
  blk_simp
  rw [after9]
  exact at9 A t h y

omit A in
theorem emb10 (t : Fin cfg0.N) (h : 12 ≤ t.val) (r : Fin 512) (k : Fin 1024) :
    (win0_10.blk t).view.emb (ix2 r k) = (ix2 (row (pt t) r) k : S2048x1024.Idx) := by
  blk_ext [((oidx t).1 h).2]
  all_goals (simp only [row, pt]; omega)
theorem blk10 (t : Fin cfg0.N) (h : 12 ≤ t.val) (r : Fin 512) (k : Fin 1024) :
    k0_pay6 (F := Ideal) (iblk m c 2 t) (iblk m c 3 t) (tile m c t) (iblk m c 0 t) (ix2 r k)
      = ((D.dx ((win0_10.blk t).view.emb (ix2 r k) 0) ((win0_10.blk t).view.emb (ix2 r k) 1) : ℝ) : EReal) := by
  rw [emb10 t h r k]
  exact pay6_eq D (pt t) (B2 A t h) (tile_at A t h) (B0 A t h) (B3 A t) r k
theorem at10 (t : Fin cfg0.N) (h : 12 ≤ t.val) (y : S512x1024.Idx) :
    k0_pay6 (F := Ideal) (iblk m c 2 t) (iblk m c 3 t) (tile m c t) (iblk m c 0 t) y
      = ((D.dx ((win0_10.blk t).view.emb y 0) ((win0_10.blk t).view.emb y 1) : ℝ) : EReal) := by
  rw [eq_ix2 (n0 := 512) (n1 := 1024) y]
  exact blk10 A t h (y 0) (y 1)
theorem final10 : (dats m 0 c).arrAt 10 cfg0.N = (fun z : S2048x1024.Idx => ((D.dx (z 0) (z 1) : ℝ) : EReal)) := by
  refine (dats m 0 c).arrAt_eq_of_covers 10 _ (by decide +kernel) fun t hf y => ?_
  have h := (flush10 t).mp hf
  blk_simp
  rw [after10]
  exact at10 A t h y

theorem final11 : (dats m 0 c).arrAt 11 cfg0.N = (fun z : S1x1024.Idx => ((D.dn (z 1) : ℝ) : EReal)) := by
  refine (dats m 0 c).arrAt_eq_of_covers 11 _ (by decide +kernel) fun t hf y => ?_
  have h := (flush0_11 t).mp hf
  have hN := N16 t
  blk_simp
  rw [after11]
  obtain ⟨k, rfl⟩ : ∃ (k : Fin 1024), y = (ix2 0 k : S1x1024.Idx) := ⟨y 1, by
    rw [eq_ix2 (n0 := 1) (n1 := 1024) y]; congr 1; exact Subsingleton.elim (α := Fin 1) _ _⟩
  rw [show t.val + 1 = 12 + 4 by omega]
  refine (dgn_at A 4 (by omega) k).trans ?_
  rw [dnUpto_all]
  have e : (win0_11.blk t).view.emb (ix2 0 k) = (ix2 0 k : S1x1024.Idx) := by
    blk_ext [(oidx t).2.1]
  exact congrArg (fun z : S1x1024.Idx => ((D.dn (z 1) : ℝ) : EReal)) e.symm

omit A in
theorem emb12 (t : Fin cfg0.N) (r : Fin 512) (j : Fin 704) :
    (win0_12.blk t).view.emb (ix3 0 r j) = (ix3 (sh t) (row (pt t) r) j : S4x2048x704.Idx) := by
  blk_ext [(oidx t).2.2.1]
  all_goals (simp only [row, pt, sh]; omega)
theorem blk12 (t : Fin cfg0.N) (a : Fin 1) (r : Fin 512) (j : Fin 704) :
    dgateV (F := Ideal) (iblk m c 1 t) (iblk m c 4 t) (iblk m c 5 t) (iblk m c 8 t) (ix3 a r j)
      = ((D.dgate ((win0_12.blk t).view.emb (ix3 a r j) 1) (col ((win0_12.blk t).view.emb (ix3 a r j) 0) ((win0_12.blk t).view.emb (ix3 a r j) 2)) : ℝ) : EReal) := by
  obtain rfl : a = 0 := Subsingleton.elim _ _
  rw [emb12 t r j]
  show _ = ((D.dgate (row (pt t) r) (col (sh t) j) : ℝ) : EReal)
  rw [← lg_eq, ← la_eq]
  exact dgateV_eq (B1 A t) (B4 A t) (B5 A t) (B8 A t) r j
theorem at12 (t : Fin cfg0.N) (y : S1x512x704.Idx) :
    dgateV (F := Ideal) (iblk m c 1 t) (iblk m c 4 t) (iblk m c 5 t) (iblk m c 8 t) y
      = ((D.dgate ((win0_12.blk t).view.emb y 1) (col ((win0_12.blk t).view.emb y 0) ((win0_12.blk t).view.emb y 2)) : ℝ) : EReal) := by
  rw [eq_ix3 (n0 := 1) (n1 := 512) (n2 := 704) y]
  exact blk12 A t (y 0) (y 1) (y 2)
theorem final12 : (dats m 0 c).arrAt 12 cfg0.N = (fun z : S4x2048x704.Idx => ((D.dgate (z 1) (col (z 0) (z 2)) : ℝ) : EReal)) := by
  refine (dats m 0 c).arrAt_eq_of_covers 12 _ (by decide +kernel) fun t hf y => ?_
  blk_simp
  rw [after12]
  exact at12 A t y

omit A in
theorem emb13 (t : Fin cfg0.N) (r : Fin 512) (j : Fin 704) :
    (win0_13.blk t).view.emb (ix3 0 r j) = (ix3 (sh t) (row (pt t) r) j : S4x2048x704.Idx) := by
  blk_ext [(oidx t).2.2.2.1]
  all_goals (simp only [row, pt, sh]; omega)
theorem blk13 (t : Fin cfg0.N) (a : Fin 1) (r : Fin 512) (j : Fin 704) :
    dupV (F := Ideal) (iblk m c 1 t) (iblk m c 4 t) (iblk m c 8 t) (ix3 a r j)
      = ((D.dup ((win0_13.blk t).view.emb (ix3 a r j) 1) (col ((win0_13.blk t).view.emb (ix3 a r j) 0) ((win0_13.blk t).view.emb (ix3 a r j) 2)) : ℝ) : EReal) := by
  obtain rfl : a = 0 := Subsingleton.elim _ _
  rw [emb13 t r j]
  show _ = ((D.dup (row (pt t) r) (col (sh t) j) : ℝ) : EReal)
  rw [← lu_eq, ← la_eq]
  exact dupV_eq (B1 A t) (B4 A t) (B8 A t) r j
theorem at13 (t : Fin cfg0.N) (y : S1x512x704.Idx) :
    dupV (F := Ideal) (iblk m c 1 t) (iblk m c 4 t) (iblk m c 8 t) y
      = ((D.dup ((win0_13.blk t).view.emb y 1) (col ((win0_13.blk t).view.emb y 0) ((win0_13.blk t).view.emb y 2)) : ℝ) : EReal) := by
  rw [eq_ix3 (n0 := 1) (n1 := 512) (n2 := 704) y]
  exact blk13 A t (y 0) (y 1) (y 2)
theorem final13 : (dats m 0 c).arrAt 13 cfg0.N = (fun z : S4x2048x704.Idx => ((D.dup (z 1) (col (z 0) (z 2)) : ℝ) : EReal)) := by
  refine (dats m 0 c).arrAt_eq_of_covers 13 _ (by decide +kernel) fun t hf y => ?_
  blk_simp
  rw [after13]
  exact at13 A t y

omit A in
theorem emb14 (t : Fin cfg0.N) (r : Fin 512) (j : Fin 704) :
    (win0_14.blk t).view.emb (ix3 0 r j) = (ix3 (sh t) (row (pt t) r) j : S4x2048x704.Idx) := by
  blk_ext [(oidx t).2.2.2.2]
  all_goals (simp only [row, pt, sh]; omega)
theorem blk14 (t : Fin cfg0.N) (a : Fin 1) (r : Fin 512) (j : Fin 704) :
    actV (F := Ideal) (iblk m c 4 t) (iblk m c 5 t) (ix3 a r j)
      = ((D.act ((win0_14.blk t).view.emb (ix3 a r j) 1) (col ((win0_14.blk t).view.emb (ix3 a r j) 0) ((win0_14.blk t).view.emb (ix3 a r j) 2)) : ℝ) : EReal) := by
  obtain rfl : a = 0 := Subsingleton.elim _ _
  rw [emb14 t r j]
  show _ = ((D.act (row (pt t) r) (col (sh t) j) : ℝ) : EReal)
  exact actV_eq (B4 A t) (B5 A t) r j
theorem at14 (t : Fin cfg0.N) (y : S1x512x704.Idx) :
    actV (F := Ideal) (iblk m c 4 t) (iblk m c 5 t) y
      = ((D.act ((win0_14.blk t).view.emb y 1) (col ((win0_14.blk t).view.emb y 0) ((win0_14.blk t).view.emb y 2)) : ℝ) : EReal) := by
  rw [eq_ix3 (n0 := 1) (n1 := 512) (n2 := 704) y]
  exact blk14 A t (y 0) (y 1) (y 2)
theorem final14 : (dats m 0 c).arrAt 14 cfg0.N = (fun z : S4x2048x704.Idx => ((D.act (z 1) (col (z 0) (z 2)) : ℝ) : EReal)) := by
  refine (dats m 0 c).arrAt_eq_of_covers 14 _ (by decide +kernel) fun t hf y => ?_
  blk_simp
  rw [after14]
  exact at14 A t y

end Cert.KernelIdeal.Hand

end
-- ==== Proof.Finite.lean ====
/-
  The precondition read back: every element of the six arguments is a real number.
-/
module

public import proofs.«01_k».proof.Defs
public import proofs.«01_k».proof.Proof.Spec
public import proofs.«01_k».proof.Proof.Gen.Pre_finite
public import Idealize.ShloMosaic.Lib.ReduceAll
public import Idealize.ShloMosaic.Lib.Pointwise

@[expose] public section

set_option maxRecDepth 16384

noncomputable section

namespace Cert.Pre_finite.Hand

open Idealize.ShloMosaic Cert.Spec Cert.Pre_finite

instance : Subsingleton S_.Idx := ⟨fun _ _ => funext fun a => a.elim0⟩

/-- A number whose absolute value is below infinity is a real number. -/
theorem real_of_lt (x : EReal) (h : max x (-x) < ⊤) : x = ((x.toReal : ℝ) : EReal) := by
  rw [max_lt_iff] at h
  refine (EReal.coe_toReal h.1.ne ?_).symm
  rintro rfl
  simp at h

/-- One argument's part of the precondition. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1)
    (i : s.Idx) : x i = (((x i : EReal).toReal : ℝ) : EReal) := by
  have e : Ideal.cmp .olt (max (x i : EReal) (-(x i : EReal))) (Ideal.ofBits .f32 0x7F800000#32) = 1 :=
    Host.reduce_andi_all _ _ hr hu j h i
  rw [cTop] at e
  refine real_of_lt _ ?_
  by_contra hn
  unfold Ideal.cmp at e
  simp [hn] at e

/-- The numbers six argument arrays hold. -/
def data (x : FVec Ideal S2048x1024 .f32) (n : FVec Ideal S1024 .f32) (wg wu : FVec Ideal S1024x2816 .f32)
    (wd : FVec Ideal S2816x1024 .f32) (c : FVec Ideal S2048x1024 .f32) : Data where
  x r k := (x (ix2 r k) : EReal).toReal
  n k := (n (ix1 k) : EReal).toReal
  wg k j := (wg (ix2 k j) : EReal).toReal
  wu k j := (wu (ix2 k j) : EReal).toReal
  wd j k := (wd (ix2 j k) : EReal).toReal
  c r k := (c (ix2 r k) : EReal).toReal

theorem args_of_pre (x : FVec Ideal S2048x1024 .f32) (n : FVec Ideal S1024 .f32) (wg wu : FVec Ideal S1024x2816 .f32)
    (wd : FVec Ideal S2816x1024 .f32) (c : FVec Ideal S2048x1024 .f32) (h : fn (F := Ideal) x n wg wu wd c = fun _ => 1#1) :
    Args (data x n wg wu wd c) x n wg wu wd c := by
  have h0 := congrFun h (fun a => a.elim0)
  unfold fn fn_part1 at h0
  dsimp only at h0
  obtain ⟨h0, hc⟩ := IntOp.andi_eq_one.1 h0
  obtain ⟨h0, hwd⟩ := IntOp.andi_eq_one.1 h0
  obtain ⟨h0, hwu⟩ := IntOp.andi_eq_one.1 h0
  obtain ⟨h0, hwg⟩ := IntOp.andi_eq_one.1 h0
  obtain ⟨hx, hn⟩ := IntOp.andi_eq_one.1 h0
  exact { hx := fun _ _ => real_of_all x _ _ _ _ hx _
          hn := fun _ => real_of_all n _ _ _ _ hn _
          hwg := fun _ _ => real_of_all wg _ _ _ _ hwg _
          hwu := fun _ _ => real_of_all wu _ _ _ _ hwu _
          hwd := fun _ _ => real_of_all wd _ _ _ _ hwd _
          hc := fun _ _ => real_of_all c _ _ _ _ hc _ }

end Cert.Pre_finite.Hand

end
-- ==== Proof.Algebraic.lean ====
/-
  The kernel and the reference compute the same results over the reals.
-/
module

public import proofs.«01_k».proof.Defs
public import proofs.«01_k».proof.Proof.Run
public import proofs.«01_k».proof.Proof.KValue
public import proofs.«01_k».proof.Proof.Ref
public import proofs.«01_k».proof.Proof.Finite
public import proofs.«01_k».proof.Proof.Gen.ReferenceIdeal.Run
public import Idealize.ShloMosaic.Lib.Tactic
public import Idealize.ShloMosaic.Lib.Claim

@[expose] public section

set_option maxRecDepth 16384

noncomputable section

namespace Cert.Proof

open Idealize.ShloMosaic Idealize.ShloMosaic.Tactic Idealize.SL.Sem Cert.Spec

abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

open Cert.KernelIdeal.Hand Cert.ReferenceIdeal.Hand in
section
variable (m : KMem) (m' : RMem) (c : Dev Cert.KernelIdeal.nD)

/-- The numbers the kernel's arguments hold on a device. -/
def nums : Data := Cert.Pre_finite.Hand.data (kX m c) (kN m c) (kG m c) (kU m c) (kD m c) (kC m c)

theorem kargs (h : Cert.Pre_KernelIdeal_finite m) : Args (nums m c) (kX m c) (kN m c) (kG m c) (kU m c) (kD m c) (kC m c) :=
  Cert.Pre_finite.Hand.args_of_pre _ _ _ _ _ _ (h c)
theorem rargs (h : Cert.Pre_KernelIdeal_finite m) (h0 : aX m' c = kX m c) (h1 : aN m' c = kN m c) (h2 : aG m' c = kG m c)
    (h3 : aU m' c = kU m c) (h4 : aD m' c = kD m c) (h5 : aC m' c = kC m c) :
    Args (nums m c) (aX m' c) (aN m' c) (aG m' c) (aU m' c) (aD m' c) (aC m' c) := by
  rw [h0, h1, h2, h3, h4, h5]; exact kargs m c h
end

open Cert.KernelIdeal.Hand Cert.ReferenceIdeal.Hand in
section
variable {D : Data} {m : KMem} {m' : RMem} {c : Dev Cert.KernelIdeal.nD}
  (A : Args D (kX m c) (kN m c) (kG m c) (kU m c) (kD m c) (kC m c))
  (A' : Args D (aX m' c) (aN m' c) (aG m' c) (aU m' c) (aD m' c) (aC m' c))
include A A'

theorem same0 : Cert.ReferenceIdeal.Value.res_main_v54 m' c = (dats m 0 c).arrAt 9 Cert.KernelIdeal.cfg0.N := by
  rw [final9 A]; funext z
  rw [eq_ix2 (n0 := 2048) (n1 := 1024) z]
  exact out0 A' (z 0) (z 1)
theorem same1 : Cert.ReferenceIdeal.Value.res_main_v81 m' c = (dats m 0 c).arrAt 10 Cert.KernelIdeal.cfg0.N := by
  rw [final10 A]; funext z
  rw [eq_ix2 (n0 := 2048) (n1 := 1024) z]
  exact out1 A' (z 0) (z 1)
theorem same2 : Cert.ReferenceIdeal.Value.res_main_v82 m' c = (dats m 0 c).arrAt 11 Cert.KernelIdeal.cfg0.N := by
  have e : ∀ (a : Fin 1) (k : Fin 1024), Cert.ReferenceIdeal.Value.res_main_v82 m' c (ix2 a k) = ((D.dn k : ℝ) : EReal) := by
    intro a k; obtain rfl : a = 0 := Subsingleton.elim _ _; exact out2 A' k
  rw [final11 A]; funext z
  rw [eq_ix2 (n0 := 1) (n1 := 1024) z]
  exact e (z 0) (z 1)
theorem same3 : Cert.ReferenceIdeal.Value.res_main_v85 m' c = (dats m 0 c).arrAt 12 Cert.KernelIdeal.cfg0.N := by
  rw [final12 A]; funext z
  rw [eq_ix3 (n0 := 4) (n1 := 2048) (n2 := 704) z]
  exact out3 A' (z 0) (z 1) (z 2)
theorem same4 : rRows (tDup m' c (aC m' c)) = (dats m 0 c).arrAt 13 Cert.KernelIdeal.cfg0.N := by
  rw [final13 A]; funext z
  rw [eq_ix3 (n0 := 4) (n1 := 2048) (n2 := 704) z]
  exact out4 A' (z 0) (z 1) (z 2)
theorem same5 : rRows (tAct m' c) = (dats m 0 c).arrAt 14 Cert.KernelIdeal.cfg0.N := by
  rw [final14 A]; funext z
  rw [eq_ix3 (n0 := 4) (n1 := 2048) (n2 := 704) z]
  exact out5 A' (z 0) (z 1) (z 2)
end

set_option maxHeartbeats 1600000 in
theorem algebraic : Cert.algebraic_KernelIdeal_ReferenceIdeal_pre_finite := by
  pair_intro
  · have h := (θ_run Cert.KernelIdeal.defs _ _).mono (fun _ h => h.1) (Cert.KernelIdeal.Hand.run_main m g)
    run_from h
  · have A := fun c => kargs m c hpre
    have A' := fun c => rargs m m' c hpre (hagree c).1 (hagree c).2.1 (hagree c).2.2.1 (hagree c).2.2.2.1 (hagree c).2.2.2.2.1 (hagree c).2.2.2.2.2
    refine (θ_run Cert.ReferenceIdeal.defs _ _).mono (fun r h c => ?_) (Cert.ReferenceIdeal.Value.run m' g')
    obtain ⟨h0, h1, h2, h3, h4, h5, ha⟩ := h c
    exact ⟨h0.trans (same0 (A c) (A' c)), h1.trans (same1 (A c) (A' c)), h2.trans (same2 (A c) (A' c)),
      h3.trans (same3 (A c) (A' c)), h4.trans (same4 (A c) (A' c)), h5.trans (same5 (A c) (A' c)), ha⟩

end Cert.Proof

end
-- ==== Proof.Body2.lean ====
module

public import proofs.«01_k».proof.Proof.Gen.Kernel2Ideal.Frame
public import proofs.«01_k».proof.Proof.Gen.Kernel2Ideal.Skeleton
public import Idealize.ShloMosaic.Lib.VecWindow

/-! The body of the weight gradient kernel at one grid point: what it leaves in its three running sums and, at the
last row tile of a shard, in its three results. -/

@[expose] public section

set_option maxRecDepth 16384

noncomputable section

namespace Cert.Kernel2Ideal.Hand

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The running sum of the gate's gradient after a point, from what stood there. -/
def sumG (i : grid0.Coords) (x0 : Vec F S1024x1024 .bf16) (x2 : Vec F S1x1024x704 .bf16) (a : Vec F S704x1024 .f32) : Vec F S704x1024 .f32 :=
  k0_pay7 i x0 x2 a
/-- The running sum of the up weight's gradient after a point, from what stood there. -/
def sumU (i : grid0.Coords) (x0 : Vec F S1024x1024 .bf16) (x3 : Vec F S1x1024x704 .bf16) (a : Vec F S704x1024 .f32) : Vec F S704x1024 .f32 :=
  k0_pay8 i x0 x3 a
/-- The running sum of the down weight's gradient after a point, from what stood there. -/
def sumD (i : grid0.Coords) (x1 : Vec F S1024x1024 .bf16) (x4 : Vec F S1x1024x704 .bf16) (a : Vec F S704x1024 .f32) : Vec F S704x1024 .f32 :=
  k0_pay1 (BitVec.ofNat 32 (i 1).val) (k0_pay6 x4 x1) a

theorem congr3 {α β γ δ : Sort*} (f : α → β → γ → δ) {a a' : α} {b b' : β} {c c' : γ} (ha : a = a') (hb : b = b') (hc : c = c') :
    f a b c = f a' b' c' := by rw [ha, hb, hc]

/-- A whole load of a buffer that holds `x` reads `x`. -/
theorem read_whole {s : Shape} {e : EltTy} {sp : Space} {r : Memref sig .tc sp s e} (h : r.IsWhole) (x : Vec F s e) {off : Fin s.rank → ℕ}
    (inb : ∀ a, off a + s.size a ≤ s.size a) : r.view.readAt (Elt F) (Rect.unit off s.size inb).toLoadRect (h.unread x) = x :=
  (View.readAt_full _ _ _).trans (h.read_unread x)

set_option maxHeartbeats 1600000 in
/-- A point that is not the last of its shard: only the sums are written. -/
theorem bodyMid (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S1x1024x704 .bf16) (harg6 : arg6.IsWhole) (arg7 : Memref sig .tc .vmem S1x704x1024 .bf16) (harg7 : arg7.IsWhole) (arg8 : Memref sig .tc .vmem S1x704x1024 .bf16) (harg8 : arg8.IsWhole) (arg9 : Memref sig .tc .vmem S1x704x1024 .bf16) (harg9 : arg9.IsWhole) (arg10 : Memref sig .tc .vmem S704x1024 .f32) (harg10 : arg10.IsWhole) (arg11 : Memref sig .tc .vmem S704x1024 .f32) (harg11 : arg11.IsWhole) (arg12 : Memref sig .tc .vmem S704x1024 .f32) (harg12 : arg12.IsWhole) (hc : ¬k0_cond1 i = 1#1)
    (x0 x1 : Vec F S1024x1024 .bf16) (x2 x3 x4 : Vec F S1x1024x704 .bf16) (y5 y6 y7 : Vec F S1x704x1024 .bf16) (a b d : Vec F S704x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare a ∗ owns (c : Thread nD τ) arg11 fullShare b ∗ owns (c : Thread nD τ) arg12 fullShare d
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare (sumG i x0 x2 a) ∗ owns (c : Thread nD τ) arg11 fullShare (sumU i x0 x3 b) ∗ owns (c : Thread nD τ) arg12 fullShare (sumD i x1 x4 d)) -∗ K ⟨⟩))
      ⊢ wp frame (wpE (defs₀ (F := F)) Variants.none c none) E (cc0_ffn_bwd_w i arg2 harg2 arg3 harg3 arg4 harg4 arg5 harg5 arg6 harg6 arg7 harg7 arg8 harg8 arg9 harg9 arg10 harg10 arg11 harg11 arg12 harg12) K := by
  simp only [cc0_ffn_bwd_w_eq_skeleton]; unfold cc0_ffn_bwd_w_skel
  simp only [k0_part1_eq_skeleton]
  unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := sl_exact hc)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact (View.read_writes_full _ _ _ _ _).trans (congr3 (k0_pay7 i) (read_whole harg2 x0 _) (read_whole harg4 x2 _) (read_whole harg10 a _))
  isplitl [H11]
  · iexists _; isplitr; swap; · iexact H11
    ipureintro; exact (View.read_writes_full _ _ _ _ _).trans (congr3 (k0_pay8 i) (read_whole harg2 x0 _) (read_whole harg5 x3 _) (read_whole harg11 b _))
  · iexists _; isplitr; swap; · iexact H12
    ipureintro; exact (View.read_writes_full _ _ _ _ _).trans (congrArg₂ (k0_pay1 (BitVec.ofNat 32 (i 1).val)) (congrArg₂ k0_pay6 (read_whole harg6 x4 _) (read_whole harg3 x1 _)) (read_whole harg12 d _))

set_option maxHeartbeats 1600000 in
/-- The last point of a shard: the three results are written too. -/
theorem bodyLast (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1x1024x704 .bf16) (harg4 : arg4.IsWhole) (arg5 : Memref sig .tc .vmem S1x1024x704 .bf16) (harg5 : arg5.IsWhole) (arg6 : Memref sig .tc .vmem S1x1024x704 .bf16) (harg6 : arg6.IsWhole) (arg7 : Memref sig .tc .vmem S1x704x1024 .bf16) (harg7 : arg7.IsWhole) (arg8 : Memref sig .tc .vmem S1x704x1024 .bf16) (harg8 : arg8.IsWhole) (arg9 : Memref sig .tc .vmem S1x704x1024 .bf16) (harg9 : arg9.IsWhole) (arg10 : Memref sig .tc .vmem S704x1024 .f32) (harg10 : arg10.IsWhole) (arg11 : Memref sig .tc .vmem S704x1024 .f32) (harg11 : arg11.IsWhole) (arg12 : Memref sig .tc .vmem S704x1024 .f32) (harg12 : arg12.IsWhole) (hc : k0_cond1 i = 1#1)
    (x0 x1 : Vec F S1024x1024 .bf16) (x2 x3 x4 : Vec F S1x1024x704 .bf16) (a b d : Vec F S704x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare a ∗ owns (c : Thread nD τ) arg11 fullShare b ∗ owns (c : Thread nD τ) arg12 fullShare d
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay2 (sumG i x0 x2 a)) ∗ owns (c : Thread nD τ) arg8 fullShare (k0_pay3 (sumU i x0 x3 b)) ∗ owns (c : Thread nD τ) arg9 fullShare (k0_pay4 (sumD i x1 x4 d)) ∗ owns (c : Thread nD τ) arg10 fullShare (sumG i x0 x2 a) ∗ owns (c : Thread nD τ) arg11 fullShare (sumU i x0 x3 b) ∗ owns (c : Thread nD τ) arg12 fullShare (sumD i x1 x4 d)) -∗ K ⟨⟩))
      ⊢ wp frame (wpE (defs₀ (F := F)) Variants.none c none) E (cc0_ffn_bwd_w i arg2 harg2 arg3 harg3 arg4 harg4 arg5 harg5 arg6 harg6 arg7 harg7 arg8 harg8 arg9 harg9 arg10 harg10 arg11 harg11 arg12 harg12) K := by
  simp only [cc0_ffn_bwd_w_eq_skeleton]; unfold cc0_ffn_bwd_w_skel
  simp only [k0_part1_eq_skeleton]
  unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg10.eq_unread hf10; obtain rfl := harg11.eq_unread hf11; obtain rfl := harg12.eq_unread hf12
  sl_exec (disch := sl_exact hc)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact (View.read_writes_full _ _ _ _ _).trans (congrArg k0_pay2 ((View.readCov_full _ _ _ _ _).trans (congr3 (k0_pay7 i) (read_whole harg2 x0 _) (read_whole harg4 x2 _) (read_whole harg10 a _))))
  isplitl [H8]
  · iexists _; isplitr; swap; · iexact H8
    ipureintro; exact (View.read_writes_full _ _ _ _ _).trans (congrArg k0_pay3 ((View.readCov_full _ _ _ _ _).trans (congr3 (k0_pay8 i) (read_whole harg2 x0 _) (read_whole harg5 x3 _) (read_whole harg11 b _))))
  isplitl [H9]
  · iexists _; isplitr; swap; · iexact H9
    ipureintro; exact (View.read_writes_full _ _ _ _ _).trans (congrArg k0_pay4 ((View.readCov_full _ _ _ _ _).trans (congrArg₂ (k0_pay1 (BitVec.ofNat 32 (i 1).val)) (congrArg₂ k0_pay6 (read_whole harg6 x4 _) (read_whole harg3 x1 _)) (read_whole harg12 d _))))
  isplitl [H10]
  · iexists _; isplitr; swap; · iexact H10
    ipureintro; exact (View.read_writes_full _ _ _ _ _).trans (congr3 (k0_pay7 i) (read_whole harg2 x0 _) (read_whole harg4 x2 _) (read_whole harg10 a _))
  isplitl [H11]
  · iexists _; isplitr; swap; · iexact H11
    ipureintro; exact (View.read_writes_full _ _ _ _ _).trans (congr3 (k0_pay8 i) (read_whole harg2 x0 _) (read_whole harg5 x3 _) (read_whole harg11 b _))
  · iexists _; isplitr; swap; · iexact H12
    ipureintro; exact (View.read_writes_full _ _ _ _ _).trans (congrArg₂ (k0_pay1 (BitVec.ofNat 32 (i 1).val)) (congrArg₂ k0_pay6 (read_whole harg6 x4 _) (read_whole harg3 x1 _)) (read_whole harg12 d _))

end Cert.Kernel2Ideal.Hand

end
-- ==== Proof.Run2.lean ====
module

public import proofs.«01_k».proof.Proof.Body2

/-! The run of the weight gradient kernel: what its three running sums and its results hold after each grid point, and
the launch. -/

@[expose] public section

set_option maxRecDepth 16384

noncomputable section

namespace Cert.Kernel2Ideal.Hand

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem N8 (t : Fin cfg0.N) : t.val < 8 := lt_of_lt_of_eq t.isLt (show cfg0.N = 8 from N_0)
theorem coord1 (t : Fin cfg0.N) : (grid0.coords t 1).val = t.val % 2 := by
  have e : (grid0.coords t 1).val = t.val / 1 % 2 := Pipeline.Grid.coords_val t 1 (by decide) rfl
  omega

theorem cond1_iff (t : Fin cfg0.N) : k0_cond1 (grid0.coords t) = 1#1 ↔ t.val % 2 = 1 := by
  have h : ∀ s : Fin 2, Scalar.cmpi .ne (Scalar.extui (Scalar.cmpi .eq (BitVec.ofNat 32 s.val) 1#32) : BitVec 32) 0#32 = 1#1 ↔ s.val = 1 := by decide
  refine (h (grid0.coords t 1)).trans ?_
  rw [coord1]

/-! ## The running sums do not see what the scratch held at a shard's first row tile -/

theorem first_select {α : Type} (n : ℕ) (hn : n = 0) (a b : α) : Scalar.select (Scalar.cmpi .sgt (BitVec.ofNat 32 n) 0#32) a b = b := by
  subst hn; rfl

theorem sumG_first (i : grid0.Coords) (h : (i 1).val = 0) (x0 : Vec F S1024x1024 .bf16) (x2 : Vec F S1x1024x704 .bf16) (X Y : Vec F S704x1024 .f32) :
    sumG i x0 x2 X = sumG i x0 x2 Y := by
  unfold sumG k0_pay7; dsimp only; rw [first_select _ h, first_select _ h]
theorem sumU_first (i : grid0.Coords) (h : (i 1).val = 0) (x0 : Vec F S1024x1024 .bf16) (x3 : Vec F S1x1024x704 .bf16) (X Y : Vec F S704x1024 .f32) :
    sumU i x0 x3 X = sumU i x0 x3 Y := by
  unfold sumU k0_pay8; dsimp only; rw [first_select _ h, first_select _ h]
theorem sumD_first (i : grid0.Coords) (h : (i 1).val = 0) (x1 : Vec F S1024x1024 .bf16) (x4 : Vec F S1x1024x704 .bf16) (X Y : Vec F S704x1024 .f32) :
    sumD i x1 x4 X = sumD i x1 x4 Y := by
  unfold sumD k0_pay1; dsimp only; rw [first_select _ h, first_select _ h]

/-- A sum of zeros. -/
def zeroX : Vec F S704x1024 .f32 := fun _ => Scalar.ofBits .f32 0x00000000#32

/-! ## The sums after each point -/

/-- Contents iterated over the first `n` points, from what stood at the start. -/
def iter (f : Fin cfg0.N → Vec F S704x1024 .f32 → Vec F S704x1024 .f32) : ℕ → Vec F S704x1024 .f32 → Vec F S704x1024 .f32
  | 0, X => X
  | n + 1, X => if h : n < cfg0.N then f ⟨n, h⟩ (iter f n X) else iter f n X

theorem iter_succ (f : Fin cfg0.N → Vec F S704x1024 .f32 → Vec F S704x1024 .f32) (t : Fin cfg0.N) (X : Vec F S704x1024 .f32) :
    iter f (t.val + 1) X = f t (iter f t.val X) := dif_pos t.isLt

theorem iter_full (f : Fin cfg0.N → Vec F S704x1024 .f32 → Vec F S704x1024 .f32) (hf : ∀ t : Fin cfg0.N, t.val % 2 = 0 → ∀ X Y, f t X = f t Y)
    (t : Fin cfg0.N) (h1 : t.val % 2 = 1) (X Y : Vec F S704x1024 .f32) : f t (iter f t.val X) = f t (iter f t.val Y) := by
  have hN := t.isLt
  obtain ⟨n, hn⟩ : ∃ n, t.val = n + 1 := ⟨t.val - 1, by omega⟩
  have hn' : n < cfg0.N := by omega
  rw [hn, show n + 1 = (⟨n, hn'⟩ : Fin cfg0.N).val + 1 from rfl, iter_succ, iter_succ]
  exact congrArg _ (hf ⟨n, hn'⟩ (by dsimp only; omega) _ _)

def stepG (c : Dev nD) (t : Fin cfg0.N) (X : Vec F S704x1024 .f32) : Vec F S704x1024 .f32 := sumG (grid0.coords t) (iblk m c 0 t) (iblk m c 2 t) X
def stepU (c : Dev nD) (t : Fin cfg0.N) (X : Vec F S704x1024 .f32) : Vec F S704x1024 .f32 := sumU (grid0.coords t) (iblk m c 0 t) (iblk m c 3 t) X
def stepD (c : Dev nD) (t : Fin cfg0.N) (X : Vec F S704x1024 .f32) : Vec F S704x1024 .f32 := sumD (grid0.coords t) (iblk m c 1 t) (iblk m c 4 t) X

theorem stepG_first (c : Dev nD) (t : Fin cfg0.N) (h : t.val % 2 = 0) (X Y : Vec F S704x1024 .f32) : stepG m c t X = stepG m c t Y :=
  sumG_first _ ((coord1 t).trans h) _ _ X Y
theorem stepU_first (c : Dev nD) (t : Fin cfg0.N) (h : t.val % 2 = 0) (X Y : Vec F S704x1024 .f32) : stepU m c t X = stepU m c t Y :=
  sumU_first _ ((coord1 t).trans h) _ _ X Y
theorem stepD_first (c : Dev nD) (t : Fin cfg0.N) (h : t.val % 2 = 0) (X Y : Vec F S704x1024 .f32) : stepD m c t X = stepD m c t Y :=
  sumD_first _ ((coord1 t).trans h) _ _ X Y

/-! ## The pipeline's proof data -/

/-- The scratch before position `n`: what the first `n` points make of some contents. -/
def PhiS (c : Dev nD) (n : ℕ) (_ : n ≤ cfg0.N) : sProp 𝕄 :=
  iprop(((∃ X, owns (c : Thread nD τ) (Memref.whole cc0_scratch0 : Memref sig .tc .vmem S704x1024 .f32) fullShare (iter (stepG m c) n X))
    ∗ (∃ X, owns (c : Thread nD τ) (Memref.whole cc0_scratch1 : Memref sig .tc .vmem S704x1024 .f32) fullShare (iter (stepU m c) n X))
    ∗ (∃ X, owns (c : Thread nD τ) (Memref.whole cc0_scratch2 : Memref sig .tc .vmem S704x1024 .f32) fullShare (iter (stepD m c) n X))) ∗ (∃ r, prngReg c r))

theorem PhiA0_eq (c : Dev nD) : (Pipeline.ΦA spec0 c : sProp 𝕄)
    = iprop(((∃ d, owns (c : Thread nD τ) (Memref.whole cc0_scratch0 : Memref sig .tc .vmem S704x1024 .f32) fullShare d)
    ∗ (∃ d, owns (c : Thread nD τ) (Memref.whole cc0_scratch1 : Memref sig .tc .vmem S704x1024 .f32) fullShare d)
    ∗ (∃ d, owns (c : Thread nD τ) (Memref.whole cc0_scratch2 : Memref sig .tc .vmem S704x1024 .f32) fullShare d)) ∗ (∃ r, prngReg c r)) := by
  unfold Pipeline.ΦA; rw [scopedRest0_eq]; simp only [owns_whole]; try rfl

/-- Each window's staging buffer after the body at `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay2 (stepG m c t (iter (stepG m c) t.val zeroX))
    | ⟨6, _⟩ => k0_pay3 (stepU m c t (iter (stepU m c) t.val zeroX))
    | ⟨7, _⟩ => k0_pay4 (stepD m c t (iter (stepD m c) t.val zeroX))
    | ⟨_ + 8, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]
theorem Phi_castSucc (c : Dev nD) (t : Fin cfg0.N) : (dats m 0 c).Φ t.castSucc = PhiS m c t.val (Nat.le_of_lt t.isLt) := by
  dsimp only [dats]; exact Pipeline.Dat.Φ_castSucc (PhiS m c) t
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = k0_pay2 (stepG m c t (iter (stepG m c) t.val zeroX)) := by dsimp only [dats]
theorem after6 (c : Dev nD) (t : Fin cfg0.N) : (dats m 0 c).after 6 t = k0_pay3 (stepU m c t (iter (stepU m c) t.val zeroX)) := by dsimp only [dats]
theorem after7 (c : Dev nD) (t : Fin cfg0.N) : (dats m 0 c).after 7 t = k0_pay4 (stepD m c t (iter (stepD m c) t.val zeroX)) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

theorem idle5 (t : Fin cfg0.N) : cfg0.idle 5 (cfg0.grid.coords t) = decide (t.val % 2 = 0) := by
  show (!(k0_cond1 (grid0.coords t) == 1#1)) = _
  have h := cond1_iff t
  by_cases hc : k0_cond1 (grid0.coords t) = 1#1
  · rw [hc]; have := h.mp hc; simp only [BEq.rfl, Bool.not_true]; exact (decide_eq_false (by omega)).symm
  · have : ¬t.val % 2 = 1 := fun hh => hc (h.mpr hh)
    rw [beq_eq_false_iff_ne.mpr hc]; exact (decide_eq_true (by omega)).symm
theorem idle6 (t : Fin cfg0.N) : cfg0.idle 6 (cfg0.grid.coords t) = decide (t.val % 2 = 0) := idle5 t
theorem idle7 (t : Fin cfg0.N) : cfg0.idle 7 (cfg0.grid.coords t) = decide (t.val % 2 = 0) := idle5 t

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves_live (c : Dev nD) (w : Fin cfg0.W) (t : Fin cfg0.N) (hl : cfg0.loose w = false) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl, show (dats m 0 c).Φ t.succ = PhiS m c (t.val + 1) t.isLt from rfl, Phi_castSucc]
  rw [leaves_live m c 0 t rfl rfl, after0, leaves_live m c 1 t rfl rfl, after1, leaves_live m c 2 t rfl rfl, after2, leaves_live m c 3 t rfl rfl, after3, leaves_live m c 4 t rfl rfl, after4]
  unfold PhiS
  simp only [iter_succ]
  by_cases h1 : t.val % 2 = 1
  · rw [leaves_live m c 5 t rfl ((idle5 t).trans (decide_eq_false (by omega))), after5, leaves_live m c 6 t rfl ((idle6 t).trans (decide_eq_false (by omega))), after6, leaves_live m c 7 t rfl ((idle7 t).trans (decide_eq_false (by omega))), after7]
    iintro ⟨⟨⟨⟨%X, HX⟩, ⟨%Y, HY⟩, ⟨%Z, HZ⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (bodyLast c (grid0.coords t) _ _ _ _ _ _ _ _ _ _ _ _ _ _ _ _ _ _ _ _ _ _ ((cond1_iff t).mpr h1) (iblk m c 0 t) (iblk m c 1 t) (iblk m c 2 t) (iblk m c 3 t) (iblk m c 4 t) (iter (stepG m c) t.val X) (iter (stepU m c) t.val Y) (iter (stepD m c) t.val Z) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HX]; · iexact HX
    isplitl [HY]; · iexact HY
    isplitl [HZ]; · iexact HZ
    iintro ⟨H0, H1, H2, H3, H4, H5, H6, H7, HX, HY, HZ⟩
    isplitl [HX HY HZ Hg]
    · isplitl [HX HY HZ]
      · isplitl [HX]; · iexists X; iexact HX
        isplitl [HY]; · iexists Y; iexact HY
        iexists Z; iexact HZ
      iexact Hg
    isplitl [Ho]; · iexact Ho
    isplitl [H0]; · iexact H0
    isplitl [H1]; · iexact H1
    isplitl [H2]; · iexact H2
    isplitl [H3]; · iexact H3
    isplitl [H4]; · iexact H4
    isplitl [H5]; · rw [← iter_full (stepG m c) (stepG_first m c) t h1 X zeroX]; iexact H5
    isplitl [H6]; · rw [← iter_full (stepU m c) (stepU_first m c) t h1 Y zeroX]; iexact H6
    rw [← iter_full (stepD m c) (stepD_first m c) t h1 Z zeroX]; iexact H7
  · rw [(dats m 0 c).leavesExact_idle 5 t ((idle5 t).trans (decide_eq_true (by omega))) (Bool.eq_false_iff.mpr fun h => h1 ((flush0_5 t).mp h)), (dats m 0 c).leavesExact_idle 6 t ((idle6 t).trans (decide_eq_true (by omega))) (Bool.eq_false_iff.mpr fun h => h1 ((flush0_6 t).mp h)), (dats m 0 c).leavesExact_idle 7 t ((idle7 t).trans (decide_eq_true (by omega))) (Bool.eq_false_iff.mpr fun h => h1 ((flush0_7 t).mp h))]
    iintro ⟨⟨⟨⟨%X, HX⟩, ⟨%Y, HY⟩, ⟨%Z, HZ⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (bodyMid c (grid0.coords t) _ _ _ _ _ _ _ _ _ _ _ _ _ _ _ _ _ _ _ _ _ _ (fun h => h1 ((cond1_iff t).mp h)) (iblk m c 0 t) (iblk m c 1 t) (iblk m c 2 t) (iblk m c 3 t) (iblk m c 4 t) ((dats m 0 c).before 5 t d5) ((dats m 0 c).before 6 t d6) ((dats m 0 c).before 7 t d7) (iter (stepG m c) t.val X) (iter (stepU m c) t.val Y) (iter (stepD m c) t.val Z) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HX]; · iexact HX
    isplitl [HY]; · iexact HY
    isplitl [HZ]; · iexact HZ
    iintro ⟨H0, H1, H2, H3, H4, H5, H6, H7, HX, HY, HZ⟩
    isplitl [HX HY HZ Hg]
    · isplitl [HX HY HZ]
      · isplitl [HX]; · iexists X; iexact HX
        isplitl [HY]; · iexists Y; iexact HY
        iexists Z; iexact HZ
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists d5; iexact H5
    isplitl [H6]; · iexists d6; iexact H6
    iexists d7; iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiA0_eq]
  exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiA0_eq]
  unfold PhiS
  iintro ⟨⟨⟨%X, HX⟩, ⟨%Y, HY⟩, ⟨%Z, HZ⟩⟩, Hg⟩
  isplitl [HX HY HZ]
  · isplitl [HX]; · iexists _; iexact HX
    isplitl [HY]; · iexists _; iexact HY
    iexists _; iexact HZ
  iexact Hg

/-! ## The run and the frame -/

set_option backward.isDefEq.respectTransparency.types false in
/-- The launch: every array of the pipeline ends at what the proof data says, every counter at zero. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch0.to₀ defs₀ Variants.none m ρ main
    (hbody := fun c => (body_obligation m c).loose) (hq := fun _ _ _ => rfl)
    (howed := fun _ _ => rfl) (V := V m) (hmain := hmain m Variants.none) (hA := A_eq m) (hin := hin m) (hout := hout m)

end Cert.Kernel2Ideal.Hand

end
-- ==== Proof.Frames2.lean ====
module

public import proofs.«01_k».proof.Defs
public import proofs.«01_k».proof.Proof.Run2
public import proofs.«01_k».proof.Proof.Gen.Kernel2
public import proofs.«01_k».proof.Proof.Gen.Reference2Ideal
public import Idealize.ShloMosaic.Lib.Tactic
public import Idealize.ShloMosaic.Lib.Claim
public import proofs.«01_k».proof.Proof.Gen.Reference2Ideal.Run

/-! The frame claims of the weight gradient kernel, from its one run over any float operations, and of its reference. -/

@[expose] public section

set_option maxRecDepth 100000

noncomputable section

namespace Cert.Proof

open Idealize.ShloMosaic Idealize.ShloMosaic.Tactic Idealize.SL.Sem

theorem frame2_any {F : FTy → Type} [FloatOps F] (m : (ℓ : Loc Cert.Kernel2Ideal.nD Cert.Kernel2Ideal.τ Cert.Kernel2Ideal.sig) → Buf (Elt F) ℓ)
    (ρ : Dev Cert.Kernel2Ideal.nD → PrngReg) :
    θ_run Cert.Kernel2Ideal.defs (onTc (τ := Cert.Kernel2Ideal.τ) (Cert.Kernel2Ideal.main (F := F))) ⟨m, fun _ => 0, ρ⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0) :=
  θ_run_and (Cert.Kernel2Ideal.Gen.frame_of m ρ (Cert.Kernel2Ideal.Hand.dats m) (Cert.Kernel2Ideal.Hand.A_eq m)
    ((θ_run Cert.Kernel2Ideal.defs _ _).mono (fun _ h => h.1) (Cert.Kernel2Ideal.Hand.run_main m ρ)))
    ((θ_run Cert.Kernel2Ideal.defs _ _).mono (fun _ h => h.2) (Cert.Kernel2Ideal.Hand.run_main m ρ))

set_option maxHeartbeats 4000000 in
/-- The two programs have one body table. -/
theorem body_table2 {F : FTy → Type} [FloatOps F] : Cert.Kernel2.defs₀ (F := F) = Cert.Kernel2Ideal.defs₀ (F := F) := by
  unfold Cert.Kernel2.defs₀ Cert.Kernel2Ideal.defs₀
  refine congrArg Defs.onTc ?_
  funext ℓ x
  match ℓ, x with
  | 0, (t, s) => rfl
  | ⟨_ + 1, h⟩, _ => exact absurd h (Nat.not_lt.2 (Nat.le_add_left _ _))

set_option maxHeartbeats 4000000 in
theorem table2 {F : FTy → Type} [FloatOps F] : Cert.Kernel2.defs (F := F) = Cert.Kernel2Ideal.defs (F := F) :=
  congrArg (Pipeline.defs (Cert.Kernel2Ideal.pcfgs (F := F))) body_table2

set_option maxHeartbeats 4000000 in
theorem frame2_kernel : Cert.quiescent_Kernel2 := by
  intro m ρ _
  rw [table2]
  exact frame2_any (F := Bits) m ρ

theorem frame2_ideal : Cert.quiescent_Kernel2Ideal := fun m ρ _ => frame2_any (F := Ideal) m ρ

/-- The reference's run leaves its arguments, and it declares no semaphore. -/
theorem frame2_reference : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

end Cert.Proof

end
-- ==== Proof.KValue2.lean ====
/-
  What the weight gradient kernel's result arrays hold after the run: each product over all rows.
-/
module

public import proofs.«01_k».proof.Proof.Run2
public import proofs.«01_k».proof.Proof.Ref
public import Idealize.ShloMosaic.Lib.Pointwise
public import Idealize.ShloMosaic.Lib.Pipeline.ValueKit
public import Idealize.ShloMosaic.Lib.Claim

@[expose] public section

set_option maxRecDepth 16384

noncomputable section

namespace Cert.Kernel2Ideal.Hand

open Cert.Kernel2Ideal.Gen
open Idealize.ShloMosaic Idealize.ShloMosaic.TcCoe Cert.Spec
open Idealize.ShloMosaic.Pipeline (Dat)
open Cert.ReferenceIdeal.Hand (rRows rDot rH rDa rMid rDgate)

variable (m : (ℓ : Loc nD τ sig) → Buf (Elt Ideal) ℓ) (c : Dev nD)

def kX : FVec Ideal S2048x1024 .f32 := m ((c.tc : Thread nD τ).loc main_arg0)
def kN : FVec Ideal S1024 .f32 := m ((c.tc : Thread nD τ).loc main_arg1)
def kG : FVec Ideal S1024x2816 .f32 := m ((c.tc : Thread nD τ).loc main_arg2)
def kU : FVec Ideal S1024x2816 .f32 := m ((c.tc : Thread nD τ).loc main_arg3)
def kD : FVec Ideal S2816x1024 .f32 := m ((c.tc : Thread nD τ).loc main_arg4)
def kC : FVec Ideal S2048x1024 .f32 := m ((c.tc : Thread nD τ).loc main_arg5)

/-- The normalised rows. -/
def tH (x : FVec Ideal S2048x1024 .f32) (n : FVec Ideal S1024 .f32) : FVec Ideal S2048x1024 .f32 := rH x n
/-- The gate product's cotangent. -/
def tDgate (x : FVec Ideal S2048x1024 .f32) (n : FVec Ideal S1024 .f32) (wg wu : FVec Ideal S1024x2816 .f32) (wd : FVec Ideal S2816x1024 .f32)
    (ct : FVec Ideal S2048x1024 .f32) : FVec Ideal S2048x2816 .f32 := rDgate (rDot (tH x n) wg) (rDa ct wd) (rDot (tH x n) wu)
/-- The up product's cotangent. -/
def tDup (x : FVec Ideal S2048x1024 .f32) (n : FVec Ideal S1024 .f32) (wg : FVec Ideal S1024x2816 .f32) (wd : FVec Ideal S2816x1024 .f32)
    (ct : FVec Ideal S2048x1024 .f32) : FVec Ideal S2048x2816 .f32 := rMid (rDot (tH x n) wg) (rDa ct wd)
/-- The activation. -/
def tAct (x : FVec Ideal S2048x1024 .f32) (n : FVec Ideal S1024 .f32) (wg wu : FVec Ideal S1024x2816 .f32) : FVec Ideal S2048x2816 .f32 :=
  rMid (rDot (tH x n) wg) (rDot (tH x n) wu)

theorem V39 : V m c main_v39 = truncf .bf16 (tH (kX m c) (kN m c)) bitsLt_bf16_f32 := by entry_read; rfl
theorem V40 : V m c main_v40 = truncf .bf16 (kC m c) bitsLt_bf16_f32 := by entry_read; rfl
theorem V43 : V m c main_v43 = rRows (tDgate (kX m c) (kN m c) (kG m c) (kU m c) (kD m c) (kC m c)) := by entry_read; rfl
theorem V46 : V m c main_v46 = rRows (tDup (kX m c) (kN m c) (kG m c) (kD m c) (kC m c)) := by entry_read; rfl
theorem V49 : V m c main_v49 = rRows (tAct (kX m c) (kN m c) (kG m c) (kU m c)) := by entry_read; rfl

theorem later_select {α : Type} (n : ℕ) (hn : n = 1) (a b : α) : Scalar.select (Scalar.cmpi .sgt (BitVec.ofNat 32 n) 0#32) a b = a := by
  subst hn; rfl

section point
variable (i : grid0.Coords) (x : FVec Ideal S1024x1024 .bf16) (d : FVec Ideal S1x1024x704 .bf16) (X : FVec Ideal S704x1024 .f32) (j : Fin 704) (k : Fin 1024)

theorem sumG_fst (h : (i 1).val = 0) : sumG (F := Ideal) i x d X (ix2 j k) = ∑ r : Fin 1024, d (ix3 0 r j) * x (ix2 r k) := by
  unfold sumG k0_pay7; dsimp only; rw [first_select _ h]
  pointwise [k0_pay5]
theorem sumG_snd (h : (i 1).val = 1) : sumG (F := Ideal) i x d X (ix2 j k) = (∑ r : Fin 1024, d (ix3 0 r j) * x (ix2 r k)) + X (ix2 j k) := by
  unfold sumG k0_pay7; dsimp only; rw [later_select _ h]
  pointwise [k0_pay5]
theorem sumU_fst (h : (i 1).val = 0) : sumU (F := Ideal) i x d X (ix2 j k) = ∑ r : Fin 1024, d (ix3 0 r j) * x (ix2 r k) := by
  unfold sumU k0_pay8; dsimp only; rw [first_select _ h]
  pointwise [k0_pay5]
theorem sumU_snd (h : (i 1).val = 1) : sumU (F := Ideal) i x d X (ix2 j k) = (∑ r : Fin 1024, d (ix3 0 r j) * x (ix2 r k)) + X (ix2 j k) := by
  unfold sumU k0_pay8; dsimp only; rw [later_select _ h]
  pointwise [k0_pay5]
theorem sumD_fst (h : (i 1).val = 0) : sumD (F := Ideal) i x d X (ix2 j k) = ∑ r : Fin 1024, d (ix3 0 r j) * x (ix2 r k) := by
  unfold sumD k0_pay1; dsimp only; rw [first_select _ h]
  pointwise [k0_pay6]
theorem sumD_snd (h : (i 1).val = 1) : sumD (F := Ideal) i x d X (ix2 j k) = (∑ r : Fin 1024, d (ix3 0 r j) * x (ix2 r k)) + X (ix2 j k) := by
  unfold sumD k0_pay1; dsimp only; rw [later_select _ h]
  pointwise [k0_pay6]
theorem pay2_at : k0_pay2 (F := Ideal) X (ix3 0 j k) = X (ix2 j k) := by pointwise [k0_pay2]
theorem pay3_at : k0_pay3 (F := Ideal) X (ix3 0 j k) = X (ix2 j k) := by pointwise [k0_pay3]
theorem pay4_at : k0_pay4 (F := Ideal) X (ix3 0 j k) = ((1 / 2 : ℝ) : EReal) * X (ix2 j k) := by pointwise [k0_pay4, cHalf]
end point

/-! ## The blocks -/

theorem idx (t : Fin cfg0.N) : win0_0.index t = ![t.val % 2, 0] ∧ win0_1.index t = ![t.val % 2, 0]
    ∧ win0_2.index t = ![t.val / 2, t.val % 2, 0] ∧ win0_3.index t = ![t.val / 2, t.val % 2, 0] ∧ win0_4.index t = ![t.val / 2, t.val % 2, 0]
    ∧ win0_5.index t = ![t.val / 2, 0, 0] ∧ win0_6.index t = ![t.val / 2, 0, 0] ∧ win0_7.index t = ![t.val / 2, 0, 0] :=
  (by decide +kernel : ∀ t : Fin grid0.N, win0_0.index t = ![t.val % 2, 0] ∧ win0_1.index t = ![t.val % 2, 0]
    ∧ win0_2.index t = ![t.val / 2, t.val % 2, 0] ∧ win0_3.index t = ![t.val / 2, t.val % 2, 0] ∧ win0_4.index t = ![t.val / 2, t.val % 2, 0]
    ∧ win0_5.index t = ![t.val / 2, 0, 0] ∧ win0_6.index t = ![t.val / 2, 0, 0] ∧ win0_7.index t = ![t.val / 2, 0, 0]) t

/-- The shard of a grid point, and its row tile. -/
def sh (t : Fin cfg0.N) : Fin 4 := ⟨t.val / 2, by have := N8 t; omega⟩
def pt (t : Fin cfg0.N) : Fin 2 := ⟨t.val % 2, by omega⟩
/-- Row `r` of row tile `p`. -/
def row (p : Fin 2) (r : Fin 1024) : Fin 2048 := ⟨p.val * 1024 + r.val, by omega⟩

theorem b0 (t : Fin cfg0.N) (r : Fin 1024) (k : Fin 1024) :
    (show FVec Ideal S1024x1024 .bf16 from iblk m c 0 t) (ix2 r k) = (show FVec Ideal S2048x1024 .bf16 from V m c main_v39) (ix2 (row (pt t) r) k) := by
  blk_ext [iblk, idx t]
  all_goals simp only [row, pt]
theorem b1 (t : Fin cfg0.N) (r : Fin 1024) (k : Fin 1024) :
    (show FVec Ideal S1024x1024 .bf16 from iblk m c 1 t) (ix2 r k) = (show FVec Ideal S2048x1024 .bf16 from V m c main_v40) (ix2 (row (pt t) r) k) := by
  blk_ext [iblk, idx t]
  all_goals simp only [row, pt]
theorem b2 (t : Fin cfg0.N) (r : Fin 1024) (j : Fin 704) :
    (show FVec Ideal S1x1024x704 .bf16 from iblk m c 2 t) (ix3 0 r j) = (show FVec Ideal S4x2048x704 .bf16 from V m c main_v43) (ix3 (sh t) (row (pt t) r) j) := by
  blk_ext [iblk, idx t]
  all_goals (simp only [row, pt, sh]; try omega)
theorem b3 (t : Fin cfg0.N) (r : Fin 1024) (j : Fin 704) :
    (show FVec Ideal S1x1024x704 .bf16 from iblk m c 3 t) (ix3 0 r j) = (show FVec Ideal S4x2048x704 .bf16 from V m c main_v46) (ix3 (sh t) (row (pt t) r) j) := by
  blk_ext [iblk, idx t]
  all_goals (simp only [row, pt, sh]; try omega)
theorem b4 (t : Fin cfg0.N) (r : Fin 1024) (j : Fin 704) :
    (show FVec Ideal S1x1024x704 .bf16 from iblk m c 4 t) (ix3 0 r j) = (show FVec Ideal S4x2048x704 .bf16 from V m c main_v49) (ix3 (sh t) (row (pt t) r) j) := by
  blk_ext [iblk, idx t]
  all_goals (simp only [row, pt, sh]; try omega)

/-- The product of a hidden array and a row array over all rows. -/
def wSum (d : FVec Ideal S4x2048x704 .bf16) (h : FVec Ideal S2048x1024 .bf16) (s : Fin 4) (j : Fin 704) (k : Fin 1024) : EReal :=
  ∑ r : Fin 2048, d (ix3 s r j) * h (ix2 r k)
/-- The rows of one tile of it. -/
def wPart (d : FVec Ideal S4x2048x704 .bf16) (h : FVec Ideal S2048x1024 .bf16) (s : Fin 4) (p : Fin 2) (j : Fin 704) (k : Fin 1024) : EReal :=
  ∑ r : Fin 1024, d (ix3 s (row p r) j) * h (ix2 (row p r) k)

theorem wSum_eq (d : FVec Ideal S4x2048x704 .bf16) (h : FVec Ideal S2048x1024 .bf16) (s : Fin 4) (j : Fin 704) (k : Fin 1024) :
    wPart d h s 1 j k + wPart d h s 0 j k = wSum d h s j k := by
  unfold wSum wPart
  rw [Fin.sum_univ_tiles 2 1024 rfl fun r : Fin 2048 => d (ix3 s r j) * h (ix2 r k), Fin.sum_univ_two, add_comm]
  rfl

theorem partG (t : Fin cfg0.N) (p : Fin 2) (hp : t.val % 2 = p.val) (j : Fin 704) (k : Fin 1024) :
    (∑ r : Fin 1024, (show FVec Ideal S1x1024x704 .bf16 from iblk m c 2 t) (ix3 0 r j) * (show FVec Ideal S1024x1024 .bf16 from iblk m c 0 t) (ix2 r k))
      = wPart (V m c main_v43) (V m c main_v39) (sh t) p j k := by
  obtain rfl : pt t = p := Fin.ext hp
  refine Finset.sum_congr rfl fun r _ => ?_
  rw [b2, b0]
/-- The finished sum of a shard. -/
theorem doneG (t : Fin cfg0.N) (h : t.val % 2 = 1) (j : Fin 704) (k : Fin 1024) :
    stepG m c t (iter (stepG m c) t.val zeroX) (ix2 j k) = wSum (V m c main_v43) (V m c main_v39) (sh t) j k := by
  have hN := N8 t
  obtain ⟨n, hn⟩ : ∃ n, t.val = n + 1 := ⟨t.val - 1, by omega⟩
  have hn' : n < cfg0.N := by have := t.isLt; omega
  have es : sh ⟨n, hn'⟩ = sh t := Fin.ext (by show n / 2 = t.val / 2; omega)
  rw [hn, show n + 1 = (⟨n, hn'⟩ : Fin cfg0.N).val + 1 from rfl, iter_succ]
  refine (sumG_snd _ _ _ _ j k ((coord1 t).trans h)).trans ?_
  rw [← wSum_eq]
  refine congrArg₂ (· + ·) (partG m c t 1 h j k) ?_
  have h0 : (⟨n, hn'⟩ : Fin cfg0.N).val % 2 = 0 := by show n % 2 = 0; omega
  refine (sumG_fst _ _ _ _ j k ((coord1 ⟨n, hn'⟩).trans h0)).trans ?_
  rw [← es]
  exact partG m c ⟨n, hn'⟩ 0 h0 j k
theorem partU (t : Fin cfg0.N) (p : Fin 2) (hp : t.val % 2 = p.val) (j : Fin 704) (k : Fin 1024) :
    (∑ r : Fin 1024, (show FVec Ideal S1x1024x704 .bf16 from iblk m c 3 t) (ix3 0 r j) * (show FVec Ideal S1024x1024 .bf16 from iblk m c 0 t) (ix2 r k))
      = wPart (V m c main_v46) (V m c main_v39) (sh t) p j k := by
  obtain rfl : pt t = p := Fin.ext hp
  refine Finset.sum_congr rfl fun r _ => ?_
  rw [b3, b0]
/-- The finished sum of a shard. -/
theorem doneU (t : Fin cfg0.N) (h : t.val % 2 = 1) (j : Fin 704) (k : Fin 1024) :
    stepU m c t (iter (stepU m c) t.val zeroX) (ix2 j k) = wSum (V m c main_v46) (V m c main_v39) (sh t) j k := by
  have hN := N8 t
  obtain ⟨n, hn⟩ : ∃ n, t.val = n + 1 := ⟨t.val - 1, by omega⟩
  have hn' : n < cfg0.N := by have := t.isLt; omega
  have es : sh ⟨n, hn'⟩ = sh t := Fin.ext (by show n / 2 = t.val / 2; omega)
  rw [hn, show n + 1 = (⟨n, hn'⟩ : Fin cfg0.N).val + 1 from rfl, iter_succ]
  refine (sumU_snd _ _ _ _ j k ((coord1 t).trans h)).trans ?_
  rw [← wSum_eq]
  refine congrArg₂ (· + ·) (partU m c t 1 h j k) ?_
  have h0 : (⟨n, hn'⟩ : Fin cfg0.N).val % 2 = 0 := by show n % 2 = 0; omega
  refine (sumU_fst _ _ _ _ j k ((coord1 ⟨n, hn'⟩).trans h0)).trans ?_
  rw [← es]
  exact partU m c ⟨n, hn'⟩ 0 h0 j k
theorem partD (t : Fin cfg0.N) (p : Fin 2) (hp : t.val % 2 = p.val) (j : Fin 704) (k : Fin 1024) :
    (∑ r : Fin 1024, (show FVec Ideal S1x1024x704 .bf16 from iblk m c 4 t) (ix3 0 r j) * (show FVec Ideal S1024x1024 .bf16 from iblk m c 1 t) (ix2 r k))
      = wPart (V m c main_v49) (V m c main_v40) (sh t) p j k := by
  obtain rfl : pt t = p := Fin.ext hp
  refine Finset.sum_congr rfl fun r _ => ?_
  rw [b4, b1]
/-- The finished sum of a shard. -/
theorem doneD (t : Fin cfg0.N) (h : t.val % 2 = 1) (j : Fin 704) (k : Fin 1024) :
    stepD m c t (iter (stepD m c) t.val zeroX) (ix2 j k) = wSum (V m c main_v49) (V m c main_v40) (sh t) j k := by
  have hN := N8 t
  obtain ⟨n, hn⟩ : ∃ n, t.val = n + 1 := ⟨t.val - 1, by omega⟩
  have hn' : n < cfg0.N := by have := t.isLt; omega
  have es : sh ⟨n, hn'⟩ = sh t := Fin.ext (by show n / 2 = t.val / 2; omega)
  rw [hn, show n + 1 = (⟨n, hn'⟩ : Fin cfg0.N).val + 1 from rfl, iter_succ]
  refine (sumD_snd _ _ _ _ j k ((coord1 t).trans h)).trans ?_
  rw [← wSum_eq]
  refine congrArg₂ (· + ·) (partD m c t 1 h j k) ?_
  have h0 : (⟨n, hn'⟩ : Fin cfg0.N).val % 2 = 0 := by show n % 2 = 0; omega
  refine (sumD_fst _ _ _ _ j k ((coord1 ⟨n, hn'⟩).trans h0)).trans ?_
  rw [← es]
  exact partD m c ⟨n, hn'⟩ 0 h0 j k

/-! ## The result arrays -/

theorem emb5 (t : Fin cfg0.N) (j : Fin 704) (k : Fin 1024) :
    (win0_5.blk t).view.emb (ix3 0 j k) = (ix3 (sh t) j k : S4x704x1024.Idx) := by
  blk_ext [idx t]
  all_goals (simp only [sh]; omega)
theorem blk5 (t : Fin cfg0.N) (h : t.val % 2 = 1) (a : Fin 1) (j : Fin 704) (k : Fin 1024) :
    k0_pay2 (F := Ideal) (stepG m c t (iter (stepG m c) t.val zeroX)) (ix3 a j k)
      = wSum (V m c main_v43) (V m c main_v39) ((win0_5.blk t).view.emb (ix3 a j k) 0) ((win0_5.blk t).view.emb (ix3 a j k) 1) ((win0_5.blk t).view.emb (ix3 a j k) 2) := by
  obtain rfl : a = 0 := Subsingleton.elim _ _
  rw [emb5 t j k]
  refine (pay2_at _ j k).trans ?_
  rw [doneG m c t h j k]
  rfl
theorem at5 (t : Fin cfg0.N) (h : t.val % 2 = 1) (y : S1x704x1024.Idx) :
    k0_pay2 (F := Ideal) (stepG m c t (iter (stepG m c) t.val zeroX)) y
      = wSum (V m c main_v43) (V m c main_v39) ((win0_5.blk t).view.emb (y) 0) ((win0_5.blk t).view.emb (y) 1) ((win0_5.blk t).view.emb (y) 2) := by
  rw [eq_ix3 (n0 := 1) (n1 := 704) (n2 := 1024) y]
  exact blk5 m c t h (y 0) (y 1) (y 2)
theorem final5 : (dats m 0 c).arrAt 5 cfg0.N = (fun z : S4x704x1024.Idx => wSum (V m c main_v43) (V m c main_v39) (z 0) (z 1) (z 2)) := by
  refine (dats m 0 c).arrAt_eq_of_covers 5 _ (by decide +kernel) fun t hf y => ?_
  have h := (flush0_5 t).mp hf
  blk_simp
  rw [after5]
  exact at5 m c t h y

theorem emb6 (t : Fin cfg0.N) (j : Fin 704) (k : Fin 1024) :
    (win0_6.blk t).view.emb (ix3 0 j k) = (ix3 (sh t) j k : S4x704x1024.Idx) := by
  blk_ext [idx t]
  all_goals (simp only [sh]; omega)
theorem blk6 (t : Fin cfg0.N) (h : t.val % 2 = 1) (a : Fin 1) (j : Fin 704) (k : Fin 1024) :
    k0_pay3 (F := Ideal) (stepU m c t (iter (stepU m c) t.val zeroX)) (ix3 a j k)
      = wSum (V m c main_v46) (V m c main_v39) ((win0_6.blk t).view.emb (ix3 a j k) 0) ((win0_6.blk t).view.emb (ix3 a j k) 1) ((win0_6.blk t).view.emb (ix3 a j k) 2) := by
  obtain rfl : a = 0 := Subsingleton.elim _ _
  rw [emb6 t j k]
  refine (pay3_at _ j k).trans ?_
  rw [doneU m c t h j k]
  rfl
theorem at6 (t : Fin cfg0.N) (h : t.val % 2 = 1) (y : S1x704x1024.Idx) :
    k0_pay3 (F := Ideal) (stepU m c t (iter (stepU m c) t.val zeroX)) y
      = wSum (V m c main_v46) (V m c main_v39) ((win0_6.blk t).view.emb (y) 0) ((win0_6.blk t).view.emb (y) 1) ((win0_6.blk t).view.emb (y) 2) := by
  rw [eq_ix3 (n0 := 1) (n1 := 704) (n2 := 1024) y]
  exact blk6 m c t h (y 0) (y 1) (y 2)
theorem final6 : (dats m 0 c).arrAt 6 cfg0.N = (fun z : S4x704x1024.Idx => wSum (V m c main_v46) (V m c main_v39) (z 0) (z 1) (z 2)) := by
  refine (dats m 0 c).arrAt_eq_of_covers 6 _ (by decide +kernel) fun t hf y => ?_
  have h := (flush0_6 t).mp hf
  blk_simp
  rw [after6]
  exact at6 m c t h y

theorem emb7 (t : Fin cfg0.N) (j : Fin 704) (k : Fin 1024) :
    (win0_7.blk t).view.emb (ix3 0 j k) = (ix3 (sh t) j k : S4x704x1024.Idx) := by
  blk_ext [idx t]
  all_goals (simp only [sh]; omega)
theorem blk7 (t : Fin cfg0.N) (h : t.val % 2 = 1) (a : Fin 1) (j : Fin 704) (k : Fin 1024) :
    k0_pay4 (F := Ideal) (stepD m c t (iter (stepD m c) t.val zeroX)) (ix3 a j k)
      = ((1 / 2 : ℝ) : EReal) * wSum (V m c main_v49) (V m c main_v40) ((win0_7.blk t).view.emb (ix3 a j k) 0) ((win0_7.blk t).view.emb (ix3 a j k) 1) ((win0_7.blk t).view.emb (ix3 a j k) 2) := by
  obtain rfl : a = 0 := Subsingleton.elim _ _
  rw [emb7 t j k]
  refine (pay4_at _ j k).trans ?_
  rw [doneD m c t h j k]
  rfl
theorem at7 (t : Fin cfg0.N) (h : t.val % 2 = 1) (y : S1x704x1024.Idx) :
    k0_pay4 (F := Ideal) (stepD m c t (iter (stepD m c) t.val zeroX)) y
      = ((1 / 2 : ℝ) : EReal) * wSum (V m c main_v49) (V m c main_v40) ((win0_7.blk t).view.emb (y) 0) ((win0_7.blk t).view.emb (y) 1) ((win0_7.blk t).view.emb (y) 2) := by
  rw [eq_ix3 (n0 := 1) (n1 := 704) (n2 := 1024) y]
  exact blk7 m c t h (y 0) (y 1) (y 2)
theorem final7 : (dats m 0 c).arrAt 7 cfg0.N = (fun z : S4x704x1024.Idx => ((1 / 2 : ℝ) : EReal) * wSum (V m c main_v49) (V m c main_v40) (z 0) (z 1) (z 2)) := by
  refine (dats m 0 c).arrAt_eq_of_covers 7 _ (by decide +kernel) fun t hf y => ?_
  have h := (flush0_7 t).mp hf
  blk_simp
  rw [after7]
  exact at7 m c t h y

end Cert.Kernel2Ideal.Hand

end
-- ==== Proof.Ref2.lean ====
/-
  The reference's three weight gradients: its composed terms cut into stages.
-/
module

public import proofs.«01_k».proof.Proof.Gen.Reference2Ideal.Run
public import proofs.«01_k».proof.Proof.Ref
public import Idealize.ShloMosaic.Lib.Pointwise

@[expose] public section

set_option maxRecDepth 16384

noncomputable section

namespace Cert.Reference2Ideal.Hand

open Cert.Reference2Ideal Cert.Reference2Ideal.Gen Idealize.ShloMosaic Idealize.ShloMosaic.TcCoe Cert.Spec
open Cert.ReferenceIdeal.Hand (rRows rDot rH rDa rMid rDgate X2 J2)

/-- The gradient of a weight of 1024 rows, from the cotangent `d` of its product with the rows `h`: in four blocks of 704 columns. -/
def wIn (d : J2) (h : X2) : FVec Ideal S4x704x1024 .bf16 :=
  truncf .bf16 (shapeCast _ (transpose S2816x1024 [1, 0] (transpose S1024x2816 [1, 0]
    (Host.dotGeneral dot_S2048x2816_S2048x1024_S2816x1024_0_0_1_1_n_n none d h) transposes_S2816x1024_S1024x2816_1_0)
    transposes_S1024x2816_S2816x1024_1_0) shapeCasts_S2816x1024_S4x704x1024) bitsLt_bf16_f32
/-- The gradient of the weight of 2816 rows, from the activation `a` and the result's cotangent `c`. -/
def wOut (c : X2) (a : J2) : FVec Ideal S4x704x1024 .bf16 :=
  truncf .bf16 (shapeCast _ (transpose S2816x1024 [1, 0] (Host.dotGeneral dot_S2048x1024_S2048x2816_S1024x2816_0_0_1_1_n_n none
    (mulf (broadcastInDim S2048x1024 ![] bcast_S_S2048x1024 (constant S_ .f32 0x3F000000#32)) c) a)
    transposes_S1024x2816_S2816x1024_1_0) shapeCasts_S2816x1024_S4x704x1024) bitsLt_bf16_f32

theorem wIn_at (d : J2) (h : X2) (s : Fin 4) (j : Fin 704) (k : Fin 1024) :
    wIn d h (ix3 s j k) = ∑ r : Fin 2048, d (ix2 r ⟨s * 704 + j, by omega⟩) * h (ix2 r k) := by
  pointwise [wIn]
theorem wOut_at (c : X2) (a : J2) (s : Fin 4) (j : Fin 704) (k : Fin 1024) :
    wOut c a (ix3 s j k) = ∑ r : Fin 2048, (((1 / 2 : ℝ) : EReal) * c (ix2 r k)) * a (ix2 r ⟨s * 704 + j, by omega⟩) := by
  pointwise [wOut, cHalf]

variable (m : (ℓ : Loc nD τ sig) → Buf (Elt Ideal) ℓ) (c : Dev nD)

def aX : X2 := m ((c.tc : Thread nD τ).loc main_arg0)
def aN : FVec Ideal S1024 .f32 := m ((c.tc : Thread nD τ).loc main_arg1)
def aG : FVec Ideal S1024x2816 .f32 := m ((c.tc : Thread nD τ).loc main_arg2)
def aU : FVec Ideal S1024x2816 .f32 := m ((c.tc : Thread nD τ).loc main_arg3)
def aD : FVec Ideal S2816x1024 .f32 := m ((c.tc : Thread nD τ).loc main_arg4)
def aC : X2 := m ((c.tc : Thread nD τ).loc main_arg5)

theorem res0 : Value.res_main_v35 m c = wIn (rDgate (rDot (rH (aX m c) (aN m c)) (aG m c)) (rDa (aC m c) (aD m c)) (rDot (rH (aX m c) (aN m c)) (aU m c)))
    (rH (aX m c) (aN m c)) := by
  unfold Value.res_main_v35; rfl

end Cert.Reference2Ideal.Hand

end
-- ==== Proof.Algebraic2.lean ====
/-
  The weight gradient kernel and its reference compute the same results over the reals, and at the infinities too.
-/
module

public import proofs.«01_k».proof.Defs
public import proofs.«01_k».proof.Proof.Run2
public import proofs.«01_k».proof.Proof.KValue2
public import proofs.«01_k».proof.Proof.Ref2
public import proofs.«01_k».proof.Proof.Gen.Reference2Ideal.Run
public import Idealize.ShloMosaic.Lib.Tactic
public import Idealize.ShloMosaic.Lib.Claim

@[expose] public section

set_option maxRecDepth 16384

noncomputable section

namespace Cert.Proof

open Idealize.ShloMosaic Idealize.ShloMosaic.Tactic Idealize.SL.Sem Cert.Spec
open Cert.ReferenceIdeal.Hand (rRows rDot rH rDa rMid rDgate X2 J2)
open Cert.Kernel2Ideal.Hand Cert.Reference2Ideal.Hand

/-- One half goes into a sum, whatever the terms. -/
theorem half_sum {n : ℕ} (f : Fin n → EReal) : ((1 / 2 : ℝ) : EReal) * ∑ r, f r = ∑ r, ((1 / 2 : ℝ) : EReal) * f r := by
  have h0 : (0 : EReal) ≤ ((1 / 2 : ℝ) : EReal) := by exact_mod_cast (by norm_num : (0 : ℝ) ≤ 1 / 2)
  have hs : ∀ s : Finset (Fin n), ((1 / 2 : ℝ) : EReal) * ∑ r ∈ s, f r = ∑ r ∈ s, ((1 / 2 : ℝ) : EReal) * f r := by
    intro s
    induction s using Finset.induction_on with
    | empty => simp
    | insert a s ha ih =>
      rw [Finset.sum_insert ha, Finset.sum_insert ha, EReal.left_distrib_of_nonneg_of_ne_top h0 (EReal.coe_ne_top _), ih]
  exact hs Finset.univ

theorem rows_at (d : J2) (s : Fin 4) (r : Fin 2048) (j : Fin 704) : rRows d (ix3 s r j) = d (ix2 r ⟨s * 704 + j, by omega⟩) := by
  pointwise [rRows]

theorem wIn_eq (d : J2) (h : X2) (s : Fin 4) (j : Fin 704) (k : Fin 1024) :
    wIn d h (ix3 s j k) = wSum (rRows d) (truncf .bf16 h Cert.Kernel2Ideal.Gen.bitsLt_bf16_f32) s j k := by
  rw [wIn_at]; unfold wSum
  exact Finset.sum_congr rfl fun r _ => congrArg₂ (· * ·) (rows_at d s r j).symm rfl

theorem wOut_eq (c : X2) (a : J2) (s : Fin 4) (j : Fin 704) (k : Fin 1024) :
    wOut c a (ix3 s j k) = ((1 / 2 : ℝ) : EReal) * wSum (rRows a) (truncf .bf16 c Cert.Kernel2Ideal.Gen.bitsLt_bf16_f32) s j k := by
  rw [wOut_at]; unfold wSum
  rw [half_sum]
  refine Finset.sum_congr rfl fun r _ => ?_
  rw [rows_at, mul_assoc, mul_comm (a _)]
  rfl

abbrev KMem2 := (ℓ : Loc Cert.Kernel2Ideal.nD Cert.Kernel2Ideal.τ Cert.Kernel2Ideal.sig) → Buf (Elt Ideal) ℓ
abbrev RMem2 := (ℓ : Loc Cert.Reference2Ideal.nD Cert.Reference2Ideal.τ Cert.Reference2Ideal.sig) → Buf (Elt Ideal) ℓ

section
variable {m : KMem2} {m' : RMem2} {c : Dev Cert.Kernel2Ideal.nD} (h0 : aX m' c = kX m c) (h1 : aN m' c = kN m c) (h2 : aG m' c = kG m c)
  (h3 : aU m' c = kU m c) (h4 : aD m' c = kD m c) (h5 : aC m' c = kC m c)
include h0 h1 h2 h3 h4 h5

theorem same2_0 : Cert.Reference2Ideal.Value.res_main_v35 m' c = (dats m 0 c).arrAt 5 Cert.Kernel2Ideal.cfg0.N := by
  rw [res0, final5, h0, h1, h2, h3, h4, h5, V43, V39]; funext z
  rw [eq_ix3 (n0 := 4) (n1 := 704) (n2 := 1024) z]
  exact wIn_eq _ _ (z 0) (z 1) (z 2)
theorem same2_1 : wIn (rMid (rDot (rH (aX m' c) (aN m' c)) (aG m' c)) (rDa (aC m' c) (aD m' c))) (rH (aX m' c) (aN m' c))
    = (dats m 0 c).arrAt 6 Cert.Kernel2Ideal.cfg0.N := by
  rw [final6, h0, h1, h2, h4, h5, V46, V39]; funext z
  rw [eq_ix3 (n0 := 4) (n1 := 704) (n2 := 1024) z]
  exact wIn_eq _ _ (z 0) (z 1) (z 2)
theorem same2_2 : wOut (aC m' c) (rMid (rDot (rH (aX m' c) (aN m' c)) (aG m' c)) (rDot (rH (aX m' c) (aN m' c)) (aU m' c)))
    = (dats m 0 c).arrAt 7 Cert.Kernel2Ideal.cfg0.N := by
  rw [final7, h0, h1, h2, h3, h5, V49, V40]; funext z
  rw [eq_ix3 (n0 := 4) (n1 := 704) (n2 := 1024) z]
  exact wOut_eq _ _ (z 0) (z 1) (z 2)
end

set_option maxHeartbeats 1600000 in
theorem algebraic2 : Cert.algebraic_Kernel2Ideal_Reference2Ideal := by
  pair_intro
  · have h := (θ_run Cert.Kernel2Ideal.defs _ _).mono (fun _ h => h.1) (Cert.Kernel2Ideal.Hand.run_main m g)
    run_from h
    exacts [Cert.Kernel2Ideal.Gen.V_main_arg0 m c, Cert.Kernel2Ideal.Gen.V_main_arg1 m c, Cert.Kernel2Ideal.Gen.V_main_arg2 m c, Cert.Kernel2Ideal.Gen.V_main_arg3 m c, Cert.Kernel2Ideal.Gen.V_main_arg4 m c, Cert.Kernel2Ideal.Gen.V_main_arg5 m c]
  · refine (θ_run Cert.Reference2Ideal.defs _ _).mono (fun r h c => ?_) (Cert.Reference2Ideal.Value.run m' g')
    obtain ⟨r0, r1, r2, ha⟩ := h c
    obtain ⟨h0, h1, h2, h3, h4, h5⟩ := hagree c
    exact ⟨r0.trans (same2_0 h0 h1 h2 h3 h4 h5), r1.trans (same2_1 h0 h1 h2 h3 h4 h5), r2.trans (same2_2 h0 h1 h2 h3 h4 h5), ha⟩

end Cert.Proof

end
-- ==== Proof.Body3.lean ====
module

public import proofs.«01_k».proof.Proof.Gen.Kernel3Ideal.Frame
public import proofs.«01_k».proof.Proof.Gen.Kernel3Ideal.Skeleton
public import Idealize.ShloMosaic.Lib.VecWindow

/-! The body of the forward kernel at one grid point, in its three cases: the first shard of a row tile (the rows are
normalised), a shard in between, and the last shard (the half step is written). -/

@[expose] public section

set_option maxRecDepth 16384

noncomputable section

namespace Cert.Kernel3Ideal.Hand

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one point computes, half tile by half tile -/

/-- Rows 0–511 of a row tile. -/
def rLo {e : EltTy} (h : Vec F S1024x1024 e) : Vec F S512x1024 e := VecWindow.window h ![0, 0] S512x1024.size inb_S1024x1024_S512x1024_0_0
/-- Rows 512–1023 of a row tile. -/
def rHi {e : EltTy} (h : Vec F S1024x1024 e) : Vec F S512x1024 e := VecWindow.window h ![512, 0] S512x1024.size inb_S1024x1024_S512x1024_512_0

/-- A block of a hidden array made of its two halves. -/
def halves (lo hi : Vec F S1x512x704 .bf16) : Vec F S1x1024x704 .bf16 :=
  View.canon [⟨Rect.unit (s := S1x1024x704) ![0, 512, 0] S1x512x704.size inb_S1x1024x704_S1x512x704_0_512_0, hi⟩,
    ⟨Rect.unit (s := S1x1024x704) ![0, 0, 0] S1x512x704.size inb_S1x1024x704_S1x512x704_0_0_0, lo⟩]

/-- A row tile made of its two halves. -/
def rows (lo hi : Vec F S512x1024 .f32) : Vec F S1024x1024 .f32 :=
  View.canon [⟨Rect.unit (s := S1024x1024) ![512, 0] S512x1024.size inb_S1024x1024_S512x1024_512_0, hi⟩,
    ⟨Rect.unit (s := S1024x1024) ![0, 0] S512x1024.size inb_S1024x1024_S512x1024_0_0, lo⟩]

/-- The gate's product of a row tile. -/
def gateV (h : Vec F S1024x1024 .bf16) (wg : Vec F S1x704x1024 .bf16) : Vec F S1x1024x704 .bf16 :=
  halves (k0_pay7 (rLo h) wg) (k0_pay14 (rHi h) wg)
/-- The up product of a row tile. -/
def upV (h : Vec F S1024x1024 .bf16) (wu : Vec F S1x704x1024 .bf16) : Vec F S1x1024x704 .bf16 :=
  halves (k0_pay8 (rLo h) wu) (k0_pay15 (rHi h) wu)
/-- The running sum of the down product after a point, from what stood there. -/
def accX (i : grid0.Coords) (h : Vec F S1024x1024 .bf16) (wg wu wd : Vec F S1x704x1024 .bf16) (X : Vec F S1024x1024 .f32) : Vec F S1024x1024 .f32 :=
  rows (k0_pay11 (BitVec.ofNat 32 (i 1).val) (k0_pay9 (rLo h) wg wu) (k0_pay10 wd) (constant S512x1024 .f32 0x00000000#32) (rLo X))
    (k0_pay1 (BitVec.ofNat 32 (i 1).val) (k0_pay13 (rHi h) wu) (k0_pay16 (rHi h) wg) wd (rHi X))

/-! ## Reading buffers -/

theorem read_halves {sp : Space} (v : View sig .tc sp S1x1024x704 .bf16) (f : v.ty.Contents (Elt F)) (lo hi : Vec F S1x512x704 .bf16) :
    v.read (Elt F) (v.writes (Elt F) f [⟨Rect.unit (s := S1x1024x704) ![0, 512, 0] S1x512x704.size inb_S1x1024x704_S1x512x704_0_512_0, hi⟩,
      ⟨Rect.unit (s := S1x1024x704) ![0, 0, 0] S1x512x704.size inb_S1x1024x704_S1x512x704_0_0_0, lo⟩]) = halves lo hi :=
  View.read_writes_eq_canon _ _ _ (View.cover_of_tiledL _ S1x512x704.size (by sl_kernel_rfl))

theorem read_rows {sp : Space} (v : View sig .tc sp S1024x1024 .f32) (f : v.ty.Contents (Elt F)) (lo hi : Vec F S512x1024 .f32) :
    v.read (Elt F) (v.writes (Elt F) f [⟨Rect.unit (s := S1024x1024) ![512, 0] S512x1024.size inb_S1024x1024_S512x1024_512_0, hi⟩,
      ⟨Rect.unit (s := S1024x1024) ![0, 0] S512x1024.size inb_S1024x1024_S512x1024_0_0, lo⟩]) = rows lo hi :=
  View.read_writes_eq_canon _ _ _ (View.cover_of_tiledL _ S512x1024.size (by sl_kernel_rfl))

/-- A whole load of a row tile after its two halves were stored. -/
theorem cov_rows {sp : Space} (v : View sig .tc sp S1024x1024 .f32) (lo hi : Vec F S512x1024 .f32) :
    v.readCov [⟨Rect.unit (s := S1024x1024) ![512, 0] S512x1024.size inb_S1024x1024_S512x1024_512_0, hi⟩,
      ⟨Rect.unit (s := S1024x1024) ![0, 0] S512x1024.size inb_S1024x1024_S512x1024_0_0, lo⟩]
      (Rect.unit (s := S1024x1024) ![0, 0] S1024x1024.size inb_S1024x1024_S1024x1024_0_0).toLoadRect = rows lo hi :=
  (View.readAt_full v _ _).trans (read_rows v v.junk lo hi)

/-- A whole load of a buffer that holds `x` reads `x`. -/
theorem read_whole {s : Shape} {e : EltTy} {sp : Space} {r : Memref sig .tc sp s e} (h : r.IsWhole) (x : Vec F s e) {off : Fin s.rank → ℕ}
    (inb : ∀ a, off a + s.size a ≤ s.size a) : r.view.readAt (Elt F) (Rect.unit off s.size inb).toLoadRect (h.unread x) = x :=
  (View.readAt_full _ _ _).trans (h.read_unread x)

theorem read_lo {e : EltTy} {sp : Space} {r : Memref sig .tc sp S1024x1024 e} (h : r.IsWhole) (x : Vec F S1024x1024 e) :
    r.view.readAt (Elt F) (Rect.unit (s := S1024x1024) ![0, 0] S512x1024.size inb_S1024x1024_S512x1024_0_0).toLoadRect (h.unread x) = rLo x :=
  (View.readAt_unit _ _ _ rfl inb_S1024x1024_S512x1024_0_0).trans (congrArg rLo (h.read_unread x))
theorem read_hi {e : EltTy} {sp : Space} {r : Memref sig .tc sp S1024x1024 e} (h : r.IsWhole) (x : Vec F S1024x1024 e) :
    r.view.readAt (Elt F) (Rect.unit (s := S1024x1024) ![512, 0] S512x1024.size inb_S1024x1024_S512x1024_512_0).toLoadRect (h.unread x) = rHi x :=
  (View.readAt_unit _ _ _ rfl inb_S1024x1024_S512x1024_512_0).trans (congrArg rHi (h.read_unread x))

/-- Half of a row tile, loaded after the whole was stored. -/
theorem cov_lo {e : EltTy} {sp : Space} (v : View sig .tc sp S1024x1024 e) (w : Vec F S1024x1024 e) :
    v.readCov [⟨Rect.unit (s := S1024x1024) ![0, 0] S1024x1024.size inb_S1024x1024_S1024x1024_0_0, w⟩]
      (Rect.unit (s := S1024x1024) ![0, 0] S512x1024.size inb_S1024x1024_S512x1024_0_0).toLoadRect = rLo w :=
  (View.readAt_unit _ _ _ rfl inb_S1024x1024_S512x1024_0_0).trans (congrArg rLo (View.read_writes_full v v.junk _ w []))
theorem cov_hi {e : EltTy} {sp : Space} (v : View sig .tc sp S1024x1024 e) (w : Vec F S1024x1024 e) :
    v.readCov [⟨Rect.unit (s := S1024x1024) ![0, 0] S1024x1024.size inb_S1024x1024_S1024x1024_0_0, w⟩]
      (Rect.unit (s := S1024x1024) ![512, 0] S512x1024.size inb_S1024x1024_S512x1024_512_0).toLoadRect = rHi w :=
  (View.readAt_unit _ _ _ rfl inb_S1024x1024_S512x1024_512_0).trans (congrArg rHi (View.read_writes_full v v.junk _ w []))

theorem congr3 {α β γ δ : Sort*} (f : α → β → γ → δ) {a a' : α} {b b' : β} {c c' : γ} (ha : a = a') (hb : b = b') (hc : c = c') :
    f a b c = f a' b' c' := by rw [ha, hb, hc]

theorem congr4 {α β γ δ ε : Sort*} (f : α → β → γ → δ → ε) {a a' : α} {b b' : β} {c c' : γ} {d d' : δ} (ha : a = a') (hb : b = b')
    (hc : c = c') (hd : d = d') : f a b c d = f a' b' c' d' := by rw [ha, hb, hc, hd]

/-! ## The body in its three cases -/

set_option maxHeartbeats 1600000 in
/-- The first shard of a row tile: the rows are normalised. -/
theorem bodyFirst (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1x1024x704 .bf16) (harg9 : arg9.IsWhole) (arg10 : Memref sig .tc .vmem S1x1024x704 .bf16) (harg10 : arg10.IsWhole) (arg11 : Memref sig .tc .vmem S1024x1024 .bf16) (harg11 : arg11.IsWhole) (arg12 : Memref sig .tc .vmem S1024x1024 .f32) (harg12 : arg12.IsWhole) (hc1 : k0_cond1 i = 1#1) (hc2 : ¬k0_cond2 i = 1#1)
    (x0 : Vec F S1024x1024 .f32) (x1 : Vec F S1x1024 .f32) (x2 x3 x4 : Vec F S1x704x1024 .bf16) (y5 : Vec F S1024x1024 .f32) (X : Vec F S1024x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare X
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare (k0_pay3 x0 x1) ∗ owns (c : Thread nD τ) arg9 fullShare (gateV (k0_pay4 x0 x1) x2) ∗ owns (c : Thread nD τ) arg10 fullShare (upV (k0_pay4 x0 x1) x3) ∗ owns (c : Thread nD τ) arg11 fullShare (k0_pay4 x0 x1) ∗ owns (c : Thread nD τ) arg12 fullShare (accX i (k0_pay4 x0 x1) x2 x3 x4 X)) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12) K := by
  simp only [cc0_ffn_fwd_eq_skeleton]; unfold cc0_ffn_fwd_skel
  simp only [k0_part1_eq_skeleton, k0_part2_eq_skeleton]
  unfold k0_part1_skel k0_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg12.eq_unread hf12
  sl_exec (disch := first | sl_exact hc1 | sl_exact hc2)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact (View.read_writes_full _ _ _ _ _).trans (congrArg₂ (k0_pay3 (F := F)) (read_whole harg2 x0 _) (read_whole harg3 x1 _))
  isplitl [H9]
  · iexists _; isplitr; swap; · iexact H9
    ipureintro; exact (read_halves _ _ _ _).trans (congrArg₂ halves (congrArg₂ k0_pay7 ((cov_lo _ _).trans (congrArg rLo (congrArg₂ k0_pay4 (read_whole harg2 x0 _) (read_whole harg3 x1 _)))) (read_whole harg4 x2 _)) (congrArg₂ k0_pay14 ((cov_hi _ _).trans (congrArg rHi (congrArg₂ k0_pay4 (read_whole harg2 x0 _) (read_whole harg3 x1 _)))) (read_whole harg4 x2 _)))
  isplitl [H10]
  · iexists _; isplitr; swap; · iexact H10
    ipureintro; exact (read_halves _ _ _ _).trans (congrArg₂ halves (congrArg₂ k0_pay8 ((cov_lo _ _).trans (congrArg rLo (congrArg₂ k0_pay4 (read_whole harg2 x0 _) (read_whole harg3 x1 _)))) (read_whole harg5 x3 _)) (congrArg₂ k0_pay15 ((cov_hi _ _).trans (congrArg rHi (congrArg₂ k0_pay4 (read_whole harg2 x0 _) (read_whole harg3 x1 _)))) (read_whole harg5 x3 _)))
  isplitl [H11]
  · iexists _; isplitr; swap; · iexact H11
    ipureintro; exact (View.read_writes_full _ _ _ _ _).trans (congrArg₂ k0_pay4 (read_whole harg2 x0 _) (read_whole harg3 x1 _))
  · iexists _; isplitr; swap; · iexact H12
    ipureintro; exact (read_rows _ _ _ _).trans (congrArg₂ rows (congr3 (fun p q r => k0_pay11 (BitVec.ofNat 32 (i 1).val) p q (constant S512x1024 .f32 0x00000000#32) r) (congr3 k0_pay9 ((cov_lo _ _).trans (congrArg rLo (congrArg₂ k0_pay4 (read_whole harg2 x0 _) (read_whole harg3 x1 _)))) (read_whole harg4 x2 _) (read_whole harg5 x3 _)) (congrArg k0_pay10 (read_whole harg6 x4 _)) (read_lo harg12 X)) (congr4 (k0_pay1 (BitVec.ofNat 32 (i 1).val)) (congrArg₂ k0_pay13 ((cov_hi _ _).trans (congrArg rHi (congrArg₂ k0_pay4 (read_whole harg2 x0 _) (read_whole harg3 x1 _)))) (read_whole harg5 x3 _)) (congrArg₂ k0_pay16 ((cov_hi _ _).trans (congrArg rHi (congrArg₂ k0_pay4 (read_whole harg2 x0 _) (read_whole harg3 x1 _)))) (read_whole harg4 x2 _)) (read_whole harg6 x4 _) (read_hi harg12 X)))

set_option maxHeartbeats 1600000 in
/-- A shard in between. -/
theorem bodyMid (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1x1024x704 .bf16) (harg9 : arg9.IsWhole) (arg10 : Memref sig .tc .vmem S1x1024x704 .bf16) (harg10 : arg10.IsWhole) (arg11 : Memref sig .tc .vmem S1024x1024 .bf16) (harg11 : arg11.IsWhole) (arg12 : Memref sig .tc .vmem S1024x1024 .f32) (harg12 : arg12.IsWhole) (hc1 : ¬k0_cond1 i = 1#1) (hc2 : ¬k0_cond2 i = 1#1)
    (x0 : Vec F S1024x1024 .f32) (x1 : Vec F S1x1024 .f32) (x2 x3 x4 : Vec F S1x704x1024 .bf16) (y5 : Vec F S1024x1024 .f32) (y6 H : Vec F S1024x1024 .bf16) (X : Vec F S1024x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ (∃ d, owns (c : Thread nD τ) arg9 fullShare d) ∗ (∃ d, owns (c : Thread nD τ) arg10 fullShare d) ∗ owns (c : Thread nD τ) arg11 fullShare H ∗ owns (c : Thread nD τ) arg12 fullShare X
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare (gateV H x2) ∗ owns (c : Thread nD τ) arg10 fullShare (upV H x3) ∗ owns (c : Thread nD τ) arg11 fullShare H ∗ owns (c : Thread nD τ) arg12 fullShare (accX i H x2 x3 x4 X)) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12) K := by
  simp only [cc0_ffn_fwd_eq_skeleton]; unfold cc0_ffn_fwd_skel
  simp only [k0_part1_eq_skeleton, k0_part2_eq_skeleton]
  unfold k0_part1_skel k0_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg11.eq_unread hf11; obtain rfl := harg12.eq_unread hf12
  sl_exec (disch := first | sl_exact hc1 | sl_exact hc2)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact (read_halves _ _ _ _).trans (congrArg₂ halves (congrArg₂ k0_pay7 (read_lo harg11 H) (read_whole harg4 x2 _)) (congrArg₂ k0_pay14 (read_hi harg11 H) (read_whole harg4 x2 _)))
  isplitl [H10]
  · iexists _; isplitr; swap; · iexact H10
    ipureintro; exact (read_halves _ _ _ _).trans (congrArg₂ halves (congrArg₂ k0_pay8 (read_lo harg11 H) (read_whole harg5 x3 _)) (congrArg₂ k0_pay15 (read_hi harg11 H) (read_whole harg5 x3 _)))
  isplitl [H11]
  · iexists _; isplitr; swap; · iexact H11
    ipureintro; exact harg11.read_unread _
  · iexists _; isplitr; swap; · iexact H12
    ipureintro; exact (read_rows _ _ _ _).trans (congrArg₂ rows (congr3 (fun p q r => k0_pay11 (BitVec.ofNat 32 (i 1).val) p q (constant S512x1024 .f32 0x00000000#32) r) (congr3 k0_pay9 (read_lo harg11 H) (read_whole harg4 x2 _) (read_whole harg5 x3 _)) (congrArg k0_pay10 (read_whole harg6 x4 _)) (read_lo harg12 X)) (congr4 (k0_pay1 (BitVec.ofNat 32 (i 1).val)) (congrArg₂ k0_pay13 (read_hi harg11 H) (read_whole harg5 x3 _)) (congrArg₂ k0_pay16 (read_hi harg11 H) (read_whole harg4 x2 _)) (read_whole harg6 x4 _) (read_hi harg12 X)))

set_option maxHeartbeats 1600000 in
/-- The last shard of a row tile: the half step is written. -/
theorem bodyLast (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1x1024x704 .bf16) (harg9 : arg9.IsWhole) (arg10 : Memref sig .tc .vmem S1x1024x704 .bf16) (harg10 : arg10.IsWhole) (arg11 : Memref sig .tc .vmem S1024x1024 .bf16) (harg11 : arg11.IsWhole) (arg12 : Memref sig .tc .vmem S1024x1024 .f32) (harg12 : arg12.IsWhole) (hc1 : ¬k0_cond1 i = 1#1) (hc2 : k0_cond2 i = 1#1)
    (x0 : Vec F S1024x1024 .f32) (x1 : Vec F S1x1024 .f32) (x2 x3 x4 : Vec F S1x704x1024 .bf16) (y6 H : Vec F S1024x1024 .bf16) (X : Vec F S1024x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare y6 ∗ (∃ d, owns (c : Thread nD τ) arg9 fullShare d) ∗ (∃ d, owns (c : Thread nD τ) arg10 fullShare d) ∗ owns (c : Thread nD τ) arg11 fullShare H ∗ owns (c : Thread nD τ) arg12 fullShare X
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay2 x0 (accX i H x2 x3 x4 X)) ∗ owns (c : Thread nD τ) arg8 fullShare y6 ∗ owns (c : Thread nD τ) arg9 fullShare (gateV H x2) ∗ owns (c : Thread nD τ) arg10 fullShare (upV H x3) ∗ owns (c : Thread nD τ) arg11 fullShare H ∗ owns (c : Thread nD τ) arg12 fullShare (accX i H x2 x3 x4 X)) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12) K := by
  simp only [cc0_ffn_fwd_eq_skeleton]; unfold cc0_ffn_fwd_skel
  simp only [k0_part1_eq_skeleton, k0_part2_eq_skeleton]
  unfold k0_part1_skel k0_part2_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%d10, %f10, -, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg11.eq_unread hf11; obtain rfl := harg12.eq_unread hf12
  sl_exec (disch := first | sl_exact hc1 | sl_exact hc2)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact (View.read_writes_full _ _ _ _ _).trans (congrArg₂ k0_pay2 (read_whole harg2 x0 _) ((cov_rows _ _ _).trans (congrArg₂ rows (congr3 (fun p q r => k0_pay11 (BitVec.ofNat 32 (i 1).val) p q (constant S512x1024 .f32 0x00000000#32) r) (congr3 k0_pay9 (read_lo harg11 H) (read_whole harg4 x2 _) (read_whole harg5 x3 _)) (congrArg k0_pay10 (read_whole harg6 x4 _)) (read_lo harg12 X)) (congr4 (k0_pay1 (BitVec.ofNat 32 (i 1).val)) (congrArg₂ k0_pay13 (read_hi harg11 H) (read_whole harg5 x3 _)) (congrArg₂ k0_pay16 (read_hi harg11 H) (read_whole harg4 x2 _)) (read_whole harg6 x4 _) (read_hi harg12 X)))))
  isplitl [H8]
  · iexists _; isplitr; swap; · iexact H8
    ipureintro; exact harg8.read_unread _
  isplitl [H9]
  · iexists _; isplitr; swap; · iexact H9
    ipureintro; exact (read_halves _ _ _ _).trans (congrArg₂ halves (congrArg₂ k0_pay7 (read_lo harg11 H) (read_whole harg4 x2 _)) (congrArg₂ k0_pay14 (read_hi harg11 H) (read_whole harg4 x2 _)))
  isplitl [H10]
  · iexists _; isplitr; swap; · iexact H10
    ipureintro; exact (read_halves _ _ _ _).trans (congrArg₂ halves (congrArg₂ k0_pay8 (read_lo harg11 H) (read_whole harg5 x3 _)) (congrArg₂ k0_pay15 (read_hi harg11 H) (read_whole harg5 x3 _)))
  isplitl [H11]
  · iexists _; isplitr; swap; · iexact H11
    ipureintro; exact harg11.read_unread _
  · iexists _; isplitr; swap; · iexact H12
    ipureintro; exact (read_rows _ _ _ _).trans (congrArg₂ rows (congr3 (fun p q r => k0_pay11 (BitVec.ofNat 32 (i 1).val) p q (constant S512x1024 .f32 0x00000000#32) r) (congr3 k0_pay9 (read_lo harg11 H) (read_whole harg4 x2 _) (read_whole harg5 x3 _)) (congrArg k0_pay10 (read_whole harg6 x4 _)) (read_lo harg12 X)) (congr4 (k0_pay1 (BitVec.ofNat 32 (i 1).val)) (congrArg₂ k0_pay13 (read_hi harg11 H) (read_whole harg5 x3 _)) (congrArg₂ k0_pay16 (read_hi harg11 H) (read_whole harg4 x2 _)) (read_whole harg6 x4 _) (read_hi harg12 X)))

end Cert.Kernel3Ideal.Hand

end
-- ==== Proof.Run3.lean ====
module

public import proofs.«01_k».proof.Proof.Body3

/-! The run of the forward kernel: what its normalised rows, its running sum and its results hold after each grid point,
and the launch. -/

@[expose] public section

set_option maxRecDepth 16384

noncomputable section

namespace Cert.Kernel3Ideal.Hand

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem N8 (t : Fin cfg0.N) : t.val < 8 := lt_of_lt_of_eq t.isLt (show cfg0.N = 8 from N_0)
theorem coord1 (t : Fin cfg0.N) : (grid0.coords t 1).val = t.val % 4 := by
  have e : (grid0.coords t 1).val = t.val / 1 % 4 := Pipeline.Grid.coords_val t 1 (by decide) rfl
  omega

theorem cond1_iff (t : Fin cfg0.N) : k0_cond1 (grid0.coords t) = 1#1 ↔ t.val % 4 = 0 := by
  have h : ∀ s : Fin 4, Scalar.cmpi .ne (Scalar.extui (Scalar.cmpi .eq (BitVec.ofNat 32 s.val) 0#32) : BitVec 32) 0#32 = 1#1 ↔ s.val = 0 := by decide
  refine (h (grid0.coords t 1)).trans ?_
  rw [coord1]
theorem cond2_iff (t : Fin cfg0.N) : k0_cond2 (grid0.coords t) = 1#1 ↔ t.val % 4 = 3 := by
  have h : ∀ s : Fin 4, Scalar.cmpi .ne (Scalar.extui (Scalar.cmpi .eq (BitVec.ofNat 32 s.val) 3#32) : BitVec 32) 0#32 = 1#1 ↔ s.val = 3 := by decide
  refine (h (grid0.coords t 1)).trans ?_
  rw [coord1]

/-! ## The running sum does not see what the scratch held at a row tile's first shard -/

theorem first_select {α : Type} (n : ℕ) (hn : n = 0) (a b : α) : Scalar.select (Scalar.cmpi .sgt (BitVec.ofNat 32 n) 0#32) a b = b := by
  subst hn; rfl

theorem accX_first (i : grid0.Coords) (h : (i 1).val = 0) (H : Vec F S1024x1024 .bf16) (wg wu wd : Vec F S1x704x1024 .bf16) (X Y : Vec F S1024x1024 .f32) :
    accX i H wg wu wd X = accX i H wg wu wd Y := by
  unfold accX
  refine congrArg₂ rows ?_ ?_
  · unfold k0_pay11; dsimp only; rw [first_select _ h, first_select _ h]
  · unfold k0_pay1; dsimp only; rw [first_select _ h, first_select _ h]

/-- A sum of zeros. -/
def zeroX : Vec F S1024x1024 .f32 := fun _ => Scalar.ofBits .f32 0x00000000#32

/-! ## The scratches after each point -/

/-- Contents iterated over the first `n` points, from what stood at the start. -/
def iter (f : Fin cfg0.N → Vec F S1024x1024 .f32 → Vec F S1024x1024 .f32) : ℕ → Vec F S1024x1024 .f32 → Vec F S1024x1024 .f32
  | 0, X => X
  | n + 1, X => if h : n < cfg0.N then f ⟨n, h⟩ (iter f n X) else iter f n X

theorem iter_succ (f : Fin cfg0.N → Vec F S1024x1024 .f32 → Vec F S1024x1024 .f32) (t : Fin cfg0.N) (X : Vec F S1024x1024 .f32) :
    iter f (t.val + 1) X = f t (iter f t.val X) := dif_pos t.isLt

theorem iter_full (f : Fin cfg0.N → Vec F S1024x1024 .f32 → Vec F S1024x1024 .f32) (hf : ∀ t : Fin cfg0.N, t.val % 4 = 0 → ∀ X Y, f t X = f t Y)
    (X Y : Vec F S1024x1024 .f32) : ∀ (n : ℕ) (t : Fin cfg0.N) (_ : t.val = n), f t (iter f t.val X) = f t (iter f t.val Y)
  | 0, t, h => hf t (by omega) _ _
  | n + 1, t, h => by
    have hN := t.isLt
    have hn : n < cfg0.N := by omega
    have e := iter_full f hf X Y n ⟨n, hn⟩ rfl
    rw [h, show n + 1 = (⟨n, hn⟩ : Fin cfg0.N).val + 1 from rfl, iter_succ, iter_succ]
    exact congrArg _ e

/-- The first point of the row tile of point `n`. -/
def start (n : ℕ) : Fin cfg0.N := ⟨4 * (n / 4) % 8, lt_of_lt_of_eq (Nat.mod_lt _ (by decide)) (show 8 = cfg0.N from N_0.symm)⟩

theorem start_first (t : Fin cfg0.N) (h : t.val % 4 = 0) : start t.val = t := Fin.ext (by
  have := N8 t
  show 4 * (t.val / 4) % 8 = t.val
  omega)

theorem start_prev (n : ℕ) (h : ¬n % 4 = 0) : start (n - 1) = start n := Fin.ext (by
  show 4 * ((n - 1) / 4) % 8 = 4 * (n / 4) % 8
  have : (n - 1) / 4 = n / 4 := by omega
  rw [this])

/-- The normalised rows of the row tile of point `n`, as the scratch holds them. -/
def rowsAt (c : Dev nD) (n : ℕ) : Vec F S1024x1024 .bf16 := k0_pay4 (iblk m c 0 (start n)) (iblk m c 1 (start n))
/-- The same, as the result holds them. -/
def outAt (c : Dev nD) (n : ℕ) : Vec F S1024x1024 .bf16 := k0_pay3 (iblk m c 0 (start n)) (iblk m c 1 (start n))

/-- What the scratch of the normalised rows holds before point `n`. -/
def heldAt (c : Dev nD) : ℕ → Vec F S1024x1024 .bf16 → Vec F S1024x1024 .bf16
  | 0, H => H
  | n + 1, _ => rowsAt m c n

theorem heldAt_mid (c : Dev nD) (n : ℕ) (h : ¬n % 4 = 0) (H : Vec F S1024x1024 .bf16) : heldAt m c n H = rowsAt m c n := by
  cases n with
  | zero => exact absurd rfl h
  | succ k =>
    show rowsAt m c k = rowsAt m c (k + 1)
    unfold rowsAt
    rw [← start_prev (k + 1) h]
    rfl

def stepA (c : Dev nD) (t : Fin cfg0.N) (X : Vec F S1024x1024 .f32) : Vec F S1024x1024 .f32 :=
  accX (grid0.coords t) (rowsAt m c t.val) (iblk m c 2 t) (iblk m c 3 t) (iblk m c 4 t) X

theorem stepA_first (c : Dev nD) (t : Fin cfg0.N) (h : t.val % 4 = 0) (X Y : Vec F S1024x1024 .f32) : stepA m c t X = stepA m c t Y :=
  accX_first _ ((coord1 t).trans h) _ _ _ _ X Y

/-! ## The pipeline's proof data -/

/-- The scratches before position `n`. -/
def PhiS (c : Dev nD) (n : ℕ) (_ : n ≤ cfg0.N) : sProp 𝕄 :=
  iprop(((∃ H, owns (c : Thread nD τ) (Memref.whole cc0_scratch0 : Memref sig .tc .vmem S1024x1024 .bf16) fullShare (heldAt m c n H))
    ∗ (∃ X, owns (c : Thread nD τ) (Memref.whole cc0_scratch1 : Memref sig .tc .vmem S1024x1024 .f32) fullShare (iter (stepA m c) n X))) ∗ (∃ r, prngReg c r))

theorem PhiA0_eq (c : Dev nD) : (Pipeline.ΦA spec0 c : sProp 𝕄)
    = iprop(((∃ d, owns (c : Thread nD τ) (Memref.whole cc0_scratch0 : Memref sig .tc .vmem S1024x1024 .bf16) fullShare d)
    ∗ (∃ d, owns (c : Thread nD τ) (Memref.whole cc0_scratch1 : Memref sig .tc .vmem S1024x1024 .f32) fullShare d)) ∗ (∃ r, prngReg c r)) := by
  unfold Pipeline.ΦA; rw [scopedRest0_eq]; simp only [owns_whole]; try rfl

/-- Each window's staging buffer after the body at `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay2 (iblk m c 0 t) (stepA m c t (iter (stepA m c) t.val zeroX))
    | ⟨6, _⟩ => outAt m c t.val
    | ⟨7, _⟩ => gateV (rowsAt m c t.val) (iblk m c 2 t)
    | ⟨8, _⟩ => upV (rowsAt m c t.val) (iblk m c 3 t)
    | ⟨_ + 9, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]
theorem Phi_castSucc (c : Dev nD) (t : Fin cfg0.N) : (dats m 0 c).Φ t.castSucc = PhiS m c t.val (Nat.le_of_lt t.isLt) := by
  dsimp only [dats]; exact Pipeline.Dat.Φ_castSucc (PhiS m c) t
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = k0_pay2 (iblk m c 0 t) (stepA m c t (iter (stepA m c) t.val zeroX)) := by dsimp only [dats]
theorem after6 (c : Dev nD) (t : Fin cfg0.N) : (dats m 0 c).after 6 t = outAt m c t.val := by dsimp only [dats]
theorem after7 (c : Dev nD) (t : Fin cfg0.N) : (dats m 0 c).after 7 t = gateV (rowsAt m c t.val) (iblk m c 2 t) := by dsimp only [dats]
theorem after8 (c : Dev nD) (t : Fin cfg0.N) : (dats m 0 c).after 8 t = upV (rowsAt m c t.val) (iblk m c 3 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

theorem idle5 (t : Fin cfg0.N) : cfg0.idle 5 (cfg0.grid.coords t) = decide (¬t.val % 4 = 3) := by
  show (!(k0_cond2 (grid0.coords t) == 1#1)) = _
  have h := cond2_iff t
  by_cases hc : k0_cond2 (grid0.coords t) = 1#1
  · rw [hc]; have := h.mp hc; simp only [BEq.rfl, Bool.not_true]; exact (decide_eq_false (by omega)).symm
  · have : ¬t.val % 4 = 3 := fun hh => hc (h.mpr hh)
    rw [beq_eq_false_iff_ne.mpr hc]; exact (decide_eq_true (by omega)).symm
theorem idle6 (t : Fin cfg0.N) : cfg0.idle 6 (cfg0.grid.coords t) = decide (¬t.val % 4 = 0) := by
  show (!(k0_cond1 (grid0.coords t) == 1#1)) = _
  have h := cond1_iff t
  by_cases hc : k0_cond1 (grid0.coords t) = 1#1
  · rw [hc]; have := h.mp hc; simp only [BEq.rfl, Bool.not_true]; exact (decide_eq_false (by omega)).symm
  · have : ¬t.val % 4 = 0 := fun hh => hc (h.mpr hh)
    rw [beq_eq_false_iff_ne.mpr hc]; exact (decide_eq_true (by omega)).symm

/-- The window of the normalised rows still holds them at a row tile's later shards. -/
theorem before6 (c : Dev nD) : ∀ (n : ℕ) (t : Fin cfg0.N) (_ : t.val = n) (_ : ¬t.val % 4 = 0) (d), (dats m 0 c).before 6 t d = outAt m c t.val
  | 0, t, hn, h0, _ => absurd (by omega) h0
  | n + 1, t, hn, h0, d => by
    have hN := t.isLt
    have hn' : n < cfg0.N := by omega
    have hp : (⟨t.val - 1, by omega⟩ : Fin cfg0.N) = ⟨n, hn'⟩ := Fin.ext (by show t.val - 1 = n; omega)
    have hs : outAt m c n = outAt m c t.val := by
      unfold outAt; rw [← start_prev t.val h0, show t.val - 1 = n by omega]
    have hfl : (cfg0.win 6).flush ⟨n, hn'⟩ = false := Bool.eq_false_iff.mpr fun h => by have := (flush0_6 ⟨n, hn'⟩).mp h; dsimp only at this; omega
    rw [(dats m 0 c).before_of_pos 6 t (by omega) ((cfg0.win 6).fetch_out rfl _) d, hp, hfl, if_neg Bool.false_ne_true]
    unfold Dat.left
    by_cases hz : n % 4 = 0
    · have hi : cfg0.idle 6 (cfg0.grid.coords ⟨n, hn'⟩) = false := (idle6 ⟨n, hn'⟩).trans (decide_eq_false (fun h => h hz))
      rw [hi]
      exact (after6 m c ⟨n, hn'⟩).trans hs
    · have hi : cfg0.idle 6 (cfg0.grid.coords ⟨n, hn'⟩) = true := (idle6 ⟨n, hn'⟩).trans (decide_eq_true hz)
      rw [hi]
      exact (before6 c n ⟨n, hn'⟩ rfl hz d).trans hs

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves_live (c : Dev nD) (w : Fin cfg0.W) (t : Fin cfg0.N) (hl : cfg0.loose w = false) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- At a point where the window is written back it must hold the result, whether the body stored to it there or not. -/
theorem leaves_flush (c : Dev nD) (w : Fin cfg0.W) (t : Fin cfg0.N) (hl : cfg0.loose w = false) (h : (cfg0.win w).flush t = true) :
    (dats m 0 c).leavesExact w t = owns (c : Thread nD τ) ((cfg0.win w).stage (cfg0.slots t w)) fullShare ((dats m 0 c).after w t) := by
  unfold Dat.leavesExact; rw [h]; cases cfg0.idle w (cfg0.grid.coords t) <;> rfl

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl, show (dats m 0 c).Φ t.succ = PhiS m c (t.val + 1) t.isLt from rfl, Phi_castSucc]
  rw [leaves_live m c 0 t rfl rfl, after0, leaves_live m c 1 t rfl rfl, after1, leaves_live m c 2 t rfl rfl, after2, leaves_live m c 3 t rfl rfl, after3, leaves_live m c 4 t rfl rfl, after4, leaves_live m c 7 t rfl rfl, after7, leaves_live m c 8 t rfl rfl, after8]
  unfold PhiS
  simp only [iter_succ]
  by_cases h0 : t.val % 4 = 0
  · have h3 : ¬t.val % 4 = 3 := by omega
    have es : rowsAt m c t.val = k0_pay4 (iblk m c 0 t) (iblk m c 1 t) := by unfold rowsAt; rw [start_first t h0]
    have eo : outAt m c t.val = k0_pay3 (iblk m c 0 t) (iblk m c 1 t) := by unfold outAt; rw [start_first t h0]
    rw [(dats m 0 c).leavesExact_idle 5 t ((idle5 t).trans (decide_eq_true (by omega))) (Bool.eq_false_iff.mpr fun h => h3 ((flush0_5 t).mp h)), leaves_live m c 6 t rfl ((idle6 t).trans (decide_eq_false (by omega))), after6, eo]
    unfold stepA
    simp only [heldAt, es]
    iintro ⟨⟨⟨⟨%H, HH⟩, ⟨%X, HX⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (bodyFirst c (grid0.coords t) _ _ _ _ _ _ _ _ _ _ _ _ _ _ _ _ _ _ _ _ _ _ ((cond1_iff t).mpr h0) (fun h => h3 ((cond2_iff t).mp h)) (iblk m c 0 t) (iblk m c 1 t) (iblk m c 2 t) (iblk m c 3 t) (iblk m c 4 t) ((dats m 0 c).before 5 t d5) (iter (stepA m c) t.val X) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HH]; · iexists _; iexact HH
    isplitl [HX]; · iexact HX
    iintro ⟨H0, H1, H2, H3, H4, H5, H6, H7, H8, HH, HX⟩
    isplitl [HH HX Hg]
    · isplitl [HH HX]
      · isplitl [HH]; · iexists (rowsAt m c 0); iexact HH
        iexists X; iexact HX
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists d5; iexact H5
    isplitl [H6]; · iexact H6
    isplitl [H7]; · iexact H7
    iexact H8
  · by_cases h3 : t.val % 4 = 3
    · rw [leaves_live m c 5 t rfl ((idle5 t).trans (decide_eq_false (by omega))), after5, leaves_flush m c 6 t rfl ((flush0_6 t).mpr h3), after6]
      simp only [heldAt_mid m c t.val h0, before6 m c t.val t rfl h0, show ∀ H, heldAt m c (t.val + 1) H = rowsAt m c t.val from fun _ => rfl]
      iintro ⟨⟨⟨⟨%H, HH⟩, ⟨%X, HX⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (bodyLast c (grid0.coords t) _ _ _ _ _ _ _ _ _ _ _ _ _ _ _ _ _ _ _ _ _ _ (fun h => h0 ((cond1_iff t).mp h)) ((cond2_iff t).mpr h3) (iblk m c 0 t) (iblk m c 1 t) (iblk m c 2 t) (iblk m c 3 t) (iblk m c 4 t) (outAt m c t.val) (rowsAt m c t.val) (iter (stepA m c) t.val X) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexists _; iexact H7
      isplitl [H8]; · iexists _; iexact H8
      isplitl [HH]; · iexact HH
      isplitl [HX]; · iexact HX
      iintro ⟨H0, H1, H2, H3, H4, H5, H6, H7, H8, HH, HX⟩
      isplitl [HH HX Hg]
      · isplitl [HH HX]
        · isplitl [HH]; · iexists (rowsAt m c 0); iexact HH
          iexists X; iexact HX
        iexact Hg
      isplitl [Ho]; · iexact Ho
      isplitl [H0]; · iexact H0
      isplitl [H1]; · iexact H1
      isplitl [H2]; · iexact H2
      isplitl [H3]; · iexact H3
      isplitl [H4]; · iexact H4
      isplitl [H5]; · rw [← iter_full (stepA m c) (stepA_first m c) X zeroX t.val t rfl]; iexact H5
      isplitl [H6]; · iexact H6
      isplitl [H7]; · iexact H7
      iexact H8
    · rw [(dats m 0 c).leavesExact_idle 5 t ((idle5 t).trans (decide_eq_true (by omega))) (Bool.eq_false_iff.mpr fun h => h3 ((flush0_5 t).mp h)), (dats m 0 c).leavesExact_idle 6 t ((idle6 t).trans (decide_eq_true (by omega))) (Bool.eq_false_iff.mpr fun h => h3 ((flush0_6 t).mp h))]
      simp only [heldAt_mid m c t.val h0, show ∀ H, heldAt m c (t.val + 1) H = rowsAt m c t.val from fun _ => rfl]
      iintro ⟨⟨⟨⟨%H, HH⟩, ⟨%X, HX⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (bodyMid c (grid0.coords t) _ _ _ _ _ _ _ _ _ _ _ _ _ _ _ _ _ _ _ _ _ _ (fun h => h0 ((cond1_iff t).mp h)) (fun h => h3 ((cond2_iff t).mp h)) (iblk m c 0 t) (iblk m c 1 t) (iblk m c 2 t) (iblk m c 3 t) (iblk m c 4 t) ((dats m 0 c).before 5 t d5) ((dats m 0 c).before 6 t d6) (rowsAt m c t.val) (iter (stepA m c) t.val X) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HH]; · iexact HH
      isplitl [HX]; · iexact HX
      iintro ⟨H0, H1, H2, H3, H4, H5, H6, H7, H8, HH, HX⟩
      isplitl [HH HX Hg]
      · isplitl [HH HX]
        · isplitl [HH]; · iexists (rowsAt m c 0); iexact HH
          iexists X; iexact HX
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists d5; iexact H5
      isplitl [H6]; · iexists d6; iexact H6
      isplitl [H7]; · iexact H7
      iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiA0_eq]
  exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiA0_eq]
  unfold PhiS
  iintro ⟨⟨⟨%H, HH⟩, ⟨%X, HX⟩⟩, Hg⟩
  isplitl [HH HX]
  · isplitl [HH]; · iexists _; iexact HH
    iexists _; iexact HX
  iexact Hg

/-! ## The run and the frame -/

set_option backward.isDefEq.respectTransparency.types false in
/-- The launch: every array of the pipeline ends at what the proof data says, every counter at zero. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch0.to₀ defs₀ Variants.none m ρ main
    (hbody := fun c => (body_obligation m c).loose) (hq := fun _ _ _ => rfl)
    (howed := fun _ _ => rfl) (V := V m) (hmain := hmain m Variants.none) (hA := A_eq m) (hin := hin m) (hout := hout m)

end Cert.Kernel3Ideal.Hand

end
-- ==== Proof.Frames3.lean ====
module

public import proofs.«01_k».proof.Defs
public import proofs.«01_k».proof.Proof.Run3
public import proofs.«01_k».proof.Proof.Gen.Kernel3
public import proofs.«01_k».proof.Proof.Gen.Reference3Ideal
public import Idealize.ShloMosaic.Lib.Tactic
public import Idealize.ShloMosaic.Lib.Claim
public import proofs.«01_k».proof.Proof.Gen.Reference3Ideal.Run

/-! The frame claims of the forward kernel, from its one run over any float operations, and of its reference. -/

@[expose] public section

set_option maxRecDepth 100000

noncomputable section

namespace Cert.Proof

open Idealize.ShloMosaic Idealize.ShloMosaic.Tactic Idealize.SL.Sem

theorem frame3_any {F : FTy → Type} [FloatOps F] (m : (ℓ : Loc Cert.Kernel3Ideal.nD Cert.Kernel3Ideal.τ Cert.Kernel3Ideal.sig) → Buf (Elt F) ℓ)
    (ρ : Dev Cert.Kernel3Ideal.nD → PrngReg) :
    θ_run Cert.Kernel3Ideal.defs (onTc (τ := Cert.Kernel3Ideal.τ) (Cert.Kernel3Ideal.main (F := F))) ⟨m, fun _ => 0, ρ⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0) :=
  θ_run_and (Cert.Kernel3Ideal.Gen.frame_of m ρ (Cert.Kernel3Ideal.Hand.dats m) (Cert.Kernel3Ideal.Hand.A_eq m)
    ((θ_run Cert.Kernel3Ideal.defs _ _).mono (fun _ h => h.1) (Cert.Kernel3Ideal.Hand.run_main m ρ)))
    ((θ_run Cert.Kernel3Ideal.defs _ _).mono (fun _ h => h.2) (Cert.Kernel3Ideal.Hand.run_main m ρ))

set_option maxHeartbeats 4000000 in
/-- The two programs have one body table. -/
theorem body_table3 {F : FTy → Type} [FloatOps F] : Cert.Kernel3.defs₀ (F := F) = Cert.Kernel3Ideal.defs₀ (F := F) := by
  unfold Cert.Kernel3.defs₀ Cert.Kernel3Ideal.defs₀
  refine congrArg Defs.onTc ?_
  funext ℓ x
  match ℓ, x with
  | 0, (t, s) => rfl
  | ⟨_ + 1, h⟩, _ => exact absurd h (Nat.not_lt.2 (Nat.le_add_left _ _))

set_option maxHeartbeats 4000000 in
theorem table3 {F : FTy → Type} [FloatOps F] : Cert.Kernel3.defs (F := F) = Cert.Kernel3Ideal.defs (F := F) :=
  congrArg (Pipeline.defs (Cert.Kernel3Ideal.pcfgs (F := F))) body_table3

set_option maxHeartbeats 4000000 in
theorem frame3_kernel : Cert.quiescent_Kernel3 := by
  intro m ρ _
  rw [table3]
  exact frame3_any (F := Bits) m ρ

theorem frame3_ideal : Cert.quiescent_Kernel3Ideal := fun m ρ _ => frame3_any (F := Ideal) m ρ

/-- The reference's run leaves its arguments, and it declares no semaphore. -/
theorem frame3_reference : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

end Cert.Proof

end
-- ==== Proof.Pay3.lean ====
/-
  What the forward kernel's body computes at one grid point, at each index: among the reals and the infinities.
-/
module

public import proofs.«01_k».proof.Proof.Body3
public import proofs.«01_k».proof.Proof.Ref
public import Idealize.ShloMosaic.Lib.Pointwise
public import Idealize.ShloMosaic.Lib.Pipeline.ValueKit

@[expose] public section

set_option maxRecDepth 16384

noncomputable section

namespace Cert.Kernel3Ideal.Hand

open Cert.Kernel3Ideal.Gen
open Idealize.ShloMosaic Idealize.ShloMosaic.TcCoe Cert.Spec
open Cert.ReferenceIdeal.Hand (rRows rDot rH rNx rN rR rMs rMid rSig rOne J2)

/-- The logistic function through the hyperbolic tangent of half the argument, at the infinities too. -/
theorem sg_ext (g : EReal) :
    ((1 / 2 : ℝ) : EReal) * Ideal.tanh (((1 / 2 : ℝ) : EReal) * g) + ((1 / 2 : ℝ) : EReal) = Ideal.div 1 (1 + Ideal.exp (-g)) := by
  have hp : (0 : ℝ) < 1 / 2 := by norm_num
  induction g using EReal.rec with
  | bot =>
    rw [EReal.coe_mul_bot_of_pos hp, Ideal.tanh_bot, EReal.neg_bot, Ideal.exp_top, EReal.add_top_of_ne_bot (by exact EReal.coe_ne_bot 1)]
    have e : Ideal.div 1 ⊤ = 0 := by unfold Ideal.div; rw [if_neg EReal.top_ne_zero, EReal.inv_top, mul_zero]
    rw [e, show (-1 : EReal) = ((-1 : ℝ) : EReal) from rfl, ← EReal.coe_mul, ← EReal.coe_add]
    norm_num
  | top =>
    rw [EReal.coe_mul_top_of_pos hp, Ideal.tanh_top, EReal.neg_top, Ideal.exp_bot, add_zero]
    have e : Ideal.div 1 1 = 1 := by
      have := coe_div 1 1 one_ne_zero
      rw [div_one] at this; exact this
    rw [e, mul_one, ← EReal.coe_add]
    norm_num
  | coe g =>
    rw [← EReal.coe_mul, Ideal.tanh_coe, ← EReal.coe_mul, ← EReal.coe_add, sg_tanh, ← EReal.coe_neg, Ideal.exp_coe, ← EReal.coe_one,
      ← EReal.coe_add, coe_div _ _ (one_add_exp _)]
    rfl

/-- The activation at one index, from the gate's product and the up product. -/
def mid (g u : EReal) : EReal := g * Ideal.div 1 (1 + Ideal.exp (-g)) * u

theorem rMid_at (g u : J2) (r : Fin 2048) (j : Fin 2816) : rMid g u (ix2 r j) = mid (g (ix2 r j)) (u (ix2 r j)) := by
  pointwise [rMid, rSig, rOne]; rfl
theorem rDot_at (h : FVec Ideal S2048x1024 .f32) (w : FVec Ideal S1024x2816 .f32) (r : Fin 2048) (j : Fin 2816) :
    rDot h w (ix2 r j) = ∑ k : Fin 1024, h (ix2 r k) * w (ix2 k j) := by
  pointwise [rDot]

section half
variable (h : FVec Ideal S512x1024 .bf16) (w wg wu wd : FVec Ideal S1x704x1024 .bf16) (r : Fin 512) (j : Fin 704) (k : Fin 1024)

theorem pay5_at : k0_pay5 (F := Ideal) h w (ix2 r j) = ∑ k : Fin 1024, h (ix2 r k) * w (ix3 0 j k) := by pointwise [k0_pay5]
theorem pay6_at : k0_pay6 (F := Ideal) h w (ix2 r j) = ∑ k : Fin 1024, h (ix2 r k) * w (ix3 0 j k) := by pointwise [k0_pay6]
theorem pay12_at : k0_pay12 (F := Ideal) h w (ix2 r j) = ∑ k : Fin 1024, h (ix2 r k) * w (ix3 0 j k) := by pointwise [k0_pay12]
theorem pay13_at : k0_pay13 (F := Ideal) h w (ix2 r j) = ∑ k : Fin 1024, h (ix2 r k) * w (ix3 0 j k) := by pointwise [k0_pay13]
theorem pay7_at : k0_pay7 (F := Ideal) h w (ix3 0 r j) = ∑ k : Fin 1024, h (ix2 r k) * w (ix3 0 j k) := by pointwise [k0_pay7, pay5_at]
theorem pay8_at : k0_pay8 (F := Ideal) h w (ix3 0 r j) = ∑ k : Fin 1024, h (ix2 r k) * w (ix3 0 j k) := by pointwise [k0_pay8, pay6_at]
theorem pay14_at : k0_pay14 (F := Ideal) h w (ix3 0 r j) = ∑ k : Fin 1024, h (ix2 r k) * w (ix3 0 j k) := by pointwise [k0_pay14, pay12_at]
theorem pay15_at : k0_pay15 (F := Ideal) h w (ix3 0 r j) = ∑ k : Fin 1024, h (ix2 r k) * w (ix3 0 j k) := by pointwise [k0_pay15, pay13_at]
theorem pay9_at : k0_pay9 (F := Ideal) h wg wu (ix2 r j)
    = mid (∑ k : Fin 1024, h (ix2 r k) * wg (ix3 0 j k)) (∑ k : Fin 1024, h (ix2 r k) * wu (ix3 0 j k)) := by
  pointwise [k0_pay9, pay5_at, pay6_at, cHalf]
  rw [sg_ext]; rfl
theorem pay16_at : k0_pay16 (F := Ideal) h wg (ix2 r j)
    = (∑ k : Fin 1024, h (ix2 r k) * wg (ix3 0 j k)) * Ideal.div 1 (1 + Ideal.exp (-(∑ k : Fin 1024, h (ix2 r k) * wg (ix3 0 j k)))) := by
  pointwise [k0_pay16, pay12_at, cHalf]
  rw [sg_ext]

/-- One shard's contribution to the down product. -/
def part (h : Fin 1024 → EReal) (wg wu wd : Fin 704 → Fin 1024 → EReal) (k : Fin 1024) : EReal :=
  ∑ j, mid (∑ l, h l * wg j l) (∑ l, h l * wu j l) * wd j k

theorem later_select {α : Type} (n : Fin 4) (hn : n.val ≠ 0) (a b : α) :
    Scalar.select (Scalar.cmpi .sgt (BitVec.ofNat 32 n.val) 0#32) a b = a := by
  have h : ∀ n : Fin 4, n.val ≠ 0 → Scalar.cmpi .sgt (BitVec.ofNat 32 n.val) 0#32 = 1#1 := by decide
  rw [h n hn]; rfl
theorem zero_select {α : Type} (n : Fin 4) (hn : n.val = 0) (a b : α) :
    Scalar.select (Scalar.cmpi .sgt (BitVec.ofNat 32 n.val) 0#32) a b = b := by
  rw [hn]; rfl

theorem pay11_at (n : Fin 4) (old : FVec Ideal S512x1024 .f32) :
    k0_pay11 (F := Ideal) (BitVec.ofNat 32 n.val) (k0_pay9 h wg wu) (k0_pay10 wd) (constant S512x1024 .f32 0x00000000#32) old (ix2 r k)
      = part (fun l => h (ix2 r l)) (fun j l => wg (ix3 0 j l)) (fun j l => wu (ix3 0 j l)) (fun j l => wd (ix3 0 j l)) k
        + (if n.val = 0 then 0 else old (ix2 r k)) := by
  unfold k0_pay11
  by_cases hn : n.val = 0
  · rw [if_pos hn, zero_select n hn]
    pointwise [pay9_at, k0_pay10]
    rfl
  · rw [if_neg hn, later_select n hn]
    pointwise [pay9_at, k0_pay10]
    rfl
theorem pay1_at (n : Fin 4) (old : FVec Ideal S512x1024 .f32) :
    k0_pay1 (F := Ideal) (BitVec.ofNat 32 n.val) (k0_pay13 h wu) (k0_pay16 h wg) wd old (ix2 r k)
      = part (fun l => h (ix2 r l)) (fun j l => wg (ix3 0 j l)) (fun j l => wu (ix3 0 j l)) (fun j l => wd (ix3 0 j l)) k
        + (if n.val = 0 then 0 else old (ix2 r k)) := by
  unfold k0_pay1
  by_cases hn : n.val = 0
  · rw [if_pos hn, zero_select n hn]
    pointwise [pay13_at, pay16_at]
    rfl
  · rw [if_neg hn, later_select n hn]
    pointwise [pay13_at, pay16_at]
    rfl
end half

/-! ## Halves of a row tile -/

theorem rLo_at {e : EltTy} (b : Vec Ideal S1024x1024 e) (r : Fin 512) (k : Fin 1024) : rLo (F := Ideal) b (ix2 r k) = b (ix2 ⟨r.val, by omega⟩ k) := by
  refine congrArg b (funext fun a => Fin.ext ?_)
  fin_cases a
  · show 0 + 1 * r.val = r.val; omega
  · show 0 + 1 * k.val = k.val; omega
theorem rHi_at {e : EltTy} (b : Vec Ideal S1024x1024 e) (r : Fin 512) (k : Fin 1024) : rHi (F := Ideal) b (ix2 r k) = b (ix2 ⟨512 + r.val, by omega⟩ k) := by
  refine congrArg b (funext fun a => Fin.ext ?_)
  fin_cases a
  · show 512 + 1 * r.val = 512 + r.val; omega
  · show 0 + 1 * k.val = k.val; omega

theorem halves_at (lo hi : FVec Ideal S1x512x704 .bf16) (f : Fin 1024 → Fin 704 → EReal)
    (h1 : ∀ (r : Fin 512) (j : Fin 704), lo (ix3 0 r j) = f ⟨r.val, by omega⟩ j)
    (h2 : ∀ (r : Fin 512) (j : Fin 704), hi (ix3 0 r j) = f ⟨512 + r.val, by omega⟩ j) (r : Fin 1024) (j : Fin 704) :
    halves (F := Ideal) lo hi (ix3 0 r j) = f r j := by
  unfold halves
  by_cases hr : r.val < 512
  · rw [View.canon_cons_of_not_mem _ _ (by
      rw [Rect.mem_set_unit]; intro h
      have : 512 ≤ r.val := (h 1).1
      omega)]
    have e : (ix3 0 r j : S1x1024x704.Idx)
        = (Rect.unit (s := S1x1024x704) ![0, 0, 0] S1x512x704.size inb_S1x1024x704_S1x512x704_0_0_0).emb (ix3 0 ⟨r.val, hr⟩ j : S1x512x704.Idx) := by
      funext a; refine Fin.ext ?_
      fin_cases a
      · rfl
      · show r.val = 0 + 1 * r.val; omega
      · show j.val = 0 + 1 * j.val; omega
    rw [e]
    exact (View.canon_cons_emb _ _ _ _).trans (h1 ⟨r.val, hr⟩ j)
  · have e : (ix3 0 r j : S1x1024x704.Idx)
        = (Rect.unit (s := S1x1024x704) ![0, 512, 0] S1x512x704.size inb_S1x1024x704_S1x512x704_0_512_0).emb (ix3 0 ⟨r.val - 512, by omega⟩ j : S1x512x704.Idx) := by
      funext a; refine Fin.ext ?_
      fin_cases a
      · rfl
      · show r.val = 512 + 1 * (r.val - 512); omega
      · show j.val = 0 + 1 * j.val; omega
    rw [e]
    refine (View.canon_cons_emb _ _ _ _).trans ((h2 ⟨r.val - 512, by omega⟩ j).trans ?_)
    congr 1; exact Fin.ext (by show 512 + (r.val - 512) = r.val; omega)

theorem rows_at (lo hi : FVec Ideal S512x1024 .f32) (f : Fin 1024 → Fin 1024 → EReal)
    (h1 : ∀ (r : Fin 512) (k : Fin 1024), lo (ix2 r k) = f ⟨r.val, by omega⟩ k)
    (h2 : ∀ (r : Fin 512) (k : Fin 1024), hi (ix2 r k) = f ⟨512 + r.val, by omega⟩ k) (r : Fin 1024) (k : Fin 1024) :
    rows (F := Ideal) lo hi (ix2 r k) = f r k := by
  unfold rows
  by_cases hr : r.val < 512
  · rw [View.canon_cons_of_not_mem _ _ (by
      rw [Rect.mem_set_unit]; intro h
      have : 512 ≤ r.val := (h 0).1
      omega)]
    have e : (ix2 r k : S1024x1024.Idx)
        = (Rect.unit (s := S1024x1024) ![0, 0] S512x1024.size inb_S1024x1024_S512x1024_0_0).emb (ix2 ⟨r.val, hr⟩ k : S512x1024.Idx) := by
      funext a; refine Fin.ext ?_
      fin_cases a
      · show r.val = 0 + 1 * r.val; omega
      · show k.val = 0 + 1 * k.val; omega
    rw [e]
    exact (View.canon_cons_emb _ _ _ _).trans (h1 ⟨r.val, hr⟩ k)
  · have e : (ix2 r k : S1024x1024.Idx)
        = (Rect.unit (s := S1024x1024) ![512, 0] S512x1024.size inb_S1024x1024_S512x1024_512_0).emb (ix2 ⟨r.val - 512, by omega⟩ k : S512x1024.Idx) := by
      funext a; refine Fin.ext ?_
      fin_cases a
      · show r.val = 512 + 1 * (r.val - 512); omega
      · show k.val = 0 + 1 * k.val; omega
    rw [e]
    refine (View.canon_cons_emb _ _ _ _).trans ((h2 ⟨r.val - 512, by omega⟩ k).trans ?_)
    congr 1; exact Fin.ext (by show 512 + (r.val - 512) = r.val; omega)

section tile
variable (h : FVec Ideal S1024x1024 .bf16) (wg wu wd : FVec Ideal S1x704x1024 .bf16)

theorem gateV_at (r : Fin 1024) (j : Fin 704) : gateV (F := Ideal) h wg (ix3 0 r j) = ∑ k : Fin 1024, h (ix2 r k) * wg (ix3 0 j k) := by
  unfold gateV
  refine halves_at _ _ (fun r j => ∑ k : Fin 1024, h (ix2 r k) * wg (ix3 0 j k)) (fun r j => ?_) (fun r j => ?_) r j
  · rw [pay7_at]; exact Finset.sum_congr rfl fun k _ => by rw [rLo_at]
  · rw [pay14_at]; exact Finset.sum_congr rfl fun k _ => by rw [rHi_at]
theorem upV_at (r : Fin 1024) (j : Fin 704) : upV (F := Ideal) h wu (ix3 0 r j) = ∑ k : Fin 1024, h (ix2 r k) * wu (ix3 0 j k) := by
  unfold upV
  refine halves_at _ _ (fun r j => ∑ k : Fin 1024, h (ix2 r k) * wu (ix3 0 j k)) (fun r j => ?_) (fun r j => ?_) r j
  · rw [pay8_at]; exact Finset.sum_congr rfl fun k _ => by rw [rLo_at]
  · rw [pay15_at]; exact Finset.sum_congr rfl fun k _ => by rw [rHi_at]

theorem accX_at (i : grid0.Coords) (n : Fin 4) (hn : (i 1).val = n.val) (X : FVec Ideal S1024x1024 .f32) (r k : Fin 1024) :
    accX (F := Ideal) i h wg wu wd X (ix2 r k)
      = part (fun l => h (ix2 r l)) (fun j l => wg (ix3 0 j l)) (fun j l => wu (ix3 0 j l)) (fun j l => wd (ix3 0 j l)) k
        + (if n.val = 0 then 0 else X (ix2 r k)) := by
  unfold accX
  rw [hn]
  refine rows_at _ _ (fun r k => part (fun l => h (ix2 r l)) (fun j l => wg (ix3 0 j l)) (fun j l => wu (ix3 0 j l)) (fun j l => wd (ix3 0 j l)) k
        + (if n.val = 0 then 0 else X (ix2 r k))) (fun r k => ?_) (fun r k => ?_) r k
  · rw [pay11_at]; simp only [rLo_at]
  · rw [pay1_at]; simp only [rHi_at]

theorem pay2_at (x a : FVec Ideal S1024x1024 .f32) (r k : Fin 1024) :
    k0_pay2 (F := Ideal) x a (ix2 r k) = x (ix2 r k) + ((1 / 2 : ℝ) : EReal) * a (ix2 r k) := by
  pointwise [k0_pay2, cHalf]
end tile

/-- The normalised rows of a tile, from the rows it stages. -/
theorem pay3_at {xb : FVec Ideal S1024x1024 .f32} {nb : FVec Ideal S1x1024 .f32} {x : FVec Ideal S2048x1024 .f32} {n : FVec Ideal S1024 .f32}
    (row : Fin 1024 → Fin 2048) (hx : ∀ r k : Fin 1024, xb (ix2 r k) = x (ix2 (row r) k)) (hn : ∀ k : Fin 1024, nb (ix2 0 k) = n (ix1 k))
    (r k : Fin 1024) : k0_pay3 (F := Ideal) xb nb (ix2 r k) = rH x n (ix2 (row r) k) := by
  pointwise [k0_pay3, rH, rNx, rR, rMs, rN, hx, hn, c1024, cEps]
theorem pay4_at (xb : FVec Ideal S1024x1024 .f32) (nb : FVec Ideal S1x1024 .f32) (r k : Fin 1024) :
    k0_pay4 (F := Ideal) xb nb (ix2 r k) = k0_pay3 (F := Ideal) xb nb (ix2 r k) := by
  pointwise [k0_pay4]

end Cert.Kernel3Ideal.Hand

end
-- ==== Proof.KValue3.lean ====
/-
  What the forward kernel's result arrays hold after the run: the half step, the normalised rows, and the two products.
-/
module

public import proofs.«01_k».proof.Proof.Run3
public import proofs.«01_k».proof.Proof.Pay3
public import proofs.«01_k».proof.Proof.Ref
public import Idealize.ShloMosaic.Lib.Pointwise
public import Idealize.ShloMosaic.Lib.Pipeline.ValueKit
public import Idealize.ShloMosaic.Lib.Claim

@[expose] public section

set_option maxRecDepth 16384

noncomputable section

namespace Cert.Kernel3Ideal.Hand

open Cert.Kernel3Ideal.Gen
open Idealize.ShloMosaic Idealize.ShloMosaic.TcCoe Cert.Spec
open Idealize.ShloMosaic.Pipeline (Dat)
open Cert.ReferenceIdeal.Hand (rRows rDot rH J2)

variable (m : (ℓ : Loc nD τ sig) → Buf (Elt Ideal) ℓ) (c : Dev nD)

def kX : FVec Ideal S2048x1024 .f32 := m ((c.tc : Thread nD τ).loc main_arg0)
def kN : FVec Ideal S1024 .f32 := m ((c.tc : Thread nD τ).loc main_arg1)
def kG : FVec Ideal S1024x2816 .f32 := m ((c.tc : Thread nD τ).loc main_arg2)
def kU : FVec Ideal S1024x2816 .f32 := m ((c.tc : Thread nD τ).loc main_arg3)
def kD : FVec Ideal S2816x1024 .f32 := m ((c.tc : Thread nD τ).loc main_arg4)

/-- The normalised rows. -/
def tH : FVec Ideal S2048x1024 .f32 := rH (kX m c) (kN m c)
/-- The gate's product. -/
def tG : J2 := rDot (tH m c) (kG m c)
/-- The up product. -/
def tU : J2 := rDot (tH m c) (kU m c)

/-- A weight of 2816 rows, cut into four blocks of 704. -/
def shards (w : FVec Ideal S2816x1024 .f32) : FVec Ideal S4x704x1024 .bf16 :=
  truncf .bf16 (shapeCast _ w shapeCasts_S2816x1024_S4x704x1024) bitsLt_bf16_f32

theorem V0 : V m c main_v0 = shapeCast S1x1024 (kN m c) shapeCasts_S1024_S1x1024 := by entry_read; rfl
theorem V3 : V m c main_v3 = shards (transpose S2816x1024 [1, 0] (kG m c) transposes_S1024x2816_S2816x1024_1_0) := by entry_read; rfl
theorem V6 : V m c main_v6 = shards (transpose S2816x1024 [1, 0] (kU m c) transposes_S1024x2816_S2816x1024_1_0) := by entry_read; rfl
theorem V8 : V m c main_v8 = shards (kD m c) := by entry_read; rfl

theorem idx (t : Fin cfg0.N) : win0_0.index t = ![t.val / 4, 0] ∧ win0_1.index t = ![0, 0]
    ∧ win0_2.index t = ![t.val % 4, 0, 0] ∧ win0_3.index t = ![t.val % 4, 0, 0] ∧ win0_4.index t = ![t.val % 4, 0, 0]
    ∧ win0_5.index t = ![t.val / 4, 0] ∧ win0_6.index t = ![t.val / 4, 0]
    ∧ win0_7.index t = ![t.val % 4, t.val / 4, 0] ∧ win0_8.index t = ![t.val % 4, t.val / 4, 0] :=
  (by decide +kernel : ∀ t : Fin grid0.N, win0_0.index t = ![t.val / 4, 0] ∧ win0_1.index t = ![0, 0]
    ∧ win0_2.index t = ![t.val % 4, 0, 0] ∧ win0_3.index t = ![t.val % 4, 0, 0] ∧ win0_4.index t = ![t.val % 4, 0, 0]
    ∧ win0_5.index t = ![t.val / 4, 0] ∧ win0_6.index t = ![t.val / 4, 0]
    ∧ win0_7.index t = ![t.val % 4, t.val / 4, 0] ∧ win0_8.index t = ![t.val % 4, t.val / 4, 0]) t

/-- The row tile of a grid point, and its shard. -/
def pt (t : Fin cfg0.N) : Fin 2 := ⟨t.val / 4, by have := N8 t; omega⟩
def sh (t : Fin cfg0.N) : Fin 4 := ⟨t.val % 4, by omega⟩
/-- Row `r` of row tile `p`. -/
def row (p : Fin 2) (r : Fin 1024) : Fin 2048 := ⟨p.val * 1024 + r.val, by omega⟩
/-- Column `j` of shard `s`. -/
def col (s : Fin 4) (j : Fin 704) : Fin 2816 := ⟨s.val * 704 + j.val, by omega⟩

theorem pt_start (t : Fin cfg0.N) : pt (start t.val) = pt t := Fin.ext (by
  have := N8 t
  show 4 * (t.val / 4) % 8 / 4 = t.val / 4
  omega)

/-! ## The blocks -/

theorem b0 (t : Fin cfg0.N) (r k : Fin 1024) :
    (show FVec Ideal S1024x1024 .f32 from iblk m c 0 t) (ix2 r k) = kX m c (ix2 (row (pt t) r) k) := by
  have e : (show FVec Ideal S1024x1024 .f32 from iblk m c 0 t) (ix2 r k)
      = (show FVec Ideal S2048x1024 .f32 from V m c main_arg0) (ix2 (row (pt t) r) k) := by
    blk_ext [iblk, idx t]
    all_goals simp only [row, pt]
  rw [e, V_main_arg0]; rfl
theorem b1 (t : Fin cfg0.N) (k : Fin 1024) :
    (show FVec Ideal S1x1024 .f32 from iblk m c 1 t) (ix2 0 k) = kN m c (ix1 k) := by
  have e : (show FVec Ideal S1x1024 .f32 from iblk m c 1 t) (ix2 0 k)
      = (show FVec Ideal S1x1024 .f32 from V m c main_v0) (ix2 0 k) := by
    blk_ext [iblk, idx t]
  rw [e, V0]
  show shapeCast S1x1024 (kN m c) shapeCasts_S1024_S1x1024 (ix2 0 k) = kN m c (ix1 k)
  pointwise
theorem shards_at (w : FVec Ideal S2816x1024 .f32) (s : Fin 4) (j : Fin 704) (k : Fin 1024) : shards w (ix3 s j k) = w (ix2 (col s j) k) := by
  pointwise [shards]
  rfl
theorem shardsT_at (w : FVec Ideal S1024x2816 .f32) (s : Fin 4) (j : Fin 704) (k : Fin 1024) :
    shards (transpose S2816x1024 [1, 0] w transposes_S1024x2816_S2816x1024_1_0) (ix3 s j k) = w (ix2 k (col s j)) := by
  rw [shards_at]; pointwise
theorem b2 (t : Fin cfg0.N) (j : Fin 704) (k : Fin 1024) :
    (show FVec Ideal S1x704x1024 .bf16 from iblk m c 2 t) (ix3 0 j k) = kG m c (ix2 k (col (sh t) j)) := by
  have e : (show FVec Ideal S1x704x1024 .bf16 from iblk m c 2 t) (ix3 0 j k)
      = (show FVec Ideal S4x704x1024 .bf16 from V m c main_v3) (ix3 (sh t) j k) := by
    blk_ext [iblk, idx t]
    all_goals (simp only [sh]; try omega)
  rw [e, V3]; exact shardsT_at _ _ _ _
theorem b3 (t : Fin cfg0.N) (j : Fin 704) (k : Fin 1024) :
    (show FVec Ideal S1x704x1024 .bf16 from iblk m c 3 t) (ix3 0 j k) = kU m c (ix2 k (col (sh t) j)) := by
  have e : (show FVec Ideal S1x704x1024 .bf16 from iblk m c 3 t) (ix3 0 j k)
      = (show FVec Ideal S4x704x1024 .bf16 from V m c main_v6) (ix3 (sh t) j k) := by
    blk_ext [iblk, idx t]
    all_goals (simp only [sh]; try omega)
  rw [e, V6]; exact shardsT_at _ _ _ _
theorem b4 (t : Fin cfg0.N) (j : Fin 704) (k : Fin 1024) :
    (show FVec Ideal S1x704x1024 .bf16 from iblk m c 4 t) (ix3 0 j k) = kD m c (ix2 (col (sh t) j) k) := by
  have e : (show FVec Ideal S1x704x1024 .bf16 from iblk m c 4 t) (ix3 0 j k)
      = (show FVec Ideal S4x704x1024 .bf16 from V m c main_v8) (ix3 (sh t) j k) := by
    blk_ext [iblk, idx t]
    all_goals (simp only [sh]; try omega)
  rw [e, V8]; exact shards_at _ _ _ _

/-! ## The values of a point -/

theorem out_at (t : Fin cfg0.N) (r k : Fin 1024) : outAt m c t.val (ix2 r k) = tH m c (ix2 (row (pt t) r) k) := by
  unfold outAt
  rw [← pt_start t]
  exact pay3_at (row (pt (start t.val))) (b0 m c (start t.val)) (b1 m c (start t.val)) r k
theorem rows_of (t : Fin cfg0.N) (r k : Fin 1024) : rowsAt m c t.val (ix2 r k) = tH m c (ix2 (row (pt t) r) k) :=
  (pay4_at _ _ r k).trans (out_at m c t r k)

theorem gate_at (t : Fin cfg0.N) (r : Fin 1024) (j : Fin 704) :
    gateV (rowsAt m c t.val) (iblk m c 2 t) (ix3 0 r j) = tG m c (ix2 (row (pt t) r) (col (sh t) j)) := by
  refine (gateV_at _ _ r j).trans ?_
  unfold tG
  rw [rDot_at]
  exact Finset.sum_congr rfl fun k _ => congrArg₂ (· * ·) (rows_of m c t r k) (b2 m c t j k)
theorem up_at (t : Fin cfg0.N) (r : Fin 1024) (j : Fin 704) :
    upV (rowsAt m c t.val) (iblk m c 3 t) (ix3 0 r j) = tU m c (ix2 (row (pt t) r) (col (sh t) j)) := by
  refine (upV_at _ _ r j).trans ?_
  unfold tU
  rw [rDot_at]
  exact Finset.sum_congr rfl fun k _ => congrArg₂ (· * ·) (rows_of m c t r k) (b3 m c t j k)

/-- One shard's contribution to the down product at one row. -/
def tPart (s : Fin 4) (r : Fin 2048) (k : Fin 1024) : EReal :=
  ∑ j : Fin 704, mid (tG m c (ix2 r (col s j))) (tU m c (ix2 r (col s j))) * kD m c (ix2 (col s j) k)
/-- The down product at one row. -/
def tDown (r : Fin 2048) (k : Fin 1024) : EReal :=
  ∑ j : Fin 2816, mid (tG m c (ix2 r j)) (tU m c (ix2 r j)) * kD m c (ix2 j k)

theorem tDown_eq (r : Fin 2048) (k : Fin 1024) :
    tPart m c 3 r k + (tPart m c 2 r k + (tPart m c 1 r k + (tPart m c 0 r k + 0))) = tDown m c r k := by
  unfold tDown
  rw [Fin.sum_univ_tiles 4 704 rfl fun j : Fin 2816 => mid (tG m c (ix2 r j)) (tU m c (ix2 r j)) * kD m c (ix2 j k), Fin.sum_univ_four, add_zero,
    add_comm (tPart m c 1 r k), add_comm (tPart m c 2 r k), add_comm (tPart m c 3 r k)]
  rfl

theorem part_eq (t : Fin cfg0.N) (r k : Fin 1024) :
    part (fun l => rowsAt m c t.val (ix2 r l)) (fun j l => (show FVec Ideal S1x704x1024 .bf16 from iblk m c 2 t) (ix3 0 j l))
      (fun j l => (show FVec Ideal S1x704x1024 .bf16 from iblk m c 3 t) (ix3 0 j l))
      (fun j l => (show FVec Ideal S1x704x1024 .bf16 from iblk m c 4 t) (ix3 0 j l)) k = tPart m c (sh t) (row (pt t) r) k := by
  unfold part tPart
  refine Finset.sum_congr rfl fun j _ => ?_
  refine congrArg₂ (· * ·) (congrArg₂ mid ?_ ?_) (b4 m c t j k)
  · unfold tG; rw [rDot_at]
    exact Finset.sum_congr rfl fun l _ => congrArg₂ (· * ·) (rows_of m c t r l) (b2 m c t j l)
  · unfold tU; rw [rDot_at]
    exact Finset.sum_congr rfl fun l _ => congrArg₂ (· * ·) (rows_of m c t r l) (b3 m c t j l)

theorem step_at (t : Fin cfg0.N) (X : FVec Ideal S1024x1024 .f32) (r k : Fin 1024) :
    stepA m c t X (ix2 r k) = tPart m c (sh t) (row (pt t) r) k + (if t.val % 4 = 0 then 0 else X (ix2 r k)) := by
  refine (accX_at _ _ _ _ (grid0.coords t) (sh t) (coord1 t) X r k).trans ?_
  exact congrArg₂ (· + ·) (part_eq m c t r k) rfl

/-- The running sum after a point. -/
def acc (t : Fin cfg0.N) : FVec Ideal S1024x1024 .f32 := stepA m c t (iter (stepA m c) t.val zeroX)

theorem acc_first (t : Fin cfg0.N) (h : t.val % 4 = 0) (r k : Fin 1024) : acc m c t (ix2 r k) = tPart m c 0 (row (pt t) r) k + 0 := by
  unfold acc
  rw [step_at, if_pos h, show sh t = 0 from Fin.ext h]
theorem acc_later (t : Fin cfg0.N) (s : Fin 4) (h : t.val % 4 = s.val) (hs : s.val ≠ 0) : ∃ t' : Fin cfg0.N, t'.val % 4 = s.val - 1 ∧ pt t' = pt t
    ∧ ∀ r k : Fin 1024, acc m c t (ix2 r k) = tPart m c s (row (pt t) r) k + acc m c t' (ix2 r k) := by
  have hN := t.isLt
  obtain ⟨n, hn⟩ : ∃ n, t.val = n + 1 := ⟨t.val - 1, by omega⟩
  have hn' : n < cfg0.N := by omega
  refine ⟨⟨n, hn'⟩, by show n % 4 = _; omega, Fin.ext (by show n / 4 = t.val / 4; omega), fun r k => ?_⟩
  have e : iter (stepA m c) t.val zeroX = acc m c ⟨n, hn'⟩ := by
    rw [hn, show n + 1 = (⟨n, hn'⟩ : Fin cfg0.N).val + 1 from rfl, iter_succ]; rfl
  rw [← e, show acc m c t = stepA m c t (iter (stepA m c) t.val zeroX) from rfl, step_at, if_neg (by omega), show sh t = s from Fin.ext h]

/-- The finished sum of a row tile. -/
theorem done (t : Fin cfg0.N) (h : t.val % 4 = 3) (r k : Fin 1024) : acc m c t (ix2 r k) = tDown m c (row (pt t) r) k := by
  obtain ⟨t2, h2, p2, e3⟩ := acc_later m c t 3 h (by decide)
  obtain ⟨t1, h1, p1, e2⟩ := acc_later m c t2 2 h2 (by decide)
  obtain ⟨t0, h0, p0, e1⟩ := acc_later m c t1 1 h1 (by decide)
  rw [e3, e2, e1, acc_first m c t0 h0, p0, p1, p2]
  exact tDown_eq m c _ k

/-- The half step at one index. -/
def tOut (r : Fin 2048) (k : Fin 1024) : EReal := kX m c (ix2 r k) + ((1 / 2 : ℝ) : EReal) * tDown m c r k

/-! ## The result arrays -/

theorem emb5 (t : Fin cfg0.N) (r k : Fin 1024) : (win0_5.blk t).view.emb (ix2 r k) = (ix2 (row (pt t) r) k : S2048x1024.Idx) := by
  blk_ext [idx t]
  all_goals simp only [row, pt]
theorem blk5 (t : Fin cfg0.N) (h : t.val % 4 = 3) (r k : Fin 1024) :
    k0_pay2 (F := Ideal) (iblk m c 0 t) (acc m c t) (ix2 r k)
      = tOut m c ((win0_5.blk t).view.emb (ix2 r k) 0) ((win0_5.blk t).view.emb (ix2 r k) 1) := by
  rw [emb5 t r k]
  refine (pay2_at _ _ r k).trans ?_
  exact congrArg₂ (· + ·) (b0 m c t r k) (congrArg (((1 / 2 : ℝ) : EReal) * ·) (done m c t h r k))
theorem at5 (t : Fin cfg0.N) (h : t.val % 4 = 3) (y : S1024x1024.Idx) :
    k0_pay2 (F := Ideal) (iblk m c 0 t) (acc m c t) y
      = tOut m c ((win0_5.blk t).view.emb y 0) ((win0_5.blk t).view.emb y 1) := by
  rw [eq_ix2 (n0 := 1024) (n1 := 1024) y]
  exact blk5 m c t h (y 0) (y 1)
theorem final5 : (dats m 0 c).arrAt 5 cfg0.N = (fun z : S2048x1024.Idx => tOut m c (z 0) (z 1)) := by
  refine (dats m 0 c).arrAt_eq_of_covers 5 _ (by decide +kernel) fun t hf y => ?_
  have h := (flush0_5 t).mp hf
  blk_simp
  rw [after5]
  exact at5 m c t h y

theorem emb6 (t : Fin cfg0.N) (r k : Fin 1024) : (win0_6.blk t).view.emb (ix2 r k) = (ix2 (row (pt t) r) k : S2048x1024.Idx) := by
  blk_ext [idx t]
  all_goals simp only [row, pt]
theorem blk6 (t : Fin cfg0.N) (r k : Fin 1024) :
    outAt m c t.val (ix2 r k) = tH m c (ix2 ((win0_6.blk t).view.emb (ix2 r k) 0) ((win0_6.blk t).view.emb (ix2 r k) 1)) := by
  rw [emb6 t r k]
  exact out_at m c t r k
theorem at6 (t : Fin cfg0.N) (y : S1024x1024.Idx) :
    outAt m c t.val y = tH m c (ix2 ((win0_6.blk t).view.emb y 0) ((win0_6.blk t).view.emb y 1)) := by
  rw [eq_ix2 (n0 := 1024) (n1 := 1024) y]
  exact blk6 m c t (y 0) (y 1)
theorem final6 : (dats m 0 c).arrAt 6 cfg0.N = (fun z : S2048x1024.Idx => tH m c (ix2 (z 0) (z 1))) := by
  refine (dats m 0 c).arrAt_eq_of_covers 6 _ (by decide +kernel) fun t hf y => ?_
  blk_simp
  rw [after6]
  exact at6 m c t y

theorem emb7 (t : Fin cfg0.N) (r : Fin 1024) (j : Fin 704) :
    (win0_7.blk t).view.emb (ix3 0 r j) = (ix3 (sh t) (row (pt t) r) j : S4x2048x704.Idx) := by
  blk_ext [idx t]
  all_goals (simp only [row, pt, sh]; try omega)
theorem blk7 (t : Fin cfg0.N) (a : Fin 1) (r : Fin 1024) (j : Fin 704) :
    gateV (rowsAt m c t.val) (iblk m c 2 t) (ix3 a r j)
      = tG m c (ix2 ((win0_7.blk t).view.emb (ix3 a r j) 1) (col ((win0_7.blk t).view.emb (ix3 a r j) 0) ((win0_7.blk t).view.emb (ix3 a r j) 2))) := by
  obtain rfl : a = 0 := Subsingleton.elim _ _
  rw [emb7 t r j]
  exact gate_at m c t r j
theorem at7 (t : Fin cfg0.N) (y : S1x1024x704.Idx) :
    gateV (rowsAt m c t.val) (iblk m c 2 t) y
      = tG m c (ix2 ((win0_7.blk t).view.emb y 1) (col ((win0_7.blk t).view.emb y 0) ((win0_7.blk t).view.emb y 2))) := by
  rw [eq_ix3 (n0 := 1) (n1 := 1024) (n2 := 704) y]
  exact blk7 m c t (y 0) (y 1) (y 2)
theorem final7 : (dats m 0 c).arrAt 7 cfg0.N = (fun z : S4x2048x704.Idx => tG m c (ix2 (z 1) (col (z 0) (z 2)))) := by
  refine (dats m 0 c).arrAt_eq_of_covers 7 _ (by decide +kernel) fun t hf y => ?_
  blk_simp
  rw [after7]
  exact at7 m c t y

theorem emb8 (t : Fin cfg0.N) (r : Fin 1024) (j : Fin 704) :
    (win0_8.blk t).view.emb (ix3 0 r j) = (ix3 (sh t) (row (pt t) r) j : S4x2048x704.Idx) := by
  blk_ext [idx t]
  all_goals (simp only [row, pt, sh]; try omega)
theorem blk8 (t : Fin cfg0.N) (a : Fin 1) (r : Fin 1024) (j : Fin 704) :
    upV (rowsAt m c t.val) (iblk m c 3 t) (ix3 a r j)
      = tU m c (ix2 ((win0_8.blk t).view.emb (ix3 a r j) 1) (col ((win0_8.blk t).view.emb (ix3 a r j) 0) ((win0_8.blk t).view.emb (ix3 a r j) 2))) := by
  obtain rfl : a = 0 := Subsingleton.elim _ _
  rw [emb8 t r j]
  exact up_at m c t r j
theorem at8 (t : Fin cfg0.N) (y : S1x1024x704.Idx) :
    upV (rowsAt m c t.val) (iblk m c 3 t) y
      = tU m c (ix2 ((win0_8.blk t).view.emb y 1) (col ((win0_8.blk t).view.emb y 0) ((win0_8.blk t).view.emb y 2))) := by
  rw [eq_ix3 (n0 := 1) (n1 := 1024) (n2 := 704) y]
  exact blk8 m c t (y 0) (y 1) (y 2)
theorem final8 : (dats m 0 c).arrAt 8 cfg0.N = (fun z : S4x2048x704.Idx => tU m c (ix2 (z 1) (col (z 0) (z 2)))) := by
  refine (dats m 0 c).arrAt_eq_of_covers 8 _ (by decide +kernel) fun t hf y => ?_
  blk_simp
  rw [after8]
  exact at8 m c t y

end Cert.Kernel3Ideal.Hand

end
-- ==== Proof.Ref3.lean ====
/-
  The reference's forward half step: its composed terms cut into stages.
-/
module

public import proofs.«01_k».proof.Proof.Gen.Reference3Ideal.Run
public import proofs.«01_k».proof.Proof.Pay3
public import proofs.«01_k».proof.Proof.Ref
public import Idealize.ShloMosaic.Lib.Pointwise

@[expose] public section

set_option maxRecDepth 16384

noncomputable section

namespace Cert.Reference3Ideal.Hand

open Cert.Reference3Ideal Cert.Reference3Ideal.Gen Idealize.ShloMosaic Idealize.ShloMosaic.TcCoe Cert.Spec
open Cert.ReferenceIdeal.Hand (rRows rDot rH rMid X2 J2 W2 V2)
open Cert.Kernel3Ideal.Hand (mid rMid_at)

/-- The half step: the input and one half of the down product of the activation. -/
def rOut (x : X2) (g u : J2) (wd : V2) : X2 :=
  addf x (mulf (broadcastInDim S2048x1024 ![] bcast_S_S2048x1024 (constant S_ .f32 0x3F000000#32))
    (Host.dotGeneral dot_S2048x2816_S2816x1024_S2048x1024_1_0_0_1_n_n none (rMid g u) wd))

theorem rOut_at (x : X2) (g u : J2) (wd : V2) (r : Fin 2048) (k : Fin 1024) :
    rOut x g u wd (ix2 r k)
      = x (ix2 r k) + ((1 / 2 : ℝ) : EReal) * ∑ j : Fin 2816, mid (g (ix2 r j)) (u (ix2 r j)) * wd (ix2 j k) := by
  pointwise [rOut, cHalf, rMid_at]
theorem rRows_at (d : J2) (s : Fin 4) (r : Fin 2048) (j : Fin 704) : rRows d (ix3 s r j) = d (ix2 r ⟨s * 704 + j, by omega⟩) := by
  pointwise [rRows]

variable (m : (ℓ : Loc nD τ sig) → Buf (Elt Ideal) ℓ) (c : Dev nD)

def aX : X2 := m ((c.tc : Thread nD τ).loc main_arg0)
def aN : FVec Ideal S1024 .f32 := m ((c.tc : Thread nD τ).loc main_arg1)
def aG : W2 := m ((c.tc : Thread nD τ).loc main_arg2)
def aU : W2 := m ((c.tc : Thread nD τ).loc main_arg3)
def aD : V2 := m ((c.tc : Thread nD τ).loc main_arg4)

end Cert.Reference3Ideal.Hand

end
-- ==== Proof.Algebraic3.lean ====
/-
  The forward kernel and its reference compute the same results over the reals, and at the infinities too.
-/
module

public import proofs.«01_k».proof.Defs
public import proofs.«01_k».proof.Proof.Run3
public import proofs.«01_k».proof.Proof.KValue3
public import proofs.«01_k».proof.Proof.Ref3
public import proofs.«01_k».proof.Proof.Gen.Reference3Ideal.Run
public import Idealize.ShloMosaic.Lib.Tactic
public import Idealize.ShloMosaic.Lib.Claim

@[expose] public section

set_option maxRecDepth 16384

noncomputable section

namespace Cert.Proof

open Idealize.ShloMosaic Idealize.ShloMosaic.Tactic Idealize.SL.Sem Cert.Spec
open Cert.ReferenceIdeal.Hand (rRows rDot rH rMid X2 J2)
open Cert.Kernel3Ideal.Hand Cert.Reference3Ideal.Hand

abbrev KMem3 := (ℓ : Loc Cert.Kernel3Ideal.nD Cert.Kernel3Ideal.τ Cert.Kernel3Ideal.sig) → Buf (Elt Ideal) ℓ
abbrev RMem3 := (ℓ : Loc Cert.Reference3Ideal.nD Cert.Reference3Ideal.τ Cert.Reference3Ideal.sig) → Buf (Elt Ideal) ℓ

section
variable {m : KMem3} {m' : RMem3} {c : Dev Cert.Kernel3Ideal.nD} (h0 : aX m' c = kX m c) (h1 : aN m' c = kN m c) (h2 : aG m' c = kG m c)
  (h3 : aU m' c = kU m c) (h4 : aD m' c = kD m c)
include h0 h1

include h2 h3 h4 in
theorem same3_0 : rOut (aX m' c) (rDot (rH (aX m' c) (aN m' c)) (aG m' c)) (rDot (rH (aX m' c) (aN m' c)) (aU m' c)) (aD m' c)
    = (dats m 0 c).arrAt 5 Cert.Kernel3Ideal.cfg0.N := by
  rw [final5, h0, h1, h2, h3, h4]; funext z
  rw [eq_ix2 (n0 := 2048) (n1 := 1024) z]
  exact rOut_at _ _ _ _ (z 0) (z 1)
theorem same3_1 : truncf .bf16 (rH (aX m' c) (aN m' c)) Cert.Reference3Ideal.Gen.bitsLt_bf16_f32
    = (dats m 0 c).arrAt 6 Cert.Kernel3Ideal.cfg0.N := by
  rw [final6, h0, h1]; funext z
  rw [eq_ix2 (n0 := 2048) (n1 := 1024) z]
  rfl
include h2 in
theorem same3_2 : rRows (rDot (rH (aX m' c) (aN m' c)) (aG m' c)) = (dats m 0 c).arrAt 7 Cert.Kernel3Ideal.cfg0.N := by
  rw [final7, h0, h1, h2]; funext z
  rw [eq_ix3 (n0 := 4) (n1 := 2048) (n2 := 704) z]
  exact rRows_at _ (z 0) (z 1) (z 2)
include h3 in
theorem same3_3 : rRows (rDot (rH (aX m' c) (aN m' c)) (aU m' c)) = (dats m 0 c).arrAt 8 Cert.Kernel3Ideal.cfg0.N := by
  rw [final8, h0, h1, h3]; funext z
  rw [eq_ix3 (n0 := 4) (n1 := 2048) (n2 := 704) z]
  exact rRows_at _ (z 0) (z 1) (z 2)
end

set_option maxHeartbeats 1600000 in
theorem algebraic3 : Cert.algebraic_Kernel3Ideal_Reference3Ideal := by
  pair_intro
  · have h := (θ_run Cert.Kernel3Ideal.defs _ _).mono (fun _ h => h.1) (Cert.Kernel3Ideal.Hand.run_main m g)
    run_from h
  · refine (θ_run Cert.Reference3Ideal.defs _ _).mono (fun r h c => ?_) (Cert.Reference3Ideal.Value.run m' g')
    obtain ⟨r0, r1, r2, r3, ha⟩ := h c
    obtain ⟨h0, h1, h2, h3, h4⟩ := hagree c
    exact ⟨r0.trans (same3_0 h0 h1 h2 h3 h4), r1.trans (same3_1 h0 h1), r2.trans (same3_2 h0 h1 h2), r3.trans (same3_3 h0 h1 h3), ha⟩

end Cert.Proof

end
-- ==== Proof.Run4.lean ====
module

public import proofs.«01_k».proof.Proof.Gen.Kernel4Ideal.Frame
public import proofs.«01_k».proof.Proof.Gen.Kernel4Ideal.Skeleton
public import Idealize.ShloMosaic.Lib.VecWindow

/-! The run of the input product's backward call: what each buffer holds after each grid point, and the launch. -/

@[expose] public section

set_option maxRecDepth 16384

noncomputable section

namespace Cert.Kernel4Ideal.Hand

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole load of a buffer that holds `x` reads `x`. -/
theorem read_whole {s : Shape} {e : EltTy} {sp : Space} {r : Memref sig .tc sp s e} (h : r.IsWhole) (x : Vec F s e) {off : Fin s.rank → ℕ}
    (inb : ∀ a, off a + s.size a ≤ s.size a) : r.view.readAt (Elt F) (Rect.unit off s.size inb).toLoadRect (h.unread x) = x :=
  (View.readAt_full _ _ _).trans (h.read_unread x)

set_option maxHeartbeats 1600000 in
/-- One grid point: what each buffer holds after it. -/
theorem body (c : Dev nD) (i : grid0.Coords) (arg1 : Memref sig .tc .vmem S512x1280 .bf16) (harg1 : arg1.IsWhole) (arg2 : Memref sig .tc .vmem S1280x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S1x1024 .f32) (harg8 : arg8.IsWhole)
    (x0 : Vec F S512x1280 .bf16) (x1 : Vec F S1280x1024 .bf16) (x2 : Vec F S512x1024 .f32) (x3 : Vec F S1x1024 .f32) (x4 : Vec F S512x1024 .f32) (y7 : Vec F S1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare y7
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay6 x0 x1 x2 x3 x4) ∗ owns (c : Thread nD τ) arg7 fullShare (k0_pay7 x0 x1 x2 x3 x4) ∗ owns (c : Thread nD τ) arg8 fullShare (k0_pay1 (BitVec.ofNat 32 (i 0).val) (k0_pay5 x0 x1 x2) y7)) -∗ K ⟨⟩))
      ⊢ wp frame (wpE (defs₀ (F := F)) Variants.none c none) E (cc0_in_proj_dx i arg1 harg1 arg2 harg2 arg3 harg3 arg4 harg4 arg5 harg5 arg6 harg6 arg7 harg7 arg8 harg8) K := by
  simp only [cc0_in_proj_dx_eq_skeleton]; unfold cc0_in_proj_dx_skel
  simp only [k0_part1_eq_skeleton]
  unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
  obtain rfl := harg1.eq_unread hf0; obtain rfl := harg2.eq_unread hf1; obtain rfl := harg3.eq_unread hf2; obtain rfl := harg4.eq_unread hf3; obtain rfl := harg5.eq_unread hf4; obtain rfl := harg8.eq_unread hf7
  sl_exec
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; refine (View.read_writes_full _ _ _ _ _).trans ?_
    simp only [read_whole harg1, read_whole harg2, read_whole harg3, read_whole harg4, read_whole harg5, read_whole harg8]
  isplitl [H6]
  · iexists _; isplitr; swap; · iexact H6
    ipureintro; refine (View.read_writes_full _ _ _ _ _).trans ?_
    simp only [read_whole harg1, read_whole harg2, read_whole harg3, read_whole harg4, read_whole harg5, read_whole harg8]
  · iexists _; isplitr; swap; · iexact H7
    ipureintro; refine (View.read_writes_full _ _ _ _ _).trans ?_
    simp only [read_whole harg1, read_whole harg2, read_whole harg3, read_whole harg4, read_whole harg5, read_whole harg8]

variable (m : (ℓ : Loc nD τ sig) → Buf (Elt F) ℓ) (ρ : Dev nD → PrngReg)

/-! ## What each point leaves -/

theorem N4 (t : Fin cfg0.N) : t.val < 4 := lt_of_lt_of_eq t.isLt (show cfg0.N = 4 from N_0)
theorem coord0 (t : Fin cfg0.N) : (grid0.coords t 0).val = t.val := by
  have e : (grid0.coords t 0).val = t.val / 1 % 4 := Pipeline.Grid.coords_val t 0 (by decide) rfl
  have := N4 t; omega

theorem first_select {α : Type} (n : ℕ) (hn : n = 0) (a b : α) : Scalar.select (Scalar.cmpi .sgt (BitVec.ofNat 32 n) 0#32) a b = b := by
  subst hn; rfl

/-- The running sum of window 7 after a point, from what stood there. -/
def step7 (c : Dev nD) (t : Fin cfg0.N) (y : Vec F S1x1024 .f32) : Vec F S1x1024 .f32 := k0_pay1 (BitVec.ofNat 32 ((grid0.coords t) 0).val) (k0_pay5 (iblk m c 0 t) (iblk m c 1 t) (iblk m c 2 t)) y
theorem step7_first (c : Dev nD) (t : Fin cfg0.N) (h : t.val = 0) (X Y : Vec F S1x1024 .f32) : step7 m c t X = step7 m c t Y := by
  unfold step7 k0_pay1; dsimp only; rw [first_select _ ((coord0 t).trans h), first_select _ ((coord0 t).trans h)]
/-- The running sum of window 7 after the first `n` points. -/
def acc7 (c : Dev nD) : ℕ → Vec F S1x1024 .f32
  | 0 => fun _ => Scalar.ofBits .f32 0x00000000#32
  | n + 1 => if h : n < cfg0.N then step7 m c ⟨n, h⟩ (acc7 c n) else acc7 c n
theorem acc7_succ (c : Dev nD) (t : Fin cfg0.N) : acc7 m c (t.val + 1) = step7 m c t (acc7 m c t.val) := dif_pos t.isLt

/-! ## The pipeline's proof data -/

/-- Each window's staging buffer after the body at `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay6 (iblk m c 0 t) (iblk m c 1 t) (iblk m c 2 t) (iblk m c 3 t) (iblk m c 4 t)
    | ⟨6, _⟩ => k0_pay7 (iblk m c 0 t) (iblk m c 1 t) (iblk m c 2 t) (iblk m c 3 t) (iblk m c 4 t)
    | ⟨7, _⟩ => acc7 m c (t.val + 1)
    | ⟨_ + 8, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = k0_pay6 (iblk m c 0 t) (iblk m c 1 t) (iblk m c 2 t) (iblk m c 3 t) (iblk m c 4 t) := by dsimp only [dats]
theorem after6 (c : Dev nD) (t : Fin cfg0.N) : (dats m 0 c).after 6 t = k0_pay7 (iblk m c 0 t) (iblk m c 1 t) (iblk m c 2 t) (iblk m c 3 t) (iblk m c 4 t) := by dsimp only [dats]
theorem after7 (c : Dev nD) (t : Fin cfg0.N) : (dats m 0 c).after 7 t = acc7 m c (t.val + 1) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
/-- The running sum's buffer after the first point holds what the points before left. -/
theorem before7 (c : Dev nD) (n : ℕ) (hn : n + 1 < cfg0.N) (d) : (dats m 0 c).before 7 ⟨n + 1, hn⟩ d = acc7 m c (n + 1) := by
  have hn' : n < cfg0.N := Nat.lt_of_succ_lt hn
  have h4 : n + 1 < 4 := N4 ⟨n + 1, hn⟩
  rw [(dats m 0 c).before_of_pos 7 ⟨n + 1, hn⟩ (Nat.succ_ne_zero n) rfl d]
  have hf : ¬(cfg0.win 7).flush ⟨n, hn'⟩ = true := fun h => by have := (flush0_7 ⟨n, hn'⟩).mp h; dsimp only at this; omega
  rw [if_neg (by exact hf)]
  show (dats m 0 c).left 7 ⟨n, hn'⟩ d = _
  unfold Dat.left
  rw [show cfg0.idle 7 (cfg0.grid.coords ⟨n, hn'⟩) = false from rfl]
  exact after7 m c ⟨n, hn'⟩
/-- What a point adds to its buffer is what it adds to the running sum. -/
theorem step7_before (c : Dev nD) (t : Fin cfg0.N) (d) : step7 m c t ((dats m 0 c).before 7 t d) = acc7 m c (t.val + 1) := by
  rw [acc7_succ]
  obtain ⟨n, hn⟩ := t
  cases n with
  | zero => exact step7_first m c ⟨0, hn⟩ rfl _ _
  | succ n => rw [before7 m c n hn d]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves_live (c : Dev nD) (w : Fin cfg0.W) (t : Fin cfg0.N) (hl : cfg0.loose w = false) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl, show (dats m 0 c).Φ t.succ = (dats m 0 c).Φ t.castSucc from rfl]
  rw [leaves_live m c 0 t rfl rfl, after0, leaves_live m c 1 t rfl rfl, after1, leaves_live m c 2 t rfl rfl, after2, leaves_live m c 3 t rfl rfl, after3, leaves_live m c 4 t rfl rfl, after4, leaves_live m c 5 t rfl rfl, after5, leaves_live m c 6 t rfl rfl, after6, leaves_live m c 7 t rfl rfl, after7]
  iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body c (grid0.coords t) _ _ _ _ _ _ _ _ _ _ _ _ _ _ _ _ (iblk m c 0 t) (iblk m c 1 t) (iblk m c 2 t) (iblk m c 3 t) (iblk m c 4 t) ((dats m 0 c).before 7 t d7) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  iintro ⟨H0, H1, H2, H3, H4, H5, H6, H7⟩
  isplitl [Hg]; · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  rw [← step7_before m c t d7]; iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _
theorem hout (c : Dev nD) : (dats m 0 c).Φ (Fin.last cfg0.N) ⊢ Pipeline.ΦA spec0 c := Idealize.SL.BI.Entails.refl _

/-! ## The run and the frame -/

set_option backward.isDefEq.respectTransparency.types false in
/-- The launch: every array of the pipeline ends at what the proof data says, every counter at zero. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch0.to₀ defs₀ Variants.none m ρ main
    (hbody := fun c => (body_obligation m c).loose) (hq := fun _ _ _ => rfl)
    (howed := fun _ _ => rfl) (V := V m) (hmain := hmain m Variants.none) (hA := A_eq m) (hin := hin m) (hout := hout m)

end Cert.Kernel4Ideal.Hand

end
-- ==== Proof.Frames4.lean ====
module

public import proofs.«01_k».proof.Defs
public import proofs.«01_k».proof.Proof.Run4
public import proofs.«01_k».proof.Proof.Gen.Kernel4
public import proofs.«01_k».proof.Proof.Gen.Reference4Ideal
public import Idealize.ShloMosaic.Lib.Tactic
public import Idealize.ShloMosaic.Lib.Claim
public import proofs.«01_k».proof.Proof.Gen.Reference4Ideal.Run

/-! The frame claims of the mixer's input projection's input-gradient kernel, from its one run over any float operations, and of its reference. -/

@[expose] public section

set_option maxRecDepth 100000

noncomputable section

namespace Cert.Proof

open Idealize.ShloMosaic Idealize.ShloMosaic.Tactic Idealize.SL.Sem

theorem frame4_any {F : FTy → Type} [FloatOps F] (m : (ℓ : Loc Cert.Kernel4Ideal.nD Cert.Kernel4Ideal.τ Cert.Kernel4Ideal.sig) → Buf (Elt F) ℓ)
    (ρ : Dev Cert.Kernel4Ideal.nD → PrngReg) :
    θ_run Cert.Kernel4Ideal.defs (onTc (τ := Cert.Kernel4Ideal.τ) (Cert.Kernel4Ideal.main (F := F))) ⟨m, fun _ => 0, ρ⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0) :=
  θ_run_and (Cert.Kernel4Ideal.Gen.frame_of m ρ (Cert.Kernel4Ideal.Hand.dats m) (Cert.Kernel4Ideal.Hand.A_eq m)
    ((θ_run Cert.Kernel4Ideal.defs _ _).mono (fun _ h => h.1) (Cert.Kernel4Ideal.Hand.run_main m ρ)))
    ((θ_run Cert.Kernel4Ideal.defs _ _).mono (fun _ h => h.2) (Cert.Kernel4Ideal.Hand.run_main m ρ))

set_option maxHeartbeats 4000000 in
/-- The two programs have one body table. -/
theorem body_table4 {F : FTy → Type} [FloatOps F] : Cert.Kernel4.defs₀ (F := F) = Cert.Kernel4Ideal.defs₀ (F := F) := by
  unfold Cert.Kernel4.defs₀ Cert.Kernel4Ideal.defs₀
  refine congrArg Defs.onTc ?_
  funext ℓ x
  match ℓ, x with
  | 0, (t, s) => rfl
  | ⟨_ + 1, h⟩, _ => exact absurd h (Nat.not_lt.2 (Nat.le_add_left _ _))

set_option maxHeartbeats 4000000 in
theorem table4 {F : FTy → Type} [FloatOps F] : Cert.Kernel4.defs (F := F) = Cert.Kernel4Ideal.defs (F := F) :=
  congrArg (Pipeline.defs (Cert.Kernel4Ideal.pcfgs (F := F))) body_table4

set_option maxHeartbeats 4000000 in
theorem frame4_kernel : Cert.quiescent_Kernel4 := by
  intro m ρ _
  rw [table4]
  exact frame4_any (F := Bits) m ρ

theorem frame4_ideal : Cert.quiescent_Kernel4Ideal := fun m ρ _ => frame4_any (F := Ideal) m ρ

/-- The reference's run leaves its arguments, and it declares no semaphore. -/
theorem frame4_reference : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

end Cert.Proof

end
-- ==== Proof.Back.lean ====
/-
  The cotangent of a row divided by the root of its mean square, over the extended reals: the kernels' closed
  form and the reference's sum of three terms are one value, whatever the row and the cotangent hold.
-/
module

public import proofs.«01_k».proof.Proof.Spec

@[expose] public section

noncomputable section

namespace Cert.Back

open Idealize.ShloMosaic Cert.Spec

theorem pos_mul_sum {n : ℕ} (a : ℝ) (ha : 0 < a) (f : Fin n → EReal) : (a : EReal) * ∑ l, f l = ∑ l, (a : EReal) * f l := by
  have h0 : (0 : EReal) ≤ (a : EReal) := by exact_mod_cast ha.le
  have hs : ∀ s : Finset (Fin n), (a : EReal) * ∑ l ∈ s, f l = ∑ l ∈ s, (a : EReal) * f l := by
    intro s
    induction s using Finset.induction_on with
    | empty => simp
    | insert b s hb ih =>
      rw [Finset.sum_insert hb, Finset.sum_insert hb, EReal.left_distrib_of_nonneg_of_ne_top h0 (EReal.coe_ne_top _), ih]
  exact hs Finset.univ

theorem twice (y : EReal) : y + y = ((2 : ℝ) : EReal) * y := by
  induction y with
  | bot => rw [EReal.coe_mul_bot_of_pos (by norm_num)]; rfl
  | top => rw [EReal.coe_mul_top_of_pos (by norm_num)]; rfl
  | coe a => rw [← EReal.coe_add, ← EReal.coe_mul, two_mul]

/-- A square is at least zero. -/
theorem sq_nonneg (y : EReal) : 0 ≤ y * y := by
  induction y with
  | bot => rw [EReal.bot_mul_bot]; exact le_top
  | top => rw [EReal.top_mul_top]; exact le_top
  | coe a => rw [← EReal.coe_mul]; exact_mod_cast mul_self_nonneg a

theorem sq_top {y : EReal} (h : y = ⊥ ∨ y = ⊤) : y * y = ⊤ := by
  rcases h with h | h <;> rw [h]
  · exact EReal.bot_mul_bot
  · exact EReal.top_mul_top

section
variable {n : ℕ} (N e : ℝ) (x d : Fin n → EReal)

/-- The mean of the row's squares, plus `e`. -/
def ms : EReal := Ideal.div (∑ l, x l * x l) (N : EReal) + (e : EReal)
/-- The factor of the row in the reference's second and third terms. -/
def q : EReal := Ideal.div ((∑ l, x l * d l) * (((-(1 / 2) : ℝ) : EReal) * Ideal.div (Ideal.rsqrt (ms N e x)) (ms N e x))) (N : EReal)
/-- The kernels' mean of the cotangent against the divided row. -/
def mean : EReal := Ideal.div (∑ l, d l * (x l * Ideal.rsqrt (ms N e x))) (N : EReal)

theorem ms_top (hN : 0 < N) (h : ∃ l, x l = ⊥ ∨ x l = ⊤) : ms N e x = ⊤ := by
  obtain ⟨l, hl⟩ := h
  have hsum : ∑ l, x l * x l = ⊤ := by
    refine top_le_iff.1 ?_
    rw [← sq_top hl]
    exact Finset.single_le_sum (f := fun l => x l * x l) (fun i _ => sq_nonneg (x i)) (Finset.mem_univ l)
  rw [ms, hsum, Ideal.div_coe hN.ne', EReal.top_mul_coe_of_pos (by positivity)]
  exact EReal.top_add_coe e

theorem ms_coe (hN : 0 < N) (a : Fin n → ℝ) (h : ∀ l, x l = (a l : EReal)) : ms N e x = (((∑ l, a l * a l) / N + e : ℝ) : EReal) := by
  unfold ms
  simp only [h, ← EReal.coe_mul, coe_sum]
  rw [coe_div _ _ hN.ne', ← EReal.coe_add]

/-- The two forms agree. -/
theorem back (hN : 0 < N) (he : 0 < e) (c : EReal) (k : Fin n) :
    c + d k * Ideal.rsqrt (ms N e x) + x k * q N e x d + q N e x d * x k
      = Ideal.rsqrt (ms N e x) * (d k - x k * Ideal.rsqrt (ms N e x) * mean N e x d) + c := by
  by_cases h : ∃ l, x l = ⊥ ∨ x l = ⊤
  · have hm := ms_top N e x hN h
    have hq : q N e x d = 0 := by
      rw [q, hm, Ideal.rsqrt_top, Ideal.div, if_neg (by exact_mod_cast hN.ne'), Ideal.div, if_neg (by simp)]
      simp
    rw [hq, hm, Ideal.rsqrt_top]
    simp
  · have hx : ∀ l, ∃ a : ℝ, x l = (a : EReal) := fun l => by
      have hl : ¬(x l = ⊥ ∨ x l = ⊤) := fun hl => h ⟨l, hl⟩
      exact ⟨(x l).toReal, (EReal.coe_toReal (fun e => hl (.inr e)) (fun e => hl (.inl e))).symm⟩
    choose a ha using hx
    have hm := ms_coe N e x hN a ha
    set M : ℝ := (∑ l, a l * a l) / N + e with hM
    have hMp : 0 < M := by
      have : 0 ≤ ∑ l, a l * a l := Finset.sum_nonneg fun l _ => mul_self_nonneg _
      rw [hM]; positivity
    set R : ℝ := (√M)⁻¹ with hR
    have hRp : 0 < R := by rw [hR]; exact inv_pos.2 (Real.sqrt_pos.2 hMp)
    have hr : Ideal.rsqrt (ms N e x) = (R : EReal) := by rw [hm]; exact coe_rsqrt _ hMp
    have hdiv : R / M = R * (R * R) := by
      have h2 := Real.mul_self_sqrt hMp.le
      have h3 : √M ≠ 0 := (Real.sqrt_pos.2 hMp).ne'
      have : R * R * M = 1 := by rw [hR]; field_simp; nlinarith
      rw [div_eq_iff hMp.ne', mul_assoc, this, mul_one]
    have hq : q N e x d = (∑ l, x l * d l) * ((-(1 / 2) * (R * (R * R)) * (1 / N) : ℝ) : EReal) := by
      rw [q, hr, hm, coe_div _ _ hMp.ne', hdiv, ← EReal.coe_mul, Ideal.div_coe hN.ne', mul_assoc, ← EReal.coe_mul]
    have hmean : mean N e x d = (∑ l, x l * d l) * ((R * (1 / N) : ℝ) : EReal) := by
      have : ∑ l, d l * (x l * (R : EReal)) = (R : EReal) * ∑ l, x l * d l := by
        rw [pos_mul_sum R hRp]
        exact Finset.sum_congr rfl fun l _ => by rw [mul_comm (d l), mul_comm (x l) (R : EReal), mul_assoc]
      rw [mean, hr, this, Ideal.div_coe hN.ne', mul_comm (R : EReal), mul_assoc, ← EReal.coe_mul]
    rw [hq, hmean, hr, ha k]
    generalize ∑ l, x l * d l = S
    have hR0 : (0 : EReal) ≤ (R : EReal) := by exact_mod_cast hRp.le
    have e1 : ((a k : ℝ) : EReal) * (R : EReal) * (S * ((R * (1 / N) : ℝ) : EReal)) = S * ((a k * R * (R * (1 / N)) : ℝ) : EReal) := by
      rw [← EReal.coe_mul, mul_left_comm, ← EReal.coe_mul]
    have e2 : ((a k : ℝ) : EReal) * (S * ((-(1 / 2) * (R * (R * R)) * (1 / N) : ℝ) : EReal))
        = S * ((a k * (-(1 / 2) * (R * (R * R)) * (1 / N)) : ℝ) : EReal) := by
      rw [mul_left_comm, ← EReal.coe_mul]
    rw [e1, mul_comm (S * _) ((a k : ℝ) : EReal), e2, sub_eq_add_neg, EReal.left_distrib_of_nonneg_of_ne_top hR0 (EReal.coe_ne_top _),
      add_assoc (c + _), twice, mul_left_comm ((2 : ℝ) : EReal), ← EReal.coe_mul, ← mul_neg, mul_left_comm (R : EReal), ← EReal.coe_neg,
      ← EReal.coe_mul, mul_comm (d k), add_assoc, add_comm c]
    congr 4
    ring

/-- The same with nothing added. -/
theorem back_zero (hN : 0 < N) (he : 0 < e) (k : Fin n) :
    d k * Ideal.rsqrt (ms N e x) + x k * q N e x d + q N e x d * x k
      = Ideal.rsqrt (ms N e x) * (d k - x k * Ideal.rsqrt (ms N e x) * mean N e x d) := by
  have := back N e x d hN he 0 k
  rwa [zero_add, add_zero] at this
end

theorem eps_pos : 0 < eps := by unfold eps; positivity

end Cert.Back

end
-- ==== Proof.Algebraic4.lean ====
/-
  The mixer's input product backward to the rows and to the norm's scale: the kernel's three results, and the
  reference's.
-/
module

public import proofs.«01_k».proof.Defs
public import proofs.«01_k».proof.Proof.Run4
public import proofs.«01_k».proof.Proof.Gen.Reference4Ideal.Run
public import proofs.«01_k».proof.Proof.Ref
public import proofs.«01_k».proof.Proof.Back
public import Idealize.ShloMosaic.Lib.Pointwise
public import Idealize.ShloMosaic.Lib.Pipeline.ValueKit
public import Idealize.ShloMosaic.Lib.Tactic
public import Idealize.ShloMosaic.Lib.Claim

@[expose] public section

set_option maxRecDepth 16384

noncomputable section

namespace Cert.Kernel4Ideal.Hand

open Cert.Kernel4Ideal.Gen
open Idealize.ShloMosaic Idealize.ShloMosaic.TcCoe Cert.Spec
open Idealize.ShloMosaic.Pipeline (Dat)

variable (m : (ℓ : Loc nD τ sig) → Buf (Elt Ideal) ℓ) (c : Dev nD)

def kX : FVec Ideal S2048x1024 .f32 := m ((c.tc : Thread nD τ).loc main_arg0)
def kN : FVec Ideal S1024 .f32 := m ((c.tc : Thread nD τ).loc main_arg1)
def kW : FVec Ideal S1024x1280 .f32 := m ((c.tc : Thread nD τ).loc main_arg2)
def kC : FVec Ideal S2048x1280 .f32 := m ((c.tc : Thread nD τ).loc main_arg3)
def kD : FVec Ideal S2048x1024 .f32 := m ((c.tc : Thread nD τ).loc main_arg4)

theorem V0 : V m c main_v0 = truncf .bf16 (kC m c) bitsLt_bf16_f32 := by entry_read; rfl
theorem V2 : V m c main_v2 = truncf .bf16 (transpose S1280x1024 [1, 0] (kW m c) transposes_S1024x1280_S1280x1024_1_0) bitsLt_bf16_f32 := by entry_read; rfl
theorem V3 : V m c main_v3 = shapeCast S1x1024 (kN m c) shapeCasts_S1024_S1x1024 := by entry_read; rfl

theorem idx (t : Fin cfg0.N) : win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![t.val, 0] ∧ win0_7.index t = ![0, 0] :=
  (by decide +kernel : ∀ t : Fin grid0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![t.val, 0] ∧ win0_7.index t = ![0, 0]) t

/-- Row `r` of a row tile. -/
def row (p : Fin 4) (r : Fin 512) : Fin 2048 := ⟨p.val * 512 + r.val, by omega⟩
/-- A grid point's row tile. -/
def pt (t : Fin cfg0.N) : Fin 4 := ⟨t.val, N4 t⟩

theorem b0 (t : Fin cfg0.N) (r : Fin 512) (j : Fin 1280) :
    (show FVec Ideal S512x1280 .bf16 from iblk m c 0 t) (ix2 r j) = kC m c (ix2 (row (pt t) r) j) := by
  have e : (show FVec Ideal S512x1280 .bf16 from iblk m c 0 t) (ix2 r j)
      = (show FVec Ideal S2048x1280 .bf16 from V m c main_v0) (ix2 (row (pt t) r) j) := by
    blk_ext [iblk, idx t]
    all_goals simp only [row, pt]
  rw [e, V0]; rfl
theorem b1 (t : Fin cfg0.N) (j : Fin 1280) (k : Fin 1024) :
    (show FVec Ideal S1280x1024 .bf16 from iblk m c 1 t) (ix2 j k) = kW m c (ix2 k j) := by
  have e : (show FVec Ideal S1280x1024 .bf16 from iblk m c 1 t) (ix2 j k)
      = (show FVec Ideal S1280x1024 .bf16 from V m c main_v2) (ix2 j k) := by
    blk_ext [iblk, idx t]
  rw [e, V2]
  show truncf .bf16 (transpose S1280x1024 [1, 0] (kW m c) transposes_S1024x1280_S1280x1024_1_0) bitsLt_bf16_f32 (ix2 j k) = kW m c (ix2 k j)
  pointwise
theorem b2 (t : Fin cfg0.N) (r : Fin 512) (k : Fin 1024) :
    (show FVec Ideal S512x1024 .f32 from iblk m c 2 t) (ix2 r k) = kX m c (ix2 (row (pt t) r) k) := by
  have e : (show FVec Ideal S512x1024 .f32 from iblk m c 2 t) (ix2 r k)
      = (show FVec Ideal S2048x1024 .f32 from V m c main_arg0) (ix2 (row (pt t) r) k) := by
    blk_ext [iblk, idx t]
    all_goals simp only [row, pt]
  rw [e, V_main_arg0]; rfl
theorem b3 (t : Fin cfg0.N) (k : Fin 1024) :
    (show FVec Ideal S1x1024 .f32 from iblk m c 3 t) (ix2 0 k) = kN m c (ix1 k) := by
  have e : (show FVec Ideal S1x1024 .f32 from iblk m c 3 t) (ix2 0 k)
      = (show FVec Ideal S1x1024 .f32 from V m c main_v3) (ix2 0 k) := by
    blk_ext [iblk, idx t]
  rw [e, V3]
  show shapeCast S1x1024 (kN m c) shapeCasts_S1024_S1x1024 (ix2 0 k) = kN m c (ix1 k)
  pointwise
theorem b4 (t : Fin cfg0.N) (r : Fin 512) (k : Fin 1024) :
    (show FVec Ideal S512x1024 .f32 from iblk m c 4 t) (ix2 r k) = kD m c (ix2 (row (pt t) r) k) := by
  have e : (show FVec Ideal S512x1024 .f32 from iblk m c 4 t) (ix2 r k)
      = (show FVec Ideal S2048x1024 .f32 from V m c main_arg4) (ix2 (row (pt t) r) k) := by
    blk_ext [iblk, idx t]
    all_goals simp only [row, pt]
  rw [e, V_main_arg4]; rfl

section point
variable (v0 : FVec Ideal S512x1280 .bf16) (v2 : FVec Ideal S1280x1024 .bf16) (v5 : FVec Ideal S512x1024 .f32) (v6 : FVec Ideal S1x1024 .f32)
  (v31 : FVec Ideal S512x1024 .f32) (r : Fin 512) (k : Fin 1024)

theorem pay2_at : k0_pay2 (F := Ideal) v0 v2 (ix2 r k) = ∑ j : Fin 1280, v0 (ix2 r j) * v2 (ix2 j k) := by pointwise [k0_pay2]
theorem pay3_at : k0_pay3 (F := Ideal) v5 (ix2 r 0) = Ideal.rsqrt (Back.ms 1024 eps fun l : Fin 1024 => v5 (ix2 r l)) := by
  pointwise [k0_pay3, c1024, cEps, Back.ms]
theorem pay4_at : k0_pay4 (F := Ideal) v5 (ix2 r k) = v5 (ix2 r k) * Ideal.rsqrt (Back.ms 1024 eps fun l : Fin 1024 => v5 (ix2 r l)) := by
  pointwise [k0_pay4, pay3_at]
theorem pay5_at : k0_pay5 (F := Ideal) v0 v2 v5 (ix2 r k)
    = (∑ j : Fin 1280, v0 (ix2 r j) * v2 (ix2 j k)) * (v5 (ix2 r k) * Ideal.rsqrt (Back.ms 1024 eps fun l : Fin 1024 => v5 (ix2 r l))) := by
  pointwise [k0_pay5, pay2_at, pay4_at]
theorem pay6_at : k0_pay6 (F := Ideal) v0 v2 v5 v6 v31 (ix2 r k)
    = Ideal.rsqrt (Back.ms 1024 eps fun l : Fin 1024 => v5 (ix2 r l))
        * ((∑ j : Fin 1280, v0 (ix2 r j) * v2 (ix2 j k)) * v6 (ix2 0 k)
          - v5 (ix2 r k) * Ideal.rsqrt (Back.ms 1024 eps fun l : Fin 1024 => v5 (ix2 r l))
            * Back.mean 1024 eps (fun l : Fin 1024 => v5 (ix2 r l)) (fun l : Fin 1024 => (∑ j : Fin 1280, v0 (ix2 r j) * v2 (ix2 j l)) * v6 (ix2 0 l)))
        + v31 (ix2 r k) := by
  pointwise [k0_pay6, pay2_at, pay3_at, pay4_at, c1024, Back.mean]

theorem later_select {α : Type} (n : ℕ) (h0 : n ≠ 0) (h : n < 4) (a b : α) : Scalar.select (Scalar.cmpi .sgt (BitVec.ofNat 32 n) 0#32) a b = a := by
  interval_cases n
  · exact absurd rfl h0
  all_goals rfl
theorem pay1_first (n : ℕ) (h : n = 0) (y : FVec Ideal S1x1024 .f32) :
    k0_pay1 (F := Ideal) (BitVec.ofNat 32 n) v5 y (ix2 0 k) = ∑ r : Fin 512, v5 (ix2 r k) := by
  unfold k0_pay1; dsimp only; rw [first_select _ h]
  pointwise
theorem pay1_later (n : ℕ) (h0 : n ≠ 0) (h : n < 4) (y : FVec Ideal S1x1024 .f32) :
    k0_pay1 (F := Ideal) (BitVec.ofNat 32 n) v5 y (ix2 0 k) = (∑ r : Fin 512, v5 (ix2 r k)) + y (ix2 0 k) := by
  unfold k0_pay1; dsimp only; rw [later_select _ h0 h]
  pointwise
end point

/-- The cotangent of the normalised rows at one index. -/
def tA (r : Fin 2048) (k : Fin 1024) : EReal := ∑ j : Fin 1280, kC m c (ix2 r j) * kW m c (ix2 k j)
/-- A row of the input, and the same row's cotangent through the scale. -/
def tX (r : Fin 2048) (k : Fin 1024) : EReal := kX m c (ix2 r k)
def tDn (r : Fin 2048) (k : Fin 1024) : EReal := tA m c r k * kN m c (ix1 k)
/-- The row's reciprocal root. -/
def tR (r : Fin 2048) : EReal := Ideal.rsqrt (Back.ms 1024 eps (tX m c r))
/-- The input's cotangent at one index. -/
def tDx (r : Fin 2048) (k : Fin 1024) : EReal :=
  tR m c r * (tDn m c r k - tX m c r k * tR m c r * Back.mean 1024 eps (tX m c r) (tDn m c r)) + kD m c (ix2 r k)
/-- The scale's cotangent at one index, and the share of one row tile. -/
def tS (k : Fin 1024) : EReal := ∑ r : Fin 2048, tA m c r k * (tX m c r k * tR m c r)
def tPart (p : Fin 4) (k : Fin 1024) : EReal := ∑ r : Fin 512, tA m c (row p r) k * (tX m c (row p r) k * tR m c (row p r))

theorem tS_eq (k : Fin 1024) : tPart m c 3 k + (tPart m c 2 k + (tPart m c 1 k + tPart m c 0 k)) = tS m c k := by
  unfold tS tPart
  rw [Fin.sum_univ_tiles 4 512 rfl fun r : Fin 2048 => tA m c r k * (tX m c r k * tR m c r), Fin.sum_univ_four, add_comm, add_comm (Finset.sum _ _) (_ + _),
    add_comm (Finset.sum _ _) (Finset.sum _ _)]
  rfl

theorem rowX (t : Fin cfg0.N) (r : Fin 512) : (fun l : Fin 1024 => (show FVec Ideal S512x1024 .f32 from iblk m c 2 t) (ix2 r l)) = tX m c (row (pt t) r) :=
  funext fun l => b2 m c t r l
theorem rowA (t : Fin cfg0.N) (r : Fin 512) (k : Fin 1024) :
    (∑ j : Fin 1280, (show FVec Ideal S512x1280 .bf16 from iblk m c 0 t) (ix2 r j) * (show FVec Ideal S1280x1024 .bf16 from iblk m c 1 t) (ix2 j k))
      = tA m c (row (pt t) r) k :=
  Finset.sum_congr rfl fun j _ => congrArg₂ (· * ·) (b0 m c t r j) (b1 m c t j k)

theorem dx_at (t : Fin cfg0.N) (r : Fin 512) (k : Fin 1024) :
    k0_pay6 (F := Ideal) (iblk m c 0 t) (iblk m c 1 t) (iblk m c 2 t) (iblk m c 3 t) (iblk m c 4 t) (ix2 r k) = tDx m c (row (pt t) r) k := by
  refine (pay6_at _ _ _ _ _ r k).trans ?_
  unfold tDx tR
  have hd : (fun l : Fin 1024 => (∑ j : Fin 1280, (show FVec Ideal S512x1280 .bf16 from iblk m c 0 t) (ix2 r j)
      * (show FVec Ideal S1280x1024 .bf16 from iblk m c 1 t) (ix2 j l)) * (show FVec Ideal S1x1024 .f32 from iblk m c 3 t) (ix2 0 l)) = tDn m c (row (pt t) r) :=
    funext fun l => congrArg₂ (· * ·) (rowA m c t r l) (b3 m c t l)
  exact congrArg₂ (· + ·) (congrArg₂ (· * ·) (congrArg (fun x => Ideal.rsqrt (Back.ms 1024 eps x)) (rowX m c t r))
    (congrArg₂ (· - ·) (congrFun hd k) (congrArg₂ (· * ·)
      (congrArg₂ (· * ·) (b2 m c t r k) (congrArg (fun x => Ideal.rsqrt (Back.ms 1024 eps x)) (rowX m c t r)))
      (congrArg₂ (Back.mean 1024 eps) (rowX m c t r) hd)))) (b4 m c t r k)

theorem part_at (t : Fin cfg0.N) (k : Fin 1024) :
    (∑ r : Fin 512, k0_pay5 (F := Ideal) (iblk m c 0 t) (iblk m c 1 t) (iblk m c 2 t) (ix2 r k)) = tPart m c (pt t) k := by
  refine Finset.sum_congr rfl fun r _ => (pay5_at _ _ _ r k).trans ?_
  exact congrArg₂ (· * ·) (rowA m c t r k) (congrArg₂ (· * ·) (b2 m c t r k) (congrArg (fun x => Ideal.rsqrt (Back.ms 1024 eps x)) (rowX m c t r)))

theorem acc_first (k : Fin 1024) : acc7 m c 1 (ix2 0 k) = tPart m c 0 k := by
  have hN : 0 < cfg0.N := lt_of_lt_of_eq (by decide) (show 4 = cfg0.N from N_0.symm)
  have e : acc7 m c 1 = _ := acc7_succ m c ⟨0, hN⟩
  refine (congrFun e (ix2 0 k)).trans ?_
  exact (pay1_first _ k _ (coord0 _) _).trans (part_at m c _ k)
theorem acc_later (p : Fin 4) (hp : p.val ≠ 0) (k : Fin 1024) : acc7 m c (p.val + 1) (ix2 0 k) = tPart m c p k + acc7 m c p.val (ix2 0 k) := by
  have hN : p.val < cfg0.N := lt_of_lt_of_eq p.isLt (show 4 = cfg0.N from N_0.symm)
  rw [show p.val + 1 = (⟨p.val, hN⟩ : Fin cfg0.N).val + 1 from rfl, acc7_succ]
  have hc := coord0 ⟨p.val, hN⟩
  refine (pay1_later _ k _ (fun h => hp (hc.symm.trans h)) (lt_of_eq_of_lt hc p.isLt) _).trans ?_
  exact congrArg (· + _) (part_at m c ⟨p.val, hN⟩ k)
theorem acc_all (k : Fin 1024) : acc7 m c 4 (ix2 0 k) = tS m c k := by
  rw [← tS_eq, ← acc_first]
  refine (acc_later m c 3 (by decide) k).trans (congrArg (_ + ·) ?_)
  refine (acc_later m c 2 (by decide) k).trans (congrArg (_ + ·) ?_)
  exact acc_later m c 1 (by decide) k

theorem emb5 (t : Fin cfg0.N) (r : Fin 512) (k : Fin 1024) : (win0_5.blk t).view.emb (ix2 r k) = (ix2 (row (pt t) r) k : S2048x1024.Idx) := by
  blk_ext [idx t]
  all_goals simp only [row, pt]
theorem at5 (t : Fin cfg0.N) (y : S512x1024.Idx) : k0_pay6 (F := Ideal) (iblk m c 0 t) (iblk m c 1 t) (iblk m c 2 t) (iblk m c 3 t) (iblk m c 4 t) y
      = tDx m c ((win0_5.blk t).view.emb y 0) ((win0_5.blk t).view.emb y 1) := by
  rw [eq_ix2 (n0 := 512) (n1 := 1024) y, emb5 t (y 0) (y 1)]
  exact dx_at m c t (y 0) (y 1)
theorem final5 : (dats m 0 c).arrAt 5 cfg0.N = (fun z : S2048x1024.Idx => tDx m c (z 0) (z 1)) := by
  refine (dats m 0 c).arrAt_eq_of_covers 5 _ (by decide +kernel) fun t hf y => ?_
  blk_simp
  rw [after5]
  exact at5 m c t y

theorem emb6 (t : Fin cfg0.N) (r : Fin 512) (k : Fin 1024) : (win0_6.blk t).view.emb (ix2 r k) = (ix2 (row (pt t) r) k : S2048x1024.Idx) := by
  blk_ext [idx t]
  all_goals simp only [row, pt]
theorem at6 (t : Fin cfg0.N) (y : S512x1024.Idx) : k0_pay7 (F := Ideal) (iblk m c 0 t) (iblk m c 1 t) (iblk m c 2 t) (iblk m c 3 t) (iblk m c 4 t) y
      = tDx m c ((win0_6.blk t).view.emb y 0) ((win0_6.blk t).view.emb y 1) := by
  rw [eq_ix2 (n0 := 512) (n1 := 1024) y, emb6 t (y 0) (y 1)]
  exact dx_at m c t (y 0) (y 1)
theorem final6 : (dats m 0 c).arrAt 6 cfg0.N = (fun z : S2048x1024.Idx => tDx m c (z 0) (z 1)) := by
  refine (dats m 0 c).arrAt_eq_of_covers 6 _ (by decide +kernel) fun t hf y => ?_
  blk_simp
  rw [after6]
  exact at6 m c t y

/-- The scale's array ends at the running sum after all four points. -/
theorem arr7 (g : Fin 1024 → EReal) (hg : ∀ k : Fin 1024, acc7 m c 4 (ix2 0 k) = g k) :
    (dats m 0 c).arrAt 7 cfg0.N = (fun z : S1x1024.Idx => g (z 1)) := by
  refine (dats m 0 c).arrAt_eq_of_covers 7 _ (by decide +kernel) fun t hf y => ?_
  have h := (flush0_7 t).mp hf
  have hN := N4 t
  blk_simp
  rw [after7]
  obtain ⟨k, rfl⟩ : ∃ (k : Fin 1024), y = (ix2 0 k : S1x1024.Idx) := ⟨y 1, by
    rw [eq_ix2 (n0 := 1) (n1 := 1024) y]; congr 1; exact Subsingleton.elim (α := Fin 1) _ _⟩
  rw [show t.val + 1 = 4 by omega]
  have hX := hg k
  generalize acc7 m c 4 = X at hX ⊢
  refine Eq.trans hX ?_
  have e : (win0_7.blk t).view.emb (ix2 0 k) = (ix2 0 k : S1x1024.Idx) := by
    blk_ext [idx t]
  exact congrArg (fun z : S1x1024.Idx => g (z 1)) e.symm
theorem final7 : (dats m 0 c).arrAt 7 cfg0.N = (fun z : S1x1024.Idx => tS m c (z 1)) := arr7 m c (tS m c) (acc_all m c)

end Cert.Kernel4Ideal.Hand

namespace Cert.Proof

open Idealize.ShloMosaic Idealize.ShloMosaic.Tactic Idealize.SL.Sem Cert.Spec
open Cert.ReferenceIdeal.Hand (rMs rR rNx rN rDn rDnx rS rQ rDx X2)

section
open Cert.Reference4Ideal Cert.Reference4Ideal.Gen
/-- The cotangent of the normalised rows. -/
def rA4 (w : FVec Ideal S1024x1280 .f32) (ct : FVec Ideal S2048x1280 .f32) : X2 :=
  Host.dotGeneral dot_S2048x1280_S1024x1280_S2048x1024_1_1_0_0_n_n none ct w
theorem rA4_at (w : FVec Ideal S1024x1280 .f32) (ct : FVec Ideal S2048x1280 .f32) (r : Fin 2048) (k : Fin 1024) :
    rA4 w ct (ix2 r k) = ∑ j : Fin 1280, ct (ix2 r j) * w (ix2 k j) := by pointwise [rA4]
end

section
variable (x d c : X2) (n : FVec Ideal ⟨1, ![1024]⟩ .f32) (r : Fin 2048) (k : Fin 1024)
theorem rMs_at : rMs x (ix2 r 0) = Back.ms 1024 eps fun l : Fin 1024 => x (ix2 r l) := by
  pointwise [rMs, c1024, cEps, Back.ms]
theorem rR_at : rR x (ix2 r 0) = Ideal.rsqrt (Back.ms 1024 eps fun l : Fin 1024 => x (ix2 r l)) := by
  pointwise [rR, rMs_at]
theorem rQ_at : rQ x d (ix2 r k) = Back.q 1024 eps (fun l : Fin 1024 => x (ix2 r l)) (fun l : Fin 1024 => d (ix2 r l)) := by
  have e1 : rR x (ix2 r default) = _ := rR_at x r
  have e2 : rMs x (ix2 r default) = _ := rMs_at x r
  pointwise [rQ, rS, c1024, cNegHalf, Back.q]
  simp only [zero_add, Finset.univ_unique, Finset.sum_singleton, e1, e2]
theorem rDx_at : rDx x d c (ix2 r k) = Ideal.rsqrt (Back.ms 1024 eps fun l : Fin 1024 => x (ix2 r l))
      * (d (ix2 r k) - x (ix2 r k) * Ideal.rsqrt (Back.ms 1024 eps fun l : Fin 1024 => x (ix2 r l))
        * Back.mean 1024 eps (fun l : Fin 1024 => x (ix2 r l)) (fun l : Fin 1024 => d (ix2 r l))) + c (ix2 r k) := by
  refine Eq.trans ?_ (Back.back 1024 eps (fun l : Fin 1024 => x (ix2 r l)) (fun l : Fin 1024 => d (ix2 r l)) (by norm_num) Back.eps_pos (c (ix2 r k)) k)
  pointwise [rDx, rQ_at, rR_at]
theorem rDnx_at : rDnx n d (ix2 r k) = d (ix2 r k) * n (ix1 k) := by
  pointwise [rDnx, rN]
theorem rDn_at : rDn x d (ix2 0 k) = ∑ r : Fin 2048, d (ix2 r k) * (x (ix2 r k) * Ideal.rsqrt (Back.ms 1024 eps fun l : Fin 1024 => x (ix2 r l))) := by
  pointwise [rDn, rNx, rR_at]
  simp only [zero_add, Finset.univ_unique, Finset.sum_singleton]
  exact Finset.sum_congr rfl fun r _ => mul_comm _ _
end

section
open Cert.Kernel4Ideal Cert.Kernel4Ideal.Hand
variable (m : (ℓ : Loc nD τ sig) → Buf (Elt Ideal) ℓ) (c : Dev nD)
/-- The reference's input cotangent, of the kernel's arguments. -/
def rO4 (x : X2) (n : FVec Ideal ⟨1, ![1024]⟩ .f32) (w : FVec Ideal Cert.Reference4Ideal.S1024x1280 .f32) (ct : FVec Ideal Cert.Reference4Ideal.S2048x1280 .f32) (d : X2) : X2 :=
  rDx x (rDnx n (rA4 w ct)) d
theorem rO4_at (r : Fin 2048) (k : Fin 1024) : rO4 (kX m c) (kN m c) (kW m c) (kC m c) (kD m c) (ix2 r k) = tDx m c r k := by
  have hd : (fun l : Fin 1024 => rDnx (kN m c) (rA4 (kW m c) (kC m c)) (ix2 r l)) = tDn m c r := funext fun l => by
    rw [rDnx_at, rA4_at]; rfl
  unfold rO4
  rw [rDx_at, hd, show rDnx (kN m c) (rA4 (kW m c) (kC m c)) (ix2 r k) = tDn m c r k from congrFun hd k]
  rfl
theorem same4_0 : rO4 (kX m c) (kN m c) (kW m c) (kC m c) (kD m c) = (dats m 0 c).arrAt 5 cfg0.N := by
  rw [final5]; funext z
  rw [eq_ix2 (n0 := 2048) (n1 := 1024) z]
  exact rO4_at m c (z 0) (z 1)
theorem same4_1 : truncf .bf16 (rO4 (kX m c) (kN m c) (kW m c) (kC m c) (kD m c)) Cert.Reference4Ideal.Gen.bitsLt_bf16_f32 = (dats m 0 c).arrAt 6 cfg0.N := by
  rw [final6]; funext z
  rw [eq_ix2 (n0 := 2048) (n1 := 1024) z]
  exact rO4_at m c (z 0) (z 1)
theorem same4_2 : rDn (kX m c) (rA4 (kW m c) (kC m c)) = (dats m 0 c).arrAt 7 cfg0.N := by
  rw [final7]; funext z
  obtain ⟨k, rfl⟩ : ∃ (k : Fin 1024), z = (ix2 0 k : S1x1024.Idx) := ⟨z 1, by
    rw [eq_ix2 (n0 := 1) (n1 := 1024) z]; congr 1; exact Subsingleton.elim (α := Fin 1) _ _⟩
  refine (rDn_at _ _ k).trans ?_
  exact Finset.sum_congr rfl fun r _ => congrArg (· * _) (rA4_at _ _ r k)
end

section
open Cert.Reference4Ideal
variable (m : (ℓ : Loc nD τ sig) → Buf (Elt Ideal) ℓ) (c : Dev nD)
theorem ref4_0 : Value.res_out0 m c = rO4 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := by
  unfold Value.res_out0 Value.res_main_v38; rfl
theorem ref4_1 : Value.res_out1 m c = truncf .bf16 (rO4 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))) Gen.bitsLt_bf16_f32 := by
  unfold Value.res_out1 Value.res_main_v39; rfl
end

set_option maxHeartbeats 1600000 in
theorem algebraic4 : Cert.algebraic_Kernel4Ideal_Reference4Ideal := by
  pair_intro
  · have h := (θ_run Cert.Kernel4Ideal.defs _ _).mono (fun _ h => h.1) (Cert.Kernel4Ideal.Hand.run_main m g)
    run_from h
  · refine (θ_run Cert.Reference4Ideal.defs _ _).mono (fun r h c => ?_) (Cert.Reference4Ideal.Value.run m' g')
    obtain ⟨r0, r1, r2, ha⟩ := h c
    obtain ⟨h0, h1, h2, h3, h4⟩ := hagree c
    have r0 := r0.trans (ref4_0 m' c)
    have r1 := r1.trans (ref4_1 m' c)
    rw [h0, h1, h2, h3, h4] at r0 r1
    rw [h0, h2, h3] at r2
    exact ⟨r0.trans (same4_0 m c), r1.trans (same4_1 m c), r2.trans (same4_2 m c), ha⟩

end Cert.Proof

end
-- ==== Proof.Run5.lean ====
module

public import proofs.«01_k».proof.Proof.Gen.Kernel5Ideal.Frame
public import proofs.«01_k».proof.Proof.Gen.Kernel5Ideal.Skeleton
public import Idealize.ShloMosaic.Lib.VecWindow

/-! The run of the output product's backward call: what each buffer holds after each grid point, and the launch. -/

@[expose] public section

set_option maxRecDepth 16384

noncomputable section

namespace Cert.Kernel5Ideal.Hand

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole load of a buffer that holds `x` reads `x`. -/
theorem read_whole {s : Shape} {e : EltTy} {sp : Space} {r : Memref sig .tc sp s e} (h : r.IsWhole) (x : Vec F s e) {off : Fin s.rank → ℕ}
    (inb : ∀ a, off a + s.size a ≤ s.size a) : r.view.readAt (Elt F) (Rect.unit off s.size inb).toLoadRect (h.unread x) = x :=
  (View.readAt_full _ _ _).trans (h.read_unread x)

set_option maxHeartbeats 1600000 in
/-- One grid point: what each buffer holds after it. -/
theorem body (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .bf16) (harg11 : arg11.IsWhole) (arg12 : Memref sig .tc .vmem S1x512 .f32) (harg12 : arg12.IsWhole)
    (x0 : Vec F S512x1024 .bf16) (x1 : Vec F S1024x1024 .bf16) (x2 : Vec F S512x512 .f32) (x3 : Vec F S512x512 .f32) (x4 : Vec F S1x512 .f32) (x5 : Vec F S1x512 .f32) (y8 : Vec F S1x512 .f32) (y11 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare y8 ∗ (∃ d, owns (c : Thread nD τ) arg10 fullShare d) ∗ (∃ d, owns (c : Thread nD τ) arg11 fullShare d) ∗ owns (c : Thread nD τ) arg12 fullShare y11
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k0_pay6 x0 x1 x2 x4) ∗ owns (c : Thread nD τ) arg8 fullShare (k0_pay7 x0 x1 x2 x4) ∗ owns (c : Thread nD τ) arg9 fullShare (k0_pay9 (BitVec.ofNat 32 (i 0).val) (k0_pay8 x0 x1 x2) 0#32 y8) ∗ owns (c : Thread nD τ) arg10 fullShare (k0_pay13 (k0_pay2 x0 x1) x3 x5) ∗ owns (c : Thread nD τ) arg11 fullShare (k0_pay14 (k0_pay2 x0 x1) x3 x5) ∗ owns (c : Thread nD τ) arg12 fullShare (k0_pay1 (BitVec.ofNat 32 (i 0).val) (k0_pay15 (k0_pay2 x0 x1) x3) y11)) -∗ K ⟨⟩))
      ⊢ wp frame (wpE (defs₀ (F := F)) Variants.none c none) E (cc0_out_proj_dx i arg1 harg1 arg2 harg2 arg3 harg3 arg4 harg4 arg5 harg5 arg6 harg6 arg7 harg7 arg8 harg8 arg9 harg9 arg10 harg10 arg11 harg11 arg12 harg12) K := by
  simp only [cc0_out_proj_dx_eq_skeleton]; unfold cc0_out_proj_dx_skel
  simp only [k0_part1_eq_skeleton]
  unfold k0_part1_skel
  simp only [k0_part2_eq_skeleton]
  unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%d9, %f9, -, H9⟩, ⟨%d10, %f10, -, H10⟩, ⟨%f11, %hf11, H11⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8; obtain rfl := harg12.eq_unread hf11
  sl_exec
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; refine (View.read_writes_full _ _ _ _ _).trans ?_
    simp only [read_whole harg1, read_whole harg2, read_whole harg3, read_whole harg4, read_whole harg5, read_whole harg6, read_whole harg9, read_whole harg12]
  isplitl [H7]
  · iexists _; isplitr; swap; · iexact H7
    ipureintro; refine (View.read_writes_full _ _ _ _ _).trans ?_
    simp only [read_whole harg1, read_whole harg2, read_whole harg3, read_whole harg4, read_whole harg5, read_whole harg6, read_whole harg9, read_whole harg12]
  isplitl [H8]
  · iexists _; isplitr; swap; · iexact H8
    ipureintro; refine (View.read_writes_full _ _ _ _ _).trans ?_
    simp only [read_whole harg1, read_whole harg2, read_whole harg3, read_whole harg4, read_whole harg5, read_whole harg6, read_whole harg9, read_whole harg12]
  isplitl [H9]
  · iexists _; isplitr; swap; · iexact H9
    ipureintro; refine (View.read_writes_full _ _ _ _ _).trans ?_
    simp only [read_whole harg1, read_whole harg2, read_whole harg3, read_whole harg4, read_whole harg5, read_whole harg6, read_whole harg9, read_whole harg12]
  isplitl [H10]
  · iexists _; isplitr; swap; · iexact H10
    ipureintro; refine (View.read_writes_full _ _ _ _ _).trans ?_
    simp only [read_whole harg1, read_whole harg2, read_whole harg3, read_whole harg4, read_whole harg5, read_whole harg6, read_whole harg9, read_whole harg12]
  · iexists _; isplitr; swap; · iexact H11
    ipureintro; refine (View.read_writes_full _ _ _ _ _).trans ?_
    simp only [read_whole harg1, read_whole harg2, read_whole harg3, read_whole harg4, read_whole harg5, read_whole harg6, read_whole harg9, read_whole harg12]

variable (m : (ℓ : Loc nD τ sig) → Buf (Elt F) ℓ) (ρ : Dev nD → PrngReg)

/-! ## What each point leaves -/

theorem N4 (t : Fin cfg0.N) : t.val < 4 := lt_of_lt_of_eq t.isLt (show cfg0.N = 4 from N_0)
theorem coord0 (t : Fin cfg0.N) : (grid0.coords t 0).val = t.val := by
  have e : (grid0.coords t 0).val = t.val / 1 % 4 := Pipeline.Grid.coords_val t 0 (by decide) rfl
  have := N4 t; omega

theorem first_select {α : Type} (n : ℕ) (hn : n = 0) (a b : α) : Scalar.select (Scalar.cmpi .sgt (BitVec.ofNat 32 n) 0#32) a b = b := by
  subst hn; rfl

/-- The running sum of window 8 after a point, from what stood there. -/
def step8 (c : Dev nD) (t : Fin cfg0.N) (y : Vec F S1x512 .f32) : Vec F S1x512 .f32 := k0_pay9 (BitVec.ofNat 32 ((grid0.coords t) 0).val) (k0_pay8 (iblk m c 0 t) (iblk m c 1 t) (iblk m c 2 t)) 0#32 y
theorem step8_first (c : Dev nD) (t : Fin cfg0.N) (h : t.val = 0) (X Y : Vec F S1x512 .f32) : step8 m c t X = step8 m c t Y := by
  unfold step8 k0_pay9; dsimp only; rw [first_select _ ((coord0 t).trans h), first_select _ ((coord0 t).trans h)]
/-- The running sum of window 8 after the first `n` points. -/
def acc8 (c : Dev nD) : ℕ → Vec F S1x512 .f32
  | 0 => fun _ => Scalar.ofBits .f32 0x00000000#32
  | n + 1 => if h : n < cfg0.N then step8 m c ⟨n, h⟩ (acc8 c n) else acc8 c n
theorem acc8_succ (c : Dev nD) (t : Fin cfg0.N) : acc8 m c (t.val + 1) = step8 m c t (acc8 m c t.val) := dif_pos t.isLt

/-- The running sum of window 11 after a point, from what stood there. -/
def step11 (c : Dev nD) (t : Fin cfg0.N) (y : Vec F S1x512 .f32) : Vec F S1x512 .f32 := k0_pay1 (BitVec.ofNat 32 ((grid0.coords t) 0).val) (k0_pay15 (k0_pay2 (iblk m c 0 t) (iblk m c 1 t)) (iblk m c 3 t)) y
theorem step11_first (c : Dev nD) (t : Fin cfg0.N) (h : t.val = 0) (X Y : Vec F S1x512 .f32) : step11 m c t X = step11 m c t Y := by
  unfold step11 k0_pay1; dsimp only; rw [first_select _ ((coord0 t).trans h), first_select _ ((coord0 t).trans h)]
/-- The running sum of window 11 after the first `n` points. -/
def acc11 (c : Dev nD) : ℕ → Vec F S1x512 .f32
  | 0 => fun _ => Scalar.ofBits .f32 0x00000000#32
  | n + 1 => if h : n < cfg0.N then step11 m c ⟨n, h⟩ (acc11 c n) else acc11 c n
theorem acc11_succ (c : Dev nD) (t : Fin cfg0.N) : acc11 m c (t.val + 1) = step11 m c t (acc11 m c t.val) := dif_pos t.isLt

/-! ## The pipeline's proof data -/

/-- Each window's staging buffer after the body at `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay6 (iblk m c 0 t) (iblk m c 1 t) (iblk m c 2 t) (iblk m c 4 t)
    | ⟨7, _⟩ => k0_pay7 (iblk m c 0 t) (iblk m c 1 t) (iblk m c 2 t) (iblk m c 4 t)
    | ⟨8, _⟩ => acc8 m c (t.val + 1)
    | ⟨9, _⟩ => k0_pay13 (k0_pay2 (iblk m c 0 t) (iblk m c 1 t)) (iblk m c 3 t) (iblk m c 5 t)
    | ⟨10, _⟩ => k0_pay14 (k0_pay2 (iblk m c 0 t) (iblk m c 1 t)) (iblk m c 3 t) (iblk m c 5 t)
    | ⟨11, _⟩ => acc11 m c (t.val + 1)
    | ⟨_ + 12, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = k0_pay6 (iblk m c 0 t) (iblk m c 1 t) (iblk m c 2 t) (iblk m c 4 t) := by dsimp only [dats]
theorem after7 (c : Dev nD) (t : Fin cfg0.N) : (dats m 0 c).after 7 t = k0_pay7 (iblk m c 0 t) (iblk m c 1 t) (iblk m c 2 t) (iblk m c 4 t) := by dsimp only [dats]
theorem after8 (c : Dev nD) (t : Fin cfg0.N) : (dats m 0 c).after 8 t = acc8 m c (t.val + 1) := by dsimp only [dats]
theorem after9 (c : Dev nD) (t : Fin cfg0.N) : (dats m 0 c).after 9 t = k0_pay13 (k0_pay2 (iblk m c 0 t) (iblk m c 1 t)) (iblk m c 3 t) (iblk m c 5 t) := by dsimp only [dats]
theorem after10 (c : Dev nD) (t : Fin cfg0.N) : (dats m 0 c).after 10 t = k0_pay14 (k0_pay2 (iblk m c 0 t) (iblk m c 1 t)) (iblk m c 3 t) (iblk m c 5 t) := by dsimp only [dats]
theorem after11 (c : Dev nD) (t : Fin cfg0.N) : (dats m 0 c).after 11 t = acc11 m c (t.val + 1) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
/-- The running sum's buffer after the first point holds what the points before left. -/
theorem before8 (c : Dev nD) (n : ℕ) (hn : n + 1 < cfg0.N) (d) : (dats m 0 c).before 8 ⟨n + 1, hn⟩ d = acc8 m c (n + 1) := by
  have hn' : n < cfg0.N := Nat.lt_of_succ_lt hn
  have h4 : n + 1 < 4 := N4 ⟨n + 1, hn⟩
  rw [(dats m 0 c).before_of_pos 8 ⟨n + 1, hn⟩ (Nat.succ_ne_zero n) rfl d]
  have hf : ¬(cfg0.win 8).flush ⟨n, hn'⟩ = true := fun h => by have := (flush0_8 ⟨n, hn'⟩).mp h; dsimp only at this; omega
  rw [if_neg (by exact hf)]
  show (dats m 0 c).left 8 ⟨n, hn'⟩ d = _
  unfold Dat.left
  rw [show cfg0.idle 8 (cfg0.grid.coords ⟨n, hn'⟩) = false from rfl]
  exact after8 m c ⟨n, hn'⟩
/-- What a point adds to its buffer is what it adds to the running sum. -/
theorem step8_before (c : Dev nD) (t : Fin cfg0.N) (d) : step8 m c t ((dats m 0 c).before 8 t d) = acc8 m c (t.val + 1) := by
  rw [acc8_succ]
  obtain ⟨n, hn⟩ := t
  cases n with
  | zero => exact step8_first m c ⟨0, hn⟩ rfl _ _
  | succ n => rw [before8 m c n hn d]
/-- The running sum's buffer after the first point holds what the points before left. -/
theorem before11 (c : Dev nD) (n : ℕ) (hn : n + 1 < cfg0.N) (d) : (dats m 0 c).before 11 ⟨n + 1, hn⟩ d = acc11 m c (n + 1) := by
  have hn' : n < cfg0.N := Nat.lt_of_succ_lt hn
  have h4 : n + 1 < 4 := N4 ⟨n + 1, hn⟩
  rw [(dats m 0 c).before_of_pos 11 ⟨n + 1, hn⟩ (Nat.succ_ne_zero n) rfl d]
  have hf : ¬(cfg0.win 11).flush ⟨n, hn'⟩ = true := fun h => by have := (flush0_11 ⟨n, hn'⟩).mp h; dsimp only at this; omega
  rw [if_neg (by exact hf)]
  show (dats m 0 c).left 11 ⟨n, hn'⟩ d = _
  unfold Dat.left
  rw [show cfg0.idle 11 (cfg0.grid.coords ⟨n, hn'⟩) = false from rfl]
  exact after11 m c ⟨n, hn'⟩
/-- What a point adds to its buffer is what it adds to the running sum. -/
theorem step11_before (c : Dev nD) (t : Fin cfg0.N) (d) : step11 m c t ((dats m 0 c).before 11 t d) = acc11 m c (t.val + 1) := by
  rw [acc11_succ]
  obtain ⟨n, hn⟩ := t
  cases n with
  | zero => exact step11_first m c ⟨0, hn⟩ rfl _ _
  | succ n => rw [before11 m c n hn d]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

theorem leaves_live (c : Dev nD) (w : Fin cfg0.W) (t : Fin cfg0.N) (hl : cfg0.loose w = false) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl, show (dats m 0 c).Φ t.succ = (dats m 0 c).Φ t.castSucc from rfl]
  rw [leaves_live m c 0 t rfl rfl, after0, leaves_live m c 1 t rfl rfl, after1, leaves_live m c 2 t rfl rfl, after2, leaves_live m c 3 t rfl rfl, after3, leaves_live m c 4 t rfl rfl, after4, leaves_live m c 5 t rfl rfl, after5, leaves_live m c 6 t rfl rfl, after6, leaves_live m c 7 t rfl rfl, after7, leaves_live m c 8 t rfl rfl, after8, leaves_live m c 9 t rfl rfl, after9, leaves_live m c 10 t rfl rfl, after10, leaves_live m c 11 t rfl rfl, after11]
  iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body c (grid0.coords t) _ _ _ _ _ _ _ _ _ _ _ _ _ _ _ _ _ _ _ _ _ _ _ _ (iblk m c 0 t) (iblk m c 1 t) (iblk m c 2 t) (iblk m c 3 t) (iblk m c 4 t) (iblk m c 5 t) ((dats m 0 c).before 8 t d8) ((dats m 0 c).before 11 t d11) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexists _; iexact H9
  isplitl [H10]; · iexists _; iexact H10
  isplitl [H11]; · iexact H11
  iintro ⟨H0, H1, H2, H3, H4, H5, H6, H7, H8, H9, H10, H11⟩
  isplitl [Hg]; · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · rw [← step8_before m c t d8]; iexact H8
  isplitl [H9]; · iexact H9
  isplitl [H10]; · iexact H10
  rw [← step11_before m c t d11]; iexact H11

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _
theorem hout (c : Dev nD) : (dats m 0 c).Φ (Fin.last cfg0.N) ⊢ Pipeline.ΦA spec0 c := Idealize.SL.BI.Entails.refl _

/-! ## The run and the frame -/

set_option backward.isDefEq.respectTransparency.types false in
/-- The launch: every array of the pipeline ends at what the proof data says, every counter at zero. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch0.to₀ defs₀ Variants.none m ρ main
    (hbody := fun c => (body_obligation m c).loose) (hq := fun _ _ _ => rfl)
    (howed := fun _ _ => rfl) (V := V m) (hmain := hmain m Variants.none) (hA := A_eq m) (hin := hin m) (hout := hout m)

end Cert.Kernel5Ideal.Hand

end
-- ==== Proof.Frames5.lean ====
module

public import proofs.«01_k».proof.Defs
public import proofs.«01_k».proof.Proof.Run5
public import proofs.«01_k».proof.Proof.Gen.Kernel5
public import proofs.«01_k».proof.Proof.Gen.Reference5Ideal
public import Idealize.ShloMosaic.Lib.Tactic
public import Idealize.ShloMosaic.Lib.Claim
public import proofs.«01_k».proof.Proof.Gen.Reference5Ideal.Run

/-! The frame claims of the mixer's output projection's input-gradient kernel, from its one run over any float operations, and of its reference. -/

@[expose] public section

set_option maxRecDepth 100000

noncomputable section

namespace Cert.Proof

open Idealize.ShloMosaic Idealize.ShloMosaic.Tactic Idealize.SL.Sem

theorem frame5_any {F : FTy → Type} [FloatOps F] (m : (ℓ : Loc Cert.Kernel5Ideal.nD Cert.Kernel5Ideal.τ Cert.Kernel5Ideal.sig) → Buf (Elt F) ℓ)
    (ρ : Dev Cert.Kernel5Ideal.nD → PrngReg) :
    θ_run Cert.Kernel5Ideal.defs (onTc (τ := Cert.Kernel5Ideal.τ) (Cert.Kernel5Ideal.main (F := F))) ⟨m, fun _ => 0, ρ⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0) :=
  θ_run_and (Cert.Kernel5Ideal.Gen.frame_of m ρ (Cert.Kernel5Ideal.Hand.dats m) (Cert.Kernel5Ideal.Hand.A_eq m)
    ((θ_run Cert.Kernel5Ideal.defs _ _).mono (fun _ h => h.1) (Cert.Kernel5Ideal.Hand.run_main m ρ)))
    ((θ_run Cert.Kernel5Ideal.defs _ _).mono (fun _ h => h.2) (Cert.Kernel5Ideal.Hand.run_main m ρ))

set_option maxHeartbeats 4000000 in
/-- The two programs have one body table. -/
theorem body_table5 {F : FTy → Type} [FloatOps F] : Cert.Kernel5.defs₀ (F := F) = Cert.Kernel5Ideal.defs₀ (F := F) := by
  unfold Cert.Kernel5.defs₀ Cert.Kernel5Ideal.defs₀
  refine congrArg Defs.onTc ?_
  funext ℓ x
  match ℓ, x with
  | 0, (t, s) => rfl
  | ⟨_ + 1, h⟩, _ => exact absurd h (Nat.not_lt.2 (Nat.le_add_left _ _))

set_option maxHeartbeats 4000000 in
theorem table5 {F : FTy → Type} [FloatOps F] : Cert.Kernel5.defs (F := F) = Cert.Kernel5Ideal.defs (F := F) :=
  congrArg (Pipeline.defs (Cert.Kernel5Ideal.pcfgs (F := F))) body_table5

set_option maxHeartbeats 4000000 in
theorem frame5_kernel : Cert.quiescent_Kernel5 := by
  intro m ρ _
  rw [table5]
  exact frame5_any (F := Bits) m ρ

theorem frame5_ideal : Cert.quiescent_Kernel5Ideal := fun m ρ _ => frame5_any (F := Ideal) m ρ

/-- The reference's run leaves its arguments, and it declares no semaphore. -/
theorem frame5_reference : Cert.quiescent_Reference5Ideal := fun m ρ _ =>
  (θ_run Cert.Reference5Ideal.defs _ _).mono (fun r h => ⟨fun c => (h c).2.2.2.2.2.2, sem_eq_zero_of_no_sems (by decide) r.2⟩)
    (Cert.Reference5Ideal.Value.run (F := Ideal) m ρ)

end Cert.Proof

end
-- ==== Proof.Mix.lean ====
/-
  The two normalised branches of the mixer side by side, as the references print them.
-/
module

public import proofs.«01_k».proof.Proof.Gen.Reference7Ideal.Run
public import proofs.«01_k».proof.Proof.Spec
public import Idealize.ShloMosaic.Lib.Pointwise

@[expose] public section

set_option maxRecDepth 16384

noncomputable section

namespace Cert.Mix

open Cert.Reference7Ideal Cert.Reference7Ideal.Gen Idealize.ShloMosaic Idealize.ShloMosaic.TcCoe Cert.Spec

abbrev B2 := FVec Ideal S2048x512 .f32

/-- The mean of a row's squares and the small number, at 512 columns. -/
def rMs (x : B2) : FVec Ideal S2048x1 .f32 :=
  addf (Host.divf (broadcastInDim S2048x1 ![0] bcast_S2048_S2048x1_0
      (Host.reduceAdd (mulf x x) (constant S_ .f32 0x00000000#32) reducesTo_S2048x512_S2048_d1 h_S_))
    (broadcastInDim S2048x1 ![] bcast_S_S2048x1 (constant S_ .f32 0x44000000#32)))
    (broadcastInDim S2048x1 ![] bcast_S_S2048x1 (constant S_ .f32 0x358637BD#32))
def rR (x : B2) : FVec Ideal S2048x1 .f32 := Host.rsqrt (rMs x)
def rNx (x : B2) : B2 := mulf x (broadcastInDim S2048x512 ![0, 1] bcast_S2048x1_S2048x512_0_1 (rR x))
def rN (n : FVec Ideal S512 .f32) : B2 :=
  broadcastInDim S2048x512 ![0, 1] bcast_S1x512_S2048x512_0_1 (broadcastInDim S1x512 ![1] bcast_S512_S1x512_1 n)
/-- One branch's normalised rows. -/
def rH (x : B2) (n : FVec Ideal S512 .f32) : B2 := mulf (rNx x) (rN n)
/-- The two side by side. -/
def rMerge (a s : B2) (ga gs : FVec Ideal S512 .f32) : FVec Ideal S2048x1024 .f32 :=
  concatenate S2048x1024 1 [⟨S2048x512, rH a ga⟩, ⟨S2048x512, rH s gs⟩] concatenates_S2048x512_S2048x512_S2048x1024_d1

end Cert.Mix

end
-- ==== Proof.Algebraic5.lean ====
/-
  The mixer's output product backward to its two branches and to their scales: the kernel's six results, and the
  reference's.
-/
module

public import proofs.«01_k».proof.Defs
public import proofs.«01_k».proof.Proof.Run5
public import proofs.«01_k».proof.Proof.Gen.Reference5Ideal.Run
public import proofs.«01_k».proof.Proof.Mix
public import proofs.«01_k».proof.Proof.Back
public import Idealize.ShloMosaic.Lib.Pointwise
public import Idealize.ShloMosaic.Lib.Pipeline.ValueKit
public import Idealize.ShloMosaic.Lib.Tactic
public import Idealize.ShloMosaic.Lib.Claim

@[expose] public section

set_option maxRecDepth 16384

noncomputable section

namespace Cert.Kernel5Ideal.Hand

open Cert.Kernel5Ideal.Gen
open Idealize.ShloMosaic Idealize.ShloMosaic.TcCoe Cert.Spec
open Idealize.ShloMosaic.Pipeline (Dat)

theorem c512 : Ideal.ofBits .f32 0x44000000#32 = ((512 : ℝ) : EReal) := by
  simp [Ideal.ofBits, Ideal.ieee, -EReal.coe_mul]; norm_num

variable (m : (ℓ : Loc nD τ sig) → Buf (Elt Ideal) ℓ) (c : Dev nD)

def kXA : FVec Ideal S2048x512 .f32 := m ((c.tc : Thread nD τ).loc main_arg0)
def kXS : FVec Ideal S2048x512 .f32 := m ((c.tc : Thread nD τ).loc main_arg1)
def kNA : FVec Ideal S512 .f32 := m ((c.tc : Thread nD τ).loc main_arg2)
def kNS : FVec Ideal S512 .f32 := m ((c.tc : Thread nD τ).loc main_arg3)
def kW : FVec Ideal S1024x1024 .f32 := m ((c.tc : Thread nD τ).loc main_arg4)
def kC : FVec Ideal S2048x1024 .f32 := m ((c.tc : Thread nD τ).loc main_arg5)

theorem V0 : V m c main_v0 = truncf .bf16 (kC m c) bitsLt_bf16_f32 := by entry_read; rfl
theorem V1 : V m c main_v1 = truncf .bf16 (kW m c) bitsLt_bf16_f32 := by entry_read; rfl
theorem V2 : V m c main_v2 = shapeCast S1x512 (kNA m c) shapeCasts_S512_S1x512 := by entry_read; rfl
theorem V3 : V m c main_v3 = shapeCast S1x512 (kNS m c) shapeCasts_S512_S1x512 := by entry_read; rfl

theorem idx (t : Fin cfg0.N) : win0_0.index t = ![t.val, 0] ∧ win0_1.index t = ![0, 0] ∧ win0_2.index t = ![t.val, 0] ∧ win0_3.index t = ![t.val, 0]
    ∧ win0_4.index t = ![0, 0] ∧ win0_5.index t = ![0, 0] ∧ win0_6.index t = ![t.val, 0] ∧ win0_7.index t = ![t.val, 0]
    ∧ win0_8.index t = ![0, 0] ∧ win0_9.index t = ![t.val, 0] ∧ win0_10.index t = ![t.val, 0] ∧ win0_11.index t = ![0, 0] :=
  (by decide +kernel : ∀ t : Fin grid0.N, win0_0.index t = ![t.val, 0] ∧ win0_1.index t = ![0, 0] ∧ win0_2.index t = ![t.val, 0] ∧ win0_3.index t = ![t.val, 0]
    ∧ win0_4.index t = ![0, 0] ∧ win0_5.index t = ![0, 0] ∧ win0_6.index t = ![t.val, 0] ∧ win0_7.index t = ![t.val, 0]
    ∧ win0_8.index t = ![0, 0] ∧ win0_9.index t = ![t.val, 0] ∧ win0_10.index t = ![t.val, 0] ∧ win0_11.index t = ![0, 0]) t

/-- Row `r` of a row tile. -/
def row (p : Fin 4) (r : Fin 512) : Fin 2048 := ⟨p.val * 512 + r.val, by omega⟩
/-- A grid point's row tile. -/
def pt (t : Fin cfg0.N) : Fin 4 := ⟨t.val, N4 t⟩
/-- A column of the first branch, and of the second, among the joined columns. -/
def colA (k : Fin 512) : Fin 1024 := ⟨k.val, by omega⟩
def colS (k : Fin 512) : Fin 1024 := ⟨512 + k.val, by omega⟩

theorem b0 (t : Fin cfg0.N) (r : Fin 512) (j : Fin 1024) :
    (show FVec Ideal S512x1024 .bf16 from iblk m c 0 t) (ix2 r j) = kC m c (ix2 (row (pt t) r) j) := by
  have e : (show FVec Ideal S512x1024 .bf16 from iblk m c 0 t) (ix2 r j)
      = (show FVec Ideal S2048x1024 .bf16 from V m c main_v0) (ix2 (row (pt t) r) j) := by
    blk_ext [iblk, idx t]
    all_goals simp only [row, pt]
  rw [e, V0]; rfl
theorem b1 (t : Fin cfg0.N) (k j : Fin 1024) :
    (show FVec Ideal S1024x1024 .bf16 from iblk m c 1 t) (ix2 k j) = kW m c (ix2 k j) := by
  have e : (show FVec Ideal S1024x1024 .bf16 from iblk m c 1 t) (ix2 k j)
      = (show FVec Ideal S1024x1024 .bf16 from V m c main_v1) (ix2 k j) := by
    blk_ext [iblk, idx t]
  rw [e, V1]; rfl
theorem b2 (t : Fin cfg0.N) (r k : Fin 512) :
    (show FVec Ideal S512x512 .f32 from iblk m c 2 t) (ix2 r k) = kXA m c (ix2 (row (pt t) r) k) := by
  have e : (show FVec Ideal S512x512 .f32 from iblk m c 2 t) (ix2 r k)
      = (show FVec Ideal S2048x512 .f32 from V m c main_arg0) (ix2 (row (pt t) r) k) := by
    blk_ext [iblk, idx t]
    all_goals simp only [row, pt]
  rw [e, V_main_arg0]; rfl
theorem b3 (t : Fin cfg0.N) (r k : Fin 512) :
    (show FVec Ideal S512x512 .f32 from iblk m c 3 t) (ix2 r k) = kXS m c (ix2 (row (pt t) r) k) := by
  have e : (show FVec Ideal S512x512 .f32 from iblk m c 3 t) (ix2 r k)
      = (show FVec Ideal S2048x512 .f32 from V m c main_arg1) (ix2 (row (pt t) r) k) := by
    blk_ext [iblk, idx t]
    all_goals simp only [row, pt]
  rw [e, V_main_arg1]; rfl
theorem b4 (t : Fin cfg0.N) (k : Fin 512) :
    (show FVec Ideal S1x512 .f32 from iblk m c 4 t) (ix2 0 k) = kNA m c (ix1 k) := by
  have e : (show FVec Ideal S1x512 .f32 from iblk m c 4 t) (ix2 0 k)
      = (show FVec Ideal S1x512 .f32 from V m c main_v2) (ix2 0 k) := by
    blk_ext [iblk, idx t]
  rw [e, V2]
  show shapeCast S1x512 (kNA m c) shapeCasts_S512_S1x512 (ix2 0 k) = kNA m c (ix1 k)
  pointwise
theorem b5 (t : Fin cfg0.N) (k : Fin 512) :
    (show FVec Ideal S1x512 .f32 from iblk m c 5 t) (ix2 0 k) = kNS m c (ix1 k) := by
  have e : (show FVec Ideal S1x512 .f32 from iblk m c 5 t) (ix2 0 k)
      = (show FVec Ideal S1x512 .f32 from V m c main_v3) (ix2 0 k) := by
    blk_ext [iblk, idx t]
  rw [e, V3]
  show shapeCast S1x512 (kNS m c) shapeCasts_S512_S1x512 (ix2 0 k) = kNS m c (ix1 k)
  pointwise

theorem later_select {α : Type} (n : ℕ) (h0 : n ≠ 0) (h : n < 4) (a b : α) : Scalar.select (Scalar.cmpi .sgt (BitVec.ofNat 32 n) 0#32) a b = a := by
  interval_cases n
  · exact absurd rfl h0
  all_goals rfl

section point
variable (v0 : FVec Ideal S512x1024 .bf16) (v2 : FVec Ideal S1024x1024 .bf16) (v4 : FVec Ideal S512x1024 .f32) (v5 : FVec Ideal S512x512 .f32)
  (v6 : FVec Ideal S1x512 .f32) (r k : Fin 512)

theorem pay2_at (j : Fin 1024) : k0_pay2 (F := Ideal) v0 v2 (ix2 r j) = ∑ i : Fin 1024, v0 (ix2 r i) * v2 (ix2 j i) := by pointwise [k0_pay2]
theorem pay3_at : k0_pay3 (F := Ideal) v0 v2 (ix2 r k) = k0_pay2 (F := Ideal) v0 v2 (ix2 r (colA k)) := by
  unfold k0_pay3
  refine congrArg (k0_pay2 (F := Ideal) v0 v2) ?_
  funext a; exact Fin.ext (by fin_cases a <;> simp [colA])
theorem pay10_at : k0_pay10 (F := Ideal) v4 (ix2 r k) = v4 (ix2 r (colS k)) := by
  unfold k0_pay10
  refine congrArg v4 ?_
  funext a; exact Fin.ext (by fin_cases a <;> simp [colS])
theorem rootA_at : k0_pay4 (F := Ideal) v5 (ix2 r 0) = Ideal.rsqrt (Back.ms 512 eps fun l : Fin 512 => v5 (ix2 r l)) := by
  pointwise [k0_pay4, c512, cEps, Back.ms]
theorem divA_at : k0_pay5 (F := Ideal) v5 (ix2 r k) = v5 (ix2 r k) * Ideal.rsqrt (Back.ms 512 eps fun l : Fin 512 => v5 (ix2 r l)) := by
  pointwise [k0_pay5, rootA_at]
theorem dxA_at : k0_pay6 (F := Ideal) v0 v2 v5 v6 (ix2 r k)
    = Ideal.rsqrt (Back.ms 512 eps fun l : Fin 512 => v5 (ix2 r l))
        * (k0_pay2 (F := Ideal) v0 v2 (ix2 r (colA k)) * v6 (ix2 0 k)
          - v5 (ix2 r k) * Ideal.rsqrt (Back.ms 512 eps fun l : Fin 512 => v5 (ix2 r l))
            * Back.mean 512 eps (fun l : Fin 512 => v5 (ix2 r l)) (fun l : Fin 512 => k0_pay2 (F := Ideal) v0 v2 (ix2 r (colA l)) * v6 (ix2 0 l))) := by
  pointwise [k0_pay6, pay3_at, rootA_at, divA_at, c512, Back.mean]
theorem rootS_at : k0_pay11 (F := Ideal) v5 (ix2 r 0) = Ideal.rsqrt (Back.ms 512 eps fun l : Fin 512 => v5 (ix2 r l)) := by
  pointwise [k0_pay11, c512, cEps, Back.ms]
theorem divS_at : k0_pay12 (F := Ideal) v5 (ix2 r k) = v5 (ix2 r k) * Ideal.rsqrt (Back.ms 512 eps fun l : Fin 512 => v5 (ix2 r l)) := by
  pointwise [k0_pay12, rootS_at]
theorem dxS_at : k0_pay13 (F := Ideal) v4 v5 v6 (ix2 r k)
    = Ideal.rsqrt (Back.ms 512 eps fun l : Fin 512 => v5 (ix2 r l))
        * (v4 (ix2 r (colS k)) * v6 (ix2 0 k)
          - v5 (ix2 r k) * Ideal.rsqrt (Back.ms 512 eps fun l : Fin 512 => v5 (ix2 r l))
            * Back.mean 512 eps (fun l : Fin 512 => v5 (ix2 r l)) (fun l : Fin 512 => v4 (ix2 r (colS l)) * v6 (ix2 0 l))) := by
  pointwise [k0_pay13, pay10_at, rootS_at, divS_at, c512, Back.mean]
theorem sumA_first (n : ℕ) (h : n = 0) (y : FVec Ideal S1x512 .f32) : k0_pay9 (F := Ideal) (BitVec.ofNat 32 n) (k0_pay8 v0 v2 v5) 0#32 y (ix2 0 k)
    = ∑ r : Fin 512, k0_pay2 (F := Ideal) v0 v2 (ix2 r (colA k)) * (v5 (ix2 r k) * Ideal.rsqrt (Back.ms 512 eps fun l : Fin 512 => v5 (ix2 r l))) := by
  unfold k0_pay9; rw [first_select _ h]
  pointwise [k0_pay8, pay3_at, divA_at]
theorem sumA_later (n : ℕ) (h0 : n ≠ 0) (h : n < 4) (y : FVec Ideal S1x512 .f32) : k0_pay9 (F := Ideal) (BitVec.ofNat 32 n) (k0_pay8 v0 v2 v5) 0#32 y (ix2 0 k)
    = (∑ r : Fin 512, k0_pay2 (F := Ideal) v0 v2 (ix2 r (colA k)) * (v5 (ix2 r k) * Ideal.rsqrt (Back.ms 512 eps fun l : Fin 512 => v5 (ix2 r l)))) + y (ix2 0 k) := by
  unfold k0_pay9; rw [later_select _ h0 h]
  pointwise [k0_pay8, pay3_at, divA_at]
theorem sumS_first (n : ℕ) (h : n = 0) (y : FVec Ideal S1x512 .f32) : k0_pay1 (F := Ideal) (BitVec.ofNat 32 n) (k0_pay15 v4 v5) y (ix2 0 k)
    = ∑ r : Fin 512, v4 (ix2 r (colS k)) * (v5 (ix2 r k) * Ideal.rsqrt (Back.ms 512 eps fun l : Fin 512 => v5 (ix2 r l))) := by
  unfold k0_pay1; rw [first_select _ h]
  pointwise [k0_pay15, pay10_at, divS_at]
theorem sumS_later (n : ℕ) (h0 : n ≠ 0) (h : n < 4) (y : FVec Ideal S1x512 .f32) : k0_pay1 (F := Ideal) (BitVec.ofNat 32 n) (k0_pay15 v4 v5) y (ix2 0 k)
    = (∑ r : Fin 512, v4 (ix2 r (colS k)) * (v5 (ix2 r k) * Ideal.rsqrt (Back.ms 512 eps fun l : Fin 512 => v5 (ix2 r l)))) + y (ix2 0 k) := by
  unfold k0_pay1; rw [later_select _ h0 h]
  pointwise [k0_pay15, pay10_at, divS_at]
end point

/-- The cotangent of the joined rows at one index. -/
def tA (r : Fin 2048) (k : Fin 1024) : EReal := ∑ j : Fin 1024, kC m c (ix2 r j) * kW m c (ix2 k j)

/-- One branch at one index, of its rows, its scale and its columns of the joined rows. -/
structure Branch where
  x : Fin 2048 → Fin 512 → EReal
  n : Fin 512 → EReal
  a : Fin 2048 → Fin 512 → EReal
namespace Branch
variable (B : Branch)
/-- The row's cotangent through the scale. -/
def d (r : Fin 2048) (k : Fin 512) : EReal := B.a r k * B.n k
/-- The row's reciprocal root. -/
def root (r : Fin 2048) : EReal := Ideal.rsqrt (Back.ms 512 eps (B.x r))
/-- The branch's cotangent. -/
def dx (r : Fin 2048) (k : Fin 512) : EReal := B.root r * (B.d r k - B.x r k * B.root r * Back.mean 512 eps (B.x r) (B.d r))
/-- The scale's cotangent, and the share of one row tile. -/
def dn (k : Fin 512) : EReal := ∑ r : Fin 2048, B.a r k * (B.x r k * B.root r)
def part (p : Fin 4) (k : Fin 512) : EReal := ∑ r : Fin 512, B.a (row p r) k * (B.x (row p r) k * B.root (row p r))
theorem dn_eq (k : Fin 512) : B.part 3 k + (B.part 2 k + (B.part 1 k + B.part 0 k)) = B.dn k := by
  unfold dn part
  rw [Fin.sum_univ_tiles 4 512 rfl fun r : Fin 2048 => B.a r k * (B.x r k * B.root r), Fin.sum_univ_four, add_comm, add_comm (Finset.sum _ _) (_ + _),
    add_comm (Finset.sum _ _) (Finset.sum _ _)]
  rfl
end Branch

/-- The two branches. -/
def bA : Branch := ⟨fun r k => kXA m c (ix2 r k), fun k => kNA m c (ix1 k), fun r k => tA m c r (colA k)⟩
def bS : Branch := ⟨fun r k => kXS m c (ix2 r k), fun k => kNS m c (ix1 k), fun r k => tA m c r (colS k)⟩

theorem prod_at (t : Fin cfg0.N) (r : Fin 512) (k : Fin 1024) :
    k0_pay2 (F := Ideal) (iblk m c 0 t) (iblk m c 1 t) (ix2 r k) = tA m c (row (pt t) r) k :=
  (pay2_at _ _ r k).trans (Finset.sum_congr rfl fun j _ => congrArg₂ (· * ·) (b0 m c t r j) (b1 m c t k j))

theorem rowA (t : Fin cfg0.N) (r : Fin 512) : (fun l : Fin 512 => (show FVec Ideal S512x512 .f32 from iblk m c 2 t) (ix2 r l)) = (bA m c).x (row (pt t) r) :=
  funext fun l => b2 m c t r l
theorem rootA (t : Fin cfg0.N) (r : Fin 512) : Ideal.rsqrt (Back.ms 512 eps fun l : Fin 512 => (show FVec Ideal S512x512 .f32 from iblk m c 2 t) (ix2 r l))
    = (bA m c).root (row (pt t) r) := congrArg (fun x => Ideal.rsqrt (Back.ms 512 eps x)) (rowA m c t r)
theorem backA (t : Fin cfg0.N) (r k : Fin 512) : k0_pay6 (F := Ideal) (iblk m c 0 t) (iblk m c 1 t) (iblk m c 2 t) (iblk m c 4 t) (ix2 r k) = (bA m c).dx (row (pt t) r) k := by
  refine (dxA_at _ _ _ _ r k).trans ?_
  unfold Branch.dx
  have hd : (fun l : Fin 512 => k0_pay2 (F := Ideal) (iblk m c 0 t) (iblk m c 1 t) (ix2 r (colA l)) * (show FVec Ideal S1x512 .f32 from iblk m c 4 t) (ix2 0 l))
      = (bA m c).d (row (pt t) r) := funext fun l => congrArg₂ (· * ·) (prod_at m c t r (colA l)) (b4 m c t l)
  exact congrArg₂ (· * ·) (rootA m c t r) (congrArg₂ (· - ·) (congrFun hd k) (congrArg₂ (· * ·)
      (congrArg₂ (· * ·) (b2 m c t r k) (rootA m c t r)) (congrArg₂ (Back.mean 512 eps) (rowA m c t r) hd)))
theorem partA (t : Fin cfg0.N) (k : Fin 512) :
    (∑ r : Fin 512, k0_pay2 (F := Ideal) (iblk m c 0 t) (iblk m c 1 t) (ix2 r (colA k)) * ((show FVec Ideal S512x512 .f32 from iblk m c 2 t) (ix2 r k)
      * Ideal.rsqrt (Back.ms 512 eps fun l : Fin 512 => (show FVec Ideal S512x512 .f32 from iblk m c 2 t) (ix2 r l)))) = (bA m c).part (pt t) k :=
  Finset.sum_congr rfl fun r _ => congrArg₂ (· * ·) (prod_at m c t r (colA k)) (congrArg₂ (· * ·) (b2 m c t r k) (rootA m c t r))

theorem firstA (k : Fin 512) : acc8 m c 1 (ix2 0 k) = (bA m c).part 0 k := by
  have hN : 0 < cfg0.N := lt_of_lt_of_eq (by decide) (show 4 = cfg0.N from N_0.symm)
  have e : acc8 m c 1 = _ := acc8_succ m c ⟨0, hN⟩
  refine (congrFun e (ix2 0 k)).trans ?_
  exact (sumA_first _ _ _ k _ (coord0 _) _).trans (partA m c _ k)
theorem laterA (p : Fin 4) (hp : p.val ≠ 0) (k : Fin 512) : acc8 m c (p.val + 1) (ix2 0 k) = (bA m c).part p k + acc8 m c p.val (ix2 0 k) := by
  have hN : p.val < cfg0.N := lt_of_lt_of_eq p.isLt (show 4 = cfg0.N from N_0.symm)
  rw [show p.val + 1 = (⟨p.val, hN⟩ : Fin cfg0.N).val + 1 from rfl, acc8_succ]
  have hc := coord0 ⟨p.val, hN⟩
  refine (sumA_later _ _ _ k _ (fun h => hp (hc.symm.trans h)) (lt_of_eq_of_lt hc p.isLt) _).trans ?_
  exact congrArg (· + _) (partA m c ⟨p.val, hN⟩ k)
theorem allA (k : Fin 512) : acc8 m c 4 (ix2 0 k) = (bA m c).dn k := by
  rw [← Branch.dn_eq, ← firstA]
  refine (laterA m c 3 (by decide) k).trans (congrArg (_ + ·) ?_)
  refine (laterA m c 2 (by decide) k).trans (congrArg (_ + ·) ?_)
  exact laterA m c 1 (by decide) k

theorem emb6 (t : Fin cfg0.N) (r k : Fin 512) : (win0_6.blk t).view.emb (ix2 r k) = (ix2 (row (pt t) r) k : S2048x512.Idx) := by
  blk_ext [idx t]
  all_goals simp only [row, pt]
theorem at6 (t : Fin cfg0.N) (y : S512x512.Idx) : k0_pay6 (F := Ideal) (iblk m c 0 t) (iblk m c 1 t) (iblk m c 2 t) (iblk m c 4 t) y = (bA m c).dx ((win0_6.blk t).view.emb y 0) ((win0_6.blk t).view.emb y 1) := by
  rw [eq_ix2 (n0 := 512) (n1 := 512) y, emb6 t (y 0) (y 1)]
  exact backA m c t (y 0) (y 1)
theorem final6 : (dats m 0 c).arrAt 6 cfg0.N = (fun z : S2048x512.Idx => (bA m c).dx (z 0) (z 1)) := by
  refine (dats m 0 c).arrAt_eq_of_covers 6 _ (by decide +kernel) fun t hf y => ?_
  blk_simp
  rw [after6]
  exact at6 m c t y

theorem emb7 (t : Fin cfg0.N) (r k : Fin 512) : (win0_7.blk t).view.emb (ix2 r k) = (ix2 (row (pt t) r) k : S2048x512.Idx) := by
  blk_ext [idx t]
  all_goals simp only [row, pt]
theorem at7 (t : Fin cfg0.N) (y : S512x512.Idx) : k0_pay7 (F := Ideal) (iblk m c 0 t) (iblk m c 1 t) (iblk m c 2 t) (iblk m c 4 t) y = (bA m c).dx ((win0_7.blk t).view.emb y 0) ((win0_7.blk t).view.emb y 1) := by
  rw [eq_ix2 (n0 := 512) (n1 := 512) y, emb7 t (y 0) (y 1)]
  exact backA m c t (y 0) (y 1)
theorem final7 : (dats m 0 c).arrAt 7 cfg0.N = (fun z : S2048x512.Idx => (bA m c).dx (z 0) (z 1)) := by
  refine (dats m 0 c).arrAt_eq_of_covers 7 _ (by decide +kernel) fun t hf y => ?_
  blk_simp
  rw [after7]
  exact at7 m c t y

/-- The scale's array ends at the running sum after all four points. -/
theorem arr8 (g : Fin 512 → EReal) (hg : ∀ k : Fin 512, acc8 m c 4 (ix2 0 k) = g k) :
    (dats m 0 c).arrAt 8 cfg0.N = (fun z : S1x512.Idx => g (z 1)) := by
  refine (dats m 0 c).arrAt_eq_of_covers 8 _ (by decide +kernel) fun t hf y => ?_
  have h := (flush0_8 t).mp hf
  have hN := N4 t
  blk_simp
  rw [after8]
  obtain ⟨k, rfl⟩ : ∃ (k : Fin 512), y = (ix2 0 k : S1x512.Idx) := ⟨y 1, by
    rw [eq_ix2 (n0 := 1) (n1 := 512) y]; congr 1; exact Subsingleton.elim (α := Fin 1) _ _⟩
  rw [show t.val + 1 = 4 by omega]
  have hX := hg k
  generalize acc8 m c 4 = X at hX ⊢
  refine Eq.trans hX ?_
  have e : (win0_8.blk t).view.emb (ix2 0 k) = (ix2 0 k : S1x512.Idx) := by
    blk_ext [idx t]
  exact congrArg (fun z : S1x512.Idx => g (z 1)) e.symm
theorem final8 : (dats m 0 c).arrAt 8 cfg0.N = (fun z : S1x512.Idx => (bA m c).dn (z 1)) :=
  arr8 m c (bA m c).dn (allA m c)

theorem rowS (t : Fin cfg0.N) (r : Fin 512) : (fun l : Fin 512 => (show FVec Ideal S512x512 .f32 from iblk m c 3 t) (ix2 r l)) = (bS m c).x (row (pt t) r) :=
  funext fun l => b3 m c t r l
theorem rootS (t : Fin cfg0.N) (r : Fin 512) : Ideal.rsqrt (Back.ms 512 eps fun l : Fin 512 => (show FVec Ideal S512x512 .f32 from iblk m c 3 t) (ix2 r l))
    = (bS m c).root (row (pt t) r) := congrArg (fun x => Ideal.rsqrt (Back.ms 512 eps x)) (rowS m c t r)
theorem backS (t : Fin cfg0.N) (r k : Fin 512) : k0_pay13 (F := Ideal) (k0_pay2 (iblk m c 0 t) (iblk m c 1 t)) (iblk m c 3 t) (iblk m c 5 t) (ix2 r k) = (bS m c).dx (row (pt t) r) k := by
  refine (dxS_at _ _ _ r k).trans ?_
  unfold Branch.dx
  have hd : (fun l : Fin 512 => k0_pay2 (F := Ideal) (iblk m c 0 t) (iblk m c 1 t) (ix2 r (colS l)) * (show FVec Ideal S1x512 .f32 from iblk m c 5 t) (ix2 0 l))
      = (bS m c).d (row (pt t) r) := funext fun l => congrArg₂ (· * ·) (prod_at m c t r (colS l)) (b5 m c t l)
  exact congrArg₂ (· * ·) (rootS m c t r) (congrArg₂ (· - ·) (congrFun hd k) (congrArg₂ (· * ·)
      (congrArg₂ (· * ·) (b3 m c t r k) (rootS m c t r)) (congrArg₂ (Back.mean 512 eps) (rowS m c t r) hd)))
theorem partS (t : Fin cfg0.N) (k : Fin 512) :
    (∑ r : Fin 512, k0_pay2 (F := Ideal) (iblk m c 0 t) (iblk m c 1 t) (ix2 r (colS k)) * ((show FVec Ideal S512x512 .f32 from iblk m c 3 t) (ix2 r k)
      * Ideal.rsqrt (Back.ms 512 eps fun l : Fin 512 => (show FVec Ideal S512x512 .f32 from iblk m c 3 t) (ix2 r l)))) = (bS m c).part (pt t) k :=
  Finset.sum_congr rfl fun r _ => congrArg₂ (· * ·) (prod_at m c t r (colS k)) (congrArg₂ (· * ·) (b3 m c t r k) (rootS m c t r))

theorem firstS (k : Fin 512) : acc11 m c 1 (ix2 0 k) = (bS m c).part 0 k := by
  have hN : 0 < cfg0.N := lt_of_lt_of_eq (by decide) (show 4 = cfg0.N from N_0.symm)
  have e : acc11 m c 1 = _ := acc11_succ m c ⟨0, hN⟩
  refine (congrFun e (ix2 0 k)).trans ?_
  exact (sumS_first _ _ k _ (coord0 _) _).trans (partS m c _ k)
theorem laterS (p : Fin 4) (hp : p.val ≠ 0) (k : Fin 512) : acc11 m c (p.val + 1) (ix2 0 k) = (bS m c).part p k + acc11 m c p.val (ix2 0 k) := by
  have hN : p.val < cfg0.N := lt_of_lt_of_eq p.isLt (show 4 = cfg0.N from N_0.symm)
  rw [show p.val + 1 = (⟨p.val, hN⟩ : Fin cfg0.N).val + 1 from rfl, acc11_succ]
  have hc := coord0 ⟨p.val, hN⟩
  refine (sumS_later _ _ k _ (fun h => hp (hc.symm.trans h)) (lt_of_eq_of_lt hc p.isLt) _).trans ?_
  exact congrArg (· + _) (partS m c ⟨p.val, hN⟩ k)
theorem allS (k : Fin 512) : acc11 m c 4 (ix2 0 k) = (bS m c).dn k := by
  rw [← Branch.dn_eq, ← firstS]
  refine (laterS m c 3 (by decide) k).trans (congrArg (_ + ·) ?_)
  refine (laterS m c 2 (by decide) k).trans (congrArg (_ + ·) ?_)
  exact laterS m c 1 (by decide) k

theorem emb9 (t : Fin cfg0.N) (r k : Fin 512) : (win0_9.blk t).view.emb (ix2 r k) = (ix2 (row (pt t) r) k : S2048x512.Idx) := by
  blk_ext [idx t]
  all_goals simp only [row, pt]
theorem at9 (t : Fin cfg0.N) (y : S512x512.Idx) : k0_pay13 (F := Ideal) (k0_pay2 (iblk m c 0 t) (iblk m c 1 t)) (iblk m c 3 t) (iblk m c 5 t) y = (bS m c).dx ((win0_9.blk t).view.emb y 0) ((win0_9.blk t).view.emb y 1) := by
  rw [eq_ix2 (n0 := 512) (n1 := 512) y, emb9 t (y 0) (y 1)]
  exact backS m c t (y 0) (y 1)
theorem final9 : (dats m 0 c).arrAt 9 cfg0.N = (fun z : S2048x512.Idx => (bS m c).dx (z 0) (z 1)) := by
  refine (dats m 0 c).arrAt_eq_of_covers 9 _ (by decide +kernel) fun t hf y => ?_
  blk_simp
  rw [after9]
  exact at9 m c t y

theorem emb10 (t : Fin cfg0.N) (r k : Fin 512) : (win0_10.blk t).view.emb (ix2 r k) = (ix2 (row (pt t) r) k : S2048x512.Idx) := by
  blk_ext [idx t]
  all_goals simp only [row, pt]
theorem at10 (t : Fin cfg0.N) (y : S512x512.Idx) : k0_pay14 (F := Ideal) (k0_pay2 (iblk m c 0 t) (iblk m c 1 t)) (iblk m c 3 t) (iblk m c 5 t) y = (bS m c).dx ((win0_10.blk t).view.emb y 0) ((win0_10.blk t).view.emb y 1) := by
  rw [eq_ix2 (n0 := 512) (n1 := 512) y, emb10 t (y 0) (y 1)]
  exact backS m c t (y 0) (y 1)
theorem final10 : (dats m 0 c).arrAt 10 cfg0.N = (fun z : S2048x512.Idx => (bS m c).dx (z 0) (z 1)) := by
  refine (dats m 0 c).arrAt_eq_of_covers 10 _ (by decide +kernel) fun t hf y => ?_
  blk_simp
  rw [after10]
  exact at10 m c t y

/-- The scale's array ends at the running sum after all four points. -/
theorem arr11 (g : Fin 512 → EReal) (hg : ∀ k : Fin 512, acc11 m c 4 (ix2 0 k) = g k) :
    (dats m 0 c).arrAt 11 cfg0.N = (fun z : S1x512.Idx => g (z 1)) := by
  refine (dats m 0 c).arrAt_eq_of_covers 11 _ (by decide +kernel) fun t hf y => ?_
  have h := (flush0_11 t).mp hf
  have hN := N4 t
  blk_simp
  rw [after11]
  obtain ⟨k, rfl⟩ : ∃ (k : Fin 512), y = (ix2 0 k : S1x512.Idx) := ⟨y 1, by
    rw [eq_ix2 (n0 := 1) (n1 := 512) y]; congr 1; exact Subsingleton.elim (α := Fin 1) _ _⟩
  rw [show t.val + 1 = 4 by omega]
  have hX := hg k
  generalize acc11 m c 4 = X at hX ⊢
  refine Eq.trans hX ?_
  have e : (win0_11.blk t).view.emb (ix2 0 k) = (ix2 0 k : S1x512.Idx) := by
    blk_ext [idx t]
  exact congrArg (fun z : S1x512.Idx => g (z 1)) e.symm
theorem final11 : (dats m 0 c).arrAt 11 cfg0.N = (fun z : S1x512.Idx => (bS m c).dn (z 1)) :=
  arr11 m c (bS m c).dn (allS m c)

end Cert.Kernel5Ideal.Hand

namespace Cert.Mix

open Cert.Reference5Ideal Cert.Reference5Ideal.Gen Idealize.ShloMosaic Idealize.ShloMosaic.TcCoe Cert.Spec
open Cert.Kernel5Ideal.Hand (c512 colA colS)

/-- The cotangent of the joined rows, and each branch's columns of it. -/
def rA (w : FVec Ideal S1024x1024 .f32) (ct : FVec Ideal S2048x1024 .f32) : FVec Ideal S2048x1024 .f32 :=
  Host.dotGeneral dot_S2048x1024_S1024x1024_S2048x1024_1_1_0_0_n_n none ct w
def rLeft (a : FVec Ideal S2048x1024 .f32) : B2 := extractStridedSlice S2048x512 ![0, 0] a slices_S2048x1024_S2048x512_0_0
def rRight (a : FVec Ideal S2048x1024 .f32) : B2 := extractStridedSlice S2048x512 ![0, 512] a slices_S2048x1024_S2048x512_0_512
def rDnx (n : FVec Ideal S512 .f32) (a : B2) : B2 := mulf a (rN n)
def rQ (x d : B2) : B2 :=
  broadcastInDim S2048x512 ![0] bcast_S2048_S2048x512_0
    (Host.reduceAdd (Host.divf (mulf (shapeCast S2048x1 (Host.reduceAdd (mulf x d) (constant S_ .f32 0x00000000#32) reducesTo_S2048x512_S2048_d1 h_S_) shapeCasts_S2048_S2048x1)
        (mulf (broadcastInDim S2048x1 ![] bcast_S_S2048x1 (constant S_ .f32 0xBF000000#32)) (Host.divf (rR x) (rMs x))))
      (broadcastInDim S2048x1 ![] bcast_S_S2048x1 (constant S_ .f32 0x44000000#32)))
    (constant S_ .f32 0x00000000#32) reducesTo_S2048x1_S2048_d1 h_S_)
/-- A branch's cotangent. -/
def rDx (x d : B2) : B2 :=
  addf (addf (mulf d (broadcastInDim S2048x512 ![0, 1] bcast_S2048x1_S2048x512_0_1 (rR x))) (mulf x (rQ x d))) (mulf (rQ x d) x)
/-- A scale's cotangent. -/
def rDn (x a : B2) : FVec Ideal S1x512 .f32 :=
  shapeCast _ (Host.reduceAdd (shapeCast _ (Host.reduceAdd (mulf (rNx x) a) (constant S_ .f32 0x00000000#32)
      reducesTo_S2048x512_S512_d0 h_S_) shapeCasts_S512_S1x512)
    (constant S_ .f32 0x00000000#32) reducesTo_S1x512_S512_d0 h_S_) shapeCasts_S512_S1x512

variable (w : FVec Ideal S1024x1024 .f32) (ct a : FVec Ideal S2048x1024 .f32) (x d : B2) (n : FVec Ideal S512 .f32) (r : Fin 2048) (k : Fin 512)
theorem rA_at (k : Fin 1024) : rA w ct (ix2 r k) = ∑ j : Fin 1024, ct (ix2 r j) * w (ix2 k j) := by pointwise [rA]
theorem rLeft_at : rLeft a (ix2 r k) = a (ix2 r (colA k)) := by
  unfold rLeft
  refine congrArg a ?_
  funext i; exact Fin.ext (by fin_cases i <;> simp [colA])
theorem rRight_at : rRight a (ix2 r k) = a (ix2 r (colS k)) := by
  unfold rRight
  refine congrArg a ?_
  funext i; exact Fin.ext (by fin_cases i <;> simp [colS])
theorem rMs_at : rMs x (ix2 r 0) = Back.ms 512 eps fun l : Fin 512 => x (ix2 r l) := by
  pointwise [rMs, c512, cEps, Back.ms]
theorem rR_at : rR x (ix2 r 0) = Ideal.rsqrt (Back.ms 512 eps fun l : Fin 512 => x (ix2 r l)) := by
  pointwise [rR, rMs_at]
theorem rQ_at : rQ x d (ix2 r k) = Back.q 512 eps (fun l : Fin 512 => x (ix2 r l)) (fun l : Fin 512 => d (ix2 r l)) := by
  have e1 : rR x (ix2 r default) = _ := rR_at x r
  have e2 : rMs x (ix2 r default) = _ := rMs_at x r
  pointwise [rQ, c512, cNegHalf, Back.q]
  simp only [zero_add, Finset.univ_unique, Finset.sum_singleton, e1, e2]
theorem rDx_at : rDx x d (ix2 r k) = Ideal.rsqrt (Back.ms 512 eps fun l : Fin 512 => x (ix2 r l))
      * (d (ix2 r k) - x (ix2 r k) * Ideal.rsqrt (Back.ms 512 eps fun l : Fin 512 => x (ix2 r l))
        * Back.mean 512 eps (fun l : Fin 512 => x (ix2 r l)) (fun l : Fin 512 => d (ix2 r l))) := by
  refine Eq.trans ?_ (Back.back_zero 512 eps (fun l : Fin 512 => x (ix2 r l)) (fun l : Fin 512 => d (ix2 r l)) (by norm_num) Back.eps_pos k)
  pointwise [rDx, rQ_at, rR_at]
theorem rDnx_at : rDnx n d (ix2 r k) = d (ix2 r k) * n (ix1 k) := by
  pointwise [rDnx, rN]
theorem rDn_at : rDn x d (ix2 0 k) = ∑ r : Fin 2048, d (ix2 r k) * (x (ix2 r k) * Ideal.rsqrt (Back.ms 512 eps fun l : Fin 512 => x (ix2 r l))) := by
  pointwise [rDn, rNx, rR_at]
  simp only [zero_add, Finset.univ_unique, Finset.sum_singleton]
  exact Finset.sum_congr rfl fun r _ => mul_comm _ _
end Cert.Mix

namespace Cert.Proof

open Idealize.ShloMosaic Idealize.ShloMosaic.Tactic Idealize.SL.Sem Cert.Spec

section
open Cert.Kernel5Ideal Cert.Kernel5Ideal.Hand
variable (m : (ℓ : Loc nD τ sig) → Buf (Elt Ideal) ℓ) (c : Dev nD)

theorem ref5A_a (r : Fin 2048) (k : Fin 512) : Mix.rLeft (Mix.rA (kW m c) (kC m c)) (ix2 r k) = (bA m c).a r k := by
  rw [Mix.rLeft_at, Mix.rA_at]; rfl
theorem ref5A_dx (r : Fin 2048) (k : Fin 512) : Mix.rDx (kXA m c) (Mix.rDnx (kNA m c) (Mix.rLeft (Mix.rA (kW m c) (kC m c)))) (ix2 r k) = (bA m c).dx r k := by
  have hd : (fun l : Fin 512 => Mix.rDnx (kNA m c) (Mix.rLeft (Mix.rA (kW m c) (kC m c))) (ix2 r l)) = (bA m c).d r := funext fun l => by
    rw [Mix.rDnx_at, ref5A_a]; rfl
  rw [Mix.rDx_at, hd, show Mix.rDnx (kNA m c) (Mix.rLeft (Mix.rA (kW m c) (kC m c))) (ix2 r k) = (bA m c).d r k from congrFun hd k]
  rfl
theorem same5_0 : Mix.rDx (kXA m c) (Mix.rDnx (kNA m c) (Mix.rLeft (Mix.rA (kW m c) (kC m c)))) = (dats m 0 c).arrAt 6 cfg0.N := by
  rw [final6]; funext z
  rw [eq_ix2 (n0 := 2048) (n1 := 512) z]
  exact ref5A_dx m c (z 0) (z 1)
theorem same5_1 : truncf .bf16 (Mix.rDx (kXA m c) (Mix.rDnx (kNA m c) (Mix.rLeft (Mix.rA (kW m c) (kC m c))))) Cert.Reference5Ideal.Gen.bitsLt_bf16_f32
    = (dats m 0 c).arrAt 7 cfg0.N := by
  rw [final7]; funext z
  rw [eq_ix2 (n0 := 2048) (n1 := 512) z]
  exact ref5A_dx m c (z 0) (z 1)
theorem same5_2 : Mix.rDn (kXA m c) (Mix.rLeft (Mix.rA (kW m c) (kC m c))) = (dats m 0 c).arrAt 8 cfg0.N := by
  rw [final8]; funext z
  obtain ⟨k, rfl⟩ : ∃ (k : Fin 512), z = (ix2 0 k : S1x512.Idx) := ⟨z 1, by
    rw [eq_ix2 (n0 := 1) (n1 := 512) z]; congr 1; exact Subsingleton.elim (α := Fin 1) _ _⟩
  refine (Mix.rDn_at _ _ k).trans ?_
  exact Finset.sum_congr rfl fun r _ => congrArg (· * _) (ref5A_a m c r k)

theorem ref5S_a (r : Fin 2048) (k : Fin 512) : Mix.rRight (Mix.rA (kW m c) (kC m c)) (ix2 r k) = (bS m c).a r k := by
  rw [Mix.rRight_at, Mix.rA_at]; rfl
theorem ref5S_dx (r : Fin 2048) (k : Fin 512) : Mix.rDx (kXS m c) (Mix.rDnx (kNS m c) (Mix.rRight (Mix.rA (kW m c) (kC m c)))) (ix2 r k) = (bS m c).dx r k := by
  have hd : (fun l : Fin 512 => Mix.rDnx (kNS m c) (Mix.rRight (Mix.rA (kW m c) (kC m c))) (ix2 r l)) = (bS m c).d r := funext fun l => by
    rw [Mix.rDnx_at, ref5S_a]; rfl
  rw [Mix.rDx_at, hd, show Mix.rDnx (kNS m c) (Mix.rRight (Mix.rA (kW m c) (kC m c))) (ix2 r k) = (bS m c).d r k from congrFun hd k]
  rfl
theorem same5_3 : Mix.rDx (kXS m c) (Mix.rDnx (kNS m c) (Mix.rRight (Mix.rA (kW m c) (kC m c)))) = (dats m 0 c).arrAt 9 cfg0.N := by
  rw [final9]; funext z
  rw [eq_ix2 (n0 := 2048) (n1 := 512) z]
  exact ref5S_dx m c (z 0) (z 1)
theorem same5_4 : truncf .bf16 (Mix.rDx (kXS m c) (Mix.rDnx (kNS m c) (Mix.rRight (Mix.rA (kW m c) (kC m c))))) Cert.Reference5Ideal.Gen.bitsLt_bf16_f32
    = (dats m 0 c).arrAt 10 cfg0.N := by
  rw [final10]; funext z
  rw [eq_ix2 (n0 := 2048) (n1 := 512) z]
  exact ref5S_dx m c (z 0) (z 1)
theorem same5_5 : Mix.rDn (kXS m c) (Mix.rRight (Mix.rA (kW m c) (kC m c))) = (dats m 0 c).arrAt 11 cfg0.N := by
  rw [final11]; funext z
  obtain ⟨k, rfl⟩ : ∃ (k : Fin 512), z = (ix2 0 k : S1x512.Idx) := ⟨z 1, by
    rw [eq_ix2 (n0 := 1) (n1 := 512) z]; congr 1; exact Subsingleton.elim (α := Fin 1) _ _⟩
  refine (Mix.rDn_at _ _ k).trans ?_
  exact Finset.sum_congr rfl fun r _ => congrArg (· * _) (ref5S_a m c r k)
end

section
open Cert.Reference5Ideal
variable (m : (ℓ : Loc nD τ sig) → Buf (Elt Ideal) ℓ) (c : Dev nD)
theorem ref5_0 : Value.res_out0 m c = Mix.rDx (m ((c.tc : Thread nD τ).loc main_arg0))
    (Mix.rDnx (m ((c.tc : Thread nD τ).loc main_arg2)) (Mix.rLeft (Mix.rA (m ((c.tc : Thread nD τ).loc main_arg4)) (m ((c.tc : Thread nD τ).loc main_arg5))))) := by
  unfold Value.res_out0 Value.res_main_v76; rfl
theorem ref5_1 : Value.res_out1 m c = truncf .bf16 (Mix.rDx (m ((c.tc : Thread nD τ).loc main_arg0))
    (Mix.rDnx (m ((c.tc : Thread nD τ).loc main_arg2)) (Mix.rLeft (Mix.rA (m ((c.tc : Thread nD τ).loc main_arg4)) (m ((c.tc : Thread nD τ).loc main_arg5)))))) Gen.bitsLt_bf16_f32 := by
  unfold Value.res_out1 Value.res_main_v77; rfl
theorem ref5_3 : Value.res_out3 m c = Mix.rDx (m ((c.tc : Thread nD τ).loc main_arg1))
    (Mix.rDnx (m ((c.tc : Thread nD τ).loc main_arg3)) (Mix.rRight (Mix.rA (m ((c.tc : Thread nD τ).loc main_arg4)) (m ((c.tc : Thread nD τ).loc main_arg5))))) := by
  unfold Value.res_out3 Value.res_main_v56; rfl
theorem ref5_4 : Value.res_out4 m c = truncf .bf16 (Mix.rDx (m ((c.tc : Thread nD τ).loc main_arg1))
    (Mix.rDnx (m ((c.tc : Thread nD τ).loc main_arg3)) (Mix.rRight (Mix.rA (m ((c.tc : Thread nD τ).loc main_arg4)) (m ((c.tc : Thread nD τ).loc main_arg5)))))) Gen.bitsLt_bf16_f32 := by
  unfold Value.res_out4 Value.res_main_v79; rfl
end

set_option maxHeartbeats 1600000 in
theorem algebraic5 : Cert.algebraic_Kernel5Ideal_Reference5Ideal := by
  pair_intro
  · have h := (θ_run Cert.Kernel5Ideal.defs _ _).mono (fun _ h => h.1) (Cert.Kernel5Ideal.Hand.run_main m g)
    run_from h
  · refine (θ_run Cert.Reference5Ideal.defs _ _).mono (fun r h c => ?_) (Cert.Reference5Ideal.Value.run m' g')
    obtain ⟨r0, r1, r2, r3, r4, r5, ha⟩ := h c
    obtain ⟨h0, h1, h2, h3, h4, h5⟩ := hagree c
    have r0 := r0.trans (ref5_0 m' c)
    have r1 := r1.trans (ref5_1 m' c)
    have r3 := r3.trans (ref5_3 m' c)
    have r4 := r4.trans (ref5_4 m' c)
    rw [h0, h2, h4, h5] at r0 r1
    rw [h1, h3, h4, h5] at r3 r4
    rw [h0, h4, h5] at r2
    rw [h1, h4, h5] at r5
    exact ⟨r0.trans (same5_0 m c), r1.trans (same5_1 m c), r2.trans (same5_2 m c), r3.trans (same5_3 m c), r4.trans (same5_4 m c),
      r5.trans (same5_5 m c), ha⟩

end Cert.Proof

end
-- ==== Proof.Frames6.lean ====
module

public import proofs.«01_k».proof.Defs
public import proofs.«01_k».proof.Proof.Gen.Kernel6.Frame
public import proofs.«01_k».proof.Proof.Gen.Kernel6Ideal.Frame
public import proofs.«01_k».proof.Proof.Gen.Reference6Ideal.Run
public import Idealize.ShloMosaic.Lib.Tactic
public import Idealize.ShloMosaic.Lib.Claim

/-! The frame claims of the mixer's input product's weight gradient, and of its reference. -/

@[expose] public section

noncomputable section

namespace Cert.Proof

open Idealize.ShloMosaic Idealize.ShloMosaic.Tactic Idealize.SL.Sem

theorem frame6_kernel : Cert.quiescent_Kernel6 := fun m ρ _ => Cert.Kernel6.Gen.frame m ρ
theorem frame6_ideal : Cert.quiescent_Kernel6Ideal := fun m ρ _ => Cert.Kernel6Ideal.Gen.frame m ρ

/-- The reference's run leaves its arguments, and it declares no semaphore. -/
theorem frame6_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

end Cert.Proof

end
-- ==== Proof.Algebraic6.lean ====
/-
  The gradient of the mixer's input product with respect to its weight: the kernel's result, and the reference's.
-/
module

public import proofs.«01_k».proof.Defs
public import proofs.«01_k».proof.Proof.Gen.Kernel6Ideal.Value
public import proofs.«01_k».proof.Proof.Gen.Reference6Ideal.Run
public import proofs.«01_k».proof.Proof.Ref
public import Idealize.ShloMosaic.Lib.Pointwise
public import Idealize.ShloMosaic.Lib.Pipeline.ValueKit
public import Idealize.ShloMosaic.Lib.Tactic
public import Idealize.ShloMosaic.Lib.Claim

@[expose] public section

set_option maxRecDepth 16384

noncomputable section

namespace Cert.Kernel6Ideal.Hand

open Cert.Kernel6Ideal.Gen
open Idealize.ShloMosaic Idealize.ShloMosaic.TcCoe Cert.Spec
open Idealize.ShloMosaic.Pipeline (Dat)
open Cert.ReferenceIdeal.Hand (rH X2)

variable (m : (ℓ : Loc nD τ sig) → Buf (Elt Ideal) ℓ) (c : Dev nD)

def kX : FVec Ideal S2048x1024 .f32 := m ((c.tc : Thread nD τ).loc main_arg0)
def kN : FVec Ideal S1024 .f32 := m ((c.tc : Thread nD τ).loc main_arg1)
def kC : FVec Ideal S2048x1280 .f32 := m ((c.tc : Thread nD τ).loc main_arg3)

/-- The normalised rows. -/
def tH : FVec Ideal S2048x1024 .f32 := rH (kX m c) (kN m c)

theorem VA : V m c main_v15 = broadcastInDim S1x2048x1280 ![1, 2] bcast_S2048x1280_S1x2048x1280_1_2 (truncf .bf16 (kC m c) bitsLt_bf16_f32) := by entry_read; rfl
theorem VB : V m c main_v16 = broadcastInDim S1x2048x1024 ![1, 2] bcast_S2048x1024_S1x2048x1024_1_2 (truncf .bf16 (tH m c) bitsLt_bf16_f32) := by entry_read; rfl

theorem idx (t : Fin cfg0.N) : win0_0.index t = ![0, 0, t.val] ∧ win0_1.index t = ![0, 0, 0] ∧ win0_2.index t = ![0, t.val, 0] :=
  (by decide +kernel : ∀ t : Fin grid0.N, win0_0.index t = ![0, 0, t.val] ∧ win0_1.index t = ![0, 0, 0] ∧ win0_2.index t = ![0, t.val, 0]) t

theorem N_lt (t : Fin cfg0.N) : t.val < 5 := lt_of_lt_of_eq t.isLt (show cfg0.N = 5 from N_0)
/-- Row `j` of a grid point's block of the result. -/
def col (t : Fin cfg0.N) (j : Fin 256) : Fin 1280 := ⟨t.val * 256 + j.val, by have := N_lt t; omega⟩

theorem b0 (t : Fin cfg0.N) (r : Fin 2048) (j : Fin 256) :
    (show FVec Ideal S1x2048x256 .bf16 from iblk m c 0 t) (ix3 0 r j) = kC m c (ix2 r (col t j)) := by
  have e : (show FVec Ideal S1x2048x256 .bf16 from iblk m c 0 t) (ix3 0 r j)
      = (show FVec Ideal S1x2048x1280 .bf16 from V m c main_v15) (ix3 0 r (col t j)) := by
    blk_ext [iblk, idx t]
    all_goals (simp only [col]; try (have := N_lt t; omega))
  rw [e, VA]
  show broadcastInDim S1x2048x1280 ![1, 2] bcast_S2048x1280_S1x2048x1280_1_2 (truncf .bf16 (kC m c) bitsLt_bf16_f32) (ix3 0 r (col t j)) = kC m c (ix2 r (col t j))
  pointwise
theorem b1 (t : Fin cfg0.N) (r : Fin 2048) (k : Fin 1024) :
    (show FVec Ideal S1x2048x1024 .bf16 from iblk m c 1 t) (ix3 0 r k) = tH m c (ix2 r k) := by
  have e : (show FVec Ideal S1x2048x1024 .bf16 from iblk m c 1 t) (ix3 0 r k)
      = (show FVec Ideal S1x2048x1024 .bf16 from V m c main_v16) (ix3 0 r k) := by
    blk_ext [iblk, idx t]
  rw [e, VB]
  show broadcastInDim S1x2048x1024 ![1, 2] bcast_S2048x1024_S1x2048x1024_1_2 (truncf .bf16 (tH m c) bitsLt_bf16_f32) (ix3 0 r k) = tH m c (ix2 r k)
  pointwise

theorem pay_at (a : FVec Ideal S1x2048x256 .bf16) (b : FVec Ideal S1x2048x1024 .bf16) (j : Fin 256) (k : Fin 1024) :
    k0_pay1 (F := Ideal) a b (ix3 0 j k) = ∑ r : Fin 2048, a (ix3 0 r j) * b (ix3 0 r k) := by
  pointwise [k0_pay1]
theorem out_eq (a : FVec Ideal S1x2048x256 .bf16) (b : FVec Ideal S1x2048x1024 .bf16) : out0_2 (F := Ideal) a b = k0_pay1 (F := Ideal) a b := by
  unfold out0_2
  rw [View.canon_cons_unit_lit, View.ld_unit_lit, View.ld_unit_lit]
  all_goals decide

/-- The gradient at one index. -/
def tW (j : Fin 1280) (k : Fin 1024) : EReal := ∑ r : Fin 2048, kC m c (ix2 r j) * tH m c (ix2 r k)

theorem emb2 (t : Fin cfg0.N) (j : Fin 256) (k : Fin 1024) : (win0_2.blk t).view.emb (ix3 0 j k) = (ix3 0 (col t j) k : S1x1280x1024.Idx) := by
  blk_ext [idx t]
  all_goals (simp only [col]; try (have := N_lt t; omega))
theorem blk2 (t : Fin cfg0.N) (a : Fin 1) (j : Fin 256) (k : Fin 1024) :
    out0_2 (F := Ideal) (iblk m c 0 t) (iblk m c 1 t) (ix3 a j k)
      = tW m c ((win0_2.blk t).view.emb (ix3 a j k) 1) ((win0_2.blk t).view.emb (ix3 a j k) 2) := by
  obtain rfl : a = 0 := Subsingleton.elim _ _
  rw [emb2 t j k, out_eq]
  refine (pay_at _ _ j k).trans ?_
  exact Finset.sum_congr rfl fun r _ => congrArg₂ (· * ·) (b0 m c t r j) (b1 m c t r k)
theorem at2 (t : Fin cfg0.N) (y : S1x256x1024.Idx) :
    out0_2 (F := Ideal) (iblk m c 0 t) (iblk m c 1 t) y
      = tW m c ((win0_2.blk t).view.emb y 1) ((win0_2.blk t).view.emb y 2) := by
  rw [eq_ix3 (n0 := 1) (n1 := 256) (n2 := 1024) y]
  exact blk2 m c t (y 0) (y 1) (y 2)
theorem final2 : (dats m 0 c).arrAt 2 cfg0.N = (fun z : S1x1280x1024.Idx => tW m c (z 1) (z 2)) := by
  refine (dats m 0 c).arrAt_eq_of_covers 2 _ (by decide +kernel) fun t hf y => ?_
  blk_simp
  rw [after0_2]
  exact at2 m c t y

end Cert.Kernel6Ideal.Hand

namespace Cert.Proof

open Idealize.ShloMosaic Idealize.ShloMosaic.Tactic Idealize.SL.Sem Cert.Spec
open Cert.ReferenceIdeal.Hand (rH X2)

section
open Cert.Reference6Ideal Cert.Reference6Ideal.Gen
/-- The reference's gradient, from the cotangent `d` of the product with the rows `h`. -/
def wRef6 (d : FVec Ideal S2048x1280 .f32) (h : X2) : FVec Ideal S1x1280x1024 .bf16 :=
  truncf .bf16 (shapeCast _ (transpose S1280x1024 [1, 0] (transpose S1024x1280 [1, 0]
    (Host.dotGeneral dot_S2048x1280_S2048x1024_S1280x1024_0_0_1_1_n_n none d h) transposes_S1280x1024_S1024x1280_1_0)
    transposes_S1024x1280_S1280x1024_1_0) shapeCasts_S1280x1024_S1x1280x1024) bitsLt_bf16_f32
theorem wRef6_at (d : FVec Ideal S2048x1280 .f32) (h : X2) (a : Fin 1) (j : Fin 1280) (k : Fin 1024) :
    wRef6 d h (ix3 a j k) = ∑ r : Fin 2048, d (ix2 r j) * h (ix2 r k) := by
  pointwise [wRef6]
end

theorem same6 (m : (ℓ : Loc Cert.Kernel6Ideal.nD Cert.Kernel6Ideal.τ Cert.Kernel6Ideal.sig) → Buf (Elt Ideal) ℓ) (c : Dev Cert.Kernel6Ideal.nD) :
    wRef6 (Cert.Kernel6Ideal.Hand.kC m c) (Cert.Kernel6Ideal.Hand.tH m c) = (Cert.Kernel6Ideal.Gen.dats m 0 c).arrAt 2 Cert.Kernel6Ideal.cfg0.N := by
  rw [Cert.Kernel6Ideal.Hand.final2]; funext z
  rw [eq_ix3 (n0 := 1) (n1 := 1280) (n2 := 1024) z]
  exact wRef6_at _ _ (z 0) (z 1) (z 2)

set_option maxHeartbeats 1600000 in
theorem algebraic6 : Cert.algebraic_Kernel6Ideal_Reference6Ideal := by
  pair_intro
  · have h := Cert.Kernel6Ideal.Value.run_blocks (F := Ideal) m g
    run_from h
  · refine (θ_run Cert.Reference6Ideal.defs _ _).mono (fun r h c => ?_) (Cert.Reference6Ideal.Value.run m' g')
    obtain ⟨r0, ha⟩ := h c
    obtain ⟨h0, h1, h2, h3⟩ := hagree c
    rw [h0, h1, h3] at r0
    exact ⟨r0.trans (same6 m c), ha⟩

end Cert.Proof

end
-- ==== Proof.Frames7.lean ====
module

public import proofs.«01_k».proof.Defs
public import proofs.«01_k».proof.Proof.Gen.Kernel7.Frame
public import proofs.«01_k».proof.Proof.Gen.Kernel7Ideal.Frame
public import proofs.«01_k».proof.Proof.Gen.Reference7Ideal.Run
public import Idealize.ShloMosaic.Lib.Tactic
public import Idealize.ShloMosaic.Lib.Claim

/-! The frame claims of the mixer's output product's weight gradient, and of its reference. -/

@[expose] public section

noncomputable section

namespace Cert.Proof

open Idealize.ShloMosaic Idealize.ShloMosaic.Tactic Idealize.SL.Sem

theorem frame7_kernel : Cert.quiescent_Kernel7 := fun m ρ _ => Cert.Kernel7.Gen.frame m ρ
theorem frame7_ideal : Cert.quiescent_Kernel7Ideal := fun m ρ _ => Cert.Kernel7Ideal.Gen.frame m ρ

/-- The reference's run leaves its arguments, and it declares no semaphore. -/
theorem frame7_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

end Cert.Proof

end
-- ==== Proof.Algebraic7.lean ====
/-
  The gradient of the mixer's output product with respect to its weight: the kernel's result, and the reference's.
-/
module

public import proofs.«01_k».proof.Defs
public import proofs.«01_k».proof.Proof.Gen.Kernel7Ideal.Value
public import proofs.«01_k».proof.Proof.Gen.Reference7Ideal.Run
public import proofs.«01_k».proof.Proof.Mix
public import Idealize.ShloMosaic.Lib.Pointwise
public import Idealize.ShloMosaic.Lib.Pipeline.ValueKit
public import Idealize.ShloMosaic.Lib.Tactic
public import Idealize.ShloMosaic.Lib.Claim

@[expose] public section

set_option maxRecDepth 16384

noncomputable section

namespace Cert.Kernel7Ideal.Hand

open Cert.Kernel7Ideal.Gen
open Idealize.ShloMosaic Idealize.ShloMosaic.TcCoe Cert.Spec
open Idealize.ShloMosaic.Pipeline (Dat)
open Cert.Mix (rMerge)

variable (m : (ℓ : Loc nD τ sig) → Buf (Elt Ideal) ℓ) (c : Dev nD)

def kM : FVec Ideal S2048x1024 .f32 := rMerge (m ((c.tc : Thread nD τ).loc main_arg0)) (m ((c.tc : Thread nD τ).loc main_arg1))
  (m ((c.tc : Thread nD τ).loc main_arg2)) (m ((c.tc : Thread nD τ).loc main_arg3))
def kC : FVec Ideal S2048x1024 .f32 := m ((c.tc : Thread nD τ).loc main_arg5)

theorem VA : V m c main_v29 = broadcastInDim S1x2048x1024 ![1, 2] bcast_S2048x1024_S1x2048x1024_1_2 (truncf .bf16 (kM m c) bitsLt_bf16_f32) := by entry_read; rfl
theorem VB : V m c main_v30 = broadcastInDim S1x2048x1024 ![1, 2] bcast_S2048x1024_S1x2048x1024_1_2 (truncf .bf16 (kC m c) bitsLt_bf16_f32) := by entry_read; rfl

theorem idx (t : Fin cfg0.N) : win0_0.index t = ![0, 0, t.val] ∧ win0_1.index t = ![0, 0, 0] ∧ win0_2.index t = ![0, t.val, 0] :=
  (by decide +kernel : ∀ t : Fin grid0.N, win0_0.index t = ![0, 0, t.val] ∧ win0_1.index t = ![0, 0, 0] ∧ win0_2.index t = ![0, t.val, 0]) t

theorem N_lt (t : Fin cfg0.N) : t.val < 1 := lt_of_lt_of_eq t.isLt (show cfg0.N = 1 from N_0)
/-- Row `j` of a grid point's block of the result. -/
def col (t : Fin cfg0.N) (j : Fin 1024) : Fin 1024 := ⟨t.val * 1024 + j.val, by have := N_lt t; omega⟩

theorem b0 (t : Fin cfg0.N) (r : Fin 2048) (j : Fin 1024) :
    (show FVec Ideal S1x2048x1024 .bf16 from iblk m c 0 t) (ix3 0 r j) = kM m c (ix2 r (col t j)) := by
  have e : (show FVec Ideal S1x2048x1024 .bf16 from iblk m c 0 t) (ix3 0 r j)
      = (show FVec Ideal S1x2048x1024 .bf16 from V m c main_v29) (ix3 0 r (col t j)) := by
    blk_ext [iblk, idx t]
    all_goals (simp only [col]; try (have := N_lt t; omega))
  rw [e, VA]
  show broadcastInDim S1x2048x1024 ![1, 2] bcast_S2048x1024_S1x2048x1024_1_2 (truncf .bf16 (kM m c) bitsLt_bf16_f32) (ix3 0 r (col t j)) = kM m c (ix2 r (col t j))
  pointwise
theorem b1 (t : Fin cfg0.N) (r : Fin 2048) (k : Fin 1024) :
    (show FVec Ideal S1x2048x1024 .bf16 from iblk m c 1 t) (ix3 0 r k) = kC m c (ix2 r k) := by
  have e : (show FVec Ideal S1x2048x1024 .bf16 from iblk m c 1 t) (ix3 0 r k)
      = (show FVec Ideal S1x2048x1024 .bf16 from V m c main_v30) (ix3 0 r k) := by
    blk_ext [iblk, idx t]
  rw [e, VB]
  show broadcastInDim S1x2048x1024 ![1, 2] bcast_S2048x1024_S1x2048x1024_1_2 (truncf .bf16 (kC m c) bitsLt_bf16_f32) (ix3 0 r k) = kC m c (ix2 r k)
  pointwise

theorem pay_at (a : FVec Ideal S1x2048x1024 .bf16) (b : FVec Ideal S1x2048x1024 .bf16) (j : Fin 1024) (k : Fin 1024) :
    k0_pay1 (F := Ideal) a b (ix3 0 j k) = ∑ r : Fin 2048, a (ix3 0 r j) * b (ix3 0 r k) := by
  pointwise [k0_pay1]
theorem out_eq (a : FVec Ideal S1x2048x1024 .bf16) (b : FVec Ideal S1x2048x1024 .bf16) : out0_2 (F := Ideal) a b = k0_pay1 (F := Ideal) a b := by
  unfold out0_2
  rw [View.canon_cons_unit_lit, View.ld_unit_lit, View.ld_unit_lit]
  all_goals decide

/-- The gradient at one index. -/
def tW (j : Fin 1024) (k : Fin 1024) : EReal := ∑ r : Fin 2048, kM m c (ix2 r j) * kC m c (ix2 r k)

theorem emb2 (t : Fin cfg0.N) (j : Fin 1024) (k : Fin 1024) : (win0_2.blk t).view.emb (ix3 0 j k) = (ix3 0 (col t j) k : S1x1024x1024.Idx) := by
  blk_ext [idx t]
  all_goals (simp only [col]; try (have := N_lt t; omega))
theorem blk2 (t : Fin cfg0.N) (a : Fin 1) (j : Fin 1024) (k : Fin 1024) :
    out0_2 (F := Ideal) (iblk m c 0 t) (iblk m c 1 t) (ix3 a j k)
      = tW m c ((win0_2.blk t).view.emb (ix3 a j k) 1) ((win0_2.blk t).view.emb (ix3 a j k) 2) := by
  obtain rfl : a = 0 := Subsingleton.elim _ _
  rw [emb2 t j k, out_eq]
  refine (pay_at _ _ j k).trans ?_
  exact Finset.sum_congr rfl fun r _ => congrArg₂ (· * ·) (b0 m c t r j) (b1 m c t r k)
theorem at2 (t : Fin cfg0.N) (y : S1x1024x1024.Idx) :
    out0_2 (F := Ideal) (iblk m c 0 t) (iblk m c 1 t) y
      = tW m c ((win0_2.blk t).view.emb y 1) ((win0_2.blk t).view.emb y 2) := by
  rw [eq_ix3 (n0 := 1) (n1 := 1024) (n2 := 1024) y]
  exact blk2 m c t (y 0) (y 1) (y 2)
theorem final2 : (dats m 0 c).arrAt 2 cfg0.N = (fun z : S1x1024x1024.Idx => tW m c (z 1) (z 2)) := by
  refine (dats m 0 c).arrAt_eq_of_covers 2 _ (by decide +kernel) fun t hf y => ?_
  blk_simp
  rw [after0_2]
  exact at2 m c t y

end Cert.Kernel7Ideal.Hand

namespace Cert.Proof

open Idealize.ShloMosaic Idealize.ShloMosaic.Tactic Idealize.SL.Sem Cert.Spec
open Cert.Mix (rMerge)

section
open Cert.Reference7Ideal Cert.Reference7Ideal.Gen
/-- The reference's gradient, from the cotangent `d` of the product with the rows `h`. -/
def wRef7 (d h : FVec Ideal S2048x1024 .f32) : FVec Ideal S1x1024x1024 .bf16 :=
  truncf .bf16 (shapeCast _ (transpose S1024x1024 [1, 0]
    (Host.dotGeneral dot_S2048x1024_S2048x1024_S1024x1024_0_0_1_1_n_n none d h) transposes_S1024x1024_S1024x1024_1_0)
    shapeCasts_S1024x1024_S1x1024x1024) bitsLt_bf16_f32
theorem wRef7_at (d h : FVec Ideal S2048x1024 .f32) (a : Fin 1) (j k : Fin 1024) :
    wRef7 d h (ix3 a j k) = ∑ r : Fin 2048, d (ix2 r k) * h (ix2 r j) := by
  pointwise [wRef7]
end

theorem same7 (m : (ℓ : Loc Cert.Kernel7Ideal.nD Cert.Kernel7Ideal.τ Cert.Kernel7Ideal.sig) → Buf (Elt Ideal) ℓ) (c : Dev Cert.Kernel7Ideal.nD) :
    wRef7 (Cert.Kernel7Ideal.Hand.kC m c) (Cert.Kernel7Ideal.Hand.kM m c) = (Cert.Kernel7Ideal.Gen.dats m 0 c).arrAt 2 Cert.Kernel7Ideal.cfg0.N := by
  rw [Cert.Kernel7Ideal.Hand.final2]; funext z
  rw [eq_ix3 (n0 := 1) (n1 := 1024) (n2 := 1024) z]
  refine (wRef7_at _ _ (z 0) (z 1) (z 2)).trans ?_
  exact Finset.sum_congr rfl fun r _ => mul_comm _ _

set_option maxHeartbeats 1600000 in
theorem algebraic7 : Cert.algebraic_Kernel7Ideal_Reference7Ideal := by
  pair_intro
  · have h := Cert.Kernel7Ideal.Value.run_blocks (F := Ideal) m g
    run_from h
  · refine (θ_run Cert.Reference7Ideal.defs _ _).mono (fun r h c => ?_) (Cert.Reference7Ideal.Value.run m' g')
    obtain ⟨r0, ha⟩ := h c
    obtain ⟨h0, h1, h2, h3, h4, h5⟩ := hagree c
    rw [h0, h1, h2, h3, h5] at r0
    exact ⟨r0.trans (same7 m c), ha⟩

end Cert.Proof

end
-- ==== Proof.Frames8.lean ====
module

public import proofs.«01_k».proof.Defs
public import proofs.«01_k».proof.Proof.Gen.Kernel8.Frame
public import proofs.«01_k».proof.Proof.Gen.Kernel8Ideal.Frame
public import proofs.«01_k».proof.Proof.Gen.Reference8Ideal.Run
public import Idealize.ShloMosaic.Lib.Tactic
public import Idealize.ShloMosaic.Lib.Claim

/-! The frame claims of the mixer's input product, and of its reference. -/

@[expose] public section

noncomputable section

namespace Cert.Proof

open Idealize.ShloMosaic Idealize.ShloMosaic.Tactic Idealize.SL.Sem

theorem frame8_kernel : Cert.quiescent_Kernel8 := fun m ρ _ => Cert.Kernel8.Gen.frame m ρ
theorem frame8_ideal : Cert.quiescent_Kernel8Ideal := fun m ρ _ => Cert.Kernel8Ideal.Gen.frame m ρ

/-- The reference's run leaves its arguments, and it declares no semaphore. -/
theorem frame8_reference : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

end Cert.Proof

end
-- ==== Proof.Algebraic8.lean ====
/-
  The mixer's input product, of the normalised rows: the kernel's two results, and the reference's.
-/
module

public import proofs.«01_k».proof.Defs
public import proofs.«01_k».proof.Proof.Gen.Kernel8Ideal.Value
public import proofs.«01_k».proof.Proof.Gen.Reference8Ideal.Run
public import proofs.«01_k».proof.Proof.Ref
public import Idealize.ShloMosaic.Lib.Pointwise
public import Idealize.ShloMosaic.Lib.Pipeline.ValueKit
public import Idealize.ShloMosaic.Lib.Tactic
public import Idealize.ShloMosaic.Lib.Claim

@[expose] public section

set_option maxRecDepth 16384

noncomputable section

namespace Cert.Kernel8Ideal.Hand

open Cert.Kernel8Ideal.Gen
open Idealize.ShloMosaic Idealize.ShloMosaic.TcCoe Cert.Spec
open Idealize.ShloMosaic.Pipeline (Dat)
open Cert.ReferenceIdeal.Hand (rMs rR rNx rN rH X2)

theorem hz : (![0, 0] : Fin 2 → Nat) = fun _ => 0 := funext fun a => by fin_cases a <;> rfl

section
variable (c : Dev nD) (i : grid0.Coords) (a2 : Memref sig .tc .vmem S512x1024 .f32) (h2 : a2.IsWhole) (a3 : Memref sig .tc .vmem S1x1024 .f32) (h3 : a3.IsWhole)
  (a4 : Memref sig .tc .vmem S1280x1024 .bf16) (h4 : a4.IsWhole) (a5 : Memref sig .tc .vmem S512x1280 .f32) (h5 : a5.IsWhole)
  (a6 : Memref sig .tc .vmem S512x1024 .bf16) (h6 : a6.IsWhole) (a7 : Memref sig .tc .vmem S512x1024 .bf16) (h7 : a7.IsWhole) (hc : cond0_0 i)
  (x0 : Vec Ideal S512x1024 .f32) (x1 : Vec Ideal S1x1024 .f32) (x2 : Vec Ideal S1280x1024 .bf16)

theorem out4_eq : out0_A_4 (F := Ideal) c i a2 h2 a3 h3 a4 h4 a5 h5 a6 h6 a7 h7 hc x0 x1 x2 = k0_pay1 x0 x1 := by
  unfold out0_A_4
  rw [View.read_writes_eq_canon _ _ _ (cover0_A_4 c i a2 h2 a3 h3 a4 h4 a5 h5 a6 h6 a7 h7 hc x0 x1 x2)]
  unfold kernelRun0_A
  dsimp only
  sl_unfold_words
  simp only [View.canon_cons_unit_zero (S := S512x1024) hz, View.readCov_unit_zero (S := S512x1024) _ hz, View.readAt_eq_ld, h2.read_unread, h3.read_unread,
    View.ld_unit_zero (S := S512x1024) hz, View.ld_unit_zero (S := S1x1024) hz]
theorem out3_eq : out0_A_3 (F := Ideal) c i a2 h2 a3 h3 a4 h4 a5 h5 a6 h6 a7 h7 hc x0 x1 x2 = k0_pay2 (k0_pay1 x0 x1) x2 := by
  unfold out0_A_3
  rw [View.read_writes_eq_canon _ _ _ (cover0_A_3 c i a2 h2 a3 h3 a4 h4 a5 h5 a6 h6 a7 h7 hc x0 x1 x2)]
  unfold kernelRun0_A
  dsimp only
  sl_unfold_words
  simp only [View.canon_cons_unit_zero (S := S512x1280) hz, View.readCov_unit_zero (S := S512x1024) _ hz, View.readAt_eq_ld, h2.read_unread, h3.read_unread, h4.read_unread,
    View.ld_unit_zero (S := S512x1024) hz, View.ld_unit_zero (S := S1x1024) hz, View.ld_unit_zero (S := S1280x1024) hz]
end

variable (m : (ℓ : Loc nD τ sig) → Buf (Elt Ideal) ℓ) (c : Dev nD)

def kX : FVec Ideal S2048x1024 .f32 := m ((c.tc : Thread nD τ).loc main_arg0)
def kN : FVec Ideal S1024 .f32 := m ((c.tc : Thread nD τ).loc main_arg1)
def kW : FVec Ideal S1024x1280 .f32 := m ((c.tc : Thread nD τ).loc main_arg2)
/-- The normalised rows. -/
def tH : FVec Ideal S2048x1024 .f32 := rH (kX m c) (kN m c)

theorem V0 : V m c main_v0 = shapeCast S1x1024 (kN m c) shapeCasts_S1024_S1x1024 := by entry_read; rfl
theorem V2 : V m c main_v2 = truncf .bf16 (transpose S1280x1024 [1, 0] (kW m c) transposes_S1024x1280_S1280x1024_1_0) bitsLt_bf16_f32 := by entry_read; rfl

theorem idx (t : Fin cfg0.N) : win0_0.index t = ![t.val, 0] ∧ win0_1.index t = ![0, 0] ∧ win0_2.index t = ![0, 0] ∧ win0_3.index t = ![t.val, 0]
    ∧ win0_4.index t = ![t.val, 0] :=
  (by decide +kernel : ∀ t : Fin grid0.N, win0_0.index t = ![t.val, 0] ∧ win0_1.index t = ![0, 0] ∧ win0_2.index t = ![0, 0] ∧ win0_3.index t = ![t.val, 0]
    ∧ win0_4.index t = ![t.val, 0]) t

theorem N_lt (t : Fin cfg0.N) : t.val < 4 := lt_of_lt_of_eq t.isLt (show cfg0.N = 4 from N_0)
/-- Row `r` of a grid point's row tile. -/
def row (t : Fin cfg0.N) (r : Fin 512) : Fin 2048 := ⟨t.val * 512 + r.val, by have := N_lt t; omega⟩

theorem b0 (t : Fin cfg0.N) (r : Fin 512) (k : Fin 1024) :
    (show FVec Ideal S512x1024 .f32 from iblk m c 0 t) (ix2 r k) = kX m c (ix2 (row t r) k) := by
  have e : (show FVec Ideal S512x1024 .f32 from iblk m c 0 t) (ix2 r k)
      = (show FVec Ideal S2048x1024 .f32 from V m c main_arg0) (ix2 (row t r) k) := by
    blk_ext [iblk, idx t]
    all_goals simp only [row]
  rw [e, V_main_arg0]; rfl
theorem b1 (t : Fin cfg0.N) (k : Fin 1024) :
    (show FVec Ideal S1x1024 .f32 from iblk m c 1 t) (ix2 0 k) = kN m c (ix1 k) := by
  have e : (show FVec Ideal S1x1024 .f32 from iblk m c 1 t) (ix2 0 k)
      = (show FVec Ideal S1x1024 .f32 from V m c main_v0) (ix2 0 k) := by
    blk_ext [iblk, idx t]
  rw [e, V0]
  show shapeCast S1x1024 (kN m c) shapeCasts_S1024_S1x1024 (ix2 0 k) = kN m c (ix1 k)
  pointwise
theorem b2 (t : Fin cfg0.N) (j : Fin 1280) (k : Fin 1024) :
    (show FVec Ideal S1280x1024 .bf16 from iblk m c 2 t) (ix2 j k) = kW m c (ix2 k j) := by
  have e : (show FVec Ideal S1280x1024 .bf16 from iblk m c 2 t) (ix2 j k)
      = (show FVec Ideal S1280x1024 .bf16 from V m c main_v2) (ix2 j k) := by
    blk_ext [iblk, idx t]
  rw [e, V2]
  show truncf .bf16 (transpose S1280x1024 [1, 0] (kW m c) transposes_S1024x1280_S1280x1024_1_0) bitsLt_bf16_f32 (ix2 j k) = kW m c (ix2 k j)
  pointwise

/-- A row of the tile, normalised, is that row of the array, normalised. -/
theorem pay1_at {x : FVec Ideal S512x1024 .f32} {n : FVec Ideal S1x1024 .f32} {X : X2} {N : FVec Ideal S1024 .f32} (t : Fin cfg0.N)
    (hx : ∀ (r : Fin 512) (k : Fin 1024), x (ix2 r k) = X (ix2 (row t r) k)) (hn : ∀ k : Fin 1024, n (ix2 0 k) = N (ix1 k)) (r : Fin 512) (k : Fin 1024) :
    k0_pay1 (F := Ideal) x n (ix2 r k) = rH X N (ix2 (row t r) k) := by
  pointwise [k0_pay1, rH, rNx, rN, rR, rMs]
  simp only [hx, hn]
theorem pay2_at (h : FVec Ideal S512x1024 .bf16) (w : FVec Ideal S1280x1024 .bf16) (r : Fin 512) (j : Fin 1280) :
    k0_pay2 (F := Ideal) h w (ix2 r j) = ∑ k : Fin 1024, h (ix2 r k) * w (ix2 j k) := by
  pointwise [k0_pay2]

theorem h_at (t : Fin cfg0.N) (r : Fin 512) (k : Fin 1024) : k0_pay1 (F := Ideal) (iblk m c 0 t) (iblk m c 1 t) (ix2 r k) = tH m c (ix2 (row t r) k) :=
  pay1_at t (b0 m c t) (b1 m c t) r k

/-- The product at one index. -/
def tP (r : Fin 2048) (j : Fin 1280) : EReal := ∑ k : Fin 1024, tH m c (ix2 r k) * kW m c (ix2 k j)

theorem emb3 (t : Fin cfg0.N) (r : Fin 512) (j : Fin 1280) : (win0_3.blk t).view.emb (ix2 r j) = (ix2 (row t r) j : S2048x1280.Idx) := by
  blk_ext [idx t]
  all_goals simp only [row]
theorem blk3 (t : Fin cfg0.N) (r : Fin 512) (j : Fin 1280) :
    k0_pay2 (F := Ideal) (k0_pay1 (iblk m c 0 t) (iblk m c 1 t)) (iblk m c 2 t) (ix2 r j)
      = tP m c ((win0_3.blk t).view.emb (ix2 r j) 0) ((win0_3.blk t).view.emb (ix2 r j) 1) := by
  rw [emb3 t r j]
  refine (pay2_at _ _ r j).trans ?_
  exact Finset.sum_congr rfl fun k _ => congrArg₂ (· * ·) (h_at m c t r k) (b2 m c t j k)
theorem at3 (t : Fin cfg0.N) (y : S512x1280.Idx) : k0_pay2 (F := Ideal) (k0_pay1 (iblk m c 0 t) (iblk m c 1 t)) (iblk m c 2 t) y
      = tP m c ((win0_3.blk t).view.emb y 0) ((win0_3.blk t).view.emb y 1) := by
  rw [eq_ix2 (n0 := 512) (n1 := 1280) y]
  exact blk3 m c t (y 0) (y 1)
theorem final3 : (dats m 0 c).arrAt 3 cfg0.N = (fun z : S2048x1280.Idx => tP m c (z 0) (z 1)) := by
  refine (dats m 0 c).arrAt_eq_of_covers 3 _ (by decide +kernel) fun t hf y => ?_
  blk_simp
  rw [after0_3]
  unfold outsAt0
  dsimp only
  rw [out3_eq]
  exact at3 m c t y

theorem emb4 (t : Fin cfg0.N) (r : Fin 512) (k : Fin 1024) : (win0_4.blk t).view.emb (ix2 r k) = (ix2 (row t r) k : S2048x1024.Idx) := by
  blk_ext [idx t]
  all_goals simp only [row]
theorem blk4 (t : Fin cfg0.N) (r : Fin 512) (k : Fin 1024) :
    k0_pay1 (F := Ideal) (iblk m c 0 t) (iblk m c 1 t) (ix2 r k)
      = tH m c (ix2 ((win0_4.blk t).view.emb (ix2 r k) 0) ((win0_4.blk t).view.emb (ix2 r k) 1)) := by
  rw [emb4 t r k]
  exact h_at m c t r k
theorem at4 (t : Fin cfg0.N) (y : S512x1024.Idx) : k0_pay1 (F := Ideal) (iblk m c 0 t) (iblk m c 1 t) y
      = tH m c (ix2 ((win0_4.blk t).view.emb y 0) ((win0_4.blk t).view.emb y 1)) := by
  rw [eq_ix2 (n0 := 512) (n1 := 1024) y]
  exact blk4 m c t (y 0) (y 1)
theorem final4 : (dats m 0 c).arrAt 4 cfg0.N = (fun z : S2048x1024.Idx => tH m c (ix2 (z 0) (z 1))) := by
  refine (dats m 0 c).arrAt_eq_of_covers 4 _ (by decide +kernel) fun t hf y => ?_
  blk_simp
  rw [after0_4]
  unfold outsAt0
  dsimp only
  rw [out4_eq]
  exact at4 m c t y

end Cert.Kernel8Ideal.Hand

namespace Cert.Proof

open Idealize.ShloMosaic Idealize.ShloMosaic.Tactic Idealize.SL.Sem Cert.Spec
open Cert.ReferenceIdeal.Hand (rH X2)

section
open Cert.Reference8Ideal Cert.Reference8Ideal.Gen
def rP8 (h : X2) (w : FVec Ideal S1024x1280 .f32) : FVec Ideal S2048x1280 .f32 :=
  Host.dotGeneral dot_S2048x1024_S1024x1280_S2048x1280_1_0_0_1_n_n none h w
theorem rP8_at (h : X2) (w : FVec Ideal S1024x1280 .f32) (r : Fin 2048) (j : Fin 1280) :
    rP8 h w (ix2 r j) = ∑ k : Fin 1024, h (ix2 r k) * w (ix2 k j) := by pointwise [rP8]
end

section
open Cert.Kernel8Ideal Cert.Kernel8Ideal.Hand
variable (m : (ℓ : Loc nD τ sig) → Buf (Elt Ideal) ℓ) (c : Dev nD)
theorem same8_0 : rP8 (rH (kX m c) (kN m c)) (kW m c) = (Cert.Kernel8Ideal.Gen.dats m 0 c).arrAt 3 cfg0.N := by
  rw [final3]; funext z
  rw [eq_ix2 (n0 := 2048) (n1 := 1280) z]
  exact rP8_at _ _ (z 0) (z 1)
theorem same8_1 : truncf .bf16 (rH (kX m c) (kN m c)) Cert.Reference8Ideal.Gen.bitsLt_bf16_f32 = (Cert.Kernel8Ideal.Gen.dats m 0 c).arrAt 4 cfg0.N := by
  rw [final4]; funext z
  rw [eq_ix2 (n0 := 2048) (n1 := 1024) z]
  rfl
end

set_option maxHeartbeats 1600000 in
theorem algebraic8 : Cert.algebraic_Kernel8Ideal_Reference8Ideal := by
  pair_intro
  · have h := Cert.Kernel8Ideal.Value.run_blocks (F := Ideal) m g
    run_from h
  · refine (θ_run Cert.Reference8Ideal.defs _ _).mono (fun r h c => ?_) (Cert.Reference8Ideal.Value.run m' g')
    obtain ⟨r0, r1, ha⟩ := h c
    obtain ⟨h0, h1, h2⟩ := hagree c
    rw [h0, h1, h2] at r0
    rw [h0, h1] at r1
    exact ⟨r0.trans (same8_0 m c), r1.trans (same8_1 m c), ha⟩

end Cert.Proof

end
-- ==== Proof.Frames9.lean ====
module

public import proofs.«01_k».proof.Defs
public import proofs.«01_k».proof.Proof.Gen.Kernel9.Frame
public import proofs.«01_k».proof.Proof.Gen.Kernel9Ideal.Frame
public import proofs.«01_k».proof.Proof.Gen.Reference9Ideal.Run
public import Idealize.ShloMosaic.Lib.Tactic
public import Idealize.ShloMosaic.Lib.Claim

/-! The frame claims of the mixer's output product, and of its reference. -/

@[expose] public section

noncomputable section

namespace Cert.Proof

open Idealize.ShloMosaic Idealize.ShloMosaic.Tactic Idealize.SL.Sem

theorem frame9_kernel : Cert.quiescent_Kernel9 := fun m ρ _ => Cert.Kernel9.Gen.frame m ρ
theorem frame9_ideal : Cert.quiescent_Kernel9Ideal := fun m ρ _ => Cert.Kernel9Ideal.Gen.frame m ρ

/-- The reference's run leaves its arguments, and it declares no semaphore. -/
theorem frame9_reference : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

end Cert.Proof

end
-- ==== Proof.Algebraic9.lean ====
/-
  The mixer's output product, of the two normalised branches side by side: the kernel's two results, and the reference's.
-/
module

public import proofs.«01_k».proof.Defs
public import proofs.«01_k».proof.Proof.Gen.Kernel9Ideal.Value
public import proofs.«01_k».proof.Proof.Gen.Reference9Ideal.Run
public import proofs.«01_k».proof.Proof.Mix
public import Idealize.ShloMosaic.Lib.Pointwise
public import Idealize.ShloMosaic.Lib.Pipeline.ValueKit
public import Idealize.ShloMosaic.Lib.Tactic
public import Idealize.ShloMosaic.Lib.Claim

@[expose] public section

set_option maxRecDepth 16384

noncomputable section

namespace Cert.Kernel9Ideal.Hand

open Cert.Kernel9Ideal.Gen
open Idealize.ShloMosaic Idealize.ShloMosaic.TcCoe Cert.Spec
open Idealize.ShloMosaic.Pipeline (Dat)
open Cert.Mix (rMs rR rNx rN rH rMerge B2)

theorem hz : (![0, 0] : Fin 2 → Nat) = fun _ => 0 := funext fun a => by fin_cases a <;> rfl

/-- The two halves of the scratch, by columns. -/
def cat (q p : Vec Ideal S512x512 .bf16) : Vec Ideal S512x1024 .bf16 :=
  View.canon (Val := Elt Ideal) [⟨Rect.unit ![0, 512] ![512, 512] inb_S512x1024_S512x512_0_512, p⟩, ⟨Rect.unit ![0, 0] ![512, 512] inb_S512x1024_S512x512_0_0, q⟩]

def lo (k : Fin 512) : Fin 1024 := ⟨k.val, by omega⟩
def hi (k : Fin 512) : Fin 1024 := ⟨512 + k.val, by omega⟩
theorem lo_or_hi (k : Fin 1024) : (∃ j, k = lo j) ∨ ∃ j, k = hi j := by
  by_cases h : k.val < 512
  · exact .inl ⟨⟨k.val, h⟩, rfl⟩
  · exact .inr ⟨⟨k.val - 512, by omega⟩, Fin.ext (by simp only [hi]; omega)⟩

theorem cat_hi (q p : Vec Ideal S512x512 .bf16) (r k : Fin 512) : cat q p (ix2 r (hi k)) = p (ix2 r k) := by
  have e : (ix2 r (hi k) : S512x1024.Idx) = (Rect.unit (s := S512x1024) ![0, 512] ![512, 512] inb_S512x1024_S512x512_0_512).emb (ix2 r k : S512x512.Idx) := by
    funext a
    fin_cases a
    · exact Fin.ext (by show r.val = 0 + 1 * r.val; omega)
    · exact Fin.ext (by show 512 + k.val = 512 + 1 * k.val; omega)
  refine (congrArg (cat q p) e).trans ?_
  exact View.canon_cons_emb (Val := Elt Ideal) (e := .bf16) (Rect.unit (s := S512x1024) ![0, 512] ![512, 512] inb_S512x1024_S512x512_0_512) p _ (ix2 r k : S512x512.Idx)
theorem cat_lo (q p : Vec Ideal S512x512 .bf16) (r k : Fin 512) : cat q p (ix2 r (lo k)) = q (ix2 r k) := by
  have e : (ix2 r (lo k) : S512x1024.Idx) = (Rect.unit (s := S512x1024) ![0, 0] ![512, 512] inb_S512x1024_S512x512_0_0).emb (ix2 r k : S512x512.Idx) := by
    funext a
    fin_cases a
    · exact Fin.ext (by show r.val = 0 + 1 * r.val; omega)
    · exact Fin.ext (by show k.val = 0 + 1 * k.val; omega)
  have hn : (ix2 r (lo k) : S512x1024.Idx) ∉ (Rect.unit (s := S512x1024) ![0, 512] ![512, 512] inb_S512x1024_S512x512_0_512).set :=
    Rect.not_mem_set_of_axis _ _ 1 512 512 rfl rfl rfl (Or.inl (show k.val < 512 from k.isLt))
  refine (View.canon_cons_of_not_mem (Val := Elt Ideal) (e := .bf16) (⟨_, p⟩ : View.Piece (Elt Ideal) S512x1024 .bf16) _ hn).trans ?_
  rw [e]
  exact View.canon_cons_emb (Val := Elt Ideal) (e := .bf16) (Rect.unit (s := S512x1024) ![0, 0] ![512, 512] inb_S512x1024_S512x512_0_0) q _ (ix2 r k : S512x512.Idx)

theorem scratch_eq (v : View sig .tc .vmem S512x1024 .bf16) (q p : Vec Ideal S512x512 .bf16) :
    v.readCov (Val := Elt Ideal) [⟨Rect.unit ![0, 512] ![512, 512] inb_S512x1024_S512x512_0_512, p⟩, ⟨Rect.unit ![0, 0] ![512, 512] inb_S512x1024_S512x512_0_0, q⟩]
      (Rect.unit ![0, 0] ![512, 1024] inb_S512x1024_S512x1024_0_0).toLoadRect = cat q p := by
  rw [View.readCov_eq_canon']
  funext j
  refine congrArg (cat q p) ?_
  funext a
  exact Fin.ext (by fin_cases a <;> simp)

section
variable (c : Dev nD) (i : grid0.Coords) (a2 : Memref sig .tc .vmem S512x512 .f32) (h2 : a2.IsWhole) (a3 : Memref sig .tc .vmem S512x512 .f32) (h3 : a3.IsWhole)
  (a4 : Memref sig .tc .vmem S1x512 .f32) (h4 : a4.IsWhole) (a5 : Memref sig .tc .vmem S1x512 .f32) (h5 : a5.IsWhole)
  (a6 : Memref sig .tc .vmem S1024x1024 .bf16) (h6 : a6.IsWhole) (a7 : Memref sig .tc .vmem S512x1024 .f32) (h7 : a7.IsWhole)
  (a8 : Memref sig .tc .vmem S512x1024 .f32) (h8 : a8.IsWhole) (a9 : Memref sig .tc .vmem S512x1024 .bf16) (h9 : a9.IsWhole)
  (a10 : Memref sig .tc .vmem S512x1024 .bf16) (h10 : a10.IsWhole) (hc : cond0_0 i)
  (x0 x1 : Vec Ideal S512x512 .f32) (x2 x3 : Vec Ideal S1x512 .f32) (x4 : Vec Ideal S1024x1024 .bf16) (x5 : Vec Ideal S512x1024 .f32)

theorem out7_eq : out0_A_7 (F := Ideal) c i a2 h2 a3 h3 a4 h4 a5 h5 a6 h6 a7 h7 a8 h8 a9 h9 a10 h10 hc x0 x1 x2 x3 x4 x5 = cat (k0_pay2 x0 x2) (k0_pay3 x1 x3) := by
  unfold out0_A_7
  rw [View.read_writes_eq_canon _ _ _ (cover0_A_7 c i a2 h2 a3 h3 a4 h4 a5 h5 a6 h6 a7 h7 a8 h8 a9 h9 a10 h10 hc x0 x1 x2 x3 x4 x5)]
  unfold kernelRun0_A
  dsimp only
  sl_unfold_words
  simp only [View.canon_cons_unit_zero (S := S512x1024) hz, View.readAt_eq_ld, h2.read_unread, h3.read_unread, h4.read_unread, h5.read_unread,
    View.ld_unit_zero (S := S512x512) hz, View.ld_unit_zero (S := S1x512) hz]
  exact scratch_eq _ _ _
theorem out6_eq : out0_A_6 (F := Ideal) c i a2 h2 a3 h3 a4 h4 a5 h5 a6 h6 a7 h7 a8 h8 a9 h9 a10 h10 hc x0 x1 x2 x3 x4 x5
    = k0_pay1 (cat (k0_pay2 x0 x2) (k0_pay3 x1 x3)) x4 x5 := by
  unfold out0_A_6
  rw [View.read_writes_eq_canon _ _ _ (cover0_A_6 c i a2 h2 a3 h3 a4 h4 a5 h5 a6 h6 a7 h7 a8 h8 a9 h9 a10 h10 hc x0 x1 x2 x3 x4 x5)]
  unfold kernelRun0_A
  dsimp only
  sl_unfold_words
  simp only [View.canon_cons_unit_zero (S := S512x1024) hz, View.readAt_eq_ld, h2.read_unread, h3.read_unread, h4.read_unread, h5.read_unread, h6.read_unread, h7.read_unread,
    View.ld_unit_zero (S := S512x512) hz, View.ld_unit_zero (S := S1x512) hz, View.ld_unit_zero (S := S1024x1024) hz, View.ld_unit_zero (S := S512x1024) hz]
  exact congrArg (fun h => k0_pay1 (F := Ideal) h x4 x5) (scratch_eq _ _ _)
end

variable (m : (ℓ : Loc nD τ sig) → Buf (Elt Ideal) ℓ) (c : Dev nD)

def kA : FVec Ideal S2048x512 .f32 := m ((c.tc : Thread nD τ).loc main_arg0)
def kS : FVec Ideal S2048x512 .f32 := m ((c.tc : Thread nD τ).loc main_arg1)
def kGa : FVec Ideal S512 .f32 := m ((c.tc : Thread nD τ).loc main_arg2)
def kGs : FVec Ideal S512 .f32 := m ((c.tc : Thread nD τ).loc main_arg3)
def kW : FVec Ideal S1024x1024 .f32 := m ((c.tc : Thread nD τ).loc main_arg4)
def kX : FVec Ideal S2048x1024 .f32 := m ((c.tc : Thread nD τ).loc main_arg5)
/-- The normalised branches side by side. -/
def tH : FVec Ideal S2048x1024 .f32 := rMerge (kA m c) (kS m c) (kGa m c) (kGs m c)

theorem V0 : V m c main_v0 = shapeCast S1x512 (kGa m c) shapeCasts_S512_S1x512 := by entry_read; rfl
theorem V1 : V m c main_v1 = shapeCast S1x512 (kGs m c) shapeCasts_S512_S1x512 := by entry_read; rfl
theorem V2 : V m c main_v2 = truncf .bf16 (kW m c) bitsLt_bf16_f32 := by entry_read; rfl

theorem idx (t : Fin cfg0.N) : win0_0.index t = ![t.val, 0] ∧ win0_1.index t = ![t.val, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![t.val, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0]) t

theorem N_lt (t : Fin cfg0.N) : t.val < 4 := lt_of_lt_of_eq t.isLt (show cfg0.N = 4 from N_0)
/-- Row `r` of a grid point's row tile. -/
def row (t : Fin cfg0.N) (r : Fin 512) : Fin 2048 := ⟨t.val * 512 + r.val, by have := N_lt t; omega⟩

theorem b0 (t : Fin cfg0.N) (r : Fin 512) (k : Fin 512) :
    (show FVec Ideal S512x512 .f32 from iblk m c 0 t) (ix2 r k) = kA m c (ix2 (row t r) k) := by
  have e : (show FVec Ideal S512x512 .f32 from iblk m c 0 t) (ix2 r k)
      = (show FVec Ideal S2048x512 .f32 from V m c main_arg0) (ix2 (row t r) k) := by
    blk_ext [iblk, idx t]
    all_goals simp only [row]
  rw [e, V_main_arg0]; rfl
theorem b1 (t : Fin cfg0.N) (r : Fin 512) (k : Fin 512) :
    (show FVec Ideal S512x512 .f32 from iblk m c 1 t) (ix2 r k) = kS m c (ix2 (row t r) k) := by
  have e : (show FVec Ideal S512x512 .f32 from iblk m c 1 t) (ix2 r k)
      = (show FVec Ideal S2048x512 .f32 from V m c main_arg1) (ix2 (row t r) k) := by
    blk_ext [iblk, idx t]
    all_goals simp only [row]
  rw [e, V_main_arg1]; rfl
theorem b2 (t : Fin cfg0.N) (k : Fin 512) :
    (show FVec Ideal S1x512 .f32 from iblk m c 2 t) (ix2 0 k) = kGa m c (ix1 k) := by
  have e : (show FVec Ideal S1x512 .f32 from iblk m c 2 t) (ix2 0 k)
      = (show FVec Ideal S1x512 .f32 from V m c main_v0) (ix2 0 k) := by
    blk_ext [iblk, idx t]
  rw [e, V0]
  show shapeCast S1x512 (kGa m c) shapeCasts_S512_S1x512 (ix2 0 k) = kGa m c (ix1 k)
  pointwise
theorem b3 (t : Fin cfg0.N) (k : Fin 512) :
    (show FVec Ideal S1x512 .f32 from iblk m c 3 t) (ix2 0 k) = kGs m c (ix1 k) := by
  have e : (show FVec Ideal S1x512 .f32 from iblk m c 3 t) (ix2 0 k)
      = (show FVec Ideal S1x512 .f32 from V m c main_v1) (ix2 0 k) := by
    blk_ext [iblk, idx t]
  rw [e, V1]
  show shapeCast S1x512 (kGs m c) shapeCasts_S512_S1x512 (ix2 0 k) = kGs m c (ix1 k)
  pointwise
theorem b4 (t : Fin cfg0.N) (k : Fin 1024) (j : Fin 1024) :
    (show FVec Ideal S1024x1024 .bf16 from iblk m c 4 t) (ix2 k j) = kW m c (ix2 k j) := by
  have e : (show FVec Ideal S1024x1024 .bf16 from iblk m c 4 t) (ix2 k j)
      = (show FVec Ideal S1024x1024 .bf16 from V m c main_v2) (ix2 k j) := by
    blk_ext [iblk, idx t]
  rw [e, V2]
  rfl
theorem b5 (t : Fin cfg0.N) (r : Fin 512) (k : Fin 1024) :
    (show FVec Ideal S512x1024 .f32 from iblk m c 5 t) (ix2 r k) = kX m c (ix2 (row t r) k) := by
  have e : (show FVec Ideal S512x1024 .f32 from iblk m c 5 t) (ix2 r k)
      = (show FVec Ideal S2048x1024 .f32 from V m c main_arg5) (ix2 (row t r) k) := by
    blk_ext [iblk, idx t]
    all_goals simp only [row]
  rw [e, V_main_arg5]; rfl

/-- A row of one branch's tile, normalised, is that row of the array, normalised. -/
theorem pay2_at {x : FVec Ideal S512x512 .f32} {n : FVec Ideal S1x512 .f32} {X : B2} {N : FVec Ideal S512 .f32} (t : Fin cfg0.N)
    (hx : ∀ (r : Fin 512) (k : Fin 512), x (ix2 r k) = X (ix2 (row t r) k)) (hn : ∀ k : Fin 512, n (ix2 0 k) = N (ix1 k)) (r : Fin 512) (k : Fin 512) :
    k0_pay2 (F := Ideal) x n (ix2 r k) = rH X N (ix2 (row t r) k) := by
  pointwise [k0_pay2, rH, rNx, rN, rR, rMs]
  simp only [hx, hn]
theorem pay3_at {x : FVec Ideal S512x512 .f32} {n : FVec Ideal S1x512 .f32} {X : B2} {N : FVec Ideal S512 .f32} (t : Fin cfg0.N)
    (hx : ∀ (r : Fin 512) (k : Fin 512), x (ix2 r k) = X (ix2 (row t r) k)) (hn : ∀ k : Fin 512, n (ix2 0 k) = N (ix1 k)) (r : Fin 512) (k : Fin 512) :
    k0_pay3 (F := Ideal) x n (ix2 r k) = rH X N (ix2 (row t r) k) := by
  pointwise [k0_pay3, rH, rNx, rN, rR, rMs]
  simp only [hx, hn]
theorem pay1_at (h : FVec Ideal S512x1024 .bf16) (w : FVec Ideal S1024x1024 .bf16) (x : FVec Ideal S512x1024 .f32) (r : Fin 512) (j : Fin 1024) :
    k0_pay1 (F := Ideal) h w x (ix2 r j) = x (ix2 r j) + ∑ k : Fin 1024, h (ix2 r k) * w (ix2 k j) := by
  pointwise [k0_pay1]

theorem merge_lo (a s : B2) (ga gs : FVec Ideal S512 .f32) (r : Fin 2048) (k : Fin 512) : rMerge a s ga gs (ix2 r (lo k)) = rH a ga (ix2 r k) := by
  unfold rMerge lo
  generalize rH a ga = x
  generalize rH s gs = y
  pointwise
theorem merge_hi (a s : B2) (ga gs : FVec Ideal S512 .f32) (r : Fin 2048) (k : Fin 512) : rMerge a s ga gs (ix2 r (hi k)) = rH s gs (ix2 r k) := by
  unfold rMerge hi
  generalize rH a ga = x
  generalize rH s gs = y
  pointwise

/-- What the scratch holds at a grid point. -/
def sc (t : Fin cfg0.N) : Vec Ideal S512x1024 .bf16 := cat (k0_pay2 (iblk m c 0 t) (iblk m c 2 t)) (k0_pay3 (iblk m c 1 t) (iblk m c 3 t))
theorem h_at (t : Fin cfg0.N) (r : Fin 512) (k : Fin 1024) : sc m c t (ix2 r k) = tH m c (ix2 (row t r) k) := by
  rcases lo_or_hi k with ⟨j, rfl⟩ | ⟨j, rfl⟩
  · exact (cat_lo _ _ r j).trans ((pay2_at t (b0 m c t) (b2 m c t) r j).trans (merge_lo _ _ _ _ _ _).symm)
  · exact (cat_hi _ _ r j).trans ((pay3_at t (b1 m c t) (b3 m c t) r j).trans (merge_hi _ _ _ _ _ _).symm)

/-- The sum at one index. -/
def tP (r : Fin 2048) (j : Fin 1024) : EReal := kX m c (ix2 r j) + ∑ k : Fin 1024, tH m c (ix2 r k) * kW m c (ix2 k j)

theorem emb6 (t : Fin cfg0.N) (r : Fin 512) (j : Fin 1024) : (win0_6.blk t).view.emb (ix2 r j) = (ix2 (row t r) j : S2048x1024.Idx) := by
  blk_ext [idx t]
  all_goals simp only [row]
theorem blk6 (t : Fin cfg0.N) (r : Fin 512) (j : Fin 1024) :
    k0_pay1 (F := Ideal) (sc m c t) (iblk m c 4 t) (iblk m c 5 t) (ix2 r j)
      = tP m c ((win0_6.blk t).view.emb (ix2 r j) 0) ((win0_6.blk t).view.emb (ix2 r j) 1) := by
  rw [emb6 t r j]
  refine (pay1_at _ _ _ r j).trans ?_
  exact congrArg₂ (· + ·) (b5 m c t r j) (Finset.sum_congr rfl fun k _ => congrArg₂ (· * ·) (h_at m c t r k) (b4 m c t k j))
theorem at6 (t : Fin cfg0.N) (y : S512x1024.Idx) : k0_pay1 (F := Ideal) (sc m c t) (iblk m c 4 t) (iblk m c 5 t) y
      = tP m c ((win0_6.blk t).view.emb y 0) ((win0_6.blk t).view.emb y 1) := by
  rw [eq_ix2 (n0 := 512) (n1 := 1024) y]
  exact blk6 m c t (y 0) (y 1)
theorem final6 : (dats m 0 c).arrAt 6 cfg0.N = (fun z : S2048x1024.Idx => tP m c (z 0) (z 1)) := by
  refine (dats m 0 c).arrAt_eq_of_covers 6 _ (by decide +kernel) fun t hf y => ?_
  blk_simp
  rw [after0_6]
  unfold outsAt0
  dsimp only
  rw [out6_eq]
  exact at6 m c t y

theorem emb7 (t : Fin cfg0.N) (r : Fin 512) (k : Fin 1024) : (win0_7.blk t).view.emb (ix2 r k) = (ix2 (row t r) k : S2048x1024.Idx) := by
  blk_ext [idx t]
  all_goals simp only [row]
theorem blk7 (t : Fin cfg0.N) (r : Fin 512) (k : Fin 1024) :
    sc m c t (ix2 r k) = tH m c (ix2 ((win0_7.blk t).view.emb (ix2 r k) 0) ((win0_7.blk t).view.emb (ix2 r k) 1)) := by
  rw [emb7 t r k]
  exact h_at m c t r k
theorem at7 (t : Fin cfg0.N) (y : S512x1024.Idx) : sc m c t y
      = tH m c (ix2 ((win0_7.blk t).view.emb y 0) ((win0_7.blk t).view.emb y 1)) := by
  rw [eq_ix2 (n0 := 512) (n1 := 1024) y]
  exact blk7 m c t (y 0) (y 1)
theorem final7 : (dats m 0 c).arrAt 7 cfg0.N = (fun z : S2048x1024.Idx => tH m c (ix2 (z 0) (z 1))) := by
  refine (dats m 0 c).arrAt_eq_of_covers 7 _ (by decide +kernel) fun t hf y => ?_
  blk_simp
  rw [after0_7]
  unfold outsAt0
  dsimp only
  rw [out7_eq]
  exact at7 m c t y

end Cert.Kernel9Ideal.Hand

namespace Cert.Proof

open Idealize.ShloMosaic Idealize.ShloMosaic.Tactic Idealize.SL.Sem Cert.Spec
open Cert.Mix (rMerge)

section
open Cert.Reference9Ideal Cert.Reference9Ideal.Gen
def rP9 (x h : FVec Ideal S2048x1024 .f32) (w : FVec Ideal S1024x1024 .f32) : FVec Ideal S2048x1024 .f32 :=
  addf x (Host.dotGeneral dot_S2048x1024_S1024x1024_S2048x1024_1_0_0_1_n_n none h w)
theorem rP9_at (x h : FVec Ideal S2048x1024 .f32) (w : FVec Ideal S1024x1024 .f32) (r : Fin 2048) (j : Fin 1024) :
    rP9 x h w (ix2 r j) = x (ix2 r j) + ∑ k : Fin 1024, h (ix2 r k) * w (ix2 k j) := by pointwise [rP9]
end

section
open Cert.Kernel9Ideal Cert.Kernel9Ideal.Hand
variable (m : (ℓ : Loc nD τ sig) → Buf (Elt Ideal) ℓ) (c : Dev nD)
theorem same9_0 : rP9 (kX m c) (rMerge (kA m c) (kS m c) (kGa m c) (kGs m c)) (kW m c) = (Cert.Kernel9Ideal.Gen.dats m 0 c).arrAt 6 cfg0.N := by
  rw [final6]; funext z
  rw [eq_ix2 (n0 := 2048) (n1 := 1024) z]
  exact rP9_at _ _ _ (z 0) (z 1)
theorem same9_1 : truncf .bf16 (rMerge (kA m c) (kS m c) (kGa m c) (kGs m c)) Cert.Reference9Ideal.Gen.bitsLt_bf16_f32 = (Cert.Kernel9Ideal.Gen.dats m 0 c).arrAt 7 cfg0.N := by
  rw [final7]; funext z
  rw [eq_ix2 (n0 := 2048) (n1 := 1024) z]
  rfl
end

set_option maxHeartbeats 1600000 in
theorem algebraic9 : Cert.algebraic_Kernel9Ideal_Reference9Ideal := by
  pair_intro
  · have h := Cert.Kernel9Ideal.Value.run_blocks (F := Ideal) m g
    run_from h
  · refine (θ_run Cert.Reference9Ideal.defs _ _).mono (fun r h c => ?_) (Cert.Reference9Ideal.Value.run m' g')
    obtain ⟨r0, r1, ha⟩ := h c
    obtain ⟨h0, h1, h2, h3, h4, h5⟩ := hagree c
    rw [h0, h1, h2, h3, h4, h5] at r0
    rw [h0, h1, h2, h3] at r1
    exact ⟨r0.trans (same9_0 m c), r1.trans (same9_1 m c), ha⟩

end Cert.Proof

end
-- ==== Proof.Frames10.lean ====
module

public import proofs.«01_k».proof.Defs
public import proofs.«01_k».proof.Proof.Gen.Kernel10.Frame
public import proofs.«01_k».proof.Proof.Gen.Kernel10Ideal.Frame
public import proofs.«01_k».proof.Proof.Gen.Reference10Ideal.Run
public import Idealize.ShloMosaic.Lib.Tactic
public import Idealize.ShloMosaic.Lib.Claim

/-! The frame claims of the final norm and the loss, and of their reference. -/

@[expose] public section

noncomputable section

namespace Cert.Proof

open Idealize.ShloMosaic Idealize.ShloMosaic.Tactic Idealize.SL.Sem

theorem frame10_kernel : Cert.quiescent_Kernel10 := fun m ρ _ => Cert.Kernel10.Gen.frame m ρ
theorem frame10_ideal : Cert.quiescent_Kernel10Ideal := fun m ρ _ => Cert.Kernel10Ideal.Gen.frame m ρ

/-- The reference's run leaves its arguments, and it declares no semaphore. -/
theorem frame10_reference : Cert.quiescent_Reference10Ideal := fun m ρ _ =>
  (θ_run Cert.Reference10Ideal.defs _ _).mono (fun r h => ⟨fun c => (h c).2.2.2.2, sem_eq_zero_of_no_sems (by decide) r.2⟩)
    (Cert.Reference10Ideal.Value.run (F := Ideal) m ρ)

end Cert.Proof

end
-- ==== Proof.Algebraic10.lean ====
/-
  The final norm and the loss: the kernel's four results (the loss, the input's cotangent twice, the scale's
  cotangent), and the reference's.
-/
module

public import proofs.«01_k».proof.Defs
public import proofs.«01_k».proof.Proof.Gen.Kernel10Ideal.Value
public import proofs.«01_k».proof.Proof.Gen.Reference10Ideal.Run
public import proofs.«01_k».proof.Proof.Algebraic4
public import Idealize.ShloMosaic.Lib.Pointwise
public import Idealize.ShloMosaic.Lib.Pipeline.ValueKit
public import Idealize.ShloMosaic.Lib.Tactic
public import Idealize.ShloMosaic.Lib.Claim

@[expose] public section

set_option maxRecDepth 16384

noncomputable section

namespace Cert.Kernel10Ideal.Hand

open Cert.Kernel10Ideal.Gen
open Idealize.ShloMosaic Idealize.ShloMosaic.TcCoe Cert.Spec
open Idealize.ShloMosaic.Pipeline (Dat)

theorem hz : (![0, 0] : Fin 2 → Nat) = fun _ => 0 := funext fun a => by fin_cases a <;> rfl

section
variable (c : Dev nD) (i : grid0.Coords) (a1 : Memref sig .tc .vmem S256x1024 .f32) (h1 : a1.IsWhole) (a2 : Memref sig .tc .vmem S1x1024 .f32) (h2 : a2.IsWhole) (a3 : Memref sig .tc .vmem S256x1024 .f32) (h3 : a3.IsWhole) (a4 : Memref sig .tc .vmem S1x128 .f32) (h4 : a4.IsWhole) (a5 : Memref sig .tc .vmem S256x1024 .f32) (h5 : a5.IsWhole) (a6 : Memref sig .tc .vmem S256x1024 .bf16) (h6 : a6.IsWhole) (a7 : Memref sig .tc .vmem S1x1024 .f32) (h7 : a7.IsWhole)
  (x0 : Vec Ideal S256x1024 .f32) (x1 : Vec Ideal S1x1024 .f32) (x2 : Vec Ideal S256x1024 .f32) (xo3 : Vec Ideal S1x128 .f32) (xo6 : Vec Ideal S1x1024 .f32)

theorem out3_A (hc : cond0_0 i) : out0_A_3 (F := Ideal) c i a1 h1 a2 h2 a3 h3 a4 h4 a5 h5 a6 h6 a7 h7 hc x0 x1 x2 = k0_pay2 (k0_pay6 x0 x1 x2) (k0_pay11 (F := Ideal)) := by
  unfold out0_A_3
  rw [View.read_writes_eq_canon _ _ _ (cover0_A_3 c i a1 h1 a2 h2 a3 h3 a4 h4 a5 h5 a6 h6 a7 h7 hc x0 x1 x2)]
  unfold kernelRun0_A
  dsimp only
  sl_unfold_words
  simp only [View.canon_cons_unit_zero (S := S1x128) hz, View.readCov_unit_zero (S := S1x1024) _ hz, View.readCov_unit_zero (S := S1x128) _ hz, View.readAt_eq_ld,
    h1.read_unread, h2.read_unread, h3.read_unread, h4.read_unread, h7.read_unread,
    View.ld_unit_zero (S := S256x1024) hz, View.ld_unit_zero (S := S1x1024) hz, View.ld_unit_zero (S := S1x128) hz]
theorem out4_A (hc : cond0_0 i) : out0_A_4 (F := Ideal) c i a1 h1 a2 h2 a3 h3 a4 h4 a5 h5 a6 h6 a7 h7 hc x0 x1 x2 = k0_pay8 x0 x1 x2 := by
  unfold out0_A_4
  rw [View.read_writes_eq_canon _ _ _ (cover0_A_4 c i a1 h1 a2 h2 a3 h3 a4 h4 a5 h5 a6 h6 a7 h7 hc x0 x1 x2)]
  unfold kernelRun0_A
  dsimp only
  sl_unfold_words
  simp only [View.canon_cons_unit_zero (S := S256x1024) hz, View.readCov_unit_zero (S := S1x1024) _ hz, View.readCov_unit_zero (S := S1x128) _ hz, View.readAt_eq_ld,
    h1.read_unread, h2.read_unread, h3.read_unread, h4.read_unread, h7.read_unread,
    View.ld_unit_zero (S := S256x1024) hz, View.ld_unit_zero (S := S1x1024) hz, View.ld_unit_zero (S := S1x128) hz]
theorem out5_A (hc : cond0_0 i) : out0_A_5 (F := Ideal) c i a1 h1 a2 h2 a3 h3 a4 h4 a5 h5 a6 h6 a7 h7 hc x0 x1 x2 = k0_pay9 x0 x1 x2 := by
  unfold out0_A_5
  rw [View.read_writes_eq_canon _ _ _ (cover0_A_5 c i a1 h1 a2 h2 a3 h3 a4 h4 a5 h5 a6 h6 a7 h7 hc x0 x1 x2)]
  unfold kernelRun0_A
  dsimp only
  sl_unfold_words
  simp only [View.canon_cons_unit_zero (S := S256x1024) hz, View.readCov_unit_zero (S := S1x1024) _ hz, View.readCov_unit_zero (S := S1x128) _ hz, View.readAt_eq_ld,
    h1.read_unread, h2.read_unread, h3.read_unread, h4.read_unread, h7.read_unread,
    View.ld_unit_zero (S := S256x1024) hz, View.ld_unit_zero (S := S1x1024) hz, View.ld_unit_zero (S := S1x128) hz]
theorem out6_A (hc : cond0_0 i) : out0_A_6 (F := Ideal) c i a1 h1 a2 h2 a3 h3 a4 h4 a5 h5 a6 h6 a7 h7 hc x0 x1 x2 = k0_pay1 (k0_pay5 x0) (k0_pay7 x0 x1 x2) (k0_pay10 (F := Ideal)) := by
  unfold out0_A_6
  rw [View.read_writes_eq_canon _ _ _ (cover0_A_6 c i a1 h1 a2 h2 a3 h3 a4 h4 a5 h5 a6 h6 a7 h7 hc x0 x1 x2)]
  unfold kernelRun0_A
  dsimp only
  sl_unfold_words
  simp only [View.canon_cons_unit_zero (S := S1x1024) hz, View.readCov_unit_zero (S := S1x1024) _ hz, View.readCov_unit_zero (S := S1x128) _ hz, View.readAt_eq_ld,
    h1.read_unread, h2.read_unread, h3.read_unread, h4.read_unread, h7.read_unread,
    View.ld_unit_zero (S := S256x1024) hz, View.ld_unit_zero (S := S1x1024) hz, View.ld_unit_zero (S := S1x128) hz]
theorem out3_B (hc : ¬cond0_0 i) : out0_B_3 (F := Ideal) c i a1 h1 a2 h2 a3 h3 a4 h4 a5 h5 a6 h6 a7 h7 hc x0 x1 x2 xo3 xo6 = k0_pay2 (k0_pay6 x0 x1 x2) xo3 := by
  unfold out0_B_3
  rw [View.read_writes_eq_canon _ _ _ (cover0_B_3 c i a1 h1 a2 h2 a3 h3 a4 h4 a5 h5 a6 h6 a7 h7 hc x0 x1 x2 xo3 xo6)]
  unfold kernelRun0_B
  dsimp only
  sl_unfold_words
  simp only [View.canon_cons_unit_zero (S := S1x128) hz, View.readCov_unit_zero (S := S1x1024) _ hz, View.readCov_unit_zero (S := S1x128) _ hz, View.readAt_eq_ld,
    h1.read_unread, h2.read_unread, h3.read_unread, h4.read_unread, h7.read_unread,
    View.ld_unit_zero (S := S256x1024) hz, View.ld_unit_zero (S := S1x1024) hz, View.ld_unit_zero (S := S1x128) hz]
theorem out4_B (hc : ¬cond0_0 i) : out0_B_4 (F := Ideal) c i a1 h1 a2 h2 a3 h3 a4 h4 a5 h5 a6 h6 a7 h7 hc x0 x1 x2 xo3 xo6 = k0_pay8 x0 x1 x2 := by
  unfold out0_B_4
  rw [View.read_writes_eq_canon _ _ _ (cover0_B_4 c i a1 h1 a2 h2 a3 h3 a4 h4 a5 h5 a6 h6 a7 h7 hc x0 x1 x2 xo3 xo6)]
  unfold kernelRun0_B
  dsimp only
  sl_unfold_words
  simp only [View.canon_cons_unit_zero (S := S256x1024) hz, View.readCov_unit_zero (S := S1x1024) _ hz, View.readCov_unit_zero (S := S1x128) _ hz, View.readAt_eq_ld,
    h1.read_unread, h2.read_unread, h3.read_unread, h4.read_unread, h7.read_unread,
    View.ld_unit_zero (S := S256x1024) hz, View.ld_unit_zero (S := S1x1024) hz, View.ld_unit_zero (S := S1x128) hz]
theorem out5_B (hc : ¬cond0_0 i) : out0_B_5 (F := Ideal) c i a1 h1 a2 h2 a3 h3 a4 h4 a5 h5 a6 h6 a7 h7 hc x0 x1 x2 xo3 xo6 = k0_pay9 x0 x1 x2 := by
  unfold out0_B_5
  rw [View.read_writes_eq_canon _ _ _ (cover0_B_5 c i a1 h1 a2 h2 a3 h3 a4 h4 a5 h5 a6 h6 a7 h7 hc x0 x1 x2 xo3 xo6)]
  unfold kernelRun0_B
  dsimp only
  sl_unfold_words
  simp only [View.canon_cons_unit_zero (S := S256x1024) hz, View.readCov_unit_zero (S := S1x1024) _ hz, View.readCov_unit_zero (S := S1x128) _ hz, View.readAt_eq_ld,
    h1.read_unread, h2.read_unread, h3.read_unread, h4.read_unread, h7.read_unread,
    View.ld_unit_zero (S := S256x1024) hz, View.ld_unit_zero (S := S1x1024) hz, View.ld_unit_zero (S := S1x128) hz]
theorem out6_B (hc : ¬cond0_0 i) : out0_B_6 (F := Ideal) c i a1 h1 a2 h2 a3 h3 a4 h4 a5 h5 a6 h6 a7 h7 hc x0 x1 x2 xo3 xo6 = k0_pay1 (k0_pay5 x0) (k0_pay7 x0 x1 x2) xo6 := by
  unfold out0_B_6
  rw [View.read_writes_eq_canon _ _ _ (cover0_B_6 c i a1 h1 a2 h2 a3 h3 a4 h4 a5 h5 a6 h6 a7 h7 hc x0 x1 x2 xo3 xo6)]
  unfold kernelRun0_B
  dsimp only
  sl_unfold_words
  simp only [View.canon_cons_unit_zero (S := S1x1024) hz, View.readCov_unit_zero (S := S1x1024) _ hz, View.readCov_unit_zero (S := S1x128) _ hz, View.readAt_eq_ld,
    h1.read_unread, h2.read_unread, h3.read_unread, h4.read_unread, h7.read_unread,
    View.ld_unit_zero (S := S256x1024) hz, View.ld_unit_zero (S := S1x1024) hz, View.ld_unit_zero (S := S1x128) hz]
end

variable (m : (ℓ : Loc nD τ sig) → Buf (Elt Ideal) ℓ) (c : Dev nD)

def kX : FVec Ideal S2048x1024 .f32 := m ((c.tc : Thread nD τ).loc main_arg0)
def kN : FVec Ideal S1024 .f32 := m ((c.tc : Thread nD τ).loc main_arg1)
def kT : FVec Ideal S2048x1024 .f32 := m ((c.tc : Thread nD τ).loc main_arg2)

theorem V0 : V m c main_v0 = shapeCast S1x1024 (kN m c) shapeCasts_S1024_S1x1024 := by entry_read; rfl

theorem idx (t : Fin cfg0.N) : win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0]) t

theorem N_lt (t : Fin cfg0.N) : t.val < 8 := lt_of_lt_of_eq t.isLt (show cfg0.N = 8 from N_0)
/-- Row `r` of a row tile. -/
def row (p : Fin 8) (r : Fin 256) : Fin 2048 := ⟨p.val * 256 + r.val, by omega⟩
/-- A grid point's row tile. -/
def pt (t : Fin cfg0.N) : Fin 8 := ⟨t.val, N_lt t⟩

theorem b0 (t : Fin cfg0.N) (r : Fin 256) (k : Fin 1024) :
    (show FVec Ideal S256x1024 .f32 from iblk m c 0 t) (ix2 r k) = kX m c (ix2 (row (pt t) r) k) := by
  have e : (show FVec Ideal S256x1024 .f32 from iblk m c 0 t) (ix2 r k)
      = (show FVec Ideal S2048x1024 .f32 from V m c main_arg0) (ix2 (row (pt t) r) k) := by
    blk_ext [iblk, idx t]
    all_goals simp only [row, pt]
  rw [e, V_main_arg0]; rfl
theorem b1 (t : Fin cfg0.N) (k : Fin 1024) :
    (show FVec Ideal S1x1024 .f32 from iblk m c 1 t) (ix2 0 k) = kN m c (ix1 k) := by
  have e : (show FVec Ideal S1x1024 .f32 from iblk m c 1 t) (ix2 0 k)
      = (show FVec Ideal S1x1024 .f32 from V m c main_v0) (ix2 0 k) := by
    blk_ext [iblk, idx t]
  rw [e, V0]
  show shapeCast S1x1024 (kN m c) shapeCasts_S1024_S1x1024 (ix2 0 k) = kN m c (ix1 k)
  pointwise
theorem b2 (t : Fin cfg0.N) (r : Fin 256) (k : Fin 1024) :
    (show FVec Ideal S256x1024 .f32 from iblk m c 2 t) (ix2 r k) = kT m c (ix2 (row (pt t) r) k) := by
  have e : (show FVec Ideal S256x1024 .f32 from iblk m c 2 t) (ix2 r k)
      = (show FVec Ideal S2048x1024 .f32 from V m c main_arg2) (ix2 (row (pt t) r) k) := by
    blk_ext [iblk, idx t]
    all_goals simp only [row, pt]
  rw [e, V_main_arg2]; rfl

theorem cMean : Ideal.ofBits .f32 0x3A800000#32 = ((1 / 1024 : ℝ) : EReal) := by
  simp [Ideal.ofBits, Ideal.ieee, -EReal.coe_mul]; norm_num
theorem cHalfMean : Ideal.ofBits .f32 0x3A000000#32 = ((1 / 2048 : ℝ) : EReal) := by
  simp [Ideal.ofBits, Ideal.ieee, -EReal.coe_mul]; norm_num
theorem cZero : Ideal.ofBits .f32 0x00000000#32 = (0 : EReal) := by
  simp [Ideal.ofBits, Ideal.ieee]

/-- The reciprocal root of a row's mean square. -/
def rt (x : Fin 1024 → EReal) : EReal := Ideal.rsqrt (Back.ms 1024 eps x)

section point
variable (v0 : FVec Ideal S256x1024 .f32) (v1 : FVec Ideal S1x1024 .f32) (v15 : FVec Ideal S256x1024 .f32) (r : Fin 256) (k : Fin 1024)

theorem pay4_at : k0_pay4 (F := Ideal) v0 (ix2 r 0) = rt fun l : Fin 1024 => v0 (ix2 r l) := by
  pointwise [k0_pay4, c1024, cEps, rt, Back.ms]
theorem pay5_at : k0_pay5 (F := Ideal) v0 (ix2 r k) = v0 (ix2 r k) * rt fun l : Fin 1024 => v0 (ix2 r l) := by
  pointwise [k0_pay5, pay4_at]
theorem pay6_at : k0_pay6 (F := Ideal) v0 v1 v15 (ix2 r k) = v0 (ix2 r k) * (rt fun l : Fin 1024 => v0 (ix2 r l)) * v1 (ix2 0 k) - v15 (ix2 r k) := by
  pointwise [k0_pay6, k0_pay3, pay5_at]
theorem pay7_at : k0_pay7 (F := Ideal) v0 v1 v15 (ix2 r k) = k0_pay6 (F := Ideal) v0 v1 v15 (ix2 r k) * ((1 / 1024 : ℝ) : EReal) := by
  pointwise [k0_pay7, cMean]
theorem pay8_at : k0_pay8 (F := Ideal) v0 v1 v15 (ix2 r k)
    = (rt fun l : Fin 1024 => v0 (ix2 r l))
        * (k0_pay7 (F := Ideal) v0 v1 v15 (ix2 r k) * v1 (ix2 0 k)
          - v0 (ix2 r k) * (rt fun l : Fin 1024 => v0 (ix2 r l))
            * Back.mean 1024 eps (fun l : Fin 1024 => v0 (ix2 r l)) (fun l : Fin 1024 => k0_pay7 (F := Ideal) v0 v1 v15 (ix2 r l) * v1 (ix2 0 l))) := by
  pointwise [k0_pay8, k0_pay3, pay4_at, pay5_at, c1024, Back.mean, rt]
theorem pay1_at (v12 v18 : FVec Ideal S256x1024 .f32) (y : FVec Ideal S1x1024 .f32) :
    k0_pay1 (F := Ideal) v12 v18 y (ix2 0 k) = y (ix2 0 k) + ∑ r : Fin 256, v18 (ix2 r k) * v12 (ix2 r k) := by
  pointwise [k0_pay1]
theorem pay2_at (v16 : FVec Ideal S256x1024 .f32) (y : FVec Ideal S1x128 .f32) (j : Fin 128) :
    k0_pay2 (F := Ideal) v16 y (ix2 0 j) = y (ix2 0 j) + ∑ r : Fin 256, (∑ k : Fin 1024, v16 (ix2 r k) * v16 (ix2 r k)) * ((1 / 2048 : ℝ) : EReal) := by
  pointwise [k0_pay2, cHalfMean]
theorem pay10_at : k0_pay10 (F := Ideal) (ix2 0 k) = 0 := by pointwise [k0_pay10]
theorem pay11_at (j : Fin 128) : k0_pay11 (F := Ideal) (ix2 0 j) = 0 := by pointwise [k0_pay11]
end point

/-- A row of the input. -/
def tX (r : Fin 2048) (k : Fin 1024) : EReal := kX m c (ix2 r k)
/-- The difference of the normalised row and the target, at one index. -/
def tE (r : Fin 2048) (k : Fin 1024) : EReal := tX m c r k * rt (tX m c r) * kN m c (ix1 k) - kT m c (ix2 r k)
/-- The cotangent of the normalised rows, and that through the scale. -/
def tA (r : Fin 2048) (k : Fin 1024) : EReal := tE m c r k * ((1 / 1024 : ℝ) : EReal)
def tDn (r : Fin 2048) (k : Fin 1024) : EReal := tA m c r k * kN m c (ix1 k)
/-- The input's cotangent at one index. -/
def tDx (r : Fin 2048) (k : Fin 1024) : EReal :=
  rt (tX m c r) * (tDn m c r k - tX m c r k * rt (tX m c r) * Back.mean 1024 eps (tX m c r) (tDn m c r))
/-- A row's share of the scale's cotangent at one index, and of the loss. -/
def tG (k : Fin 1024) (r : Fin 2048) : EReal := tA m c r k * (tX m c r k * rt (tX m c r))
def tL (r : Fin 2048) : EReal := (∑ k : Fin 1024, tE m c r k * tE m c r k) * ((1 / 2048 : ℝ) : EReal)

theorem rowX (t : Fin cfg0.N) (r : Fin 256) : (fun l : Fin 1024 => (show FVec Ideal S256x1024 .f32 from iblk m c 0 t) (ix2 r l)) = tX m c (row (pt t) r) :=
  funext fun l => b0 m c t r l
theorem nx_at (t : Fin cfg0.N) (r : Fin 256) (k : Fin 1024) :
    k0_pay5 (F := Ideal) (iblk m c 0 t) (ix2 r k) = tX m c (row (pt t) r) k * rt (tX m c (row (pt t) r)) :=
  (pay5_at _ r k).trans (congrArg₂ (· * ·) (b0 m c t r k) (congrArg rt (rowX m c t r)))
theorem err_at (t : Fin cfg0.N) (r : Fin 256) (k : Fin 1024) :
    k0_pay6 (F := Ideal) (iblk m c 0 t) (iblk m c 1 t) (iblk m c 2 t) (ix2 r k) = tE m c (row (pt t) r) k :=
  (pay6_at _ _ _ r k).trans (congrArg₂ (· - ·) (congrArg₂ (· * ·) (congrArg₂ (· * ·) (b0 m c t r k) (congrArg rt (rowX m c t r))) (b1 m c t k)) (b2 m c t r k))
theorem a_at (t : Fin cfg0.N) (r : Fin 256) (k : Fin 1024) :
    k0_pay7 (F := Ideal) (iblk m c 0 t) (iblk m c 1 t) (iblk m c 2 t) (ix2 r k) = tA m c (row (pt t) r) k :=
  (pay7_at _ _ _ r k).trans (congrArg (· * _) (err_at m c t r k))
theorem dx_at (t : Fin cfg0.N) (r : Fin 256) (k : Fin 1024) :
    k0_pay8 (F := Ideal) (iblk m c 0 t) (iblk m c 1 t) (iblk m c 2 t) (ix2 r k) = tDx m c (row (pt t) r) k := by
  refine (pay8_at _ _ _ r k).trans ?_
  have hd : (fun l : Fin 1024 => k0_pay7 (F := Ideal) (iblk m c 0 t) (iblk m c 1 t) (iblk m c 2 t) (ix2 r l)
      * (show FVec Ideal S1x1024 .f32 from iblk m c 1 t) (ix2 0 l)) = tDn m c (row (pt t) r) :=
    funext fun l => congrArg₂ (· * ·) (a_at m c t r l) (b1 m c t l)
  exact congrArg₂ (· * ·) (congrArg rt (rowX m c t r))
    (congrArg₂ (· - ·) (congrFun hd k) (congrArg₂ (· * ·)
      (congrArg₂ (· * ·) (b0 m c t r k) (congrArg rt (rowX m c t r)))
      (congrArg₂ (Back.mean 1024 eps) (rowX m c t r) hd)))

/-- The sum over the first `n` tiles of a quantity of the rows. -/
def upto (f : Fin 2048 → EReal) (n : ℕ) : EReal := ∑ p ∈ Finset.range n, if h : p < 8 then ∑ r : Fin 256, f (row ⟨p, h⟩ r) else 0
theorem upto_succ (f : Fin 2048 → EReal) (t : Fin cfg0.N) : upto f (t.val + 1) = upto f t.val + ∑ r : Fin 256, f (row (pt t) r) := by
  unfold upto
  rw [Finset.sum_range_succ, dif_pos (N_lt t)]
  rfl
theorem upto_all (f : Fin 2048 → EReal) : upto f 8 = ∑ r : Fin 2048, f r := by
  unfold upto
  rw [Finset.sum_range, Fin.sum_univ_tiles 8 256 rfl f]
  exact Finset.sum_congr rfl fun p _ => dif_pos p.isLt

theorem part6 (t : Fin cfg0.N) (k : Fin 1024) :
    (∑ r : Fin 256, k0_pay7 (F := Ideal) (iblk m c 0 t) (iblk m c 1 t) (iblk m c 2 t) (ix2 r k) * k0_pay5 (F := Ideal) (iblk m c 0 t) (ix2 r k))
      = ∑ r : Fin 256, tG m c k (row (pt t) r) :=
  Finset.sum_congr rfl fun r _ => congrArg₂ (· * ·) (a_at m c t r k) (nx_at m c t r k)
theorem part3 (t : Fin cfg0.N) :
    (∑ r : Fin 256, (∑ k : Fin 1024, k0_pay6 (F := Ideal) (iblk m c 0 t) (iblk m c 1 t) (iblk m c 2 t) (ix2 r k)
      * k0_pay6 (F := Ideal) (iblk m c 0 t) (iblk m c 1 t) (iblk m c 2 t) (ix2 r k)) * ((1 / 2048 : ℝ) : EReal))
      = ∑ r : Fin 256, tL m c (row (pt t) r) :=
  Finset.sum_congr rfl fun r _ => congrArg (· * _) (Finset.sum_congr rfl fun k _ => congrArg₂ (· * ·) (err_at m c t r k) (err_at m c t r k))

/-- What a point leaves in the two running sums, of what the point before left. -/
theorem at_A (t : Fin cfg0.N) (h : t.val = 0) : (outsAt0 m c t.val t.isLt).1 = k0_pay2 (k0_pay6 (iblk m c 0 t) (iblk m c 1 t) (iblk m c 2 t)) (k0_pay11 (F := Ideal))
    ∧ (outsAt0 m c t.val t.isLt).2.2.2 = k0_pay1 (k0_pay5 (iblk m c 0 t)) (k0_pay7 (iblk m c 0 t) (iblk m c 1 t) (iblk m c 2 t)) (k0_pay10 (F := Ideal)) := by
  rw [outsAt0_A m c t (by rw [h])]
  dsimp only
  rw [out3_A, out6_A]
  exact ⟨rfl, rfl⟩
theorem at_B (t : Fin cfg0.N) (h : t.val ≠ 0) : (outsAt0 m c t.val t.isLt).1
      = k0_pay2 (k0_pay6 (iblk m c 0 t) (iblk m c 1 t) (iblk m c 2 t)) (outsAt0 m c (t.val - 1) (Nat.lt_of_le_of_lt (Nat.sub_le _ _) t.isLt)).1
    ∧ (outsAt0 m c t.val t.isLt).2.2.2 = k0_pay1 (k0_pay5 (iblk m c 0 t)) (k0_pay7 (iblk m c 0 t) (iblk m c 1 t) (iblk m c 2 t))
        (outsAt0 m c (t.val - 1) (Nat.lt_of_le_of_lt (Nat.sub_le _ _) t.isLt)).2.2.2 := by
  rw [outsAt0_B m c t (by have := N_lt t; omega)]
  dsimp only
  rw [out3_B, out6_B]
  exact ⟨rfl, rfl⟩
theorem at4 (t : Fin cfg0.N) : (outsAt0 m c t.val t.isLt).2.1 = k0_pay8 (iblk m c 0 t) (iblk m c 1 t) (iblk m c 2 t) := by
  by_cases h : t.val % 8 = 0
  · rw [outsAt0_A m c t h]; dsimp only; rw [out4_A]
  · rw [outsAt0_B m c t h]; dsimp only; rw [out4_B]
theorem at5 (t : Fin cfg0.N) : (outsAt0 m c t.val t.isLt).2.2.1 = k0_pay9 (iblk m c 0 t) (iblk m c 1 t) (iblk m c 2 t) := by
  by_cases h : t.val % 8 = 0
  · rw [outsAt0_A m c t h]; dsimp only; rw [out5_A]
  · rw [outsAt0_B m c t h]; dsimp only; rw [out5_B]

theorem sums (n : ℕ) (hn : n < cfg0.N) : (∀ j : Fin 128, (outsAt0 m c n hn).1 (ix2 0 j) = upto (tL m c) (n + 1))
    ∧ (∀ k : Fin 1024, (outsAt0 m c n hn).2.2.2 (ix2 0 k) = upto (tG m c k) (n + 1)) := by
  induction n with
  | zero =>
    have h := at_A m c ⟨0, hn⟩ rfl
    refine ⟨fun j => ?_, fun k => ?_⟩
    · refine (congrFun h.1 (ix2 0 j)).trans ((pay2_at _ _ j).trans ?_)
      rw [upto_succ _ ⟨0, hn⟩]
      exact congrArg₂ (· + ·) (pay11_at j) (part3 m c ⟨0, hn⟩)
    · refine (congrFun h.2 (ix2 0 k)).trans ((pay1_at k _ _ _).trans ?_)
      rw [upto_succ _ ⟨0, hn⟩]
      exact congrArg₂ (· + ·) (pay10_at k) (part6 m c ⟨0, hn⟩ k)
  | succ n ih =>
    have h := at_B m c ⟨n + 1, hn⟩ (Nat.succ_ne_zero n)
    have ih := ih (Nat.lt_of_succ_lt hn)
    refine ⟨fun j => ?_, fun k => ?_⟩
    · refine (congrFun h.1 (ix2 0 j)).trans ((pay2_at _ _ j).trans ?_)
      rw [upto_succ _ ⟨n + 1, hn⟩]
      exact congrArg₂ (· + ·) (ih.1 j) (part3 m c ⟨n + 1, hn⟩)
    · refine (congrFun h.2 (ix2 0 k)).trans ((pay1_at k _ _ _).trans ?_)
      rw [upto_succ _ ⟨n + 1, hn⟩]
      exact congrArg₂ (· + ·) (ih.2 k) (part6 m c ⟨n + 1, hn⟩ k)

theorem emb4 (t : Fin cfg0.N) (r : Fin 256) (k : Fin 1024) : (win0_4.blk t).view.emb (ix2 r k) = (ix2 (row (pt t) r) k : S2048x1024.Idx) := by
  blk_ext [idx t]
  all_goals simp only [row, pt]
theorem blk4 (t : Fin cfg0.N) (y : S256x1024.Idx) : k0_pay8 (F := Ideal) (iblk m c 0 t) (iblk m c 1 t) (iblk m c 2 t) y
      = tDx m c ((win0_4.blk t).view.emb y 0) ((win0_4.blk t).view.emb y 1) := by
  rw [eq_ix2 (n0 := 256) (n1 := 1024) y, emb4 t (y 0) (y 1)]
  exact dx_at m c t (y 0) (y 1)
theorem final4 : (dats m 0 c).arrAt 4 cfg0.N = (fun z : S2048x1024.Idx => tDx m c (z 0) (z 1)) := by
  refine (dats m 0 c).arrAt_eq_of_covers 4 _ (by decide +kernel) fun t hf y => ?_
  blk_simp
  rw [after0_4, at4]
  exact blk4 m c t y

theorem emb5 (t : Fin cfg0.N) (r : Fin 256) (k : Fin 1024) : (win0_5.blk t).view.emb (ix2 r k) = (ix2 (row (pt t) r) k : S2048x1024.Idx) := by
  blk_ext [idx t]
  all_goals simp only [row, pt]
theorem blk5 (t : Fin cfg0.N) (y : S256x1024.Idx) : k0_pay9 (F := Ideal) (iblk m c 0 t) (iblk m c 1 t) (iblk m c 2 t) y
      = tDx m c ((win0_5.blk t).view.emb y 0) ((win0_5.blk t).view.emb y 1) := by
  rw [eq_ix2 (n0 := 256) (n1 := 1024) y, emb5 t (y 0) (y 1)]
  exact dx_at m c t (y 0) (y 1)
theorem final5 : (dats m 0 c).arrAt 5 cfg0.N = (fun z : S2048x1024.Idx => tDx m c (z 0) (z 1)) := by
  refine (dats m 0 c).arrAt_eq_of_covers 5 _ (by decide +kernel) fun t hf y => ?_
  blk_simp
  rw [after0_5, at5]
  exact blk5 m c t y

/-- The scale's array, and the loss's, end at the running sum after the last point. -/
theorem arr6 (g : Fin 1024 → EReal) (hg : ∀ t : Fin cfg0.N, t.val = 7 → ∀ k : Fin 1024, (outsAt0 m c t.val t.isLt).2.2.2 (ix2 0 k) = g k) :
    (dats m 0 c).arrAt 6 cfg0.N = (fun z : S1x1024.Idx => g (z 1)) := by
  refine (dats m 0 c).arrAt_eq_of_covers 6 _ (by decide +kernel) fun t hf y => ?_
  have h := (flush0_6 t).mp hf
  have hN := N_lt t
  blk_simp
  rw [after0_6]
  obtain ⟨k, rfl⟩ : ∃ (k : Fin 1024), y = (ix2 0 k : S1x1024.Idx) := ⟨y 1, by
    rw [eq_ix2 (n0 := 1) (n1 := 1024) y]; congr 1; exact Subsingleton.elim (α := Fin 1) _ _⟩
  have hX := hg t (by omega) k
  generalize (outsAt0 m c t.val t.isLt).2.2.2 = X at hX ⊢
  refine Eq.trans hX ?_
  have e : (win0_6.blk t).view.emb (ix2 0 k) = (ix2 0 k : S1x1024.Idx) := by
    blk_ext [idx t]
  exact congrArg (fun z : S1x1024.Idx => g (z 1)) e.symm
theorem final6 : (dats m 0 c).arrAt 6 cfg0.N = (fun z : S1x1024.Idx => ∑ r : Fin 2048, tG m c (z 1) r) :=
  arr6 m c (fun k => ∑ r : Fin 2048, tG m c k r) fun t ht k => by
    rw [(sums m c t.val t.isLt).2 k, show t.val + 1 = 8 by omega, upto_all]
theorem final3 : (dats m 0 c).arrAt 3 cfg0.N = (fun z : S1x128.Idx => ∑ r : Fin 2048, tL m c r) := by
  refine (dats m 0 c).arrAt_eq_of_covers 3 _ (by decide +kernel) fun t hf y => ?_
  have h := (flush0_3 t).mp hf
  have hN := N_lt t
  blk_simp
  rw [after0_3]
  obtain ⟨k, rfl⟩ : ∃ (k : Fin 128), y = (ix2 0 k : S1x128.Idx) := ⟨y 1, by
    rw [eq_ix2 (n0 := 1) (n1 := 128) y]; congr 1; exact Subsingleton.elim (α := Fin 1) _ _⟩
  have hX := (sums m c t.val t.isLt).1 k
  rw [show t.val + 1 = 8 by omega, upto_all] at hX
  generalize (outsAt0 m c t.val t.isLt).1 = X at hX ⊢
  exact hX

end Cert.Kernel10Ideal.Hand

namespace Cert.Proof

open Idealize.ShloMosaic Idealize.ShloMosaic.Tactic Idealize.SL.Sem Cert.Spec
open Cert.ReferenceIdeal.Hand (rMs rR rNx rN rH rDn rDnx rS rQ X2)

section
open Cert.Reference10Ideal Cert.Reference10Ideal.Gen
/-- The difference of the normalised rows and the target. -/
def rE10 (x : X2) (n : FVec Ideal S1024 .f32) (t : X2) : X2 := subf (rH x n) t
/-- The cotangent of the normalised rows. -/
def rA10 (x : X2) (n : FVec Ideal S1024 .f32) (t : X2) : X2 :=
  mulf (broadcastInDim S2048x1024 ![0] bcast_S2048_S2048x1024_0 (Host.divf
      (broadcastInDim S2048 ![] bcast_S_S2048 (mulf (constant S_ .f32 0x3F000000#32) (constant S_ .f32 0x3F800000#32)))
      (broadcastInDim S2048 ![] bcast_S_S2048 (constant S_ .f32 0x44800000#32))))
    (mulf (broadcastInDim S2048x1024 ![] bcast_S_S2048x1024 (constant S_ .f32 0x40000000#32)) (rE10 x n t))
def rDx10 (x d : X2) : X2 :=
  addf (addf (mulf d (broadcastInDim S2048x1024 ![0, 1] bcast_S2048x1_S2048x1024_0_1 (rR x))) (mulf x (rQ x d))) (mulf (rQ x d) x)
def rL10 (e : X2) : FVec Ideal S1x128 .f32 :=
  broadcastInDim S1x128 ![] bcast_S_S1x128 (mulf (constant S_ .f32 0x3F000000#32) (Host.reduceAdd (Host.divf
      (Host.reduceAdd (mulf e e) (constant S_ .f32 0x00000000#32) reducesTo_S2048x1024_S2048_d1 h_S_)
      (broadcastInDim S2048 ![] bcast_S_S2048 (constant S_ .f32 0x44800000#32))) (constant S_ .f32 0x00000000#32) reducesTo_S2048_S_d0 h_S_))

theorem cOne : Ideal.ofBits .f32 0x3F800000#32 = ((1 : ℝ) : EReal) := by
  simp [Ideal.ofBits, Ideal.ieee, -EReal.coe_mul]; norm_num
theorem cTwo : Ideal.ofBits .f32 0x40000000#32 = ((2 : ℝ) : EReal) := by
  simp [Ideal.ofBits, Ideal.ieee, -EReal.coe_mul]; norm_num

variable (x d : X2) (n : FVec Ideal S1024 .f32) (t : X2) (r : Fin 2048) (k : Fin 1024)
theorem rE10_at : rE10 x n t (ix2 r k)
    = x (ix2 r k) * Ideal.rsqrt (Back.ms 1024 eps fun l : Fin 1024 => x (ix2 r l)) * n (ix1 k) - t (ix2 r k) := by
  pointwise [rE10, rH, rNx, rN, rR_at]
theorem mean_two (e : EReal) : Ideal.div (((1 / 2 : ℝ) : EReal) * ((1 : ℝ) : EReal)) ((1024 : ℝ) : EReal) * (((2 : ℝ) : EReal) * e) = e * ((1 / 1024 : ℝ) : EReal) := by
  rw [← EReal.coe_mul, coe_div _ _ (by norm_num), ← mul_assoc, ← EReal.coe_mul, mul_comm e]
  congr 2
  norm_num
theorem rA10_at : rA10 x n t (ix2 r k) = rE10 x n t (ix2 r k) * ((1 / 1024 : ℝ) : EReal) := by
  refine Eq.trans ?_ (mean_two (rE10 x n t (ix2 r k)))
  pointwise [rA10, cHalf, cOne, cTwo, c1024]
theorem rDx10_at : rDx10 x d (ix2 r k) = Ideal.rsqrt (Back.ms 1024 eps fun l : Fin 1024 => x (ix2 r l))
      * (d (ix2 r k) - x (ix2 r k) * Ideal.rsqrt (Back.ms 1024 eps fun l : Fin 1024 => x (ix2 r l))
        * Back.mean 1024 eps (fun l : Fin 1024 => x (ix2 r l)) (fun l : Fin 1024 => d (ix2 r l))) := by
  refine Eq.trans ?_ (Back.back_zero 1024 eps (fun l : Fin 1024 => x (ix2 r l)) (fun l : Fin 1024 => d (ix2 r l)) (by norm_num) Back.eps_pos k)
  pointwise [rDx10, rQ_at, rR_at]
theorem rL10_at (e : X2) (j : Fin 128) : rL10 e (ix2 0 j) = ∑ r : Fin 2048, (∑ k : Fin 1024, e (ix2 r k) * e (ix2 r k)) * ((1 / 2048 : ℝ) : EReal) := by
  have h : ∀ s : EReal, ((1 / 2 : ℝ) : EReal) * Ideal.div s ((1024 : ℝ) : EReal) = s * ((1 / 2048 : ℝ) : EReal) := fun s => by
    rw [Ideal.div_coe (by norm_num), mul_left_comm, ← EReal.coe_mul]
    congr 2
    norm_num
  refine Eq.trans ?_ ((Back.pos_mul_sum (1 / 2) (by norm_num) fun r : Fin 2048 => Ideal.div (∑ k : Fin 1024, e (ix2 r k) * e (ix2 r k)) ((1024 : ℝ) : EReal)).trans
    (Finset.sum_congr rfl fun r _ => h _))
  pointwise [rL10, cHalf, c1024]
end

section
open Cert.Kernel10Ideal Cert.Kernel10Ideal.Hand
variable (m : (ℓ : Loc nD τ sig) → Buf (Elt Ideal) ℓ) (c : Dev nD)
theorem e10 (r : Fin 2048) (k : Fin 1024) : rE10 (kX m c) (kN m c) (kT m c) (ix2 r k) = tE m c r k := (rE10_at _ _ _ r k).trans rfl
theorem a10 (r : Fin 2048) (k : Fin 1024) : rA10 (kX m c) (kN m c) (kT m c) (ix2 r k) = tA m c r k :=
  (rA10_at _ _ _ r k).trans (congrArg (· * _) (e10 m c r k))
/-- The reference's input cotangent, of the arguments. -/
def rO10 (x : X2) (n : FVec Ideal ⟨1, ![1024]⟩ .f32) (t : X2) : X2 := rDx10 x (rDnx n (rA10 x n t))
theorem rO10_at (r : Fin 2048) (k : Fin 1024) : rO10 (kX m c) (kN m c) (kT m c) (ix2 r k) = tDx m c r k := by
  have hd : (fun l : Fin 1024 => rDnx (kN m c) (rA10 (kX m c) (kN m c) (kT m c)) (ix2 r l)) = tDn m c r := funext fun l => by
    rw [rDnx_at, a10]; rfl
  unfold rO10
  rw [rDx10_at, hd, show rDnx (kN m c) (rA10 (kX m c) (kN m c) (kT m c)) (ix2 r k) = tDn m c r k from congrFun hd k]
  rfl
theorem same10_0 : rL10 (rE10 (kX m c) (kN m c) (kT m c)) = (Cert.Kernel10Ideal.Gen.dats m 0 c).arrAt 3 cfg0.N := by
  rw [final3]; funext z
  obtain ⟨j, rfl⟩ : ∃ (j : Fin 128), z = (ix2 0 j : S1x128.Idx) := ⟨z 1, by
    rw [eq_ix2 (n0 := 1) (n1 := 128) z]; congr 1; exact Subsingleton.elim (α := Fin 1) _ _⟩
  refine (rL10_at _ j).trans ?_
  exact Finset.sum_congr rfl fun r _ => congrArg (· * _) (Finset.sum_congr rfl fun k _ => congrArg₂ (· * ·) (e10 m c r k) (e10 m c r k))
theorem same10_1 : rO10 (kX m c) (kN m c) (kT m c) = (Cert.Kernel10Ideal.Gen.dats m 0 c).arrAt 4 cfg0.N := by
  rw [final4]; funext z
  rw [eq_ix2 (n0 := 2048) (n1 := 1024) z]
  exact rO10_at m c (z 0) (z 1)
theorem same10_2 : truncf .bf16 (rO10 (kX m c) (kN m c) (kT m c)) Cert.Reference10Ideal.Gen.bitsLt_bf16_f32 = (Cert.Kernel10Ideal.Gen.dats m 0 c).arrAt 5 cfg0.N := by
  rw [final5]; funext z
  rw [eq_ix2 (n0 := 2048) (n1 := 1024) z]
  exact rO10_at m c (z 0) (z 1)
theorem same10_3 : rDn (kX m c) (rA10 (kX m c) (kN m c) (kT m c)) = (Cert.Kernel10Ideal.Gen.dats m 0 c).arrAt 6 cfg0.N := by
  rw [final6]; funext z
  obtain ⟨k, rfl⟩ : ∃ (k : Fin 1024), z = (ix2 0 k : S1x1024.Idx) := ⟨z 1, by
    rw [eq_ix2 (n0 := 1) (n1 := 1024) z]; congr 1; exact Subsingleton.elim (α := Fin 1) _ _⟩
  refine (rDn_at _ _ k).trans ?_
  exact Finset.sum_congr rfl fun r _ => congrArg (· * _) (a10 m c r k)
end

section
open Cert.Reference10Ideal
variable (m : (ℓ : Loc nD τ sig) → Buf (Elt Ideal) ℓ) (c : Dev nD)
theorem ref10_1 : Value.res_out1 m c = rO10 (m ((c.tc : Thread nD τ).loc main_arg0)) (m ((c.tc : Thread nD τ).loc main_arg1)) (m ((c.tc : Thread nD τ).loc main_arg2)) := by
  unfold Value.res_out1 Value.res_main_v50; rfl
theorem ref10_2 : Value.res_out2 m c = truncf .bf16 (rO10 (m ((c.tc : Thread nD τ).loc main_arg0)) (m ((c.tc : Thread nD τ).loc main_arg1))
    (m ((c.tc : Thread nD τ).loc main_arg2))) Gen.bitsLt_bf16_f32 := by
  unfold Value.res_out2 Value.res_main_v52; rfl
end

set_option maxHeartbeats 1600000 in
theorem algebraic10 : Cert.algebraic_Kernel10Ideal_Reference10Ideal := by
  pair_intro
  · have h := Cert.Kernel10Ideal.Value.run_blocks (F := Ideal) m g
    run_from h
  · refine (θ_run Cert.Reference10Ideal.defs _ _).mono (fun r h c => ?_) (Cert.Reference10Ideal.Value.run m' g')
    obtain ⟨r0, r1, r2, r3, ha⟩ := h c
    obtain ⟨h0, h1, h2⟩ := hagree c
    have r1 := r1.trans (ref10_1 m' c)
    have r2 := r2.trans (ref10_2 m' c)
    rw [h0, h1, h2] at r0 r1 r2 r3
    exact ⟨r0.trans (same10_0 m c), r1.trans (same10_1 m c), r2.trans (same10_2 m c), r3.trans (same10_3 m c), ha⟩

end Cert.Proof

end
-- ==== Proof.Frames11.lean ====
module

public import proofs.«01_k».proof.Defs
public import proofs.«01_k».proof.Proof.Gen.Kernel11.Frame
public import proofs.«01_k».proof.Proof.Gen.Kernel11Ideal.Frame
public import proofs.«01_k».proof.Proof.Gen.Reference11Ideal.Run
public import Idealize.ShloMosaic.Lib.Tactic
public import Idealize.ShloMosaic.Lib.Claim

/-! The frame claims of the scan's tail, and of its reference. -/

@[expose] public section

noncomputable section

namespace Cert.Proof

open Idealize.ShloMosaic Idealize.ShloMosaic.Tactic Idealize.SL.Sem

theorem frame11_kernel : Cert.quiescent_Kernel11 := fun m ρ _ => Cert.Kernel11.Gen.frame m ρ
theorem frame11_ideal : Cert.quiescent_Kernel11Ideal := fun m ρ _ => Cert.Kernel11Ideal.Gen.frame m ρ

/-- The reference's run leaves its arguments, and it declares no semaphore. -/
theorem frame11_reference : Cert.quiescent_Reference11Ideal := fun m ρ _ =>
  (θ_run Cert.Reference11Ideal.defs _ _).mono (fun r h => ⟨fun c => (h c).2.2.2, sem_eq_zero_of_no_sems (by decide) r.2⟩)
    (Cert.Reference11Ideal.Value.run (F := Ideal) m ρ)

end Cert.Proof

end
-- ==== Proof.Gate.lean ====
/-
  The scan's output gate, over the extended reals: the skipped input, its GELU and the linear unit's sigmoid, as
  the references print them and at one index.
-/
module

public import proofs.«01_k».proof.Proof.Gen.Reference11Ideal.Run
public import proofs.«01_k».proof.Proof.Spec
public import Idealize.ShloMosaic.Lib.Pointwise

@[expose] public section

set_option maxRecDepth 16384

noncomputable section

namespace Cert.Gate

open Cert.Reference11Ideal Cert.Reference11Ideal.Gen Idealize.ShloMosaic Idealize.ShloMosaic.TcCoe Cert.Spec

abbrev B2 := FVec Ideal S2048x512 .f32

abbrev half : EReal := Ideal.ofBits .f32 0x3F000000#32
abbrev one : EReal := Ideal.ofBits .f32 0x3F800000#32
abbrev cube : EReal := Ideal.ofBits .f32 0x3D372713#32
abbrev root : EReal := Ideal.ofBits .f32 0x3F4C422A#32

/-- The GELU's tanh form at one number. -/
def gl (v : EReal) : EReal := v * (half * (one + Ideal.tanh (root * (v + cube * ((v * v) * v)))))
/-- The sigmoid at one number. -/
def gsig (z : EReal) : EReal := Ideal.div one (one + Ideal.exp (-z))

/-- The kernels' order of the GELU's factors. -/
theorem gl_kernel (v : EReal) : (half * v) * (one + Ideal.tanh (root * (v + ((cube * v) * v) * v))) = gl v := by
  unfold gl
  rw [mul_comm half v, mul_assoc v half, mul_assoc (cube * v) v v, mul_assoc cube v (v * v), mul_assoc v v v]

/-- The scan's output with the skipped input. -/
def rY0 (p : FVec Ideal S2048x1280 .f32) (f b : B2) (d : FVec Ideal S512 .f32) : B2 :=
  addf (addf (mulf (broadcastInDim S2048x512 ![0, 1] bcast_S1x512_S2048x512_0_1 (broadcastInDim S1x512 ![1] bcast_S512_S1x512_1 d))
    (extractStridedSlice S2048x512 ![0, 768] p slices_S2048x1280_S2048x512_0_768)) f) b
/-- Its GELU. -/
def rY (v : B2) : B2 :=
  mulf v (mulf (broadcastInDim S2048x512 ![] bcast_S_S2048x512 (constant S_ .f32 0x3F000000#32))
    (addf (broadcastInDim S2048x512 ![] bcast_S_S2048x512 (constant S_ .f32 0x3F800000#32))
      (Host.tanh (mulf (broadcastInDim S2048x512 ![] bcast_S_S2048x512 (constant S_ .f32 0x3F4C422A#32))
        (addf v (mulf (broadcastInDim S2048x512 ![] bcast_S_S2048x512 (constant S_ .f32 0x3D372713#32)) (mulf (mulf v v) v)))))))
/-- The linear unit. -/
def rZ (y : B2) (w : FVec Ideal S512x512 .f32) (g : FVec Ideal S512 .f32) : B2 :=
  addf (Host.dotGeneral dot_S2048x512_S512x512_S2048x512_1_0_0_1_n_n none y w)
    (broadcastInDim S2048x512 ![0, 1] bcast_S1x512_S2048x512_0_1 (broadcastInDim S1x512 ![1] bcast_S512_S1x512_1 g))
/-- Its sigmoid. -/
def rSg (z : B2) : B2 :=
  Host.divf (broadcastInDim S2048x512 ![] bcast_S_S2048x512 (constant S_ .f32 0x3F800000#32))
    (addf (broadcastInDim S2048x512 ![] bcast_S_S2048x512 (constant S_ .f32 0x3F800000#32)) (Host.exp (Host.negf z)))

section
variable (p : FVec Ideal S2048x1280 .f32) (f b : B2) (d : FVec Ideal S512 .f32) (v y z : B2) (w : FVec Ideal S512x512 .f32) (g : FVec Ideal S512 .f32)
  (r : Fin 2048) (j : Fin 512)
theorem rY0_at : rY0 p f b d (ix2 r j) = d (ix1 j) * p (ix2 r ⟨768 + j.val, by omega⟩) + f (ix2 r j) + b (ix2 r j) := by
  have h : extractStridedSlice S2048x512 ![0, 768] p slices_S2048x1280_S2048x512_0_768 (ix2 r j) = p (ix2 r ⟨768 + j.val, by omega⟩) := by
    pointwise
  refine Eq.trans ?_ (congrArg (fun u => d (ix1 j) * u + f (ix2 r j) + b (ix2 r j)) h)
  pointwise [rY0]
theorem rY_at : rY v (ix2 r j) = gl (v (ix2 r j)) := by
  pointwise [rY, gl]
theorem rZ_at : rZ y w g (ix2 r j) = (∑ k : Fin 512, y (ix2 r k) * w (ix2 k j)) + g (ix1 j) := by
  pointwise [rZ]
theorem rSg_at : rSg z (ix2 r j) = gsig (z (ix2 r j)) := by
  pointwise [rSg, gsig]
end

end Cert.Gate

end
-- ==== Proof.Algebraic11.lean ====
/-
  The scan's output gate forward: the kernel's three results (the gated rows, the skipped input, the linear unit),
  and the reference's.
-/
module

public import proofs.«01_k».proof.Defs
public import proofs.«01_k».proof.Proof.Gen.Kernel11Ideal.Value
public import proofs.«01_k».proof.Proof.Gate
public import Idealize.ShloMosaic.Lib.Pointwise
public import Idealize.ShloMosaic.Lib.Pipeline.ValueKit
public import Idealize.ShloMosaic.Lib.Tactic
public import Idealize.ShloMosaic.Lib.Claim

@[expose] public section

set_option maxRecDepth 16384

noncomputable section

namespace Cert.Kernel11Ideal.Hand

open Cert.Kernel11Ideal.Gen
open Idealize.ShloMosaic Idealize.ShloMosaic.TcCoe Cert.Spec Cert.Gate
open Idealize.ShloMosaic.Pipeline (Dat)

theorem hz : (![0, 0] : Fin 2 → Nat) = fun _ => 0 := funext fun a => by fin_cases a <;> rfl

section
variable (x0 x1 : Vec Ideal S256x256 .f32) (x2 x3 : Vec Ideal S256x512 .f32) (x4 : Vec Ideal S1x512 .f32) (x5 : Vec Ideal S512x512 .bf16) (x6 : Vec Ideal S1x512 .f32)
/-- The body's last value, of the blocks. -/
def pS : FVec Ideal S256x512 .f32 := k0_pay1 (k0_pay3 x0 x1 x4 x2 x3) (k0_pay5 x0 x1 x4 x2 x3 x5 x6) (Scalar.ofBits .f32 0x3F800000#32)
theorem out7_eq : out0_7 (F := Ideal) x0 x1 x2 x3 x4 x5 x6 = pS x0 x1 x2 x3 x4 x5 x6 := by
  unfold out0_7 pS
  simp only [View.canon_cons_unit_zero (S := S256x512) hz, View.ld_unit_zero (S := S256x256) hz, View.ld_unit_zero (S := S256x512) hz,
    View.ld_unit_zero (S := S1x512) hz, View.ld_unit_zero (S := S512x512) hz]
theorem out8_eq : out0_8 (F := Ideal) x0 x1 x2 x3 x4 x5 x6 = k0_pay2 x0 x1 x4 x2 x3 := by
  unfold out0_8
  simp only [View.canon_cons_unit_zero (S := S256x512) hz, View.ld_unit_zero (S := S256x256) hz, View.ld_unit_zero (S := S256x512) hz,
    View.ld_unit_zero (S := S1x512) hz, View.ld_unit_zero (S := S512x512) hz]
theorem out9_eq : out0_9 (F := Ideal) x0 x1 x2 x3 x4 x5 x6 = k0_pay4 x0 x1 x4 x2 x3 x5 x6 := by
  unfold out0_9
  simp only [View.canon_cons_unit_zero (S := S256x512) hz, View.ld_unit_zero (S := S256x256) hz, View.ld_unit_zero (S := S256x512) hz,
    View.ld_unit_zero (S := S1x512) hz, View.ld_unit_zero (S := S512x512) hz]
end

variable (m : (ℓ : Loc nD τ sig) → Buf (Elt Ideal) ℓ) (c : Dev nD)

def kP : FVec Ideal S2048x1280 .f32 := m ((c.tc : Thread nD τ).loc main_arg0)
def kF : FVec Ideal S2048x512 .f32 := m ((c.tc : Thread nD τ).loc main_arg1)
def kB : FVec Ideal S2048x512 .f32 := m ((c.tc : Thread nD τ).loc main_arg2)
def kD : FVec Ideal S512 .f32 := m ((c.tc : Thread nD τ).loc main_arg3)
def kW : FVec Ideal S512x512 .f32 := m ((c.tc : Thread nD τ).loc main_arg4)
def kG : FVec Ideal S512 .f32 := m ((c.tc : Thread nD τ).loc main_arg5)

theorem V0 : V m c main_v0 = shapeCast S1x512 (kD m c) shapeCasts_S512_S1x512 := by entry_read; rfl
theorem V1 : V m c main_v1 = truncf .bf16 (kW m c) bitsLt_bf16_f32 := by entry_read; rfl
theorem V2 : V m c main_v2 = shapeCast S1x512 (kG m c) shapeCasts_S512_S1x512 := by entry_read; rfl

theorem idx (t : Fin cfg0.N) : win0_0.index t = ![t.val, 3]
    ∧ win0_1.index t = ![t.val, 4]
    ∧ win0_2.index t = ![t.val, 0]
    ∧ win0_3.index t = ![t.val, 0]
    ∧ win0_4.index t = ![0, 0]
    ∧ win0_5.index t = ![0, 0]
    ∧ win0_6.index t = ![0, 0]
    ∧ win0_7.index t = ![t.val, 0]
    ∧ win0_8.index t = ![t.val, 0]
    ∧ win0_9.index t = ![t.val, 0] :=
  (by decide +kernel : ∀ t : Fin grid0.N, win0_0.index t = ![t.val, 3]
    ∧ win0_1.index t = ![t.val, 4]
    ∧ win0_2.index t = ![t.val, 0]
    ∧ win0_3.index t = ![t.val, 0]
    ∧ win0_4.index t = ![0, 0]
    ∧ win0_5.index t = ![0, 0]
    ∧ win0_6.index t = ![0, 0]
    ∧ win0_7.index t = ![t.val, 0]
    ∧ win0_8.index t = ![t.val, 0]
    ∧ win0_9.index t = ![t.val, 0]) t

theorem N_lt (t : Fin cfg0.N) : t.val < 8 := lt_of_lt_of_eq t.isLt (show cfg0.N = 8 from N_0)
/-- Row `r` of a grid point's row tile. -/
def row (t : Fin cfg0.N) (r : Fin 256) : Fin 2048 := ⟨t.val * 256 + r.val, by have := N_lt t; omega⟩
/-- The scan's input column `j` of the projection. -/
def col (j : Fin 512) : Fin 1280 := ⟨768 + j.val, by omega⟩

theorem b0 (t : Fin cfg0.N) (r : Fin 256) (k : Fin 256) :
    (show FVec Ideal S256x256 .f32 from iblk m c 0 t) (ix2 r k) = kP m c (ix2 (row t r) (col ⟨k.val, by omega⟩)) := by
  have e : (show FVec Ideal S256x256 .f32 from iblk m c 0 t) (ix2 r k)
      = (show FVec Ideal S2048x1280 .f32 from V m c main_arg0) (ix2 (row t r) (col ⟨k.val, by omega⟩)) := by
    blk_ext [iblk, idx t]
    all_goals first | done | (simp only [row, col]; done) | (simp only [row, col]; omega)
  rw [e, V_main_arg0]; rfl
theorem b1 (t : Fin cfg0.N) (r : Fin 256) (k : Fin 256) :
    (show FVec Ideal S256x256 .f32 from iblk m c 1 t) (ix2 r k) = kP m c (ix2 (row t r) (col ⟨256 + k.val, by omega⟩)) := by
  have e : (show FVec Ideal S256x256 .f32 from iblk m c 1 t) (ix2 r k)
      = (show FVec Ideal S2048x1280 .f32 from V m c main_arg0) (ix2 (row t r) (col ⟨256 + k.val, by omega⟩)) := by
    blk_ext [iblk, idx t]
    all_goals first | done | (simp only [row, col]; done) | (simp only [row, col]; omega)
  rw [e, V_main_arg0]; rfl
theorem b2 (t : Fin cfg0.N) (r : Fin 256) (j : Fin 512) :
    (show FVec Ideal S256x512 .f32 from iblk m c 2 t) (ix2 r j) = kF m c (ix2 (row t r) j) := by
  have e : (show FVec Ideal S256x512 .f32 from iblk m c 2 t) (ix2 r j)
      = (show FVec Ideal S2048x512 .f32 from V m c main_arg1) (ix2 (row t r) j) := by
    blk_ext [iblk, idx t]
    all_goals simp only [row]
  rw [e, V_main_arg1]; rfl
theorem b3 (t : Fin cfg0.N) (r : Fin 256) (j : Fin 512) :
    (show FVec Ideal S256x512 .f32 from iblk m c 3 t) (ix2 r j) = kB m c (ix2 (row t r) j) := by
  have e : (show FVec Ideal S256x512 .f32 from iblk m c 3 t) (ix2 r j)
      = (show FVec Ideal S2048x512 .f32 from V m c main_arg2) (ix2 (row t r) j) := by
    blk_ext [iblk, idx t]
    all_goals simp only [row]
  rw [e, V_main_arg2]; rfl
theorem b4 (t : Fin cfg0.N) (k : Fin 512) :
    (show FVec Ideal S1x512 .f32 from iblk m c 4 t) (ix2 0 k) = kD m c (ix1 k) := by
  have e : (show FVec Ideal S1x512 .f32 from iblk m c 4 t) (ix2 0 k)
      = (show FVec Ideal S1x512 .f32 from V m c main_v0) (ix2 0 k) := by
    blk_ext [iblk, idx t]
  rw [e, V0]
  show shapeCast S1x512 (kD m c) shapeCasts_S512_S1x512 (ix2 0 k) = kD m c (ix1 k)
  pointwise
theorem b6 (t : Fin cfg0.N) (k : Fin 512) :
    (show FVec Ideal S1x512 .f32 from iblk m c 6 t) (ix2 0 k) = kG m c (ix1 k) := by
  have e : (show FVec Ideal S1x512 .f32 from iblk m c 6 t) (ix2 0 k)
      = (show FVec Ideal S1x512 .f32 from V m c main_v2) (ix2 0 k) := by
    blk_ext [iblk, idx t]
  rw [e, V2]
  show shapeCast S1x512 (kG m c) shapeCasts_S512_S1x512 (ix2 0 k) = kG m c (ix1 k)
  pointwise
theorem b5 (t : Fin cfg0.N) (k j : Fin 512) :
    (show FVec Ideal S512x512 .bf16 from iblk m c 5 t) (ix2 k j) = kW m c (ix2 k j) := by
  have e : (show FVec Ideal S512x512 .bf16 from iblk m c 5 t) (ix2 k j)
      = (show FVec Ideal S512x512 .bf16 from V m c main_v1) (ix2 k j) := by
    blk_ext [iblk, idx t]
  rw [e, V1]; rfl

/-- Two halves of a row side by side, read at one column. -/
theorem cat_at (v0 v1 : FVec Ideal S256x256 .f32) (u : Fin 512 → EReal) (r : Fin 256) (h0 : ∀ k : Fin 256, v0 (ix2 r k) = u ⟨k.val, by omega⟩)
    (h1 : ∀ k : Fin 256, v1 (ix2 r k) = u ⟨256 + k.val, by omega⟩) (j : Fin 512) :
    concatenate S256x512 1 [⟨S256x256, v0⟩, ⟨S256x256, v1⟩] concatenates_S256x256_S256x256_S256x512_d1 (ix2 r j) = u j := by
  by_cases h : j.val < 256
  · refine (concatenate_pair_apply_left (α := EReal) (t := S256x512) (s₁ := S256x256) (s₂ := S256x256) 1 v0 v1 _ _ rfl (ix2 r ⟨j.val, h⟩) ?_).trans (h0 _)
    intro b; fin_cases b <;> rfl
  · refine (concatenate_pair_apply_right (α := EReal) (t := S256x512) (s₁ := S256x256) (s₂ := S256x256) 1 v0 v1 _ _ rfl rfl (ix2 r ⟨j.val - 256, by omega⟩) ?_ ?_).trans
      ((h1 _).trans (congrArg u (Fin.ext ?_)))
    · intro b hb; fin_cases b
      · rfl
      · exact absurd rfl hb
    · show j.val - 256 + 256 = j.val
      omega
    · show 256 + (j.val - 256) = j.val
      omega

section point
variable (v0 v1 : FVec Ideal S256x256 .f32) (v3 : FVec Ideal S1x512 .f32) (v7 v9 : FVec Ideal S256x512 .f32) (v25 : FVec Ideal S512x512 .bf16) (v28 : FVec Ideal S1x512 .f32)
  (r : Fin 256) (j : Fin 512)
theorem pay2_at : k0_pay2 (F := Ideal) v0 v1 v3 v7 v9 (ix2 r j) = v3 (ix2 0 j)
    * concatenate S256x512 1 [⟨S256x256, v0⟩, ⟨S256x256, v1⟩] concatenates_S256x256_S256x256_S256x512_d1 (ix2 r j) + v7 (ix2 r j) + v9 (ix2 r j) := by
  pointwise [k0_pay2]
theorem pay3_at : k0_pay3 (F := Ideal) v0 v1 v3 v7 v9 (ix2 r j) = gl (k0_pay2 (F := Ideal) v0 v1 v3 v7 v9 (ix2 r j)) := by
  rw [← gl_kernel]
  pointwise [k0_pay3]
theorem pay4_at : k0_pay4 (F := Ideal) v0 v1 v3 v7 v9 v25 v28 (ix2 r j)
    = (∑ k : Fin 512, k0_pay3 (F := Ideal) v0 v1 v3 v7 v9 (ix2 r k) * v25 (ix2 k j)) + v28 (ix2 0 j) := by
  pointwise [k0_pay4]
theorem pS_at : pS v0 v1 v7 v9 v3 v25 v28 (ix2 r j)
    = k0_pay3 (F := Ideal) v0 v1 v3 v7 v9 (ix2 r j) * gsig (k0_pay4 (F := Ideal) v0 v1 v3 v7 v9 v25 v28 (ix2 r j)) := by
  unfold gsig
  rw [← zero_sub]
  pointwise [pS, k0_pay1, k0_pay5]
end point

/-- The skipped input, its GELU, the linear unit and the gated value at one index. -/
def tY0 (r : Fin 2048) (j : Fin 512) : EReal := kD m c (ix1 j) * kP m c (ix2 r (col j)) + kF m c (ix2 r j) + kB m c (ix2 r j)
def tZ (r : Fin 2048) (j : Fin 512) : EReal := (∑ k : Fin 512, gl (tY0 m c r k) * kW m c (ix2 k j)) + kG m c (ix1 j)
def tS (r : Fin 2048) (j : Fin 512) : EReal := gl (tY0 m c r j) * gsig (tZ m c r j)

theorem y0_at (t : Fin cfg0.N) (r : Fin 256) (j : Fin 512) :
    k0_pay2 (F := Ideal) (iblk m c 0 t) (iblk m c 1 t) (iblk m c 4 t) (iblk m c 2 t) (iblk m c 3 t) (ix2 r j) = tY0 m c (row t r) j :=
  (pay2_at _ _ _ _ _ r j).trans (congrArg₂ (· + ·) (congrArg₂ (· + ·) (congrArg₂ (· * ·) (b4 m c t j)
    (cat_at _ _ (fun j => kP m c (ix2 (row t r) (col j))) r (b0 m c t r) (b1 m c t r) j)) (b2 m c t r j)) (b3 m c t r j))
theorem y_at (t : Fin cfg0.N) (r : Fin 256) (j : Fin 512) :
    k0_pay3 (F := Ideal) (iblk m c 0 t) (iblk m c 1 t) (iblk m c 4 t) (iblk m c 2 t) (iblk m c 3 t) (ix2 r j) = gl (tY0 m c (row t r) j) :=
  (pay3_at _ _ _ _ _ r j).trans (congrArg gl (y0_at m c t r j))
theorem z_at (t : Fin cfg0.N) (r : Fin 256) (j : Fin 512) :
    k0_pay4 (F := Ideal) (iblk m c 0 t) (iblk m c 1 t) (iblk m c 4 t) (iblk m c 2 t) (iblk m c 3 t) (iblk m c 5 t) (iblk m c 6 t) (ix2 r j) = tZ m c (row t r) j :=
  (pay4_at _ _ _ _ _ _ _ r j).trans (congrArg₂ (· + ·) (Finset.sum_congr rfl fun k _ => congrArg₂ (· * ·) (y_at m c t r k) (b5 m c t k j)) (b6 m c t j))
theorem s_at (t : Fin cfg0.N) (r : Fin 256) (j : Fin 512) :
    pS (iblk m c 0 t) (iblk m c 1 t) (iblk m c 2 t) (iblk m c 3 t) (iblk m c 4 t) (iblk m c 5 t) (iblk m c 6 t) (ix2 r j) = tS m c (row t r) j :=
  (pS_at _ _ _ _ _ _ _ r j).trans (congrArg₂ (· * ·) (y_at m c t r j) (congrArg gsig (z_at m c t r j)))

theorem emb7 (t : Fin cfg0.N) (r : Fin 256) (j : Fin 512) : (win0_7.blk t).view.emb (ix2 r j) = (ix2 (row t r) j : S2048x512.Idx) := by
  blk_ext [idx t]
  all_goals simp only [row]
theorem blk7 (t : Fin cfg0.N) (y : S256x512.Idx) : pS (iblk m c 0 t) (iblk m c 1 t) (iblk m c 2 t) (iblk m c 3 t) (iblk m c 4 t) (iblk m c 5 t) (iblk m c 6 t) y
      = tS m c ((win0_7.blk t).view.emb y 0) ((win0_7.blk t).view.emb y 1) := by
  rw [eq_ix2 (n0 := 256) (n1 := 512) y, emb7 t (y 0) (y 1)]
  exact s_at m c t (y 0) (y 1)
theorem final7 : (dats m 0 c).arrAt 7 cfg0.N = (fun z : S2048x512.Idx => tS m c (z 0) (z 1)) := by
  refine (dats m 0 c).arrAt_eq_of_covers 7 _ (by decide +kernel) fun t hf y => ?_
  blk_simp
  rw [after0_7, out7_eq]
  exact blk7 m c t y

theorem emb8 (t : Fin cfg0.N) (r : Fin 256) (j : Fin 512) : (win0_8.blk t).view.emb (ix2 r j) = (ix2 (row t r) j : S2048x512.Idx) := by
  blk_ext [idx t]
  all_goals simp only [row]
theorem blk8 (t : Fin cfg0.N) (y : S256x512.Idx) : k0_pay2 (F := Ideal) (iblk m c 0 t) (iblk m c 1 t) (iblk m c 4 t) (iblk m c 2 t) (iblk m c 3 t) y
      = tY0 m c ((win0_8.blk t).view.emb y 0) ((win0_8.blk t).view.emb y 1) := by
  rw [eq_ix2 (n0 := 256) (n1 := 512) y, emb8 t (y 0) (y 1)]
  exact y0_at m c t (y 0) (y 1)
theorem final8 : (dats m 0 c).arrAt 8 cfg0.N = (fun z : S2048x512.Idx => tY0 m c (z 0) (z 1)) := by
  refine (dats m 0 c).arrAt_eq_of_covers 8 _ (by decide +kernel) fun t hf y => ?_
  blk_simp
  rw [after0_8, out8_eq]
  exact blk8 m c t y

theorem emb9 (t : Fin cfg0.N) (r : Fin 256) (j : Fin 512) : (win0_9.blk t).view.emb (ix2 r j) = (ix2 (row t r) j : S2048x512.Idx) := by
  blk_ext [idx t]
  all_goals simp only [row]
theorem blk9 (t : Fin cfg0.N) (y : S256x512.Idx) : k0_pay4 (F := Ideal) (iblk m c 0 t) (iblk m c 1 t) (iblk m c 4 t) (iblk m c 2 t) (iblk m c 3 t) (iblk m c 5 t) (iblk m c 6 t) y
      = tZ m c ((win0_9.blk t).view.emb y 0) ((win0_9.blk t).view.emb y 1) := by
  rw [eq_ix2 (n0 := 256) (n1 := 512) y, emb9 t (y 0) (y 1)]
  exact z_at m c t (y 0) (y 1)
theorem final9 : (dats m 0 c).arrAt 9 cfg0.N = (fun z : S2048x512.Idx => tZ m c (z 0) (z 1)) := by
  refine (dats m 0 c).arrAt_eq_of_covers 9 _ (by decide +kernel) fun t hf y => ?_
  blk_simp
  rw [after0_9, out9_eq]
  exact blk9 m c t y

end Cert.Kernel11Ideal.Hand

namespace Cert.Proof

open Idealize.ShloMosaic Idealize.ShloMosaic.Tactic Idealize.SL.Sem Cert.Spec Cert.Gate

section
open Cert.Kernel11Ideal Cert.Kernel11Ideal.Hand
variable (m : (ℓ : Loc nD τ sig) → Buf (Elt Ideal) ℓ) (c : Dev nD) (r : Fin 2048) (j : Fin 512)
theorem y0_11 : rY0 (kP m c) (kF m c) (kB m c) (kD m c) (ix2 r j) = tY0 m c r j := rY0_at _ _ _ _ r j
theorem y_11 : rY (rY0 (kP m c) (kF m c) (kB m c) (kD m c)) (ix2 r j) = gl (tY0 m c r j) := (rY_at _ r j).trans (congrArg gl (y0_11 m c r j))
theorem z_11 : rZ (rY (rY0 (kP m c) (kF m c) (kB m c) (kD m c))) (kW m c) (kG m c) (ix2 r j) = tZ m c r j :=
  (rZ_at _ _ _ r j).trans (congrArg (· + _) (Finset.sum_congr rfl fun k _ => congrArg (· * _) (y_11 m c r k)))
/-- The reference's gated rows, of the arguments. -/
def rS11 (p : FVec Ideal ⟨2, ![2048, 1280]⟩ .f32) (f b : B2) (d : FVec Ideal ⟨1, ![512]⟩ .f32) (w : FVec Ideal ⟨2, ![512, 512]⟩ .f32)
    (g : FVec Ideal ⟨1, ![512]⟩ .f32) : B2 := mulf (rY (rY0 p f b d)) (rSg (rZ (rY (rY0 p f b d)) w g))
theorem same11_0 : rS11 (kP m c) (kF m c) (kB m c) (kD m c) (kW m c) (kG m c) = (Cert.Kernel11Ideal.Gen.dats m 0 c).arrAt 7 cfg0.N := by
  rw [final7]; funext z
  rw [eq_ix2 (n0 := 2048) (n1 := 512) z]
  exact congrArg₂ (· * ·) (y_11 m c (z 0) (z 1)) ((rSg_at _ (z 0) (z 1)).trans (congrArg gsig (z_11 m c (z 0) (z 1))))
theorem same11_1 : rY0 (kP m c) (kF m c) (kB m c) (kD m c) = (Cert.Kernel11Ideal.Gen.dats m 0 c).arrAt 8 cfg0.N := by
  rw [final8]; funext z
  rw [eq_ix2 (n0 := 2048) (n1 := 512) z]
  exact y0_11 m c (z 0) (z 1)
theorem same11_2 : rZ (rY (rY0 (kP m c) (kF m c) (kB m c) (kD m c))) (kW m c) (kG m c) = (Cert.Kernel11Ideal.Gen.dats m 0 c).arrAt 9 cfg0.N := by
  rw [final9]; funext z
  rw [eq_ix2 (n0 := 2048) (n1 := 512) z]
  exact z_11 m c (z 0) (z 1)
end

section
open Cert.Reference11Ideal
variable (m : (ℓ : Loc nD τ sig) → Buf (Elt Ideal) ℓ) (c : Dev nD)
theorem ref11_0 : Value.res_main_v29 m c = rS11 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) := by
  unfold Value.res_main_v29; rfl
end

set_option maxHeartbeats 1600000 in
theorem algebraic11 : Cert.algebraic_Kernel11Ideal_Reference11Ideal := by
  pair_intro
  · have h := Cert.Kernel11Ideal.Value.run_blocks (F := Ideal) m g
    run_from h
  · refine (θ_run Cert.Reference11Ideal.defs _ _).mono (fun r h c => ?_) (Cert.Reference11Ideal.Value.run m' g')
    obtain ⟨r0, r1, r2, ha⟩ := h c
    obtain ⟨h0, h1, h2, h3, h4, h5⟩ := hagree c
    have r0 := r0.trans (ref11_0 m' c)
    rw [h0, h1, h2, h3, h4, h5] at r0 r2
    rw [h0, h1, h2, h3] at r1
    exact ⟨r0.trans (same11_0 m c), r1.trans (same11_1 m c), r2.trans (same11_2 m c), ha⟩

end Cert.Proof

end
-- ==== Proof.Frames12.lean ====
module

public import proofs.«01_k».proof.Defs
public import proofs.«01_k».proof.Proof.Gen.Kernel12.Frame
public import proofs.«01_k».proof.Proof.Gen.Kernel12Ideal.Frame
public import proofs.«01_k».proof.Proof.Gen.Reference12Ideal.Run
public import Idealize.ShloMosaic.Lib.Tactic
public import Idealize.ShloMosaic.Lib.Claim

/-! The frame claims of the scan's tail's weight gradients, and of their reference. -/

@[expose] public section

noncomputable section

namespace Cert.Proof

open Idealize.ShloMosaic Idealize.ShloMosaic.Tactic Idealize.SL.Sem

theorem frame12_kernel : Cert.quiescent_Kernel12 := fun m ρ _ => Cert.Kernel12.Gen.frame m ρ
theorem frame12_ideal : Cert.quiescent_Kernel12Ideal := fun m ρ _ => Cert.Kernel12Ideal.Gen.frame m ρ

/-- The reference's run leaves its arguments, and it declares no semaphore. -/
theorem frame12_reference : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)

end Cert.Proof

end
-- ==== Proof.Algebraic12.lean ====
/-
  The gradients of the scan's linear unit: the kernel's two results (the weight's and the bias's), and the
  reference's.
-/
module

public import proofs.«01_k».proof.Defs
public import proofs.«01_k».proof.Proof.Gen.Kernel12Ideal.Value
public import proofs.«01_k».proof.Proof.Gen.Reference12Ideal.Run
public import proofs.«01_k».proof.Proof.Gate
public import Idealize.ShloMosaic.Lib.Pointwise
public import Idealize.ShloMosaic.Lib.Pipeline.ValueKit
public import Idealize.ShloMosaic.Lib.Tactic
public import Idealize.ShloMosaic.Lib.Claim

@[expose] public section

set_option maxRecDepth 16384

noncomputable section

namespace Cert.Kernel12Ideal.Hand

open Cert.Kernel12Ideal.Gen
open Idealize.ShloMosaic Idealize.ShloMosaic.TcCoe Cert.Spec Cert.Gate
open Idealize.ShloMosaic.Pipeline (Dat)

theorem hz : (![0, 0] : Fin 2 → Nat) = fun _ => 0 := funext fun a => by fin_cases a <;> rfl

section
variable (c : Dev nD) (i : grid0.Coords) (a1 : Memref sig .tc .vmem S256x512 .f32) (h1 : a1.IsWhole) (a2 : Memref sig .tc .vmem S256x512 .f32) (h2 : a2.IsWhole) (a3 : Memref sig .tc .vmem S256x512 .f32) (h3 : a3.IsWhole) (a4 : Memref sig .tc .vmem S256x256 .f32) (h4 : a4.IsWhole) (a5 : Memref sig .tc .vmem S256x256 .f32) (h5 : a5.IsWhole) (a6 : Memref sig .tc .vmem S1x512 .f32) (h6 : a6.IsWhole) (a7 : Memref sig .tc .vmem S512x512 .bf16) (h7 : a7.IsWhole) (a8 : Memref sig .tc .vmem S256x512 .f32) (h8 : a8.IsWhole) (a9 : Memref sig .tc .vmem S512x512 .f32) (h9 : a9.IsWhole) (a10 : Memref sig .tc .vmem S1x512 .f32) (h10 : a10.IsWhole) (a11 : Memref sig .tc .vmem S1x512 .f32) (h11 : a11.IsWhole)
  (x0 : Vec Ideal S256x512 .f32) (x1 : Vec Ideal S256x512 .f32) (x2 : Vec Ideal S256x512 .f32) (x3 : Vec Ideal S256x256 .f32) (x4 : Vec Ideal S256x256 .f32) (x5 : Vec Ideal S1x512 .f32) (x6 : Vec Ideal S512x512 .bf16) (xo8 : Vec Ideal S512x512 .f32) (xo9 xo10 : Vec Ideal S1x512 .f32)

theorem out8_A (hc : cond0_0 i) : out0_A_8 (F := Ideal) c i a1 h1 a2 h2 a3 h3 a4 h4 a5 h5 a6 h6 a7 h7 a8 h8 a9 h9 a10 h10 a11 h11 hc x0 x1 x2 x3 x4 x5 x6 = k0_pay13 (k0_pay7 x1) (k0_pay10 x1 x2 x0) (k0_pay3 (F := Ideal)) := by
  unfold out0_A_8
  rw [View.read_writes_eq_canon _ _ _ (cover0_A_8 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  simp only [View.canon_cons_unit_zero (S := S512x512) hz, View.readCov_unit_zero (S := S1x512) _ hz, View.readCov_unit_zero (S := S512x512) _ hz, View.readAt_eq_ld,
    h1.read_unread, h2.read_unread, h3.read_unread, h9.read_unread, h10.read_unread,
    View.ld_unit_zero (S := S256x512) hz, View.ld_unit_zero (S := S1x512) hz, View.ld_unit_zero (S := S512x512) hz]
theorem out9_A (hc : cond0_0 i) : out0_A_9 (F := Ideal) c i a1 h1 a2 h2 a3 h3 a4 h4 a5 h5 a6 h6 a7 h7 a8 h8 a9 h9 a10 h10 a11 h11 hc x0 x1 x2 x3 x4 x5 x6 = k0_pay1 (k0_pay14 (k0_pay4 (F := Ideal))) (k0_pay15 (k0_pay9 x1 x2 x0)) := by
  unfold out0_A_9
  rw [View.read_writes_eq_canon _ _ _ (cover0_A_9 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  simp only [View.canon_cons_unit_zero (S := S1x512) hz, View.readCov_unit_zero (S := S1x512) _ hz, View.readCov_unit_zero (S := S512x512) _ hz, View.readAt_eq_ld,
    h1.read_unread, h2.read_unread, h3.read_unread, h9.read_unread, h10.read_unread,
    View.ld_unit_zero (S := S256x512) hz, View.ld_unit_zero (S := S1x512) hz, View.ld_unit_zero (S := S512x512) hz]
theorem out8_B (hc : ¬cond0_0 i) : out0_B_8 (F := Ideal) c i a1 h1 a2 h2 a3 h3 a4 h4 a5 h5 a6 h6 a7 h7 a8 h8 a9 h9 a10 h10 a11 h11 hc x0 x1 x2 x3 x4 x5 x6 xo8 xo9 xo10 = k0_pay13 (k0_pay7 x1) (k0_pay10 x1 x2 x0) xo8 := by
  unfold out0_B_8
  rw [View.read_writes_eq_canon _ _ _ (cover0_B_8 c i a1 h1 a2 h2 a3 h3 a4 h4 a5 h5 a6 h6 a7 h7 a8 h8 a9 h9 a10 h10 a11 h11 hc x0 x1 x2 x3 x4 x5 x6 xo8 xo9 xo10)]
  unfold kernelRun0_B
  dsimp only
  sl_unfold_words
  simp only [View.canon_cons_unit_zero (S := S512x512) hz, View.readCov_unit_zero (S := S1x512) _ hz, View.readCov_unit_zero (S := S512x512) _ hz, View.readAt_eq_ld,
    h1.read_unread, h2.read_unread, h3.read_unread, h9.read_unread, h10.read_unread,
    View.ld_unit_zero (S := S256x512) hz, View.ld_unit_zero (S := S1x512) hz, View.ld_unit_zero (S := S512x512) hz]
theorem out9_B (hc : ¬cond0_0 i) : out0_B_9 (F := Ideal) c i a1 h1 a2 h2 a3 h3 a4 h4 a5 h5 a6 h6 a7 h7 a8 h8 a9 h9 a10 h10 a11 h11 hc x0 x1 x2 x3 x4 x5 x6 xo8 xo9 xo10 = k0_pay1 (k0_pay14 xo9) (k0_pay15 (k0_pay9 x1 x2 x0)) := by
  unfold out0_B_9
  rw [View.read_writes_eq_canon _ _ _ (cover0_B_9 c i a1 h1 a2 h2 a3 h3 a4 h4 a5 h5 a6 h6 a7 h7 a8 h8 a9 h9 a10 h10 a11 h11 hc x0 x1 x2 x3 x4 x5 x6 xo8 xo9 xo10)]
  unfold kernelRun0_B
  dsimp only
  sl_unfold_words
  simp only [View.canon_cons_unit_zero (S := S1x512) hz, View.readCov_unit_zero (S := S1x512) _ hz, View.readCov_unit_zero (S := S512x512) _ hz, View.readAt_eq_ld,
    h1.read_unread, h2.read_unread, h3.read_unread, h9.read_unread, h10.read_unread,
    View.ld_unit_zero (S := S256x512) hz, View.ld_unit_zero (S := S1x512) hz, View.ld_unit_zero (S := S512x512) hz]
end

variable (m : (ℓ : Loc nD τ sig) → Buf (Elt Ideal) ℓ) (c : Dev nD)

def kP : FVec Ideal S2048x1280 .f32 := m ((c.tc : Thread nD τ).loc main_arg0)
def kF : FVec Ideal S2048x512 .f32 := m ((c.tc : Thread nD τ).loc main_arg1)
def kB : FVec Ideal S2048x512 .f32 := m ((c.tc : Thread nD τ).loc main_arg2)
def kD : FVec Ideal S512 .f32 := m ((c.tc : Thread nD τ).loc main_arg3)
def kW : FVec Ideal S512x512 .f32 := m ((c.tc : Thread nD τ).loc main_arg4)
def kG : FVec Ideal S512 .f32 := m ((c.tc : Thread nD τ).loc main_arg5)
def kS : FVec Ideal S2048x512 .f32 := m ((c.tc : Thread nD τ).loc main_arg6)
/-- The skipped input and the linear unit, as the host hands them over. -/
def kY0 : FVec Ideal S2048x512 .f32 := rY0 (kP m c) (kF m c) (kB m c) (kD m c)
def kZ : FVec Ideal S2048x512 .f32 := rZ (rY (kY0 m c)) (kW m c) (kG m c)

theorem V5 : V m c main_v5 = kY0 m c := by entry_read; rfl
theorem V22 : V m c main_v22 = kZ m c := by entry_read; rfl

theorem idx (t : Fin cfg0.N) : win0_0.index t = ![t.val, 0] ∧ win0_1.index t = ![t.val, 0] ∧ win0_2.index t = ![t.val, 0] ∧ win0_8.index t = ![0, 0]
    ∧ win0_9.index t = ![0, 0] :=
  (by decide +kernel : ∀ t : Fin grid0.N, win0_0.index t = ![t.val, 0] ∧ win0_1.index t = ![t.val, 0] ∧ win0_2.index t = ![t.val, 0] ∧ win0_8.index t = ![0, 0]
    ∧ win0_9.index t = ![0, 0]) t

theorem N_lt (t : Fin cfg0.N) : t.val < 8 := lt_of_lt_of_eq t.isLt (show cfg0.N = 8 from N_0)
/-- Row `r` of a row tile. -/
def row (p : Fin 8) (r : Fin 256) : Fin 2048 := ⟨p.val * 256 + r.val, by omega⟩
/-- A grid point's row tile. -/
def pt (t : Fin cfg0.N) : Fin 8 := ⟨t.val, N_lt t⟩

theorem b0 (t : Fin cfg0.N) (r : Fin 256) (j : Fin 512) :
    (show FVec Ideal S256x512 .f32 from iblk m c 0 t) (ix2 r j) = kS m c (ix2 (row (pt t) r) j) := by
  have e : (show FVec Ideal S256x512 .f32 from iblk m c 0 t) (ix2 r j)
      = (show FVec Ideal S2048x512 .f32 from V m c main_arg6) (ix2 (row (pt t) r) j) := by
    blk_ext [iblk, idx t]
    all_goals simp only [row, pt]
  rw [e, V_main_arg6]; rfl
theorem b1 (t : Fin cfg0.N) (r : Fin 256) (j : Fin 512) :
    (show FVec Ideal S256x512 .f32 from iblk m c 1 t) (ix2 r j) = kY0 m c (ix2 (row (pt t) r) j) := by
  have e : (show FVec Ideal S256x512 .f32 from iblk m c 1 t) (ix2 r j)
      = (show FVec Ideal S2048x512 .f32 from V m c main_v5) (ix2 (row (pt t) r) j) := by
    blk_ext [iblk, idx t]
    all_goals simp only [row, pt]
  rw [e, V5]
theorem b2 (t : Fin cfg0.N) (r : Fin 256) (j : Fin 512) :
    (show FVec Ideal S256x512 .f32 from iblk m c 2 t) (ix2 r j) = kZ m c (ix2 (row (pt t) r) j) := by
  have e : (show FVec Ideal S256x512 .f32 from iblk m c 2 t) (ix2 r j)
      = (show FVec Ideal S2048x512 .f32 from V m c main_v22) (ix2 (row (pt t) r) j) := by
    blk_ext [iblk, idx t]
    all_goals simp only [row, pt]
  rw [e, V22]

/-- The cotangent of the linear unit at one index, of the skipped input, the unit and the result's cotangent. -/
def dz (v z s : EReal) : EReal := gl v * s * (gsig z * (one - gsig z))

section point
variable (v3 v18 v27 : FVec Ideal S256x512 .f32) (r : Fin 256) (j : Fin 512)
theorem pay7_at : k0_pay7 (F := Ideal) v3 (ix2 r j) = gl (v3 (ix2 r j)) := by
  rw [← gl_kernel]
  pointwise [k0_pay7, k0_pay6]
theorem pay8_at : k0_pay8 (F := Ideal) v18 (ix2 r j) = gsig (v18 (ix2 r j)) := by
  unfold gsig
  rw [← zero_sub]
  pointwise [k0_pay8]
theorem pay9_at : k0_pay9 (F := Ideal) v3 v18 v27 (ix2 r j) = dz (v3 (ix2 r j)) (v18 (ix2 r j)) (v27 (ix2 r j)) := by
  have h : k0_pay9 (F := Ideal) v3 v18 v27 (ix2 r j) = v27 (ix2 r j) * gl (v3 (ix2 r j)) * gsig (v18 (ix2 r j)) * (one - gsig (v18 (ix2 r j))) := by
    pointwise [k0_pay9, pay7_at, pay8_at]
  rw [h, dz, mul_comm (v27 (ix2 r j)), mul_assoc (_ * v27 (ix2 r j))]
theorem pay13_at (a : FVec Ideal S256x512 .f32) (d : FVec Ideal S256x512 .bf16) (y : FVec Ideal S512x512 .f32) (k : Fin 512) :
    k0_pay13 (F := Ideal) a d y (ix2 k j) = y (ix2 k j) + ∑ r : Fin 256, a (ix2 r k) * d (ix2 r j) := by
  pointwise [k0_pay13]
theorem pay1_at (y : FVec Ideal S1x512 .f32) (d : FVec Ideal S256x512 .f32) :
    k0_pay1 (F := Ideal) (k0_pay14 y) (k0_pay15 d) (ix2 0 j) = y (ix2 0 j) + ∑ r : Fin 256, d (ix2 r j) := by
  pointwise [k0_pay1, k0_pay14, k0_pay15]
theorem pay3_at (k : Fin 512) : k0_pay3 (F := Ideal) (ix2 k j) = 0 := by pointwise [k0_pay3]
theorem pay4_at : k0_pay4 (F := Ideal) (ix2 0 j) = 0 := by pointwise [k0_pay4]
end point

/-- The unit's cotangent at one index, and a row's share of the two gradients. -/
def tDz (r : Fin 2048) (j : Fin 512) : EReal := dz (kY0 m c (ix2 r j)) (kZ m c (ix2 r j)) (kS m c (ix2 r j))
def tW (k j : Fin 512) (r : Fin 2048) : EReal := gl (kY0 m c (ix2 r k)) * tDz m c r j

theorem y_at (t : Fin cfg0.N) (r : Fin 256) (k : Fin 512) : k0_pay7 (F := Ideal) (iblk m c 1 t) (ix2 r k) = gl (kY0 m c (ix2 (row (pt t) r) k)) :=
  (pay7_at _ r k).trans (congrArg gl (b1 m c t r k))
theorem dz_at (t : Fin cfg0.N) (r : Fin 256) (j : Fin 512) :
    k0_pay9 (F := Ideal) (iblk m c 1 t) (iblk m c 2 t) (iblk m c 0 t) (ix2 r j) = tDz m c (row (pt t) r) j := by
  exact (pay9_at _ _ _ r j).trans (congr (congrArg₂ dz (b1 m c t r j) (b2 m c t r j)) (b0 m c t r j))
theorem dzb_at (t : Fin cfg0.N) (r : Fin 256) (j : Fin 512) :
    k0_pay10 (F := Ideal) (iblk m c 1 t) (iblk m c 2 t) (iblk m c 0 t) (ix2 r j) = tDz m c (row (pt t) r) j := dz_at m c t r j

/-- The sum over the first `n` tiles of a quantity of the rows. -/
def upto (f : Fin 2048 → EReal) (n : ℕ) : EReal := ∑ p ∈ Finset.range n, if h : p < 8 then ∑ r : Fin 256, f (row ⟨p, h⟩ r) else 0
theorem upto_succ (f : Fin 2048 → EReal) (t : Fin cfg0.N) : upto f (t.val + 1) = upto f t.val + ∑ r : Fin 256, f (row (pt t) r) := by
  unfold upto
  rw [Finset.sum_range_succ, dif_pos (N_lt t)]
  rfl
theorem upto_all (f : Fin 2048 → EReal) : upto f 8 = ∑ r : Fin 2048, f r := by
  unfold upto
  rw [Finset.sum_range, Fin.sum_univ_tiles 8 256 rfl f]
  exact Finset.sum_congr rfl fun p _ => dif_pos p.isLt

theorem part8 (t : Fin cfg0.N) (k j : Fin 512) :
    (∑ r : Fin 256, k0_pay7 (F := Ideal) (iblk m c 1 t) (ix2 r k) * k0_pay10 (F := Ideal) (iblk m c 1 t) (iblk m c 2 t) (iblk m c 0 t) (ix2 r j))
      = ∑ r : Fin 256, tW m c k j (row (pt t) r) :=
  Finset.sum_congr rfl fun r _ => congrArg₂ (· * ·) (y_at m c t r k) (dzb_at m c t r j)
theorem part9 (t : Fin cfg0.N) (j : Fin 512) :
    (∑ r : Fin 256, k0_pay9 (F := Ideal) (iblk m c 1 t) (iblk m c 2 t) (iblk m c 0 t) (ix2 r j)) = ∑ r : Fin 256, tDz m c (row (pt t) r) j :=
  Finset.sum_congr rfl fun r _ => dz_at m c t r j

/-- What a point leaves in the two running sums, of what the point before left. -/
theorem at_A (t : Fin cfg0.N) (h : t.val = 0) :
    (outsAt0 m c t.val t.isLt).2.1 = k0_pay13 (k0_pay7 (iblk m c 1 t)) (k0_pay10 (iblk m c 1 t) (iblk m c 2 t) (iblk m c 0 t)) (k0_pay3 (F := Ideal))
    ∧ (outsAt0 m c t.val t.isLt).2.2.1 = k0_pay1 (k0_pay14 (k0_pay4 (F := Ideal))) (k0_pay15 (k0_pay9 (iblk m c 1 t) (iblk m c 2 t) (iblk m c 0 t))) := by
  rw [outsAt0_A m c t (by rw [h])]
  dsimp only
  rw [out8_A, out9_A]
  exact ⟨rfl, rfl⟩
theorem at_B (t : Fin cfg0.N) (h : t.val ≠ 0) :
    (outsAt0 m c t.val t.isLt).2.1 = k0_pay13 (k0_pay7 (iblk m c 1 t)) (k0_pay10 (iblk m c 1 t) (iblk m c 2 t) (iblk m c 0 t))
        (outsAt0 m c (t.val - 1) (Nat.lt_of_le_of_lt (Nat.sub_le _ _) t.isLt)).2.1
    ∧ (outsAt0 m c t.val t.isLt).2.2.1 = k0_pay1 (k0_pay14 (outsAt0 m c (t.val - 1) (Nat.lt_of_le_of_lt (Nat.sub_le _ _) t.isLt)).2.2.1)
        (k0_pay15 (k0_pay9 (iblk m c 1 t) (iblk m c 2 t) (iblk m c 0 t))) := by
  rw [outsAt0_B m c t (by have := N_lt t; omega)]
  dsimp only
  rw [out8_B, out9_B]
  exact ⟨rfl, rfl⟩

theorem sums (n : ℕ) (hn : n < cfg0.N) : (∀ k j : Fin 512, (outsAt0 m c n hn).2.1 (ix2 k j) = upto (tW m c k j) (n + 1))
    ∧ (∀ j : Fin 512, (outsAt0 m c n hn).2.2.1 (ix2 0 j) = upto (fun r => tDz m c r j) (n + 1)) := by
  induction n with
  | zero =>
    have h := at_A m c ⟨0, hn⟩ rfl
    refine ⟨fun k j => ?_, fun j => ?_⟩
    · refine (congrFun h.1 (ix2 k j)).trans ((pay13_at j _ _ _ k).trans ?_)
      rw [upto_succ _ ⟨0, hn⟩]
      exact congrArg₂ (· + ·) (pay3_at j k) (part8 m c ⟨0, hn⟩ k j)
    · refine (congrFun h.2 (ix2 0 j)).trans ((pay1_at j _ _).trans ?_)
      rw [upto_succ _ ⟨0, hn⟩]
      exact congrArg₂ (· + ·) (pay4_at j) (part9 m c ⟨0, hn⟩ j)
  | succ n ih =>
    have h := at_B m c ⟨n + 1, hn⟩ (Nat.succ_ne_zero n)
    have ih := ih (Nat.lt_of_succ_lt hn)
    refine ⟨fun k j => ?_, fun j => ?_⟩
    · refine (congrFun h.1 (ix2 k j)).trans ((pay13_at j _ _ _ k).trans ?_)
      rw [upto_succ _ ⟨n + 1, hn⟩]
      exact congrArg₂ (· + ·) (ih.1 k j) (part8 m c ⟨n + 1, hn⟩ k j)
    · refine (congrFun h.2 (ix2 0 j)).trans ((pay1_at j _ _).trans ?_)
      rw [upto_succ _ ⟨n + 1, hn⟩]
      exact congrArg₂ (· + ·) (ih.2 j) (part9 m c ⟨n + 1, hn⟩ j)

/-- Each gradient's array ends at the running sum after the last point. -/
theorem arr8 (g : Fin 512 → Fin 512 → EReal) (hg : ∀ t : Fin cfg0.N, t.val = 7 → ∀ k j : Fin 512, (outsAt0 m c t.val t.isLt).2.1 (ix2 k j) = g k j) :
    (dats m 0 c).arrAt 8 cfg0.N = (fun z : S512x512.Idx => g (z 0) (z 1)) := by
  refine (dats m 0 c).arrAt_eq_of_covers 8 _ (by decide +kernel) fun t hf y => ?_
  have h := (flush0_8 t).mp hf
  have hN := N_lt t
  blk_simp
  rw [after0_8]
  obtain ⟨k, j, rfl⟩ : ∃ (k j : Fin 512), y = (ix2 k j : S512x512.Idx) := ⟨y 0, y 1, eq_ix2 (n0 := 512) (n1 := 512) y⟩
  have hX := hg t (by omega) k j
  generalize (outsAt0 m c t.val t.isLt).2.1 = X at hX ⊢
  refine Eq.trans hX ?_
  have e : (win0_8.blk t).view.emb (ix2 k j) = (ix2 k j : S512x512.Idx) := by
    blk_ext [idx t]
  exact congrArg (fun z : S512x512.Idx => g (z 0) (z 1)) e.symm
theorem arr9 (g : Fin 512 → EReal) (hg : ∀ t : Fin cfg0.N, t.val = 7 → ∀ k : Fin 512, (outsAt0 m c t.val t.isLt).2.2.1 (ix2 0 k) = g k) :
    (dats m 0 c).arrAt 9 cfg0.N = (fun z : S1x512.Idx => g (z 1)) := by
  refine (dats m 0 c).arrAt_eq_of_covers 9 _ (by decide +kernel) fun t hf y => ?_
  have h := (flush0_9 t).mp hf
  have hN := N_lt t
  blk_simp
  rw [after0_9]
  obtain ⟨k, rfl⟩ : ∃ (k : Fin 512), y = (ix2 0 k : S1x512.Idx) := ⟨y 1, by
    rw [eq_ix2 (n0 := 1) (n1 := 512) y]; congr 1; exact Subsingleton.elim (α := Fin 1) _ _⟩
  have hX := hg t (by omega) k
  generalize (outsAt0 m c t.val t.isLt).2.2.1 = X at hX ⊢
  refine Eq.trans hX ?_
  have e : (win0_9.blk t).view.emb (ix2 0 k) = (ix2 0 k : S1x512.Idx) := by
    blk_ext [idx t]
  exact congrArg (fun z : S1x512.Idx => g (z 1)) e.symm
theorem final8 : (dats m 0 c).arrAt 8 cfg0.N = (fun z : S512x512.Idx => ∑ r : Fin 2048, tW m c (z 0) (z 1) r) :=
  arr8 m c (fun k j => ∑ r : Fin 2048, tW m c k j r) fun t ht k j => by
    rw [(sums m c t.val t.isLt).1 k j, show t.val + 1 = 8 by omega, upto_all]
theorem final9 : (dats m 0 c).arrAt 9 cfg0.N = (fun z : S1x512.Idx => ∑ r : Fin 2048, tDz m c r (z 1)) :=
  arr9 m c (fun k => ∑ r : Fin 2048, tDz m c r k) fun t ht k => by
    rw [(sums m c t.val t.isLt).2 k, show t.val + 1 = 8 by omega, upto_all]

end Cert.Kernel12Ideal.Hand

namespace Cert.Proof

open Idealize.ShloMosaic Idealize.ShloMosaic.Tactic Idealize.SL.Sem Cert.Spec Cert.Gate

section
open Cert.Reference12Ideal Cert.Reference12Ideal.Gen
/-- The linear unit's cotangent, and the two gradients of it. -/
def rDz12 (y s z : B2) : B2 :=
  mulf (mulf y s) (mulf (rSg z) (subf (broadcastInDim S2048x512 ![] bcast_S_S2048x512 (constant S_ .f32 0x3F800000#32)) (rSg z)))
def rW12 (d y : B2) : FVec Ideal S512x512 .f32 :=
  transpose S512x512 [1, 0] (Host.dotGeneral dot_S2048x512_S2048x512_S512x512_0_0_1_1_n_n none d y) transposes_S512x512_S512x512_1_0
def rB12 (d : B2) : FVec Ideal S1x512 .f32 :=
  shapeCast _ (Host.reduceAdd (shapeCast _ (Host.reduceAdd d (constant S_ .f32 0x00000000#32) reducesTo_S2048x512_S512_d0 h_S_) shapeCasts_S512_S1x512)
    (constant S_ .f32 0x00000000#32) reducesTo_S1x512_S512_d0 h_S_) shapeCasts_S512_S1x512
variable (y s z d : B2) (r : Fin 2048) (k j : Fin 512)
theorem rDz12_at : rDz12 y s z (ix2 r j) = y (ix2 r j) * s (ix2 r j) * (gsig (z (ix2 r j)) * (one - gsig (z (ix2 r j)))) := by
  pointwise [rDz12, rSg_at]
theorem rW12_at : rW12 d y (ix2 k j) = ∑ r : Fin 2048, y (ix2 r k) * d (ix2 r j) := by
  refine Eq.trans ?_ (Finset.sum_congr rfl fun r _ => mul_comm (d (ix2 r j)) (y (ix2 r k)))
  pointwise [rW12]
theorem rB12_at : rB12 d (ix2 0 j) = ∑ r : Fin 2048, d (ix2 r j) := by
  pointwise [rB12]
  exact Fin.sum_univ_one _
theorem ref12_0 (m : (ℓ : Loc nD τ sig) → Buf (Elt Ideal) ℓ) (c : Dev nD) : Value.res_main_v39 m c
    = rW12 (rDz12 (rY (rY0 (m ((c.tc : Thread nD τ).loc main_arg0)) (m ((c.tc : Thread nD τ).loc main_arg1)) (m ((c.tc : Thread nD τ).loc main_arg2)) (m ((c.tc : Thread nD τ).loc main_arg3))))
        (m ((c.tc : Thread nD τ).loc main_arg6))
        (rZ (rY (rY0 (m ((c.tc : Thread nD τ).loc main_arg0)) (m ((c.tc : Thread nD τ).loc main_arg1)) (m ((c.tc : Thread nD τ).loc main_arg2)) (m ((c.tc : Thread nD τ).loc main_arg3))))
          (m ((c.tc : Thread nD τ).loc main_arg4)) (m ((c.tc : Thread nD τ).loc main_arg5))))
      (rY (rY0 (m ((c.tc : Thread nD τ).loc main_arg0)) (m ((c.tc : Thread nD τ).loc main_arg1)) (m ((c.tc : Thread nD τ).loc main_arg2)) (m ((c.tc : Thread nD τ).loc main_arg3)))) := by
  unfold Value.res_main_v39; rfl
theorem ref12_1 (m : (ℓ : Loc nD τ sig) → Buf (Elt Ideal) ℓ) (c : Dev nD) : Value.res_main_v40 m c
    = rB12 (rDz12 (rY (rY0 (m ((c.tc : Thread nD τ).loc main_arg0)) (m ((c.tc : Thread nD τ).loc main_arg1)) (m ((c.tc : Thread nD τ).loc main_arg2)) (m ((c.tc : Thread nD τ).loc main_arg3))))
        (m ((c.tc : Thread nD τ).loc main_arg6))
        (rZ (rY (rY0 (m ((c.tc : Thread nD τ).loc main_arg0)) (m ((c.tc : Thread nD τ).loc main_arg1)) (m ((c.tc : Thread nD τ).loc main_arg2)) (m ((c.tc : Thread nD τ).loc main_arg3))))
          (m ((c.tc : Thread nD τ).loc main_arg4)) (m ((c.tc : Thread nD τ).loc main_arg5)))) := by
  unfold Value.res_main_v40; rfl
end

section
open Cert.Kernel12Ideal Cert.Kernel12Ideal.Hand
variable (m : (ℓ : Loc nD τ sig) → Buf (Elt Ideal) ℓ) (c : Dev nD) (r : Fin 2048) (j : Fin 512)
theorem dz12 : rDz12 (rY (kY0 m c)) (kS m c) (kZ m c) (ix2 r j) = tDz m c r j := by
  rw [rDz12_at, rY_at]; rfl
theorem same12_0 : rW12 (rDz12 (rY (kY0 m c)) (kS m c) (kZ m c)) (rY (kY0 m c)) = (Cert.Kernel12Ideal.Gen.dats m 0 c).arrAt 8 cfg0.N := by
  rw [final8]; funext z
  obtain ⟨k, j, rfl⟩ : ∃ (k j : Fin 512), z = (ix2 k j : S512x512.Idx) := ⟨z 0, z 1, eq_ix2 (n0 := 512) (n1 := 512) z⟩
  refine (rW12_at _ _ k j).trans ?_
  exact Finset.sum_congr rfl fun r _ => congrArg₂ (· * ·) (rY_at _ r k) (dz12 m c r j)
theorem same12_1 : rB12 (rDz12 (rY (kY0 m c)) (kS m c) (kZ m c)) = (Cert.Kernel12Ideal.Gen.dats m 0 c).arrAt 9 cfg0.N := by
  rw [final9]; funext z
  obtain ⟨k, rfl⟩ : ∃ (k : Fin 512), z = (ix2 0 k : S1x512.Idx) := ⟨z 1, by
    rw [eq_ix2 (n0 := 1) (n1 := 512) z]; congr 1; exact Subsingleton.elim (α := Fin 1) _ _⟩
  refine (rB12_at _ k).trans ?_
  exact Finset.sum_congr rfl fun r _ => dz12 m c r k
end

set_option maxHeartbeats 1600000 in
theorem algebraic12 : Cert.algebraic_Kernel12Ideal_Reference12Ideal := by
  pair_intro
  · have h := Cert.Kernel12Ideal.Value.run_blocks (F := Ideal) m g
    run_from h
  · refine (θ_run Cert.Reference12Ideal.defs _ _).mono (fun r h c => ?_) (Cert.Reference12Ideal.Value.run m' g')
    obtain ⟨r0, r1, ha⟩ := h c
    obtain ⟨h0, h1, h2, h3, h4, h5, h6⟩ := hagree c
    have r0 := r0.trans (ref12_0 m' c)
    have r1 := r1.trans (ref12_1 m' c)
    rw [h0, h1, h2, h3, h4, h5, h6] at r0 r1
    exact ⟨r0.trans (same12_0 m c), r1.trans (same12_1 m c), ha⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Pre_finite
public import proofs.«01_k».proof.Proof.Frames
public import proofs.«01_k».proof.Proof.Algebraic
public import proofs.«01_k».proof.Proof.Frames2
public import proofs.«01_k».proof.Proof.Algebraic2
public import proofs.«01_k».proof.Proof.Frames3
public import proofs.«01_k».proof.Proof.Algebraic3
public import proofs.«01_k».proof.Proof.Frames4
public import proofs.«01_k».proof.Proof.Algebraic4
public import proofs.«01_k».proof.Proof.Frames5
public import proofs.«01_k».proof.Proof.Algebraic5
public import proofs.«01_k».proof.Proof.Frames6
public import proofs.«01_k».proof.Proof.Algebraic6
public import proofs.«01_k».proof.Proof.Frames7
public import proofs.«01_k».proof.Proof.Algebraic7
public import proofs.«01_k».proof.Proof.Frames8
public import proofs.«01_k».proof.Proof.Algebraic8
public import proofs.«01_k».proof.Proof.Frames9
public import proofs.«01_k».proof.Proof.Algebraic9
public import proofs.«01_k».proof.Proof.Frames10
public import proofs.«01_k».proof.Proof.Algebraic10
public import proofs.«01_k».proof.Proof.Frames11
public import proofs.«01_k».proof.Proof.Algebraic11
public import proofs.«01_k».proof.Proof.Frames12
public import proofs.«01_k».proof.Proof.Algebraic12
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Pre_finite.Gen.facts,
   frame_kernel, frame_ideal, frame_ideal_finite, frame_reference, frame_reference_finite, frame2_kernel, frame2_ideal, frame2_reference, frame3_kernel, frame3_ideal, frame3_reference, frame4_kernel, frame4_ideal, frame4_reference, frame5_kernel, frame5_ideal, frame5_reference, frame6_kernel, frame6_ideal, frame6_reference, frame7_kernel, frame7_ideal, frame7_reference, frame8_kernel, frame8_ideal, frame8_reference, frame9_kernel, frame9_ideal, frame9_reference, frame10_kernel, frame10_ideal, frame10_reference, frame11_kernel, frame11_ideal, frame11_reference, frame12_kernel, frame12_ideal, frame12_reference,
   trivial, algebraic, trivial, algebraic2, trivial, algebraic3, trivial, algebraic4, trivial, algebraic5, trivial, algebraic6, trivial, algebraic7, trivial, algebraic8, trivial, algebraic9, trivial, algebraic10, trivial, algebraic11, trivial, algebraic12⟩

end Cert.Proof

end
